-- ==== Defs.lean ====
def Pre_KernelAttend (m : (ℓ : Loc Cert.KernelAttend.nD Cert.KernelAttend.τ Cert.KernelAttend.sig) → Buf (Elt Bits) ℓ) : Prop :=
  True

def Pre_KernelAttendIdeal (m : (ℓ : Loc Cert.KernelAttendIdeal.nD Cert.KernelAttendIdeal.τ Cert.KernelAttendIdeal.sig) → Buf (Elt Ideal) ℓ) : Prop :=
  True

def Pre_KernelAttendIdeal_past_key_selected [hPre_past_key_selected : Cert.Pre_past_key_selected.Facts] (m : (ℓ : Loc Cert.KernelAttendIdeal.nD Cert.KernelAttendIdeal.τ Cert.KernelAttendIdeal.sig) → Buf (Elt Ideal) ℓ) : Prop :=
  ∀ c : Dev Cert.KernelAttendIdeal.nD,
    (Cert.Pre_past_key_selected.fn (F := Ideal) (m ((c.tc : Thread Cert.KernelAttendIdeal.nD Cert.KernelAttendIdeal.τ).loc Cert.KernelAttendIdeal.main_arg0)) (m ((c.tc : Thread Cert.KernelAttendIdeal.nD Cert.KernelAttendIdeal.τ).loc Cert.KernelAttendIdeal.main_arg1)) (m ((c.tc : Thread Cert.KernelAttendIdeal.nD Cert.KernelAttendIdeal.τ).loc Cert.KernelAttendIdeal.main_arg2)) (m ((c.tc : Thread Cert.KernelAttendIdeal.nD Cert.KernelAttendIdeal.τ).loc Cert.KernelAttendIdeal.main_arg3)) (m ((c.tc : Thread Cert.KernelAttendIdeal.nD Cert.KernelAttendIdeal.τ).loc Cert.KernelAttendIdeal.main_arg4)) (m ((c.tc : Thread Cert.KernelAttendIdeal.nD Cert.KernelAttendIdeal.τ).loc Cert.KernelAttendIdeal.main_arg5))) = (fun _ => 1#1)

def Pre_ReferenceAttendIdeal (m : (ℓ : Loc Cert.ReferenceAttendIdeal.nD Cert.ReferenceAttendIdeal.τ Cert.ReferenceAttendIdeal.sig) → Buf (Elt Ideal) ℓ) : Prop :=
  True

def Pre_ReferenceAttendIdeal_past_key_selected [hPre_past_key_selected : Cert.Pre_past_key_selected.Facts] (m : (ℓ : Loc Cert.ReferenceAttendIdeal.nD Cert.ReferenceAttendIdeal.τ Cert.ReferenceAttendIdeal.sig) → Buf (Elt Ideal) ℓ) : Prop :=
  ∀ c : Dev Cert.ReferenceAttendIdeal.nD,
    (Cert.Pre_past_key_selected.fn (F := Ideal) (m ((c.tc : Thread Cert.ReferenceAttendIdeal.nD Cert.ReferenceAttendIdeal.τ).loc Cert.ReferenceAttendIdeal.main_arg0)) (m ((c.tc : Thread Cert.ReferenceAttendIdeal.nD Cert.ReferenceAttendIdeal.τ).loc Cert.ReferenceAttendIdeal.main_arg1)) (m ((c.tc : Thread Cert.ReferenceAttendIdeal.nD Cert.ReferenceAttendIdeal.τ).loc Cert.ReferenceAttendIdeal.main_arg2)) (m ((c.tc : Thread Cert.ReferenceAttendIdeal.nD Cert.ReferenceAttendIdeal.τ).loc Cert.ReferenceAttendIdeal.main_arg3)) (m ((c.tc : Thread Cert.ReferenceAttendIdeal.nD Cert.ReferenceAttendIdeal.τ).loc Cert.ReferenceAttendIdeal.main_arg4)) (m ((c.tc : Thread Cert.ReferenceAttendIdeal.nD Cert.ReferenceAttendIdeal.τ).loc Cert.ReferenceAttendIdeal.main_arg5))) = (fun _ => 1#1)

def Pre_KernelProject (m : (ℓ : Loc Cert.KernelProject.nD Cert.KernelProject.τ Cert.KernelProject.sig) → Buf (Elt Bits) ℓ) : Prop :=
  True

def Pre_KernelProjectIdeal (m : (ℓ : Loc Cert.KernelProjectIdeal.nD Cert.KernelProjectIdeal.τ Cert.KernelProjectIdeal.sig) → Buf (Elt Ideal) ℓ) : Prop :=
  True

def Pre_ReferenceProjectIdeal (m : (ℓ : Loc Cert.ReferenceProjectIdeal.nD Cert.ReferenceProjectIdeal.τ Cert.ReferenceProjectIdeal.sig) → Buf (Elt Ideal) ℓ) : Prop :=
  True

def Pre_KernelCombine (m : (ℓ : Loc Cert.KernelCombine.nD Cert.KernelCombine.τ Cert.KernelCombine.sig) → Buf (Elt Bits) ℓ) : Prop :=
  True

def Pre_KernelCombineIdeal (m : (ℓ : Loc Cert.KernelCombineIdeal.nD Cert.KernelCombineIdeal.τ Cert.KernelCombineIdeal.sig) → Buf (Elt Ideal) ℓ) : Prop :=
  True

def Pre_ReferenceCombineIdeal (m : (ℓ : Loc Cert.ReferenceCombineIdeal.nD Cert.ReferenceCombineIdeal.τ Cert.ReferenceCombineIdeal.sig) → Buf (Elt Ideal) ℓ) : Prop :=
  True

def Pre_KernelProjectSample (m : (ℓ : Loc Cert.KernelProjectSample.nD Cert.KernelProjectSample.τ Cert.KernelProjectSample.sig) → Buf (Elt Bits) ℓ) : Prop :=
  True

def Pre_KernelProjectSampleIdeal (m : (ℓ : Loc Cert.KernelProjectSampleIdeal.nD Cert.KernelProjectSampleIdeal.τ Cert.KernelProjectSampleIdeal.sig) → Buf (Elt Ideal) ℓ) : Prop :=
  True

def Pre_ReferenceProjectSampleIdeal (m : (ℓ : Loc Cert.ReferenceProjectSampleIdeal.nD Cert.ReferenceProjectSampleIdeal.τ Cert.ReferenceProjectSampleIdeal.sig) → Buf (Elt Ideal) ℓ) : Prop :=
  True

def Pre_KernelCombineSample (m : (ℓ : Loc Cert.KernelCombineSample.nD Cert.KernelCombineSample.τ Cert.KernelCombineSample.sig) → Buf (Elt Bits) ℓ) : Prop :=
  True

def Pre_KernelCombineSampleIdeal (m : (ℓ : Loc Cert.KernelCombineSampleIdeal.nD Cert.KernelCombineSampleIdeal.τ Cert.KernelCombineSampleIdeal.sig) → Buf (Elt Ideal) ℓ) : Prop :=
  True

def Pre_ReferenceCombineSampleIdeal (m : (ℓ : Loc Cert.ReferenceCombineSampleIdeal.nD Cert.ReferenceCombineSampleIdeal.τ Cert.ReferenceCombineSampleIdeal.sig) → Buf (Elt Ideal) ℓ) : Prop :=
  True

def quiescent_KernelAttend [hKernelAttend : Cert.KernelAttend.Facts] : Prop :=
  ∀ (m : (ℓ : Loc Cert.KernelAttend.nD Cert.KernelAttend.τ Cert.KernelAttend.sig) → Buf (Elt Bits) ℓ) (g : Dev Cert.KernelAttend.nD → PrngReg), Pre_KernelAttend m →
    θ_run (Cert.KernelAttend.defs (F := Bits)) (onTc (τ := Cert.KernelAttend.τ) (Cert.KernelAttend.main (F := Bits))) ⟨m, fun _ => 0, g⟩ (fun r => (∀ c : Dev Cert.KernelAttend.nD,
      r.2.mem ((c.tc : Thread Cert.KernelAttend.nD Cert.KernelAttend.τ).loc Cert.KernelAttend.main_arg0) = m ((c.tc : Thread Cert.KernelAttend.nD Cert.KernelAttend.τ).loc Cert.KernelAttend.main_arg0)
      ∧ r.2.mem ((c.tc : Thread Cert.KernelAttend.nD Cert.KernelAttend.τ).loc Cert.KernelAttend.main_arg1) = m ((c.tc : Thread Cert.KernelAttend.nD Cert.KernelAttend.τ).loc Cert.KernelAttend.main_arg1)
      ∧ r.2.mem ((c.tc : Thread Cert.KernelAttend.nD Cert.KernelAttend.τ).loc Cert.KernelAttend.main_arg2) = m ((c.tc : Thread Cert.KernelAttend.nD Cert.KernelAttend.τ).loc Cert.KernelAttend.main_arg2)
      ∧ r.2.mem ((c.tc : Thread Cert.KernelAttend.nD Cert.KernelAttend.τ).loc Cert.KernelAttend.main_arg3) = m ((c.tc : Thread Cert.KernelAttend.nD Cert.KernelAttend.τ).loc Cert.KernelAttend.main_arg3)
      ∧ r.2.mem ((c.tc : Thread Cert.KernelAttend.nD Cert.KernelAttend.τ).loc Cert.KernelAttend.main_arg4) = m ((c.tc : Thread Cert.KernelAttend.nD Cert.KernelAttend.τ).loc Cert.KernelAttend.main_arg4)
      ∧ r.2.mem ((c.tc : Thread Cert.KernelAttend.nD Cert.KernelAttend.τ).loc Cert.KernelAttend.main_arg5) = m ((c.tc : Thread Cert.KernelAttend.nD Cert.KernelAttend.τ).loc Cert.KernelAttend.main_arg5))
      ∧ r.2.sem = fun _ => 0)

def quiescent_KernelAttendIdeal [hKernelAttendIdeal : Cert.KernelAttendIdeal.Facts] : Prop :=
  ∀ (m : (ℓ : Loc Cert.KernelAttendIdeal.nD Cert.KernelAttendIdeal.τ Cert.KernelAttendIdeal.sig) → Buf (Elt Ideal) ℓ) (g : Dev Cert.KernelAttendIdeal.nD → PrngReg), Pre_KernelAttendIdeal m →
    θ_run (Cert.KernelAttendIdeal.defs (F := Ideal)) (onTc (τ := Cert.KernelAttendIdeal.τ) (Cert.KernelAttendIdeal.main (F := Ideal))) ⟨m, fun _ => 0, g⟩ (fun r => (∀ c : Dev Cert.KernelAttendIdeal.nD,
      r.2.mem ((c.tc : Thread Cert.KernelAttendIdeal.nD Cert.KernelAttendIdeal.τ).loc Cert.KernelAttendIdeal.main_arg0) = m ((c.tc : Thread Cert.KernelAttendIdeal.nD Cert.KernelAttendIdeal.τ).loc Cert.KernelAttendIdeal.main_arg0)
      ∧ r.2.mem ((c.tc : Thread Cert.KernelAttendIdeal.nD Cert.KernelAttendIdeal.τ).loc Cert.KernelAttendIdeal.main_arg1) = m ((c.tc : Thread Cert.KernelAttendIdeal.nD Cert.KernelAttendIdeal.τ).loc Cert.KernelAttendIdeal.main_arg1)
      ∧ r.2.mem ((c.tc : Thread Cert.KernelAttendIdeal.nD Cert.KernelAttendIdeal.τ).loc Cert.KernelAttendIdeal.main_arg2) = m ((c.tc : Thread Cert.KernelAttendIdeal.nD Cert.KernelAttendIdeal.τ).loc Cert.KernelAttendIdeal.main_arg2)
      ∧ r.2.mem ((c.tc : Thread Cert.KernelAttendIdeal.nD Cert.KernelAttendIdeal.τ).loc Cert.KernelAttendIdeal.main_arg3) = m ((c.tc : Thread Cert.KernelAttendIdeal.nD Cert.KernelAttendIdeal.τ).loc Cert.KernelAttendIdeal.main_arg3)
      ∧ r.2.mem ((c.tc : Thread Cert.KernelAttendIdeal.nD Cert.KernelAttendIdeal.τ).loc Cert.KernelAttendIdeal.main_arg4) = m ((c.tc : Thread Cert.KernelAttendIdeal.nD Cert.KernelAttendIdeal.τ).loc Cert.KernelAttendIdeal.main_arg4)
      ∧ r.2.mem ((c.tc : Thread Cert.KernelAttendIdeal.nD Cert.KernelAttendIdeal.τ).loc Cert.KernelAttendIdeal.main_arg5) = m ((c.tc : Thread Cert.KernelAttendIdeal.nD Cert.KernelAttendIdeal.τ).loc Cert.KernelAttendIdeal.main_arg5))
      ∧ r.2.sem = fun _ => 0)

def quiescent_KernelAttendIdeal_pre_past_key_selected [hKernelAttendIdeal : Cert.KernelAttendIdeal.Facts] [hPre_past_key_selected : Cert.Pre_past_key_selected.Facts] : Prop :=
  ∀ (m : (ℓ : Loc Cert.KernelAttendIdeal.nD Cert.KernelAttendIdeal.τ Cert.KernelAttendIdeal.sig) → Buf (Elt Ideal) ℓ) (g : Dev Cert.KernelAttendIdeal.nD → PrngReg), Pre_KernelAttendIdeal_past_key_selected m →
    θ_run (Cert.KernelAttendIdeal.defs (F := Ideal)) (onTc (τ := Cert.KernelAttendIdeal.τ) (Cert.KernelAttendIdeal.main (F := Ideal))) ⟨m, fun _ => 0, g⟩ (fun r => (∀ c : Dev Cert.KernelAttendIdeal.nD,
      r.2.mem ((c.tc : Thread Cert.KernelAttendIdeal.nD Cert.KernelAttendIdeal.τ).loc Cert.KernelAttendIdeal.main_arg0) = m ((c.tc : Thread Cert.KernelAttendIdeal.nD Cert.KernelAttendIdeal.τ).loc Cert.KernelAttendIdeal.main_arg0)
      ∧ r.2.mem ((c.tc : Thread Cert.KernelAttendIdeal.nD Cert.KernelAttendIdeal.τ).loc Cert.KernelAttendIdeal.main_arg1) = m ((c.tc : Thread Cert.KernelAttendIdeal.nD Cert.KernelAttendIdeal.τ).loc Cert.KernelAttendIdeal.main_arg1)
      ∧ r.2.mem ((c.tc : Thread Cert.KernelAttendIdeal.nD Cert.KernelAttendIdeal.τ).loc Cert.KernelAttendIdeal.main_arg2) = m ((c.tc : Thread Cert.KernelAttendIdeal.nD Cert.KernelAttendIdeal.τ).loc Cert.KernelAttendIdeal.main_arg2)
      ∧ r.2.mem ((c.tc : Thread Cert.KernelAttendIdeal.nD Cert.KernelAttendIdeal.τ).loc Cert.KernelAttendIdeal.main_arg3) = m ((c.tc : Thread Cert.KernelAttendIdeal.nD Cert.KernelAttendIdeal.τ).loc Cert.KernelAttendIdeal.main_arg3)
      ∧ r.2.mem ((c.tc : Thread Cert.KernelAttendIdeal.nD Cert.KernelAttendIdeal.τ).loc Cert.KernelAttendIdeal.main_arg4) = m ((c.tc : Thread Cert.KernelAttendIdeal.nD Cert.KernelAttendIdeal.τ).loc Cert.KernelAttendIdeal.main_arg4)
      ∧ r.2.mem ((c.tc : Thread Cert.KernelAttendIdeal.nD Cert.KernelAttendIdeal.τ).loc Cert.KernelAttendIdeal.main_arg5) = m ((c.tc : Thread Cert.KernelAttendIdeal.nD Cert.KernelAttendIdeal.τ).loc Cert.KernelAttendIdeal.main_arg5))
      ∧ r.2.sem = fun _ => 0)

def quiescent_ReferenceAttendIdeal [hReferenceAttendIdeal : Cert.ReferenceAttendIdeal.Facts] : Prop :=
  ∀ (m : (ℓ : Loc Cert.ReferenceAttendIdeal.nD Cert.ReferenceAttendIdeal.τ Cert.ReferenceAttendIdeal.sig) → Buf (Elt Ideal) ℓ) (g : Dev Cert.ReferenceAttendIdeal.nD → PrngReg), Pre_ReferenceAttendIdeal m →
    θ_run (Cert.ReferenceAttendIdeal.defs (F := Ideal)) (onTc (τ := Cert.ReferenceAttendIdeal.τ) (Cert.ReferenceAttendIdeal.main (F := Ideal))) ⟨m, fun _ => 0, g⟩ (fun r => (∀ c : Dev Cert.ReferenceAttendIdeal.nD,
      r.2.mem ((c.tc : Thread Cert.ReferenceAttendIdeal.nD Cert.ReferenceAttendIdeal.τ).loc Cert.ReferenceAttendIdeal.main_arg0) = m ((c.tc : Thread Cert.ReferenceAttendIdeal.nD Cert.ReferenceAttendIdeal.τ).loc Cert.ReferenceAttendIdeal.main_arg0)
      ∧ r.2.mem ((c.tc : Thread Cert.ReferenceAttendIdeal.nD Cert.ReferenceAttendIdeal.τ).loc Cert.ReferenceAttendIdeal.main_arg1) = m ((c.tc : Thread Cert.ReferenceAttendIdeal.nD Cert.ReferenceAttendIdeal.τ).loc Cert.ReferenceAttendIdeal.main_arg1)
      ∧ r.2.mem ((c.tc : Thread Cert.ReferenceAttendIdeal.nD Cert.ReferenceAttendIdeal.τ).loc Cert.ReferenceAttendIdeal.main_arg2) = m ((c.tc : Thread Cert.ReferenceAttendIdeal.nD Cert.ReferenceAttendIdeal.τ).loc Cert.ReferenceAttendIdeal.main_arg2)
      ∧ r.2.mem ((c.tc : Thread Cert.ReferenceAttendIdeal.nD Cert.ReferenceAttendIdeal.τ).loc Cert.ReferenceAttendIdeal.main_arg3) = m ((c.tc : Thread Cert.ReferenceAttendIdeal.nD Cert.ReferenceAttendIdeal.τ).loc Cert.ReferenceAttendIdeal.main_arg3)
      ∧ r.2.mem ((c.tc : Thread Cert.ReferenceAttendIdeal.nD Cert.ReferenceAttendIdeal.τ).loc Cert.ReferenceAttendIdeal.main_arg4) = m ((c.tc : Thread Cert.ReferenceAttendIdeal.nD Cert.ReferenceAttendIdeal.τ).loc Cert.ReferenceAttendIdeal.main_arg4)
      ∧ r.2.mem ((c.tc : Thread Cert.ReferenceAttendIdeal.nD Cert.ReferenceAttendIdeal.τ).loc Cert.ReferenceAttendIdeal.main_arg5) = m ((c.tc : Thread Cert.ReferenceAttendIdeal.nD Cert.ReferenceAttendIdeal.τ).loc Cert.ReferenceAttendIdeal.main_arg5))
      ∧ r.2.sem = fun _ => 0)

def quiescent_ReferenceAttendIdeal_pre_past_key_selected [hReferenceAttendIdeal : Cert.ReferenceAttendIdeal.Facts] [hPre_past_key_selected : Cert.Pre_past_key_selected.Facts] : Prop :=
  ∀ (m : (ℓ : Loc Cert.ReferenceAttendIdeal.nD Cert.ReferenceAttendIdeal.τ Cert.ReferenceAttendIdeal.sig) → Buf (Elt Ideal) ℓ) (g : Dev Cert.ReferenceAttendIdeal.nD → PrngReg), Pre_ReferenceAttendIdeal_past_key_selected m →
    θ_run (Cert.ReferenceAttendIdeal.defs (F := Ideal)) (onTc (τ := Cert.ReferenceAttendIdeal.τ) (Cert.ReferenceAttendIdeal.main (F := Ideal))) ⟨m, fun _ => 0, g⟩ (fun r => (∀ c : Dev Cert.ReferenceAttendIdeal.nD,
      r.2.mem ((c.tc : Thread Cert.ReferenceAttendIdeal.nD Cert.ReferenceAttendIdeal.τ).loc Cert.ReferenceAttendIdeal.main_arg0) = m ((c.tc : Thread Cert.ReferenceAttendIdeal.nD Cert.ReferenceAttendIdeal.τ).loc Cert.ReferenceAttendIdeal.main_arg0)
      ∧ r.2.mem ((c.tc : Thread Cert.ReferenceAttendIdeal.nD Cert.ReferenceAttendIdeal.τ).loc Cert.ReferenceAttendIdeal.main_arg1) = m ((c.tc : Thread Cert.ReferenceAttendIdeal.nD Cert.ReferenceAttendIdeal.τ).loc Cert.ReferenceAttendIdeal.main_arg1)
      ∧ r.2.mem ((c.tc : Thread Cert.ReferenceAttendIdeal.nD Cert.ReferenceAttendIdeal.τ).loc Cert.ReferenceAttendIdeal.main_arg2) = m ((c.tc : Thread Cert.ReferenceAttendIdeal.nD Cert.ReferenceAttendIdeal.τ).loc Cert.ReferenceAttendIdeal.main_arg2)
      ∧ r.2.mem ((c.tc : Thread Cert.ReferenceAttendIdeal.nD Cert.ReferenceAttendIdeal.τ).loc Cert.ReferenceAttendIdeal.main_arg3) = m ((c.tc : Thread Cert.ReferenceAttendIdeal.nD Cert.ReferenceAttendIdeal.τ).loc Cert.ReferenceAttendIdeal.main_arg3)
      ∧ r.2.mem ((c.tc : Thread Cert.ReferenceAttendIdeal.nD Cert.ReferenceAttendIdeal.τ).loc Cert.ReferenceAttendIdeal.main_arg4) = m ((c.tc : Thread Cert.ReferenceAttendIdeal.nD Cert.ReferenceAttendIdeal.τ).loc Cert.ReferenceAttendIdeal.main_arg4)
      ∧ r.2.mem ((c.tc : Thread Cert.ReferenceAttendIdeal.nD Cert.ReferenceAttendIdeal.τ).loc Cert.ReferenceAttendIdeal.main_arg5) = m ((c.tc : Thread Cert.ReferenceAttendIdeal.nD Cert.ReferenceAttendIdeal.τ).loc Cert.ReferenceAttendIdeal.main_arg5))
      ∧ r.2.sem = fun _ => 0)

def quiescent_KernelProject [hKernelProject : Cert.KernelProject.Facts] : Prop :=
  ∀ (m : (ℓ : Loc Cert.KernelProject.nD Cert.KernelProject.τ Cert.KernelProject.sig) → Buf (Elt Bits) ℓ) (g : Dev Cert.KernelProject.nD → PrngReg), Pre_KernelProject m →
    θ_run (Cert.KernelProject.defs (F := Bits)) (onTc (τ := Cert.KernelProject.τ) (Cert.KernelProject.main (F := Bits))) ⟨m, fun _ => 0, g⟩ (fun r => (∀ c : Dev Cert.KernelProject.nD,
      r.2.mem ((c.tc : Thread Cert.KernelProject.nD Cert.KernelProject.τ).loc Cert.KernelProject.main_arg0) = m ((c.tc : Thread Cert.KernelProject.nD Cert.KernelProject.τ).loc Cert.KernelProject.main_arg0)
      ∧ r.2.mem ((c.tc : Thread Cert.KernelProject.nD Cert.KernelProject.τ).loc Cert.KernelProject.main_arg1) = m ((c.tc : Thread Cert.KernelProject.nD Cert.KernelProject.τ).loc Cert.KernelProject.main_arg1))
      ∧ r.2.sem = fun _ => 0)

def quiescent_KernelProjectIdeal [hKernelProjectIdeal : Cert.KernelProjectIdeal.Facts] : Prop :=
  ∀ (m : (ℓ : Loc Cert.KernelProjectIdeal.nD Cert.KernelProjectIdeal.τ Cert.KernelProjectIdeal.sig) → Buf (Elt Ideal) ℓ) (g : Dev Cert.KernelProjectIdeal.nD → PrngReg), Pre_KernelProjectIdeal m →
    θ_run (Cert.KernelProjectIdeal.defs (F := Ideal)) (onTc (τ := Cert.KernelProjectIdeal.τ) (Cert.KernelProjectIdeal.main (F := Ideal))) ⟨m, fun _ => 0, g⟩ (fun r => (∀ c : Dev Cert.KernelProjectIdeal.nD,
      r.2.mem ((c.tc : Thread Cert.KernelProjectIdeal.nD Cert.KernelProjectIdeal.τ).loc Cert.KernelProjectIdeal.main_arg0) = m ((c.tc : Thread Cert.KernelProjectIdeal.nD Cert.KernelProjectIdeal.τ).loc Cert.KernelProjectIdeal.main_arg0)
      ∧ r.2.mem ((c.tc : Thread Cert.KernelProjectIdeal.nD Cert.KernelProjectIdeal.τ).loc Cert.KernelProjectIdeal.main_arg1) = m ((c.tc : Thread Cert.KernelProjectIdeal.nD Cert.KernelProjectIdeal.τ).loc Cert.KernelProjectIdeal.main_arg1))
      ∧ r.2.sem = fun _ => 0)

def quiescent_ReferenceProjectIdeal [hReferenceProjectIdeal : Cert.ReferenceProjectIdeal.Facts] : Prop :=
  ∀ (m : (ℓ : Loc Cert.ReferenceProjectIdeal.nD Cert.ReferenceProjectIdeal.τ Cert.ReferenceProjectIdeal.sig) → Buf (Elt Ideal) ℓ) (g : Dev Cert.ReferenceProjectIdeal.nD → PrngReg), Pre_ReferenceProjectIdeal m →
    θ_run (Cert.ReferenceProjectIdeal.defs (F := Ideal)) (onTc (τ := Cert.ReferenceProjectIdeal.τ) (Cert.ReferenceProjectIdeal.main (F := Ideal))) ⟨m, fun _ => 0, g⟩ (fun r => (∀ c : Dev Cert.ReferenceProjectIdeal.nD,
      r.2.mem ((c.tc : Thread Cert.ReferenceProjectIdeal.nD Cert.ReferenceProjectIdeal.τ).loc Cert.ReferenceProjectIdeal.main_arg0) = m ((c.tc : Thread Cert.ReferenceProjectIdeal.nD Cert.ReferenceProjectIdeal.τ).loc Cert.ReferenceProjectIdeal.main_arg0)
      ∧ r.2.mem ((c.tc : Thread Cert.ReferenceProjectIdeal.nD Cert.ReferenceProjectIdeal.τ).loc Cert.ReferenceProjectIdeal.main_arg1) = m ((c.tc : Thread Cert.ReferenceProjectIdeal.nD Cert.ReferenceProjectIdeal.τ).loc Cert.ReferenceProjectIdeal.main_arg1))
      ∧ r.2.sem = fun _ => 0)

def quiescent_KernelCombine [hKernelCombine : Cert.KernelCombine.Facts] : Prop :=
  ∀ (m : (ℓ : Loc Cert.KernelCombine.nD Cert.KernelCombine.τ Cert.KernelCombine.sig) → Buf (Elt Bits) ℓ) (g : Dev Cert.KernelCombine.nD → PrngReg), Pre_KernelCombine m →
    θ_run (Cert.KernelCombine.defs (F := Bits)) (onTc (τ := Cert.KernelCombine.τ) (Cert.KernelCombine.main (F := Bits))) ⟨m, fun _ => 0, g⟩ (fun r => (∀ c : Dev Cert.KernelCombine.nD,
      r.2.mem ((c.tc : Thread Cert.KernelCombine.nD Cert.KernelCombine.τ).loc Cert.KernelCombine.main_arg0) = m ((c.tc : Thread Cert.KernelCombine.nD Cert.KernelCombine.τ).loc Cert.KernelCombine.main_arg0)
      ∧ r.2.mem ((c.tc : Thread Cert.KernelCombine.nD Cert.KernelCombine.τ).loc Cert.KernelCombine.main_arg1) = m ((c.tc : Thread Cert.KernelCombine.nD Cert.KernelCombine.τ).loc Cert.KernelCombine.main_arg1)
      ∧ r.2.mem ((c.tc : Thread Cert.KernelCombine.nD Cert.KernelCombine.τ).loc Cert.KernelCombine.main_arg2) = m ((c.tc : Thread Cert.KernelCombine.nD Cert.KernelCombine.τ).loc Cert.KernelCombine.main_arg2)
      ∧ r.2.mem ((c.tc : Thread Cert.KernelCombine.nD Cert.KernelCombine.τ).loc Cert.KernelCombine.main_arg3) = m ((c.tc : Thread Cert.KernelCombine.nD Cert.KernelCombine.τ).loc Cert.KernelCombine.main_arg3)
      ∧ r.2.mem ((c.tc : Thread Cert.KernelCombine.nD Cert.KernelCombine.τ).loc Cert.KernelCombine.main_arg4) = m ((c.tc : Thread Cert.KernelCombine.nD Cert.KernelCombine.τ).loc Cert.KernelCombine.main_arg4)
      ∧ r.2.mem ((c.tc : Thread Cert.KernelCombine.nD Cert.KernelCombine.τ).loc Cert.KernelCombine.main_arg5) = m ((c.tc : Thread Cert.KernelCombine.nD Cert.KernelCombine.τ).loc Cert.KernelCombine.main_arg5)
      ∧ r.2.mem ((c.tc : Thread Cert.KernelCombine.nD Cert.KernelCombine.τ).loc Cert.KernelCombine.main_arg6) = m ((c.tc : Thread Cert.KernelCombine.nD Cert.KernelCombine.τ).loc Cert.KernelCombine.main_arg6)
      ∧ r.2.mem ((c.tc : Thread Cert.KernelCombine.nD Cert.KernelCombine.τ).loc Cert.KernelCombine.main_arg7) = m ((c.tc : Thread Cert.KernelCombine.nD Cert.KernelCombine.τ).loc Cert.KernelCombine.main_arg7)
      ∧ r.2.mem ((c.tc : Thread Cert.KernelCombine.nD Cert.KernelCombine.τ).loc Cert.KernelCombine.main_arg8) = m ((c.tc : Thread Cert.KernelCombine.nD Cert.KernelCombine.τ).loc Cert.KernelCombine.main_arg8)
      ∧ r.2.mem ((c.tc : Thread Cert.KernelCombine.nD Cert.KernelCombine.τ).loc Cert.KernelCombine.main_arg9) = m ((c.tc : Thread Cert.KernelCombine.nD Cert.KernelCombine.τ).loc Cert.KernelCombine.main_arg9))
      ∧ r.2.sem = fun _ => 0)

def quiescent_KernelCombineIdeal [hKernelCombineIdeal : Cert.KernelCombineIdeal.Facts] : Prop :=
  ∀ (m : (ℓ : Loc Cert.KernelCombineIdeal.nD Cert.KernelCombineIdeal.τ Cert.KernelCombineIdeal.sig) → Buf (Elt Ideal) ℓ) (g : Dev Cert.KernelCombineIdeal.nD → PrngReg), Pre_KernelCombineIdeal m →
    θ_run (Cert.KernelCombineIdeal.defs (F := Ideal)) (onTc (τ := Cert.KernelCombineIdeal.τ) (Cert.KernelCombineIdeal.main (F := Ideal))) ⟨m, fun _ => 0, g⟩ (fun r => (∀ c : Dev Cert.KernelCombineIdeal.nD,
      r.2.mem ((c.tc : Thread Cert.KernelCombineIdeal.nD Cert.KernelCombineIdeal.τ).loc Cert.KernelCombineIdeal.main_arg0) = m ((c.tc : Thread Cert.KernelCombineIdeal.nD Cert.KernelCombineIdeal.τ).loc Cert.KernelCombineIdeal.main_arg0)
      ∧ r.2.mem ((c.tc : Thread Cert.KernelCombineIdeal.nD Cert.KernelCombineIdeal.τ).loc Cert.KernelCombineIdeal.main_arg1) = m ((c.tc : Thread Cert.KernelCombineIdeal.nD Cert.KernelCombineIdeal.τ).loc Cert.KernelCombineIdeal.main_arg1)
      ∧ r.2.mem ((c.tc : Thread Cert.KernelCombineIdeal.nD Cert.KernelCombineIdeal.τ).loc Cert.KernelCombineIdeal.main_arg2) = m ((c.tc : Thread Cert.KernelCombineIdeal.nD Cert.KernelCombineIdeal.τ).loc Cert.KernelCombineIdeal.main_arg2)
      ∧ r.2.mem ((c.tc : Thread Cert.KernelCombineIdeal.nD Cert.KernelCombineIdeal.τ).loc Cert.KernelCombineIdeal.main_arg3) = m ((c.tc : Thread Cert.KernelCombineIdeal.nD Cert.KernelCombineIdeal.τ).loc Cert.KernelCombineIdeal.main_arg3)
      ∧ r.2.mem ((c.tc : Thread Cert.KernelCombineIdeal.nD Cert.KernelCombineIdeal.τ).loc Cert.KernelCombineIdeal.main_arg4) = m ((c.tc : Thread Cert.KernelCombineIdeal.nD Cert.KernelCombineIdeal.τ).loc Cert.KernelCombineIdeal.main_arg4)
      ∧ r.2.mem ((c.tc : Thread Cert.KernelCombineIdeal.nD Cert.KernelCombineIdeal.τ).loc Cert.KernelCombineIdeal.main_arg5) = m ((c.tc : Thread Cert.KernelCombineIdeal.nD Cert.KernelCombineIdeal.τ).loc Cert.KernelCombineIdeal.main_arg5)
      ∧ r.2.mem ((c.tc : Thread Cert.KernelCombineIdeal.nD Cert.KernelCombineIdeal.τ).loc Cert.KernelCombineIdeal.main_arg6) = m ((c.tc : Thread Cert.KernelCombineIdeal.nD Cert.KernelCombineIdeal.τ).loc Cert.KernelCombineIdeal.main_arg6)
      ∧ r.2.mem ((c.tc : Thread Cert.KernelCombineIdeal.nD Cert.KernelCombineIdeal.τ).loc Cert.KernelCombineIdeal.main_arg7) = m ((c.tc : Thread Cert.KernelCombineIdeal.nD Cert.KernelCombineIdeal.τ).loc Cert.KernelCombineIdeal.main_arg7)
      ∧ r.2.mem ((c.tc : Thread Cert.KernelCombineIdeal.nD Cert.KernelCombineIdeal.τ).loc Cert.KernelCombineIdeal.main_arg8) = m ((c.tc : Thread Cert.KernelCombineIdeal.nD Cert.KernelCombineIdeal.τ).loc Cert.KernelCombineIdeal.main_arg8)
      ∧ r.2.mem ((c.tc : Thread Cert.KernelCombineIdeal.nD Cert.KernelCombineIdeal.τ).loc Cert.KernelCombineIdeal.main_arg9) = m ((c.tc : Thread Cert.KernelCombineIdeal.nD Cert.KernelCombineIdeal.τ).loc Cert.KernelCombineIdeal.main_arg9))
      ∧ r.2.sem = fun _ => 0)

def quiescent_ReferenceCombineIdeal [hReferenceCombineIdeal : Cert.ReferenceCombineIdeal.Facts] : Prop :=
  ∀ (m : (ℓ : Loc Cert.ReferenceCombineIdeal.nD Cert.ReferenceCombineIdeal.τ Cert.ReferenceCombineIdeal.sig) → Buf (Elt Ideal) ℓ) (g : Dev Cert.ReferenceCombineIdeal.nD → PrngReg), Pre_ReferenceCombineIdeal m →
    θ_run (Cert.ReferenceCombineIdeal.defs (F := Ideal)) (onTc (τ := Cert.ReferenceCombineIdeal.τ) (Cert.ReferenceCombineIdeal.main (F := Ideal))) ⟨m, fun _ => 0, g⟩ (fun r => (∀ c : Dev Cert.ReferenceCombineIdeal.nD,
      r.2.mem ((c.tc : Thread Cert.ReferenceCombineIdeal.nD Cert.ReferenceCombineIdeal.τ).loc Cert.ReferenceCombineIdeal.main_arg0) = m ((c.tc : Thread Cert.ReferenceCombineIdeal.nD Cert.ReferenceCombineIdeal.τ).loc Cert.ReferenceCombineIdeal.main_arg0)
      ∧ r.2.mem ((c.tc : Thread Cert.ReferenceCombineIdeal.nD Cert.ReferenceCombineIdeal.τ).loc Cert.ReferenceCombineIdeal.main_arg1) = m ((c.tc : Thread Cert.ReferenceCombineIdeal.nD Cert.ReferenceCombineIdeal.τ).loc Cert.ReferenceCombineIdeal.main_arg1)
      ∧ r.2.mem ((c.tc : Thread Cert.ReferenceCombineIdeal.nD Cert.ReferenceCombineIdeal.τ).loc Cert.ReferenceCombineIdeal.main_arg2) = m ((c.tc : Thread Cert.ReferenceCombineIdeal.nD Cert.ReferenceCombineIdeal.τ).loc Cert.ReferenceCombineIdeal.main_arg2)
      ∧ r.2.mem ((c.tc : Thread Cert.ReferenceCombineIdeal.nD Cert.ReferenceCombineIdeal.τ).loc Cert.ReferenceCombineIdeal.main_arg3) = m ((c.tc : Thread Cert.ReferenceCombineIdeal.nD Cert.ReferenceCombineIdeal.τ).loc Cert.ReferenceCombineIdeal.main_arg3)
      ∧ r.2.mem ((c.tc : Thread Cert.ReferenceCombineIdeal.nD Cert.ReferenceCombineIdeal.τ).loc Cert.ReferenceCombineIdeal.main_arg4) = m ((c.tc : Thread Cert.ReferenceCombineIdeal.nD Cert.ReferenceCombineIdeal.τ).loc Cert.ReferenceCombineIdeal.main_arg4)
      ∧ r.2.mem ((c.tc : Thread Cert.ReferenceCombineIdeal.nD Cert.ReferenceCombineIdeal.τ).loc Cert.ReferenceCombineIdeal.main_arg5) = m ((c.tc : Thread Cert.ReferenceCombineIdeal.nD Cert.ReferenceCombineIdeal.τ).loc Cert.ReferenceCombineIdeal.main_arg5)
      ∧ r.2.mem ((c.tc : Thread Cert.ReferenceCombineIdeal.nD Cert.ReferenceCombineIdeal.τ).loc Cert.ReferenceCombineIdeal.main_arg6) = m ((c.tc : Thread Cert.ReferenceCombineIdeal.nD Cert.ReferenceCombineIdeal.τ).loc Cert.ReferenceCombineIdeal.main_arg6)
      ∧ r.2.mem ((c.tc : Thread Cert.ReferenceCombineIdeal.nD Cert.ReferenceCombineIdeal.τ).loc Cert.ReferenceCombineIdeal.main_arg7) = m ((c.tc : Thread Cert.ReferenceCombineIdeal.nD Cert.ReferenceCombineIdeal.τ).loc Cert.ReferenceCombineIdeal.main_arg7)
      ∧ r.2.mem ((c.tc : Thread Cert.ReferenceCombineIdeal.nD Cert.ReferenceCombineIdeal.τ).loc Cert.ReferenceCombineIdeal.main_arg8) = m ((c.tc : Thread Cert.ReferenceCombineIdeal.nD Cert.ReferenceCombineIdeal.τ).loc Cert.ReferenceCombineIdeal.main_arg8)
      ∧ r.2.mem ((c.tc : Thread Cert.ReferenceCombineIdeal.nD Cert.ReferenceCombineIdeal.τ).loc Cert.ReferenceCombineIdeal.main_arg9) = m ((c.tc : Thread Cert.ReferenceCombineIdeal.nD Cert.ReferenceCombineIdeal.τ).loc Cert.ReferenceCombineIdeal.main_arg9))
      ∧ r.2.sem = fun _ => 0)

def quiescent_KernelProjectSample [hKernelProjectSample : Cert.KernelProjectSample.Facts] : Prop :=
  ∀ (m : (ℓ : Loc Cert.KernelProjectSample.nD Cert.KernelProjectSample.τ Cert.KernelProjectSample.sig) → Buf (Elt Bits) ℓ) (g : Dev Cert.KernelProjectSample.nD → PrngReg), Pre_KernelProjectSample m →
    θ_run (Cert.KernelProjectSample.defs (F := Bits)) (onTc (τ := Cert.KernelProjectSample.τ) (Cert.KernelProjectSample.main (F := Bits))) ⟨m, fun _ => 0, g⟩ (fun r => (∀ c : Dev Cert.KernelProjectSample.nD,
      r.2.mem ((c.tc : Thread Cert.KernelProjectSample.nD Cert.KernelProjectSample.τ).loc Cert.KernelProjectSample.main_arg0) = m ((c.tc : Thread Cert.KernelProjectSample.nD Cert.KernelProjectSample.τ).loc Cert.KernelProjectSample.main_arg0)
      ∧ r.2.mem ((c.tc : Thread Cert.KernelProjectSample.nD Cert.KernelProjectSample.τ).loc Cert.KernelProjectSample.main_arg1) = m ((c.tc : Thread Cert.KernelProjectSample.nD Cert.KernelProjectSample.τ).loc Cert.KernelProjectSample.main_arg1))
      ∧ r.2.sem = fun _ => 0)

def quiescent_KernelProjectSampleIdeal [hKernelProjectSampleIdeal : Cert.KernelProjectSampleIdeal.Facts] : Prop :=
  ∀ (m : (ℓ : Loc Cert.KernelProjectSampleIdeal.nD Cert.KernelProjectSampleIdeal.τ Cert.KernelProjectSampleIdeal.sig) → Buf (Elt Ideal) ℓ) (g : Dev Cert.KernelProjectSampleIdeal.nD → PrngReg), Pre_KernelProjectSampleIdeal m →
    θ_run (Cert.KernelProjectSampleIdeal.defs (F := Ideal)) (onTc (τ := Cert.KernelProjectSampleIdeal.τ) (Cert.KernelProjectSampleIdeal.main (F := Ideal))) ⟨m, fun _ => 0, g⟩ (fun r => (∀ c : Dev Cert.KernelProjectSampleIdeal.nD,
      r.2.mem ((c.tc : Thread Cert.KernelProjectSampleIdeal.nD Cert.KernelProjectSampleIdeal.τ).loc Cert.KernelProjectSampleIdeal.main_arg0) = m ((c.tc : Thread Cert.KernelProjectSampleIdeal.nD Cert.KernelProjectSampleIdeal.τ).loc Cert.KernelProjectSampleIdeal.main_arg0)
      ∧ r.2.mem ((c.tc : Thread Cert.KernelProjectSampleIdeal.nD Cert.KernelProjectSampleIdeal.τ).loc Cert.KernelProjectSampleIdeal.main_arg1) = m ((c.tc : Thread Cert.KernelProjectSampleIdeal.nD Cert.KernelProjectSampleIdeal.τ).loc Cert.KernelProjectSampleIdeal.main_arg1))
      ∧ r.2.sem = fun _ => 0)

def quiescent_ReferenceProjectSampleIdeal [hReferenceProjectSampleIdeal : Cert.ReferenceProjectSampleIdeal.Facts] : Prop :=
  ∀ (m : (ℓ : Loc Cert.ReferenceProjectSampleIdeal.nD Cert.ReferenceProjectSampleIdeal.τ Cert.ReferenceProjectSampleIdeal.sig) → Buf (Elt Ideal) ℓ) (g : Dev Cert.ReferenceProjectSampleIdeal.nD → PrngReg), Pre_ReferenceProjectSampleIdeal m →
    θ_run (Cert.ReferenceProjectSampleIdeal.defs (F := Ideal)) (onTc (τ := Cert.ReferenceProjectSampleIdeal.τ) (Cert.ReferenceProjectSampleIdeal.main (F := Ideal))) ⟨m, fun _ => 0, g⟩ (fun r => (∀ c : Dev Cert.ReferenceProjectSampleIdeal.nD,
      r.2.mem ((c.tc : Thread Cert.ReferenceProjectSampleIdeal.nD Cert.ReferenceProjectSampleIdeal.τ).loc Cert.ReferenceProjectSampleIdeal.main_arg0) = m ((c.tc : Thread Cert.ReferenceProjectSampleIdeal.nD Cert.ReferenceProjectSampleIdeal.τ).loc Cert.ReferenceProjectSampleIdeal.main_arg0)
      ∧ r.2.mem ((c.tc : Thread Cert.ReferenceProjectSampleIdeal.nD Cert.ReferenceProjectSampleIdeal.τ).loc Cert.ReferenceProjectSampleIdeal.main_arg1) = m ((c.tc : Thread Cert.ReferenceProjectSampleIdeal.nD Cert.ReferenceProjectSampleIdeal.τ).loc Cert.ReferenceProjectSampleIdeal.main_arg1))
      ∧ r.2.sem = fun _ => 0)

def quiescent_KernelCombineSample [hKernelCombineSample : Cert.KernelCombineSample.Facts] : Prop :=
  ∀ (m : (ℓ : Loc Cert.KernelCombineSample.nD Cert.KernelCombineSample.τ Cert.KernelCombineSample.sig) → Buf (Elt Bits) ℓ) (g : Dev Cert.KernelCombineSample.nD → PrngReg), Pre_KernelCombineSample m →
    θ_run (Cert.KernelCombineSample.defs (F := Bits)) (onTc (τ := Cert.KernelCombineSample.τ) (Cert.KernelCombineSample.main (F := Bits))) ⟨m, fun _ => 0, g⟩ (fun r => (∀ c : Dev Cert.KernelCombineSample.nD,
      r.2.mem ((c.tc : Thread Cert.KernelCombineSample.nD Cert.KernelCombineSample.τ).loc Cert.KernelCombineSample.main_arg0) = m ((c.tc : Thread Cert.KernelCombineSample.nD Cert.KernelCombineSample.τ).loc Cert.KernelCombineSample.main_arg0)
      ∧ r.2.mem ((c.tc : Thread Cert.KernelCombineSample.nD Cert.KernelCombineSample.τ).loc Cert.KernelCombineSample.main_arg1) = m ((c.tc : Thread Cert.KernelCombineSample.nD Cert.KernelCombineSample.τ).loc Cert.KernelCombineSample.main_arg1)
      ∧ r.2.mem ((c.tc : Thread Cert.KernelCombineSample.nD Cert.KernelCombineSample.τ).loc Cert.KernelCombineSample.main_arg2) = m ((c.tc : Thread Cert.KernelCombineSample.nD Cert.KernelCombineSample.τ).loc Cert.KernelCombineSample.main_arg2)
      ∧ r.2.mem ((c.tc : Thread Cert.KernelCombineSample.nD Cert.KernelCombineSample.τ).loc Cert.KernelCombineSample.main_arg3) = m ((c.tc : Thread Cert.KernelCombineSample.nD Cert.KernelCombineSample.τ).loc Cert.KernelCombineSample.main_arg3)
      ∧ r.2.mem ((c.tc : Thread Cert.KernelCombineSample.nD Cert.KernelCombineSample.τ).loc Cert.KernelCombineSample.main_arg4) = m ((c.tc : Thread Cert.KernelCombineSample.nD Cert.KernelCombineSample.τ).loc Cert.KernelCombineSample.main_arg4)
      ∧ r.2.mem ((c.tc : Thread Cert.KernelCombineSample.nD Cert.KernelCombineSample.τ).loc Cert.KernelCombineSample.main_arg5) = m ((c.tc : Thread Cert.KernelCombineSample.nD Cert.KernelCombineSample.τ).loc Cert.KernelCombineSample.main_arg5)
      ∧ r.2.mem ((c.tc : Thread Cert.KernelCombineSample.nD Cert.KernelCombineSample.τ).loc Cert.KernelCombineSample.main_arg6) = m ((c.tc : Thread Cert.KernelCombineSample.nD Cert.KernelCombineSample.τ).loc Cert.KernelCombineSample.main_arg6)
      ∧ r.2.mem ((c.tc : Thread Cert.KernelCombineSample.nD Cert.KernelCombineSample.τ).loc Cert.KernelCombineSample.main_arg7) = m ((c.tc : Thread Cert.KernelCombineSample.nD Cert.KernelCombineSample.τ).loc Cert.KernelCombineSample.main_arg7)
      ∧ r.2.mem ((c.tc : Thread Cert.KernelCombineSample.nD Cert.KernelCombineSample.τ).loc Cert.KernelCombineSample.main_arg8) = m ((c.tc : Thread Cert.KernelCombineSample.nD Cert.KernelCombineSample.τ).loc Cert.KernelCombineSample.main_arg8)
      ∧ r.2.mem ((c.tc : Thread Cert.KernelCombineSample.nD Cert.KernelCombineSample.τ).loc Cert.KernelCombineSample.main_arg9) = m ((c.tc : Thread Cert.KernelCombineSample.nD Cert.KernelCombineSample.τ).loc Cert.KernelCombineSample.main_arg9)
      ∧ r.2.mem ((c.tc : Thread Cert.KernelCombineSample.nD Cert.KernelCombineSample.τ).loc Cert.KernelCombineSample.main_arg10) = m ((c.tc : Thread Cert.KernelCombineSample.nD Cert.KernelCombineSample.τ).loc Cert.KernelCombineSample.main_arg10))
      ∧ r.2.sem = fun _ => 0)

def quiescent_KernelCombineSampleIdeal [hKernelCombineSampleIdeal : Cert.KernelCombineSampleIdeal.Facts] : Prop :=
  ∀ (m : (ℓ : Loc Cert.KernelCombineSampleIdeal.nD Cert.KernelCombineSampleIdeal.τ Cert.KernelCombineSampleIdeal.sig) → Buf (Elt Ideal) ℓ) (g : Dev Cert.KernelCombineSampleIdeal.nD → PrngReg), Pre_KernelCombineSampleIdeal m →
    θ_run (Cert.KernelCombineSampleIdeal.defs (F := Ideal)) (onTc (τ := Cert.KernelCombineSampleIdeal.τ) (Cert.KernelCombineSampleIdeal.main (F := Ideal))) ⟨m, fun _ => 0, g⟩ (fun r => (∀ c : Dev Cert.KernelCombineSampleIdeal.nD,
      r.2.mem ((c.tc : Thread Cert.KernelCombineSampleIdeal.nD Cert.KernelCombineSampleIdeal.τ).loc Cert.KernelCombineSampleIdeal.main_arg0) = m ((c.tc : Thread Cert.KernelCombineSampleIdeal.nD Cert.KernelCombineSampleIdeal.τ).loc Cert.KernelCombineSampleIdeal.main_arg0)
      ∧ r.2.mem ((c.tc : Thread Cert.KernelCombineSampleIdeal.nD Cert.KernelCombineSampleIdeal.τ).loc Cert.KernelCombineSampleIdeal.main_arg1) = m ((c.tc : Thread Cert.KernelCombineSampleIdeal.nD Cert.KernelCombineSampleIdeal.τ).loc Cert.KernelCombineSampleIdeal.main_arg1)
      ∧ r.2.mem ((c.tc : Thread Cert.KernelCombineSampleIdeal.nD Cert.KernelCombineSampleIdeal.τ).loc Cert.KernelCombineSampleIdeal.main_arg2) = m ((c.tc : Thread Cert.KernelCombineSampleIdeal.nD Cert.KernelCombineSampleIdeal.τ).loc Cert.KernelCombineSampleIdeal.main_arg2)
      ∧ r.2.mem ((c.tc : Thread Cert.KernelCombineSampleIdeal.nD Cert.KernelCombineSampleIdeal.τ).loc Cert.KernelCombineSampleIdeal.main_arg3) = m ((c.tc : Thread Cert.KernelCombineSampleIdeal.nD Cert.KernelCombineSampleIdeal.τ).loc Cert.KernelCombineSampleIdeal.main_arg3)
      ∧ r.2.mem ((c.tc : Thread Cert.KernelCombineSampleIdeal.nD Cert.KernelCombineSampleIdeal.τ).loc Cert.KernelCombineSampleIdeal.main_arg4) = m ((c.tc : Thread Cert.KernelCombineSampleIdeal.nD Cert.KernelCombineSampleIdeal.τ).loc Cert.KernelCombineSampleIdeal.main_arg4)
      ∧ r.2.mem ((c.tc : Thread Cert.KernelCombineSampleIdeal.nD Cert.KernelCombineSampleIdeal.τ).loc Cert.KernelCombineSampleIdeal.main_arg5) = m ((c.tc : Thread Cert.KernelCombineSampleIdeal.nD Cert.KernelCombineSampleIdeal.τ).loc Cert.KernelCombineSampleIdeal.main_arg5)
      ∧ r.2.mem ((c.tc : Thread Cert.KernelCombineSampleIdeal.nD Cert.KernelCombineSampleIdeal.τ).loc Cert.KernelCombineSampleIdeal.main_arg6) = m ((c.tc : Thread Cert.KernelCombineSampleIdeal.nD Cert.KernelCombineSampleIdeal.τ).loc Cert.KernelCombineSampleIdeal.main_arg6)
      ∧ r.2.mem ((c.tc : Thread Cert.KernelCombineSampleIdeal.nD Cert.KernelCombineSampleIdeal.τ).loc Cert.KernelCombineSampleIdeal.main_arg7) = m ((c.tc : Thread Cert.KernelCombineSampleIdeal.nD Cert.KernelCombineSampleIdeal.τ).loc Cert.KernelCombineSampleIdeal.main_arg7)
      ∧ r.2.mem ((c.tc : Thread Cert.KernelCombineSampleIdeal.nD Cert.KernelCombineSampleIdeal.τ).loc Cert.KernelCombineSampleIdeal.main_arg8) = m ((c.tc : Thread Cert.KernelCombineSampleIdeal.nD Cert.KernelCombineSampleIdeal.τ).loc Cert.KernelCombineSampleIdeal.main_arg8)
      ∧ r.2.mem ((c.tc : Thread Cert.KernelCombineSampleIdeal.nD Cert.KernelCombineSampleIdeal.τ).loc Cert.KernelCombineSampleIdeal.main_arg9) = m ((c.tc : Thread Cert.KernelCombineSampleIdeal.nD Cert.KernelCombineSampleIdeal.τ).loc Cert.KernelCombineSampleIdeal.main_arg9)
      ∧ r.2.mem ((c.tc : Thread Cert.KernelCombineSampleIdeal.nD Cert.KernelCombineSampleIdeal.τ).loc Cert.KernelCombineSampleIdeal.main_arg10) = m ((c.tc : Thread Cert.KernelCombineSampleIdeal.nD Cert.KernelCombineSampleIdeal.τ).loc Cert.KernelCombineSampleIdeal.main_arg10))
      ∧ r.2.sem = fun _ => 0)

def quiescent_ReferenceCombineSampleIdeal [hReferenceCombineSampleIdeal : Cert.ReferenceCombineSampleIdeal.Facts] : Prop :=
  ∀ (m : (ℓ : Loc Cert.ReferenceCombineSampleIdeal.nD Cert.ReferenceCombineSampleIdeal.τ Cert.ReferenceCombineSampleIdeal.sig) → Buf (Elt Ideal) ℓ) (g : Dev Cert.ReferenceCombineSampleIdeal.nD → PrngReg), Pre_ReferenceCombineSampleIdeal m →
    θ_run (Cert.ReferenceCombineSampleIdeal.defs (F := Ideal)) (onTc (τ := Cert.ReferenceCombineSampleIdeal.τ) (Cert.ReferenceCombineSampleIdeal.main (F := Ideal))) ⟨m, fun _ => 0, g⟩ (fun r => (∀ c : Dev Cert.ReferenceCombineSampleIdeal.nD,
      r.2.mem ((c.tc : Thread Cert.ReferenceCombineSampleIdeal.nD Cert.ReferenceCombineSampleIdeal.τ).loc Cert.ReferenceCombineSampleIdeal.main_arg0) = m ((c.tc : Thread Cert.ReferenceCombineSampleIdeal.nD Cert.ReferenceCombineSampleIdeal.τ).loc Cert.ReferenceCombineSampleIdeal.main_arg0)
      ∧ r.2.mem ((c.tc : Thread Cert.ReferenceCombineSampleIdeal.nD Cert.ReferenceCombineSampleIdeal.τ).loc Cert.ReferenceCombineSampleIdeal.main_arg1) = m ((c.tc : Thread Cert.ReferenceCombineSampleIdeal.nD Cert.ReferenceCombineSampleIdeal.τ).loc Cert.ReferenceCombineSampleIdeal.main_arg1)
      ∧ r.2.mem ((c.tc : Thread Cert.ReferenceCombineSampleIdeal.nD Cert.ReferenceCombineSampleIdeal.τ).loc Cert.ReferenceCombineSampleIdeal.main_arg2) = m ((c.tc : Thread Cert.ReferenceCombineSampleIdeal.nD Cert.ReferenceCombineSampleIdeal.τ).loc Cert.ReferenceCombineSampleIdeal.main_arg2)
      ∧ r.2.mem ((c.tc : Thread Cert.ReferenceCombineSampleIdeal.nD Cert.ReferenceCombineSampleIdeal.τ).loc Cert.ReferenceCombineSampleIdeal.main_arg3) = m ((c.tc : Thread Cert.ReferenceCombineSampleIdeal.nD Cert.ReferenceCombineSampleIdeal.τ).loc Cert.ReferenceCombineSampleIdeal.main_arg3)
      ∧ r.2.mem ((c.tc : Thread Cert.ReferenceCombineSampleIdeal.nD Cert.ReferenceCombineSampleIdeal.τ).loc Cert.ReferenceCombineSampleIdeal.main_arg4) = m ((c.tc : Thread Cert.ReferenceCombineSampleIdeal.nD Cert.ReferenceCombineSampleIdeal.τ).loc Cert.ReferenceCombineSampleIdeal.main_arg4)
      ∧ r.2.mem ((c.tc : Thread Cert.ReferenceCombineSampleIdeal.nD Cert.ReferenceCombineSampleIdeal.τ).loc Cert.ReferenceCombineSampleIdeal.main_arg5) = m ((c.tc : Thread Cert.ReferenceCombineSampleIdeal.nD Cert.ReferenceCombineSampleIdeal.τ).loc Cert.ReferenceCombineSampleIdeal.main_arg5)
      ∧ r.2.mem ((c.tc : Thread Cert.ReferenceCombineSampleIdeal.nD Cert.ReferenceCombineSampleIdeal.τ).loc Cert.ReferenceCombineSampleIdeal.main_arg6) = m ((c.tc : Thread Cert.ReferenceCombineSampleIdeal.nD Cert.ReferenceCombineSampleIdeal.τ).loc Cert.ReferenceCombineSampleIdeal.main_arg6)
      ∧ r.2.mem ((c.tc : Thread Cert.ReferenceCombineSampleIdeal.nD Cert.ReferenceCombineSampleIdeal.τ).loc Cert.ReferenceCombineSampleIdeal.main_arg7) = m ((c.tc : Thread Cert.ReferenceCombineSampleIdeal.nD Cert.ReferenceCombineSampleIdeal.τ).loc Cert.ReferenceCombineSampleIdeal.main_arg7)
      ∧ r.2.mem ((c.tc : Thread Cert.ReferenceCombineSampleIdeal.nD Cert.ReferenceCombineSampleIdeal.τ).loc Cert.ReferenceCombineSampleIdeal.main_arg8) = m ((c.tc : Thread Cert.ReferenceCombineSampleIdeal.nD Cert.ReferenceCombineSampleIdeal.τ).loc Cert.ReferenceCombineSampleIdeal.main_arg8)
      ∧ r.2.mem ((c.tc : Thread Cert.ReferenceCombineSampleIdeal.nD Cert.ReferenceCombineSampleIdeal.τ).loc Cert.ReferenceCombineSampleIdeal.main_arg9) = m ((c.tc : Thread Cert.ReferenceCombineSampleIdeal.nD Cert.ReferenceCombineSampleIdeal.τ).loc Cert.ReferenceCombineSampleIdeal.main_arg9)
      ∧ r.2.mem ((c.tc : Thread Cert.ReferenceCombineSampleIdeal.nD Cert.ReferenceCombineSampleIdeal.τ).loc Cert.ReferenceCombineSampleIdeal.main_arg10) = m ((c.tc : Thread Cert.ReferenceCombineSampleIdeal.nD Cert.ReferenceCombineSampleIdeal.τ).loc Cert.ReferenceCombineSampleIdeal.main_arg10))
      ∧ r.2.sem = fun _ => 0)

def preserves_KernelAttend_KernelAttendIdeal : Prop :=
  True

def algebraic_KernelAttendIdeal_ReferenceAttendIdeal_pre_past_key_selected [hKernelAttendIdeal : Cert.KernelAttendIdeal.Facts] [hReferenceAttendIdeal : Cert.ReferenceAttendIdeal.Facts] [hPre_past_key_selected : Cert.Pre_past_key_selected.Facts] : Prop :=
  ∀ (m : (ℓ : Loc Cert.KernelAttendIdeal.nD Cert.KernelAttendIdeal.τ Cert.KernelAttendIdeal.sig) → Buf (Elt Ideal) ℓ) (g : Dev Cert.KernelAttendIdeal.nD → PrngReg)
    (m' : (ℓ : Loc Cert.ReferenceAttendIdeal.nD Cert.ReferenceAttendIdeal.τ Cert.ReferenceAttendIdeal.sig) → Buf (Elt Ideal) ℓ) (g' : Dev Cert.ReferenceAttendIdeal.nD → PrngReg), Pre_KernelAttendIdeal_past_key_selected m →
    (∀ c : Dev Cert.KernelAttendIdeal.nD,
      m' ((c.tc : Thread Cert.ReferenceAttendIdeal.nD Cert.ReferenceAttendIdeal.τ).loc Cert.ReferenceAttendIdeal.main_arg0) = m ((c.tc : Thread Cert.KernelAttendIdeal.nD Cert.KernelAttendIdeal.τ).loc Cert.KernelAttendIdeal.main_arg0)
      ∧ m' ((c.tc : Thread Cert.ReferenceAttendIdeal.nD Cert.ReferenceAttendIdeal.τ).loc Cert.ReferenceAttendIdeal.main_arg1) = m ((c.tc : Thread Cert.KernelAttendIdeal.nD Cert.KernelAttendIdeal.τ).loc Cert.KernelAttendIdeal.main_arg1)
      ∧ m' ((c.tc : Thread Cert.ReferenceAttendIdeal.nD Cert.ReferenceAttendIdeal.τ).loc Cert.ReferenceAttendIdeal.main_arg2) = m ((c.tc : Thread Cert.KernelAttendIdeal.nD Cert.KernelAttendIdeal.τ).loc Cert.KernelAttendIdeal.main_arg2)
      ∧ m' ((c.tc : Thread Cert.ReferenceAttendIdeal.nD Cert.ReferenceAttendIdeal.τ).loc Cert.ReferenceAttendIdeal.main_arg3) = m ((c.tc : Thread Cert.KernelAttendIdeal.nD Cert.KernelAttendIdeal.τ).loc Cert.KernelAttendIdeal.main_arg3)
      ∧ m' ((c.tc : Thread Cert.ReferenceAttendIdeal.nD Cert.ReferenceAttendIdeal.τ).loc Cert.ReferenceAttendIdeal.main_arg4) = m ((c.tc : Thread Cert.KernelAttendIdeal.nD Cert.KernelAttendIdeal.τ).loc Cert.KernelAttendIdeal.main_arg4)
      ∧ m' ((c.tc : Thread Cert.ReferenceAttendIdeal.nD Cert.ReferenceAttendIdeal.τ).loc Cert.ReferenceAttendIdeal.main_arg5) = m ((c.tc : Thread Cert.KernelAttendIdeal.nD Cert.KernelAttendIdeal.τ).loc Cert.KernelAttendIdeal.main_arg5)) →
    ∃ (v0 : (c : Dev Cert.KernelAttendIdeal.nD) → Buf (Elt Ideal) ((c.tc : Thread Cert.KernelAttendIdeal.nD Cert.KernelAttendIdeal.τ).loc Cert.KernelAttendIdeal.main_v10)),
      θ_run (Cert.KernelAttendIdeal.defs (F := Ideal)) (onTc (τ := Cert.KernelAttendIdeal.τ) (Cert.KernelAttendIdeal.main (F := Ideal))) ⟨m, fun _ => 0, g⟩ (fun r => ∀ c : Dev Cert.KernelAttendIdeal.nD,
          r.2.mem ((c.tc : Thread Cert.KernelAttendIdeal.nD Cert.KernelAttendIdeal.τ).loc Cert.KernelAttendIdeal.main_v10) = v0 c
          ∧ r.2.mem ((c.tc : Thread Cert.KernelAttendIdeal.nD Cert.KernelAttendIdeal.τ).loc Cert.KernelAttendIdeal.main_arg0) = m ((c.tc : Thread Cert.KernelAttendIdeal.nD Cert.KernelAttendIdeal.τ).loc Cert.KernelAttendIdeal.main_arg0)
          ∧ r.2.mem ((c.tc : Thread Cert.KernelAttendIdeal.nD Cert.KernelAttendIdeal.τ).loc Cert.KernelAttendIdeal.main_arg1) = m ((c.tc : Thread Cert.KernelAttendIdeal.nD Cert.KernelAttendIdeal.τ).loc Cert.KernelAttendIdeal.main_arg1)
          ∧ r.2.mem ((c.tc : Thread Cert.KernelAttendIdeal.nD Cert.KernelAttendIdeal.τ).loc Cert.KernelAttendIdeal.main_arg2) = m ((c.tc : Thread Cert.KernelAttendIdeal.nD Cert.KernelAttendIdeal.τ).loc Cert.KernelAttendIdeal.main_arg2)
          ∧ r.2.mem ((c.tc : Thread Cert.KernelAttendIdeal.nD Cert.KernelAttendIdeal.τ).loc Cert.KernelAttendIdeal.main_arg3) = m ((c.tc : Thread Cert.KernelAttendIdeal.nD Cert.KernelAttendIdeal.τ).loc Cert.KernelAttendIdeal.main_arg3)
          ∧ r.2.mem ((c.tc : Thread Cert.KernelAttendIdeal.nD Cert.KernelAttendIdeal.τ).loc Cert.KernelAttendIdeal.main_arg4) = m ((c.tc : Thread Cert.KernelAttendIdeal.nD Cert.KernelAttendIdeal.τ).loc Cert.KernelAttendIdeal.main_arg4)
          ∧ r.2.mem ((c.tc : Thread Cert.KernelAttendIdeal.nD Cert.KernelAttendIdeal.τ).loc Cert.KernelAttendIdeal.main_arg5) = m ((c.tc : Thread Cert.KernelAttendIdeal.nD Cert.KernelAttendIdeal.τ).loc Cert.KernelAttendIdeal.main_arg5))
      ∧ θ_run (Cert.ReferenceAttendIdeal.defs (F := Ideal)) (onTc (τ := Cert.ReferenceAttendIdeal.τ) (Cert.ReferenceAttendIdeal.main (F := Ideal))) ⟨m', fun _ => 0, g'⟩ (fun r => ∀ c : Dev Cert.ReferenceAttendIdeal.nD,
          r.2.mem ((c.tc : Thread Cert.ReferenceAttendIdeal.nD Cert.ReferenceAttendIdeal.τ).loc Cert.ReferenceAttendIdeal.main_v38) = v0 c
          ∧ r.2.mem ((c.tc : Thread Cert.ReferenceAttendIdeal.nD Cert.ReferenceAttendIdeal.τ).loc Cert.ReferenceAttendIdeal.main_arg0) = m' ((c.tc : Thread Cert.ReferenceAttendIdeal.nD Cert.ReferenceAttendIdeal.τ).loc Cert.ReferenceAttendIdeal.main_arg0)
          ∧ r.2.mem ((c.tc : Thread Cert.ReferenceAttendIdeal.nD Cert.ReferenceAttendIdeal.τ).loc Cert.ReferenceAttendIdeal.main_arg1) = m' ((c.tc : Thread Cert.ReferenceAttendIdeal.nD Cert.ReferenceAttendIdeal.τ).loc Cert.ReferenceAttendIdeal.main_arg1)
          ∧ r.2.mem ((c.tc : Thread Cert.ReferenceAttendIdeal.nD Cert.ReferenceAttendIdeal.τ).loc Cert.ReferenceAttendIdeal.main_arg2) = m' ((c.tc : Thread Cert.ReferenceAttendIdeal.nD Cert.ReferenceAttendIdeal.τ).loc Cert.ReferenceAttendIdeal.main_arg2)
          ∧ r.2.mem ((c.tc : Thread Cert.ReferenceAttendIdeal.nD Cert.ReferenceAttendIdeal.τ).loc Cert.ReferenceAttendIdeal.main_arg3) = m' ((c.tc : Thread Cert.ReferenceAttendIdeal.nD Cert.ReferenceAttendIdeal.τ).loc Cert.ReferenceAttendIdeal.main_arg3)
          ∧ r.2.mem ((c.tc : Thread Cert.ReferenceAttendIdeal.nD Cert.ReferenceAttendIdeal.τ).loc Cert.ReferenceAttendIdeal.main_arg4) = m' ((c.tc : Thread Cert.ReferenceAttendIdeal.nD Cert.ReferenceAttendIdeal.τ).loc Cert.ReferenceAttendIdeal.main_arg4)
          ∧ r.2.mem ((c.tc : Thread Cert.ReferenceAttendIdeal.nD Cert.ReferenceAttendIdeal.τ).loc Cert.ReferenceAttendIdeal.main_arg5) = m' ((c.tc : Thread Cert.ReferenceAttendIdeal.nD Cert.ReferenceAttendIdeal.τ).loc Cert.ReferenceAttendIdeal.main_arg5))

def preserves_KernelProject_KernelProjectIdeal : Prop :=
  True

def algebraic_KernelProjectIdeal_ReferenceProjectIdeal [hKernelProjectIdeal : Cert.KernelProjectIdeal.Facts] [hReferenceProjectIdeal : Cert.ReferenceProjectIdeal.Facts] : Prop :=
  ∀ (m : (ℓ : Loc Cert.KernelProjectIdeal.nD Cert.KernelProjectIdeal.τ Cert.KernelProjectIdeal.sig) → Buf (Elt Ideal) ℓ) (g : Dev Cert.KernelProjectIdeal.nD → PrngReg)
    (m' : (ℓ : Loc Cert.ReferenceProjectIdeal.nD Cert.ReferenceProjectIdeal.τ Cert.ReferenceProjectIdeal.sig) → Buf (Elt Ideal) ℓ) (g' : Dev Cert.ReferenceProjectIdeal.nD → PrngReg), Pre_KernelProjectIdeal m →
    (∀ c : Dev Cert.KernelProjectIdeal.nD,
      m' ((c.tc : Thread Cert.ReferenceProjectIdeal.nD Cert.ReferenceProjectIdeal.τ).loc Cert.ReferenceProjectIdeal.main_arg0) = m ((c.tc : Thread Cert.KernelProjectIdeal.nD Cert.KernelProjectIdeal.τ).loc Cert.KernelProjectIdeal.main_arg0)
      ∧ m' ((c.tc : Thread Cert.ReferenceProjectIdeal.nD Cert.ReferenceProjectIdeal.τ).loc Cert.ReferenceProjectIdeal.main_arg1) = m ((c.tc : Thread Cert.KernelProjectIdeal.nD Cert.KernelProjectIdeal.τ).loc Cert.KernelProjectIdeal.main_arg1)) →
    ∃ (v0 : (c : Dev Cert.KernelProjectIdeal.nD) → Buf (Elt Ideal) ((c.tc : Thread Cert.KernelProjectIdeal.nD Cert.KernelProjectIdeal.τ).loc Cert.KernelProjectIdeal.main_v95_0)) (v1 : (c : Dev Cert.KernelProjectIdeal.nD) → Buf (Elt Ideal) ((c.tc : Thread Cert.KernelProjectIdeal.nD Cert.KernelProjectIdeal.τ).loc Cert.KernelProjectIdeal.main_v95_1)) (v2 : (c : Dev Cert.KernelProjectIdeal.nD) → Buf (Elt Ideal) ((c.tc : Thread Cert.KernelProjectIdeal.nD Cert.KernelProjectIdeal.τ).loc Cert.KernelProjectIdeal.main_v95_2)) (v3 : (c : Dev Cert.KernelProjectIdeal.nD) → Buf (Elt Ideal) ((c.tc : Thread Cert.KernelProjectIdeal.nD Cert.KernelProjectIdeal.τ).loc Cert.KernelProjectIdeal.main_v95_3)) (v4 : (c : Dev Cert.KernelProjectIdeal.nD) → Buf (Elt Ideal) ((c.tc : Thread Cert.KernelProjectIdeal.nD Cert.KernelProjectIdeal.τ).loc Cert.KernelProjectIdeal.main_v95_4)) (v5 : (c : Dev Cert.KernelProjectIdeal.nD) → Buf (Elt Ideal) ((c.tc : Thread Cert.KernelProjectIdeal.nD Cert.KernelProjectIdeal.τ).loc Cert.KernelProjectIdeal.main_v95_5)) (v6 : (c : Dev Cert.KernelProjectIdeal.nD) → Buf (Elt Ideal) ((c.tc : Thread Cert.KernelProjectIdeal.nD Cert.KernelProjectIdeal.τ).loc Cert.KernelProjectIdeal.main_v95_6)) (v7 : (c : Dev Cert.KernelProjectIdeal.nD) → Buf (Elt Ideal) ((c.tc : Thread Cert.KernelProjectIdeal.nD Cert.KernelProjectIdeal.τ).loc Cert.KernelProjectIdeal.main_v95_7)) (v8 : (c : Dev Cert.KernelProjectIdeal.nD) → Buf (Elt Ideal) ((c.tc : Thread Cert.KernelProjectIdeal.nD Cert.KernelProjectIdeal.τ).loc Cert.KernelProjectIdeal.main_v95_8)) (v9 : (c : Dev Cert.KernelProjectIdeal.nD) → Buf (Elt Ideal) ((c.tc : Thread Cert.KernelProjectIdeal.nD Cert.KernelProjectIdeal.τ).loc Cert.KernelProjectIdeal.main_v95_9)) (v10 : (c : Dev Cert.KernelProjectIdeal.nD) → Buf (Elt Ideal) ((c.tc : Thread Cert.KernelProjectIdeal.nD Cert.KernelProjectIdeal.τ).loc Cert.KernelProjectIdeal.main_v95_10)) (v11 : (c : Dev Cert.KernelProjectIdeal.nD) → Buf (Elt Ideal) ((c.tc : Thread Cert.KernelProjectIdeal.nD Cert.KernelProjectIdeal.τ).loc Cert.KernelProjectIdeal.main_v95_11)) (v12 : (c : Dev Cert.KernelProjectIdeal.nD) → Buf (Elt Ideal) ((c.tc : Thread Cert.KernelProjectIdeal.nD Cert.KernelProjectIdeal.τ).loc Cert.KernelProjectIdeal.main_v95_12)),
      θ_run (Cert.KernelProjectIdeal.defs (F := Ideal)) (onTc (τ := Cert.KernelProjectIdeal.τ) (Cert.KernelProjectIdeal.main (F := Ideal))) ⟨m, fun _ => 0, g⟩ (fun r => ∀ c : Dev Cert.KernelProjectIdeal.nD,
          r.2.mem ((c.tc : Thread Cert.KernelProjectIdeal.nD Cert.KernelProjectIdeal.τ).loc Cert.KernelProjectIdeal.main_v95_0) = v0 c
          ∧ r.2.mem ((c.tc : Thread Cert.KernelProjectIdeal.nD Cert.KernelProjectIdeal.τ).loc Cert.KernelProjectIdeal.main_v95_1) = v1 c
          ∧ r.2.mem ((c.tc : Thread Cert.KernelProjectIdeal.nD Cert.KernelProjectIdeal.τ).loc Cert.KernelProjectIdeal.main_v95_2) = v2 c
          ∧ r.2.mem ((c.tc : Thread Cert.KernelProjectIdeal.nD Cert.KernelProjectIdeal.τ).loc Cert.KernelProjectIdeal.main_v95_3) = v3 c
          ∧ r.2.mem ((c.tc : Thread Cert.KernelProjectIdeal.nD Cert.KernelProjectIdeal.τ).loc Cert.KernelProjectIdeal.main_v95_4) = v4 c
          ∧ r.2.mem ((c.tc : Thread Cert.KernelProjectIdeal.nD Cert.KernelProjectIdeal.τ).loc Cert.KernelProjectIdeal.main_v95_5) = v5 c
          ∧ r.2.mem ((c.tc : Thread Cert.KernelProjectIdeal.nD Cert.KernelProjectIdeal.τ).loc Cert.KernelProjectIdeal.main_v95_6) = v6 c
          ∧ r.2.mem ((c.tc : Thread Cert.KernelProjectIdeal.nD Cert.KernelProjectIdeal.τ).loc Cert.KernelProjectIdeal.main_v95_7) = v7 c
          ∧ r.2.mem ((c.tc : Thread Cert.KernelProjectIdeal.nD Cert.KernelProjectIdeal.τ).loc Cert.KernelProjectIdeal.main_v95_8) = v8 c
          ∧ r.2.mem ((c.tc : Thread Cert.KernelProjectIdeal.nD Cert.KernelProjectIdeal.τ).loc Cert.KernelProjectIdeal.main_v95_9) = v9 c
          ∧ r.2.mem ((c.tc : Thread Cert.KernelProjectIdeal.nD Cert.KernelProjectIdeal.τ).loc Cert.KernelProjectIdeal.main_v95_10) = v10 c
          ∧ r.2.mem ((c.tc : Thread Cert.KernelProjectIdeal.nD Cert.KernelProjectIdeal.τ).loc Cert.KernelProjectIdeal.main_v95_11) = v11 c
          ∧ r.2.mem ((c.tc : Thread Cert.KernelProjectIdeal.nD Cert.KernelProjectIdeal.τ).loc Cert.KernelProjectIdeal.main_v95_12) = v12 c
          ∧ r.2.mem ((c.tc : Thread Cert.KernelProjectIdeal.nD Cert.KernelProjectIdeal.τ).loc Cert.KernelProjectIdeal.main_arg0) = m ((c.tc : Thread Cert.KernelProjectIdeal.nD Cert.KernelProjectIdeal.τ).loc Cert.KernelProjectIdeal.main_arg0)
          ∧ r.2.mem ((c.tc : Thread Cert.KernelProjectIdeal.nD Cert.KernelProjectIdeal.τ).loc Cert.KernelProjectIdeal.main_arg1) = m ((c.tc : Thread Cert.KernelProjectIdeal.nD Cert.KernelProjectIdeal.τ).loc Cert.KernelProjectIdeal.main_arg1))
      ∧ θ_run (Cert.ReferenceProjectIdeal.defs (F := Ideal)) (onTc (τ := Cert.ReferenceProjectIdeal.τ) (Cert.ReferenceProjectIdeal.main (F := Ideal))) ⟨m', fun _ => 0, g'⟩ (fun r => ∀ c : Dev Cert.ReferenceProjectIdeal.nD,
          r.2.mem ((c.tc : Thread Cert.ReferenceProjectIdeal.nD Cert.ReferenceProjectIdeal.τ).loc Cert.ReferenceProjectIdeal.main_v138) = v0 c
          ∧ r.2.mem ((c.tc : Thread Cert.ReferenceProjectIdeal.nD Cert.ReferenceProjectIdeal.τ).loc Cert.ReferenceProjectIdeal.main_v139) = v1 c
          ∧ r.2.mem ((c.tc : Thread Cert.ReferenceProjectIdeal.nD Cert.ReferenceProjectIdeal.τ).loc Cert.ReferenceProjectIdeal.main_v141) = v2 c
          ∧ r.2.mem ((c.tc : Thread Cert.ReferenceProjectIdeal.nD Cert.ReferenceProjectIdeal.τ).loc Cert.ReferenceProjectIdeal.main_v142) = v3 c
          ∧ r.2.mem ((c.tc : Thread Cert.ReferenceProjectIdeal.nD Cert.ReferenceProjectIdeal.τ).loc Cert.ReferenceProjectIdeal.main_v145) = v4 c
          ∧ r.2.mem ((c.tc : Thread Cert.ReferenceProjectIdeal.nD Cert.ReferenceProjectIdeal.τ).loc Cert.ReferenceProjectIdeal.main_v146) = v5 c
          ∧ r.2.mem ((c.tc : Thread Cert.ReferenceProjectIdeal.nD Cert.ReferenceProjectIdeal.τ).loc Cert.ReferenceProjectIdeal.main_v149) = v6 c
          ∧ r.2.mem ((c.tc : Thread Cert.ReferenceProjectIdeal.nD Cert.ReferenceProjectIdeal.τ).loc Cert.ReferenceProjectIdeal.main_v150) = v7 c
          ∧ r.2.mem ((c.tc : Thread Cert.ReferenceProjectIdeal.nD Cert.ReferenceProjectIdeal.τ).loc Cert.ReferenceProjectIdeal.main_v152) = v8 c
          ∧ r.2.mem ((c.tc : Thread Cert.ReferenceProjectIdeal.nD Cert.ReferenceProjectIdeal.τ).loc Cert.ReferenceProjectIdeal.main_v153) = v9 c
          ∧ r.2.mem ((c.tc : Thread Cert.ReferenceProjectIdeal.nD Cert.ReferenceProjectIdeal.τ).loc Cert.ReferenceProjectIdeal.main_v157) = v10 c
          ∧ r.2.mem ((c.tc : Thread Cert.ReferenceProjectIdeal.nD Cert.ReferenceProjectIdeal.τ).loc Cert.ReferenceProjectIdeal.main_v158) = v11 c
          ∧ r.2.mem ((c.tc : Thread Cert.ReferenceProjectIdeal.nD Cert.ReferenceProjectIdeal.τ).loc Cert.ReferenceProjectIdeal.main_v159) = v12 c
          ∧ r.2.mem ((c.tc : Thread Cert.ReferenceProjectIdeal.nD Cert.ReferenceProjectIdeal.τ).loc Cert.ReferenceProjectIdeal.main_arg0) = m' ((c.tc : Thread Cert.ReferenceProjectIdeal.nD Cert.ReferenceProjectIdeal.τ).loc Cert.ReferenceProjectIdeal.main_arg0)
          ∧ r.2.mem ((c.tc : Thread Cert.ReferenceProjectIdeal.nD Cert.ReferenceProjectIdeal.τ).loc Cert.ReferenceProjectIdeal.main_arg1) = m' ((c.tc : Thread Cert.ReferenceProjectIdeal.nD Cert.ReferenceProjectIdeal.τ).loc Cert.ReferenceProjectIdeal.main_arg1))

def preserves_KernelCombine_KernelCombineIdeal : Prop :=
  True

def algebraic_KernelCombineIdeal_ReferenceCombineIdeal [hKernelCombineIdeal : Cert.KernelCombineIdeal.Facts] [hReferenceCombineIdeal : Cert.ReferenceCombineIdeal.Facts] : Prop :=
  ∀ (m : (ℓ : Loc Cert.KernelCombineIdeal.nD Cert.KernelCombineIdeal.τ Cert.KernelCombineIdeal.sig) → Buf (Elt Ideal) ℓ) (g : Dev Cert.KernelCombineIdeal.nD → PrngReg)
    (m' : (ℓ : Loc Cert.ReferenceCombineIdeal.nD Cert.ReferenceCombineIdeal.τ Cert.ReferenceCombineIdeal.sig) → Buf (Elt Ideal) ℓ) (g' : Dev Cert.ReferenceCombineIdeal.nD → PrngReg), Pre_KernelCombineIdeal m →
    (∀ c : Dev Cert.KernelCombineIdeal.nD,
      m' ((c.tc : Thread Cert.ReferenceCombineIdeal.nD Cert.ReferenceCombineIdeal.τ).loc Cert.ReferenceCombineIdeal.main_arg0) = m ((c.tc : Thread Cert.KernelCombineIdeal.nD Cert.KernelCombineIdeal.τ).loc Cert.KernelCombineIdeal.main_arg0)
      ∧ m' ((c.tc : Thread Cert.ReferenceCombineIdeal.nD Cert.ReferenceCombineIdeal.τ).loc Cert.ReferenceCombineIdeal.main_arg1) = m ((c.tc : Thread Cert.KernelCombineIdeal.nD Cert.KernelCombineIdeal.τ).loc Cert.KernelCombineIdeal.main_arg1)
      ∧ m' ((c.tc : Thread Cert.ReferenceCombineIdeal.nD Cert.ReferenceCombineIdeal.τ).loc Cert.ReferenceCombineIdeal.main_arg2) = m ((c.tc : Thread Cert.KernelCombineIdeal.nD Cert.KernelCombineIdeal.τ).loc Cert.KernelCombineIdeal.main_arg2)
      ∧ m' ((c.tc : Thread Cert.ReferenceCombineIdeal.nD Cert.ReferenceCombineIdeal.τ).loc Cert.ReferenceCombineIdeal.main_arg3) = m ((c.tc : Thread Cert.KernelCombineIdeal.nD Cert.KernelCombineIdeal.τ).loc Cert.KernelCombineIdeal.main_arg3)
      ∧ m' ((c.tc : Thread Cert.ReferenceCombineIdeal.nD Cert.ReferenceCombineIdeal.τ).loc Cert.ReferenceCombineIdeal.main_arg4) = m ((c.tc : Thread Cert.KernelCombineIdeal.nD Cert.KernelCombineIdeal.τ).loc Cert.KernelCombineIdeal.main_arg4)
      ∧ m' ((c.tc : Thread Cert.ReferenceCombineIdeal.nD Cert.ReferenceCombineIdeal.τ).loc Cert.ReferenceCombineIdeal.main_arg5) = m ((c.tc : Thread Cert.KernelCombineIdeal.nD Cert.KernelCombineIdeal.τ).loc Cert.KernelCombineIdeal.main_arg5)
      ∧ m' ((c.tc : Thread Cert.ReferenceCombineIdeal.nD Cert.ReferenceCombineIdeal.τ).loc Cert.ReferenceCombineIdeal.main_arg6) = m ((c.tc : Thread Cert.KernelCombineIdeal.nD Cert.KernelCombineIdeal.τ).loc Cert.KernelCombineIdeal.main_arg6)
      ∧ m' ((c.tc : Thread Cert.ReferenceCombineIdeal.nD Cert.ReferenceCombineIdeal.τ).loc Cert.ReferenceCombineIdeal.main_arg7) = m ((c.tc : Thread Cert.KernelCombineIdeal.nD Cert.KernelCombineIdeal.τ).loc Cert.KernelCombineIdeal.main_arg7)
      ∧ m' ((c.tc : Thread Cert.ReferenceCombineIdeal.nD Cert.ReferenceCombineIdeal.τ).loc Cert.ReferenceCombineIdeal.main_arg8) = m ((c.tc : Thread Cert.KernelCombineIdeal.nD Cert.KernelCombineIdeal.τ).loc Cert.KernelCombineIdeal.main_arg8)
      ∧ m' ((c.tc : Thread Cert.ReferenceCombineIdeal.nD Cert.ReferenceCombineIdeal.τ).loc Cert.ReferenceCombineIdeal.main_arg9) = m ((c.tc : Thread Cert.KernelCombineIdeal.nD Cert.KernelCombineIdeal.τ).loc Cert.KernelCombineIdeal.main_arg9)) →
    ∃ (v0 : (c : Dev Cert.KernelCombineIdeal.nD) → Buf (Elt Ideal) ((c.tc : Thread Cert.KernelCombineIdeal.nD Cert.KernelCombineIdeal.τ).loc Cert.KernelCombineIdeal.main_v15)),
      θ_run (Cert.KernelCombineIdeal.defs (F := Ideal)) (onTc (τ := Cert.KernelCombineIdeal.τ) (Cert.KernelCombineIdeal.main (F := Ideal))) ⟨m, fun _ => 0, g⟩ (fun r => ∀ c : Dev Cert.KernelCombineIdeal.nD,
          r.2.mem ((c.tc : Thread Cert.KernelCombineIdeal.nD Cert.KernelCombineIdeal.τ).loc Cert.KernelCombineIdeal.main_v15) = v0 c
          ∧ r.2.mem ((c.tc : Thread Cert.KernelCombineIdeal.nD Cert.KernelCombineIdeal.τ).loc Cert.KernelCombineIdeal.main_arg0) = m ((c.tc : Thread Cert.KernelCombineIdeal.nD Cert.KernelCombineIdeal.τ).loc Cert.KernelCombineIdeal.main_arg0)
          ∧ r.2.mem ((c.tc : Thread Cert.KernelCombineIdeal.nD Cert.KernelCombineIdeal.τ).loc Cert.KernelCombineIdeal.main_arg1) = m ((c.tc : Thread Cert.KernelCombineIdeal.nD Cert.KernelCombineIdeal.τ).loc Cert.KernelCombineIdeal.main_arg1)
          ∧ r.2.mem ((c.tc : Thread Cert.KernelCombineIdeal.nD Cert.KernelCombineIdeal.τ).loc Cert.KernelCombineIdeal.main_arg2) = m ((c.tc : Thread Cert.KernelCombineIdeal.nD Cert.KernelCombineIdeal.τ).loc Cert.KernelCombineIdeal.main_arg2)
          ∧ r.2.mem ((c.tc : Thread Cert.KernelCombineIdeal.nD Cert.KernelCombineIdeal.τ).loc Cert.KernelCombineIdeal.main_arg3) = m ((c.tc : Thread Cert.KernelCombineIdeal.nD Cert.KernelCombineIdeal.τ).loc Cert.KernelCombineIdeal.main_arg3)
          ∧ r.2.mem ((c.tc : Thread Cert.KernelCombineIdeal.nD Cert.KernelCombineIdeal.τ).loc Cert.KernelCombineIdeal.main_arg4) = m ((c.tc : Thread Cert.KernelCombineIdeal.nD Cert.KernelCombineIdeal.τ).loc Cert.KernelCombineIdeal.main_arg4)
          ∧ r.2.mem ((c.tc : Thread Cert.KernelCombineIdeal.nD Cert.KernelCombineIdeal.τ).loc Cert.KernelCombineIdeal.main_arg5) = m ((c.tc : Thread Cert.KernelCombineIdeal.nD Cert.KernelCombineIdeal.τ).loc Cert.KernelCombineIdeal.main_arg5)
          ∧ r.2.mem ((c.tc : Thread Cert.KernelCombineIdeal.nD Cert.KernelCombineIdeal.τ).loc Cert.KernelCombineIdeal.main_arg6) = m ((c.tc : Thread Cert.KernelCombineIdeal.nD Cert.KernelCombineIdeal.τ).loc Cert.KernelCombineIdeal.main_arg6)
          ∧ r.2.mem ((c.tc : Thread Cert.KernelCombineIdeal.nD Cert.KernelCombineIdeal.τ).loc Cert.KernelCombineIdeal.main_arg7) = m ((c.tc : Thread Cert.KernelCombineIdeal.nD Cert.KernelCombineIdeal.τ).loc Cert.KernelCombineIdeal.main_arg7)
          ∧ r.2.mem ((c.tc : Thread Cert.KernelCombineIdeal.nD Cert.KernelCombineIdeal.τ).loc Cert.KernelCombineIdeal.main_arg8) = m ((c.tc : Thread Cert.KernelCombineIdeal.nD Cert.KernelCombineIdeal.τ).loc Cert.KernelCombineIdeal.main_arg8)
          ∧ r.2.mem ((c.tc : Thread Cert.KernelCombineIdeal.nD Cert.KernelCombineIdeal.τ).loc Cert.KernelCombineIdeal.main_arg9) = m ((c.tc : Thread Cert.KernelCombineIdeal.nD Cert.KernelCombineIdeal.τ).loc Cert.KernelCombineIdeal.main_arg9))
      ∧ θ_run (Cert.ReferenceCombineIdeal.defs (F := Ideal)) (onTc (τ := Cert.ReferenceCombineIdeal.τ) (Cert.ReferenceCombineIdeal.main (F := Ideal))) ⟨m', fun _ => 0, g'⟩ (fun r => ∀ c : Dev Cert.ReferenceCombineIdeal.nD,
          r.2.mem ((c.tc : Thread Cert.ReferenceCombineIdeal.nD Cert.ReferenceCombineIdeal.τ).loc Cert.ReferenceCombineIdeal.main_v156) = v0 c
          ∧ r.2.mem ((c.tc : Thread Cert.ReferenceCombineIdeal.nD Cert.ReferenceCombineIdeal.τ).loc Cert.ReferenceCombineIdeal.main_arg0) = m' ((c.tc : Thread Cert.ReferenceCombineIdeal.nD Cert.ReferenceCombineIdeal.τ).loc Cert.ReferenceCombineIdeal.main_arg0)
          ∧ r.2.mem ((c.tc : Thread Cert.ReferenceCombineIdeal.nD Cert.ReferenceCombineIdeal.τ).loc Cert.ReferenceCombineIdeal.main_arg1) = m' ((c.tc : Thread Cert.ReferenceCombineIdeal.nD Cert.ReferenceCombineIdeal.τ).loc Cert.ReferenceCombineIdeal.main_arg1)
          ∧ r.2.mem ((c.tc : Thread Cert.ReferenceCombineIdeal.nD Cert.ReferenceCombineIdeal.τ).loc Cert.ReferenceCombineIdeal.main_arg2) = m' ((c.tc : Thread Cert.ReferenceCombineIdeal.nD Cert.ReferenceCombineIdeal.τ).loc Cert.ReferenceCombineIdeal.main_arg2)
          ∧ r.2.mem ((c.tc : Thread Cert.ReferenceCombineIdeal.nD Cert.ReferenceCombineIdeal.τ).loc Cert.ReferenceCombineIdeal.main_arg3) = m' ((c.tc : Thread Cert.ReferenceCombineIdeal.nD Cert.ReferenceCombineIdeal.τ).loc Cert.ReferenceCombineIdeal.main_arg3)
          ∧ r.2.mem ((c.tc : Thread Cert.ReferenceCombineIdeal.nD Cert.ReferenceCombineIdeal.τ).loc Cert.ReferenceCombineIdeal.main_arg4) = m' ((c.tc : Thread Cert.ReferenceCombineIdeal.nD Cert.ReferenceCombineIdeal.τ).loc Cert.ReferenceCombineIdeal.main_arg4)
          ∧ r.2.mem ((c.tc : Thread Cert.ReferenceCombineIdeal.nD Cert.ReferenceCombineIdeal.τ).loc Cert.ReferenceCombineIdeal.main_arg5) = m' ((c.tc : Thread Cert.ReferenceCombineIdeal.nD Cert.ReferenceCombineIdeal.τ).loc Cert.ReferenceCombineIdeal.main_arg5)
          ∧ r.2.mem ((c.tc : Thread Cert.ReferenceCombineIdeal.nD Cert.ReferenceCombineIdeal.τ).loc Cert.ReferenceCombineIdeal.main_arg6) = m' ((c.tc : Thread Cert.ReferenceCombineIdeal.nD Cert.ReferenceCombineIdeal.τ).loc Cert.ReferenceCombineIdeal.main_arg6)
          ∧ r.2.mem ((c.tc : Thread Cert.ReferenceCombineIdeal.nD Cert.ReferenceCombineIdeal.τ).loc Cert.ReferenceCombineIdeal.main_arg7) = m' ((c.tc : Thread Cert.ReferenceCombineIdeal.nD Cert.ReferenceCombineIdeal.τ).loc Cert.ReferenceCombineIdeal.main_arg7)
          ∧ r.2.mem ((c.tc : Thread Cert.ReferenceCombineIdeal.nD Cert.ReferenceCombineIdeal.τ).loc Cert.ReferenceCombineIdeal.main_arg8) = m' ((c.tc : Thread Cert.ReferenceCombineIdeal.nD Cert.ReferenceCombineIdeal.τ).loc Cert.ReferenceCombineIdeal.main_arg8)
          ∧ r.2.mem ((c.tc : Thread Cert.ReferenceCombineIdeal.nD Cert.ReferenceCombineIdeal.τ).loc Cert.ReferenceCombineIdeal.main_arg9) = m' ((c.tc : Thread Cert.ReferenceCombineIdeal.nD Cert.ReferenceCombineIdeal.τ).loc Cert.ReferenceCombineIdeal.main_arg9))

def preserves_KernelProjectSample_KernelProjectSampleIdeal : Prop :=
  True

def algebraic_KernelProjectSampleIdeal_ReferenceProjectSampleIdeal [hKernelProjectSampleIdeal : Cert.KernelProjectSampleIdeal.Facts] [hReferenceProjectSampleIdeal : Cert.ReferenceProjectSampleIdeal.Facts] : Prop :=
  ∀ (m : (ℓ : Loc Cert.KernelProjectSampleIdeal.nD Cert.KernelProjectSampleIdeal.τ Cert.KernelProjectSampleIdeal.sig) → Buf (Elt Ideal) ℓ) (g : Dev Cert.KernelProjectSampleIdeal.nD → PrngReg)
    (m' : (ℓ : Loc Cert.ReferenceProjectSampleIdeal.nD Cert.ReferenceProjectSampleIdeal.τ Cert.ReferenceProjectSampleIdeal.sig) → Buf (Elt Ideal) ℓ) (g' : Dev Cert.ReferenceProjectSampleIdeal.nD → PrngReg), Pre_KernelProjectSampleIdeal m →
    (∀ c : Dev Cert.KernelProjectSampleIdeal.nD,
      m' ((c.tc : Thread Cert.ReferenceProjectSampleIdeal.nD Cert.ReferenceProjectSampleIdeal.τ).loc Cert.ReferenceProjectSampleIdeal.main_arg0) = m ((c.tc : Thread Cert.KernelProjectSampleIdeal.nD Cert.KernelProjectSampleIdeal.τ).loc Cert.KernelProjectSampleIdeal.main_arg0)
      ∧ m' ((c.tc : Thread Cert.ReferenceProjectSampleIdeal.nD Cert.ReferenceProjectSampleIdeal.τ).loc Cert.ReferenceProjectSampleIdeal.main_arg1) = m ((c.tc : Thread Cert.KernelProjectSampleIdeal.nD Cert.KernelProjectSampleIdeal.τ).loc Cert.KernelProjectSampleIdeal.main_arg1)) →
    ∃ (v0 : (c : Dev Cert.KernelProjectSampleIdeal.nD) → Buf (Elt Ideal) ((c.tc : Thread Cert.KernelProjectSampleIdeal.nD Cert.KernelProjectSampleIdeal.τ).loc Cert.KernelProjectSampleIdeal.main_v100_0)) (v1 : (c : Dev Cert.KernelProjectSampleIdeal.nD) → Buf (Elt Ideal) ((c.tc : Thread Cert.KernelProjectSampleIdeal.nD Cert.KernelProjectSampleIdeal.τ).loc Cert.KernelProjectSampleIdeal.main_v100_1)) (v2 : (c : Dev Cert.KernelProjectSampleIdeal.nD) → Buf (Elt Ideal) ((c.tc : Thread Cert.KernelProjectSampleIdeal.nD Cert.KernelProjectSampleIdeal.τ).loc Cert.KernelProjectSampleIdeal.main_v100_2)) (v3 : (c : Dev Cert.KernelProjectSampleIdeal.nD) → Buf (Elt Ideal) ((c.tc : Thread Cert.KernelProjectSampleIdeal.nD Cert.KernelProjectSampleIdeal.τ).loc Cert.KernelProjectSampleIdeal.main_v100_3)) (v4 : (c : Dev Cert.KernelProjectSampleIdeal.nD) → Buf (Elt Ideal) ((c.tc : Thread Cert.KernelProjectSampleIdeal.nD Cert.KernelProjectSampleIdeal.τ).loc Cert.KernelProjectSampleIdeal.main_v100_4)) (v5 : (c : Dev Cert.KernelProjectSampleIdeal.nD) → Buf (Elt Ideal) ((c.tc : Thread Cert.KernelProjectSampleIdeal.nD Cert.KernelProjectSampleIdeal.τ).loc Cert.KernelProjectSampleIdeal.main_v100_5)) (v6 : (c : Dev Cert.KernelProjectSampleIdeal.nD) → Buf (Elt Ideal) ((c.tc : Thread Cert.KernelProjectSampleIdeal.nD Cert.KernelProjectSampleIdeal.τ).loc Cert.KernelProjectSampleIdeal.main_v100_6)) (v7 : (c : Dev Cert.KernelProjectSampleIdeal.nD) → Buf (Elt Ideal) ((c.tc : Thread Cert.KernelProjectSampleIdeal.nD Cert.KernelProjectSampleIdeal.τ).loc Cert.KernelProjectSampleIdeal.main_v100_7)) (v8 : (c : Dev Cert.KernelProjectSampleIdeal.nD) → Buf (Elt Ideal) ((c.tc : Thread Cert.KernelProjectSampleIdeal.nD Cert.KernelProjectSampleIdeal.τ).loc Cert.KernelProjectSampleIdeal.main_v100_8)) (v9 : (c : Dev Cert.KernelProjectSampleIdeal.nD) → Buf (Elt Ideal) ((c.tc : Thread Cert.KernelProjectSampleIdeal.nD Cert.KernelProjectSampleIdeal.τ).loc Cert.KernelProjectSampleIdeal.main_v100_9)) (v10 : (c : Dev Cert.KernelProjectSampleIdeal.nD) → Buf (Elt Ideal) ((c.tc : Thread Cert.KernelProjectSampleIdeal.nD Cert.KernelProjectSampleIdeal.τ).loc Cert.KernelProjectSampleIdeal.main_v100_10)) (v11 : (c : Dev Cert.KernelProjectSampleIdeal.nD) → Buf (Elt Ideal) ((c.tc : Thread Cert.KernelProjectSampleIdeal.nD Cert.KernelProjectSampleIdeal.τ).loc Cert.KernelProjectSampleIdeal.main_v100_11)) (v12 : (c : Dev Cert.KernelProjectSampleIdeal.nD) → Buf (Elt Ideal) ((c.tc : Thread Cert.KernelProjectSampleIdeal.nD Cert.KernelProjectSampleIdeal.τ).loc Cert.KernelProjectSampleIdeal.main_v100_12)),
      θ_run (Cert.KernelProjectSampleIdeal.defs (F := Ideal)) (onTc (τ := Cert.KernelProjectSampleIdeal.τ) (Cert.KernelProjectSampleIdeal.main (F := Ideal))) ⟨m, fun _ => 0, g⟩ (fun r => ∀ c : Dev Cert.KernelProjectSampleIdeal.nD,
          r.2.mem ((c.tc : Thread Cert.KernelProjectSampleIdeal.nD Cert.KernelProjectSampleIdeal.τ).loc Cert.KernelProjectSampleIdeal.main_v100_0) = v0 c
          ∧ r.2.mem ((c.tc : Thread Cert.KernelProjectSampleIdeal.nD Cert.KernelProjectSampleIdeal.τ).loc Cert.KernelProjectSampleIdeal.main_v100_1) = v1 c
          ∧ r.2.mem ((c.tc : Thread Cert.KernelProjectSampleIdeal.nD Cert.KernelProjectSampleIdeal.τ).loc Cert.KernelProjectSampleIdeal.main_v100_2) = v2 c
          ∧ r.2.mem ((c.tc : Thread Cert.KernelProjectSampleIdeal.nD Cert.KernelProjectSampleIdeal.τ).loc Cert.KernelProjectSampleIdeal.main_v100_3) = v3 c
          ∧ r.2.mem ((c.tc : Thread Cert.KernelProjectSampleIdeal.nD Cert.KernelProjectSampleIdeal.τ).loc Cert.KernelProjectSampleIdeal.main_v100_4) = v4 c
          ∧ r.2.mem ((c.tc : Thread Cert.KernelProjectSampleIdeal.nD Cert.KernelProjectSampleIdeal.τ).loc Cert.KernelProjectSampleIdeal.main_v100_5) = v5 c
          ∧ r.2.mem ((c.tc : Thread Cert.KernelProjectSampleIdeal.nD Cert.KernelProjectSampleIdeal.τ).loc Cert.KernelProjectSampleIdeal.main_v100_6) = v6 c
          ∧ r.2.mem ((c.tc : Thread Cert.KernelProjectSampleIdeal.nD Cert.KernelProjectSampleIdeal.τ).loc Cert.KernelProjectSampleIdeal.main_v100_7) = v7 c
          ∧ r.2.mem ((c.tc : Thread Cert.KernelProjectSampleIdeal.nD Cert.KernelProjectSampleIdeal.τ).loc Cert.KernelProjectSampleIdeal.main_v100_8) = v8 c
          ∧ r.2.mem ((c.tc : Thread Cert.KernelProjectSampleIdeal.nD Cert.KernelProjectSampleIdeal.τ).loc Cert.KernelProjectSampleIdeal.main_v100_9) = v9 c
          ∧ r.2.mem ((c.tc : Thread Cert.KernelProjectSampleIdeal.nD Cert.KernelProjectSampleIdeal.τ).loc Cert.KernelProjectSampleIdeal.main_v100_10) = v10 c
          ∧ r.2.mem ((c.tc : Thread Cert.KernelProjectSampleIdeal.nD Cert.KernelProjectSampleIdeal.τ).loc Cert.KernelProjectSampleIdeal.main_v100_11) = v11 c
          ∧ r.2.mem ((c.tc : Thread Cert.KernelProjectSampleIdeal.nD Cert.KernelProjectSampleIdeal.τ).loc Cert.KernelProjectSampleIdeal.main_v100_12) = v12 c
          ∧ r.2.mem ((c.tc : Thread Cert.KernelProjectSampleIdeal.nD Cert.KernelProjectSampleIdeal.τ).loc Cert.KernelProjectSampleIdeal.main_arg0) = m ((c.tc : Thread Cert.KernelProjectSampleIdeal.nD Cert.KernelProjectSampleIdeal.τ).loc Cert.KernelProjectSampleIdeal.main_arg0)
          ∧ r.2.mem ((c.tc : Thread Cert.KernelProjectSampleIdeal.nD Cert.KernelProjectSampleIdeal.τ).loc Cert.KernelProjectSampleIdeal.main_arg1) = m ((c.tc : Thread Cert.KernelProjectSampleIdeal.nD Cert.KernelProjectSampleIdeal.τ).loc Cert.KernelProjectSampleIdeal.main_arg1))
      ∧ θ_run (Cert.ReferenceProjectSampleIdeal.defs (F := Ideal)) (onTc (τ := Cert.ReferenceProjectSampleIdeal.τ) (Cert.ReferenceProjectSampleIdeal.main (F := Ideal))) ⟨m', fun _ => 0, g'⟩ (fun r => ∀ c : Dev Cert.ReferenceProjectSampleIdeal.nD,
          r.2.mem ((c.tc : Thread Cert.ReferenceProjectSampleIdeal.nD Cert.ReferenceProjectSampleIdeal.τ).loc Cert.ReferenceProjectSampleIdeal.main_v140) = v0 c
          ∧ r.2.mem ((c.tc : Thread Cert.ReferenceProjectSampleIdeal.nD Cert.ReferenceProjectSampleIdeal.τ).loc Cert.ReferenceProjectSampleIdeal.main_v141) = v1 c
          ∧ r.2.mem ((c.tc : Thread Cert.ReferenceProjectSampleIdeal.nD Cert.ReferenceProjectSampleIdeal.τ).loc Cert.ReferenceProjectSampleIdeal.main_v143) = v2 c
          ∧ r.2.mem ((c.tc : Thread Cert.ReferenceProjectSampleIdeal.nD Cert.ReferenceProjectSampleIdeal.τ).loc Cert.ReferenceProjectSampleIdeal.main_v144) = v3 c
          ∧ r.2.mem ((c.tc : Thread Cert.ReferenceProjectSampleIdeal.nD Cert.ReferenceProjectSampleIdeal.τ).loc Cert.ReferenceProjectSampleIdeal.main_v146) = v4 c
          ∧ r.2.mem ((c.tc : Thread Cert.ReferenceProjectSampleIdeal.nD Cert.ReferenceProjectSampleIdeal.τ).loc Cert.ReferenceProjectSampleIdeal.main_v147) = v5 c
          ∧ r.2.mem ((c.tc : Thread Cert.ReferenceProjectSampleIdeal.nD Cert.ReferenceProjectSampleIdeal.τ).loc Cert.ReferenceProjectSampleIdeal.main_v149) = v6 c
          ∧ r.2.mem ((c.tc : Thread Cert.ReferenceProjectSampleIdeal.nD Cert.ReferenceProjectSampleIdeal.τ).loc Cert.ReferenceProjectSampleIdeal.main_v150) = v7 c
          ∧ r.2.mem ((c.tc : Thread Cert.ReferenceProjectSampleIdeal.nD Cert.ReferenceProjectSampleIdeal.τ).loc Cert.ReferenceProjectSampleIdeal.main_v152) = v8 c
          ∧ r.2.mem ((c.tc : Thread Cert.ReferenceProjectSampleIdeal.nD Cert.ReferenceProjectSampleIdeal.τ).loc Cert.ReferenceProjectSampleIdeal.main_v155) = v9 c
          ∧ r.2.mem ((c.tc : Thread Cert.ReferenceProjectSampleIdeal.nD Cert.ReferenceProjectSampleIdeal.τ).loc Cert.ReferenceProjectSampleIdeal.main_v159) = v10 c
          ∧ r.2.mem ((c.tc : Thread Cert.ReferenceProjectSampleIdeal.nD Cert.ReferenceProjectSampleIdeal.τ).loc Cert.ReferenceProjectSampleIdeal.main_v160) = v11 c
          ∧ r.2.mem ((c.tc : Thread Cert.ReferenceProjectSampleIdeal.nD Cert.ReferenceProjectSampleIdeal.τ).loc Cert.ReferenceProjectSampleIdeal.main_v161) = v12 c
          ∧ r.2.mem ((c.tc : Thread Cert.ReferenceProjectSampleIdeal.nD Cert.ReferenceProjectSampleIdeal.τ).loc Cert.ReferenceProjectSampleIdeal.main_arg0) = m' ((c.tc : Thread Cert.ReferenceProjectSampleIdeal.nD Cert.ReferenceProjectSampleIdeal.τ).loc Cert.ReferenceProjectSampleIdeal.main_arg0)
          ∧ r.2.mem ((c.tc : Thread Cert.ReferenceProjectSampleIdeal.nD Cert.ReferenceProjectSampleIdeal.τ).loc Cert.ReferenceProjectSampleIdeal.main_arg1) = m' ((c.tc : Thread Cert.ReferenceProjectSampleIdeal.nD Cert.ReferenceProjectSampleIdeal.τ).loc Cert.ReferenceProjectSampleIdeal.main_arg1))

def preserves_KernelCombineSample_KernelCombineSampleIdeal : Prop :=
  True

def algebraic_KernelCombineSampleIdeal_ReferenceCombineSampleIdeal [hKernelCombineSampleIdeal : Cert.KernelCombineSampleIdeal.Facts] [hReferenceCombineSampleIdeal : Cert.ReferenceCombineSampleIdeal.Facts] : Prop :=
  ∀ (m : (ℓ : Loc Cert.KernelCombineSampleIdeal.nD Cert.KernelCombineSampleIdeal.τ Cert.KernelCombineSampleIdeal.sig) → Buf (Elt Ideal) ℓ) (g : Dev Cert.KernelCombineSampleIdeal.nD → PrngReg)
    (m' : (ℓ : Loc Cert.ReferenceCombineSampleIdeal.nD Cert.ReferenceCombineSampleIdeal.τ Cert.ReferenceCombineSampleIdeal.sig) → Buf (Elt Ideal) ℓ) (g' : Dev Cert.ReferenceCombineSampleIdeal.nD → PrngReg), Pre_KernelCombineSampleIdeal m →
    (∀ c : Dev Cert.KernelCombineSampleIdeal.nD,
      m' ((c.tc : Thread Cert.ReferenceCombineSampleIdeal.nD Cert.ReferenceCombineSampleIdeal.τ).loc Cert.ReferenceCombineSampleIdeal.main_arg0) = m ((c.tc : Thread Cert.KernelCombineSampleIdeal.nD Cert.KernelCombineSampleIdeal.τ).loc Cert.KernelCombineSampleIdeal.main_arg0)
      ∧ m' ((c.tc : Thread Cert.ReferenceCombineSampleIdeal.nD Cert.ReferenceCombineSampleIdeal.τ).loc Cert.ReferenceCombineSampleIdeal.main_arg1) = m ((c.tc : Thread Cert.KernelCombineSampleIdeal.nD Cert.KernelCombineSampleIdeal.τ).loc Cert.KernelCombineSampleIdeal.main_arg1)
      ∧ m' ((c.tc : Thread Cert.ReferenceCombineSampleIdeal.nD Cert.ReferenceCombineSampleIdeal.τ).loc Cert.ReferenceCombineSampleIdeal.main_arg2) = m ((c.tc : Thread Cert.KernelCombineSampleIdeal.nD Cert.KernelCombineSampleIdeal.τ).loc Cert.KernelCombineSampleIdeal.main_arg2)
      ∧ m' ((c.tc : Thread Cert.ReferenceCombineSampleIdeal.nD Cert.ReferenceCombineSampleIdeal.τ).loc Cert.ReferenceCombineSampleIdeal.main_arg3) = m ((c.tc : Thread Cert.KernelCombineSampleIdeal.nD Cert.KernelCombineSampleIdeal.τ).loc Cert.KernelCombineSampleIdeal.main_arg3)
      ∧ m' ((c.tc : Thread Cert.ReferenceCombineSampleIdeal.nD Cert.ReferenceCombineSampleIdeal.τ).loc Cert.ReferenceCombineSampleIdeal.main_arg4) = m ((c.tc : Thread Cert.KernelCombineSampleIdeal.nD Cert.KernelCombineSampleIdeal.τ).loc Cert.KernelCombineSampleIdeal.main_arg4)
      ∧ m' ((c.tc : Thread Cert.ReferenceCombineSampleIdeal.nD Cert.ReferenceCombineSampleIdeal.τ).loc Cert.ReferenceCombineSampleIdeal.main_arg5) = m ((c.tc : Thread Cert.KernelCombineSampleIdeal.nD Cert.KernelCombineSampleIdeal.τ).loc Cert.KernelCombineSampleIdeal.main_arg5)
      ∧ m' ((c.tc : Thread Cert.ReferenceCombineSampleIdeal.nD Cert.ReferenceCombineSampleIdeal.τ).loc Cert.ReferenceCombineSampleIdeal.main_arg6) = m ((c.tc : Thread Cert.KernelCombineSampleIdeal.nD Cert.KernelCombineSampleIdeal.τ).loc Cert.KernelCombineSampleIdeal.main_arg6)
      ∧ m' ((c.tc : Thread Cert.ReferenceCombineSampleIdeal.nD Cert.ReferenceCombineSampleIdeal.τ).loc Cert.ReferenceCombineSampleIdeal.main_arg7) = m ((c.tc : Thread Cert.KernelCombineSampleIdeal.nD Cert.KernelCombineSampleIdeal.τ).loc Cert.KernelCombineSampleIdeal.main_arg7)
      ∧ m' ((c.tc : Thread Cert.ReferenceCombineSampleIdeal.nD Cert.ReferenceCombineSampleIdeal.τ).loc Cert.ReferenceCombineSampleIdeal.main_arg8) = m ((c.tc : Thread Cert.KernelCombineSampleIdeal.nD Cert.KernelCombineSampleIdeal.τ).loc Cert.KernelCombineSampleIdeal.main_arg8)
      ∧ m' ((c.tc : Thread Cert.ReferenceCombineSampleIdeal.nD Cert.ReferenceCombineSampleIdeal.τ).loc Cert.ReferenceCombineSampleIdeal.main_arg9) = m ((c.tc : Thread Cert.KernelCombineSampleIdeal.nD Cert.KernelCombineSampleIdeal.τ).loc Cert.KernelCombineSampleIdeal.main_arg9)
      ∧ m' ((c.tc : Thread Cert.ReferenceCombineSampleIdeal.nD Cert.ReferenceCombineSampleIdeal.τ).loc Cert.ReferenceCombineSampleIdeal.main_arg10) = m ((c.tc : Thread Cert.KernelCombineSampleIdeal.nD Cert.KernelCombineSampleIdeal.τ).loc Cert.KernelCombineSampleIdeal.main_arg10)) →
    ∃ (v0 : (c : Dev Cert.KernelCombineSampleIdeal.nD) → Buf (Elt Ideal) ((c.tc : Thread Cert.KernelCombineSampleIdeal.nD Cert.KernelCombineSampleIdeal.τ).loc Cert.KernelCombineSampleIdeal.main_v21)),
      θ_run (Cert.KernelCombineSampleIdeal.defs (F := Ideal)) (onTc (τ := Cert.KernelCombineSampleIdeal.τ) (Cert.KernelCombineSampleIdeal.main (F := Ideal))) ⟨m, fun _ => 0, g⟩ (fun r => ∀ c : Dev Cert.KernelCombineSampleIdeal.nD,
          r.2.mem ((c.tc : Thread Cert.KernelCombineSampleIdeal.nD Cert.KernelCombineSampleIdeal.τ).loc Cert.KernelCombineSampleIdeal.main_v21) = v0 c
          ∧ r.2.mem ((c.tc : Thread Cert.KernelCombineSampleIdeal.nD Cert.KernelCombineSampleIdeal.τ).loc Cert.KernelCombineSampleIdeal.main_arg0) = m ((c.tc : Thread Cert.KernelCombineSampleIdeal.nD Cert.KernelCombineSampleIdeal.τ).loc Cert.KernelCombineSampleIdeal.main_arg0)
          ∧ r.2.mem ((c.tc : Thread Cert.KernelCombineSampleIdeal.nD Cert.KernelCombineSampleIdeal.τ).loc Cert.KernelCombineSampleIdeal.main_arg1) = m ((c.tc : Thread Cert.KernelCombineSampleIdeal.nD Cert.KernelCombineSampleIdeal.τ).loc Cert.KernelCombineSampleIdeal.main_arg1)
          ∧ r.2.mem ((c.tc : Thread Cert.KernelCombineSampleIdeal.nD Cert.KernelCombineSampleIdeal.τ).loc Cert.KernelCombineSampleIdeal.main_arg2) = m ((c.tc : Thread Cert.KernelCombineSampleIdeal.nD Cert.KernelCombineSampleIdeal.τ).loc Cert.KernelCombineSampleIdeal.main_arg2)
          ∧ r.2.mem ((c.tc : Thread Cert.KernelCombineSampleIdeal.nD Cert.KernelCombineSampleIdeal.τ).loc Cert.KernelCombineSampleIdeal.main_arg3) = m ((c.tc : Thread Cert.KernelCombineSampleIdeal.nD Cert.KernelCombineSampleIdeal.τ).loc Cert.KernelCombineSampleIdeal.main_arg3)
          ∧ r.2.mem ((c.tc : Thread Cert.KernelCombineSampleIdeal.nD Cert.KernelCombineSampleIdeal.τ).loc Cert.KernelCombineSampleIdeal.main_arg4) = m ((c.tc : Thread Cert.KernelCombineSampleIdeal.nD Cert.KernelCombineSampleIdeal.τ).loc Cert.KernelCombineSampleIdeal.main_arg4)
          ∧ r.2.mem ((c.tc : Thread Cert.KernelCombineSampleIdeal.nD Cert.KernelCombineSampleIdeal.τ).loc Cert.KernelCombineSampleIdeal.main_arg5) = m ((c.tc : Thread Cert.KernelCombineSampleIdeal.nD Cert.KernelCombineSampleIdeal.τ).loc Cert.KernelCombineSampleIdeal.main_arg5)
          ∧ r.2.mem ((c.tc : Thread Cert.KernelCombineSampleIdeal.nD Cert.KernelCombineSampleIdeal.τ).loc Cert.KernelCombineSampleIdeal.main_arg6) = m ((c.tc : Thread Cert.KernelCombineSampleIdeal.nD Cert.KernelCombineSampleIdeal.τ).loc Cert.KernelCombineSampleIdeal.main_arg6)
          ∧ r.2.mem ((c.tc : Thread Cert.KernelCombineSampleIdeal.nD Cert.KernelCombineSampleIdeal.τ).loc Cert.KernelCombineSampleIdeal.main_arg7) = m ((c.tc : Thread Cert.KernelCombineSampleIdeal.nD Cert.KernelCombineSampleIdeal.τ).loc Cert.KernelCombineSampleIdeal.main_arg7)
          ∧ r.2.mem ((c.tc : Thread Cert.KernelCombineSampleIdeal.nD Cert.KernelCombineSampleIdeal.τ).loc Cert.KernelCombineSampleIdeal.main_arg8) = m ((c.tc : Thread Cert.KernelCombineSampleIdeal.nD Cert.KernelCombineSampleIdeal.τ).loc Cert.KernelCombineSampleIdeal.main_arg8)
          ∧ r.2.mem ((c.tc : Thread Cert.KernelCombineSampleIdeal.nD Cert.KernelCombineSampleIdeal.τ).loc Cert.KernelCombineSampleIdeal.main_arg9) = m ((c.tc : Thread Cert.KernelCombineSampleIdeal.nD Cert.KernelCombineSampleIdeal.τ).loc Cert.KernelCombineSampleIdeal.main_arg9)
          ∧ r.2.mem ((c.tc : Thread Cert.KernelCombineSampleIdeal.nD Cert.KernelCombineSampleIdeal.τ).loc Cert.KernelCombineSampleIdeal.main_arg10) = m ((c.tc : Thread Cert.KernelCombineSampleIdeal.nD Cert.KernelCombineSampleIdeal.τ).loc Cert.KernelCombineSampleIdeal.main_arg10))
      ∧ θ_run (Cert.ReferenceCombineSampleIdeal.defs (F := Ideal)) (onTc (τ := Cert.ReferenceCombineSampleIdeal.τ) (Cert.ReferenceCombineSampleIdeal.main (F := Ideal))) ⟨m', fun _ => 0, g'⟩ (fun r => ∀ c : Dev Cert.ReferenceCombineSampleIdeal.nD,
          r.2.mem ((c.tc : Thread Cert.ReferenceCombineSampleIdeal.nD Cert.ReferenceCombineSampleIdeal.τ).loc Cert.ReferenceCombineSampleIdeal.main_v159) = v0 c
          ∧ r.2.mem ((c.tc : Thread Cert.ReferenceCombineSampleIdeal.nD Cert.ReferenceCombineSampleIdeal.τ).loc Cert.ReferenceCombineSampleIdeal.main_arg0) = m' ((c.tc : Thread Cert.ReferenceCombineSampleIdeal.nD Cert.ReferenceCombineSampleIdeal.τ).loc Cert.ReferenceCombineSampleIdeal.main_arg0)
          ∧ r.2.mem ((c.tc : Thread Cert.ReferenceCombineSampleIdeal.nD Cert.ReferenceCombineSampleIdeal.τ).loc Cert.ReferenceCombineSampleIdeal.main_arg1) = m' ((c.tc : Thread Cert.ReferenceCombineSampleIdeal.nD Cert.ReferenceCombineSampleIdeal.τ).loc Cert.ReferenceCombineSampleIdeal.main_arg1)
          ∧ r.2.mem ((c.tc : Thread Cert.ReferenceCombineSampleIdeal.nD Cert.ReferenceCombineSampleIdeal.τ).loc Cert.ReferenceCombineSampleIdeal.main_arg2) = m' ((c.tc : Thread Cert.ReferenceCombineSampleIdeal.nD Cert.ReferenceCombineSampleIdeal.τ).loc Cert.ReferenceCombineSampleIdeal.main_arg2)
          ∧ r.2.mem ((c.tc : Thread Cert.ReferenceCombineSampleIdeal.nD Cert.ReferenceCombineSampleIdeal.τ).loc Cert.ReferenceCombineSampleIdeal.main_arg3) = m' ((c.tc : Thread Cert.ReferenceCombineSampleIdeal.nD Cert.ReferenceCombineSampleIdeal.τ).loc Cert.ReferenceCombineSampleIdeal.main_arg3)
          ∧ r.2.mem ((c.tc : Thread Cert.ReferenceCombineSampleIdeal.nD Cert.ReferenceCombineSampleIdeal.τ).loc Cert.ReferenceCombineSampleIdeal.main_arg4) = m' ((c.tc : Thread Cert.ReferenceCombineSampleIdeal.nD Cert.ReferenceCombineSampleIdeal.τ).loc Cert.ReferenceCombineSampleIdeal.main_arg4)
          ∧ r.2.mem ((c.tc : Thread Cert.ReferenceCombineSampleIdeal.nD Cert.ReferenceCombineSampleIdeal.τ).loc Cert.ReferenceCombineSampleIdeal.main_arg5) = m' ((c.tc : Thread Cert.ReferenceCombineSampleIdeal.nD Cert.ReferenceCombineSampleIdeal.τ).loc Cert.ReferenceCombineSampleIdeal.main_arg5)
          ∧ r.2.mem ((c.tc : Thread Cert.ReferenceCombineSampleIdeal.nD Cert.ReferenceCombineSampleIdeal.τ).loc Cert.ReferenceCombineSampleIdeal.main_arg6) = m' ((c.tc : Thread Cert.ReferenceCombineSampleIdeal.nD Cert.ReferenceCombineSampleIdeal.τ).loc Cert.ReferenceCombineSampleIdeal.main_arg6)
          ∧ r.2.mem ((c.tc : Thread Cert.ReferenceCombineSampleIdeal.nD Cert.ReferenceCombineSampleIdeal.τ).loc Cert.ReferenceCombineSampleIdeal.main_arg7) = m' ((c.tc : Thread Cert.ReferenceCombineSampleIdeal.nD Cert.ReferenceCombineSampleIdeal.τ).loc Cert.ReferenceCombineSampleIdeal.main_arg7)
          ∧ r.2.mem ((c.tc : Thread Cert.ReferenceCombineSampleIdeal.nD Cert.ReferenceCombineSampleIdeal.τ).loc Cert.ReferenceCombineSampleIdeal.main_arg8) = m' ((c.tc : Thread Cert.ReferenceCombineSampleIdeal.nD Cert.ReferenceCombineSampleIdeal.τ).loc Cert.ReferenceCombineSampleIdeal.main_arg8)
          ∧ r.2.mem ((c.tc : Thread Cert.ReferenceCombineSampleIdeal.nD Cert.ReferenceCombineSampleIdeal.τ).loc Cert.ReferenceCombineSampleIdeal.main_arg9) = m' ((c.tc : Thread Cert.ReferenceCombineSampleIdeal.nD Cert.ReferenceCombineSampleIdeal.τ).loc Cert.ReferenceCombineSampleIdeal.main_arg9)
          ∧ r.2.mem ((c.tc : Thread Cert.ReferenceCombineSampleIdeal.nD Cert.ReferenceCombineSampleIdeal.τ).loc Cert.ReferenceCombineSampleIdeal.main_arg10) = m' ((c.tc : Thread Cert.ReferenceCombineSampleIdeal.nD Cert.ReferenceCombineSampleIdeal.τ).loc Cert.ReferenceCombineSampleIdeal.main_arg10))

def Claim : Prop :=
  ∃ (hKernelAttend : Cert.KernelAttend.Facts) (hKernelAttendIdeal : Cert.KernelAttendIdeal.Facts) (hReferenceAttendIdeal : Cert.ReferenceAttendIdeal.Facts) (hKernelProject : Cert.KernelProject.Facts) (hKernelProjectIdeal : Cert.KernelProjectIdeal.Facts) (hReferenceProjectIdeal : Cert.ReferenceProjectIdeal.Facts) (hKernelCombine : Cert.KernelCombine.Facts) (hKernelCombineIdeal : Cert.KernelCombineIdeal.Facts) (hReferenceCombineIdeal : Cert.ReferenceCombineIdeal.Facts) (hKernelProjectSample : Cert.KernelProjectSample.Facts) (hKernelProjectSampleIdeal : Cert.KernelProjectSampleIdeal.Facts) (hReferenceProjectSampleIdeal : Cert.ReferenceProjectSampleIdeal.Facts) (hKernelCombineSample : Cert.KernelCombineSample.Facts) (hKernelCombineSampleIdeal : Cert.KernelCombineSampleIdeal.Facts) (hReferenceCombineSampleIdeal : Cert.ReferenceCombineSampleIdeal.Facts) (hPre_past_key_selected : Cert.Pre_past_key_selected.Facts),
    quiescent_KernelAttend (hKernelAttend := hKernelAttend)
    ∧ quiescent_KernelAttendIdeal (hKernelAttendIdeal := hKernelAttendIdeal)
    ∧ quiescent_KernelAttendIdeal_pre_past_key_selected (hKernelAttendIdeal := hKernelAttendIdeal) (hPre_past_key_selected := hPre_past_key_selected)
    ∧ quiescent_ReferenceAttendIdeal (hReferenceAttendIdeal := hReferenceAttendIdeal)
    ∧ quiescent_ReferenceAttendIdeal_pre_past_key_selected (hReferenceAttendIdeal := hReferenceAttendIdeal) (hPre_past_key_selected := hPre_past_key_selected)
    ∧ quiescent_KernelProject (hKernelProject := hKernelProject)
    ∧ quiescent_KernelProjectIdeal (hKernelProjectIdeal := hKernelProjectIdeal)
    ∧ quiescent_ReferenceProjectIdeal (hReferenceProjectIdeal := hReferenceProjectIdeal)
    ∧ quiescent_KernelCombine (hKernelCombine := hKernelCombine)
    ∧ quiescent_KernelCombineIdeal (hKernelCombineIdeal := hKernelCombineIdeal)
    ∧ quiescent_ReferenceCombineIdeal (hReferenceCombineIdeal := hReferenceCombineIdeal)
    ∧ quiescent_KernelProjectSample (hKernelProjectSample := hKernelProjectSample)
    ∧ quiescent_KernelProjectSampleIdeal (hKernelProjectSampleIdeal := hKernelProjectSampleIdeal)
    ∧ quiescent_ReferenceProjectSampleIdeal (hReferenceProjectSampleIdeal := hReferenceProjectSampleIdeal)
    ∧ quiescent_KernelCombineSample (hKernelCombineSample := hKernelCombineSample)
    ∧ quiescent_KernelCombineSampleIdeal (hKernelCombineSampleIdeal := hKernelCombineSampleIdeal)
    ∧ quiescent_ReferenceCombineSampleIdeal (hReferenceCombineSampleIdeal := hReferenceCombineSampleIdeal)
    ∧ preserves_KernelAttend_KernelAttendIdeal
    ∧ algebraic_KernelAttendIdeal_ReferenceAttendIdeal_pre_past_key_selected (hKernelAttendIdeal := hKernelAttendIdeal) (hReferenceAttendIdeal := hReferenceAttendIdeal) (hPre_past_key_selected := hPre_past_key_selected)
    ∧ preserves_KernelProject_KernelProjectIdeal
    ∧ algebraic_KernelProjectIdeal_ReferenceProjectIdeal (hKernelProjectIdeal := hKernelProjectIdeal) (hReferenceProjectIdeal := hReferenceProjectIdeal)
    ∧ preserves_KernelCombine_KernelCombineIdeal
    ∧ algebraic_KernelCombineIdeal_ReferenceCombineIdeal (hKernelCombineIdeal := hKernelCombineIdeal) (hReferenceCombineIdeal := hReferenceCombineIdeal)
    ∧ preserves_KernelProjectSample_KernelProjectSampleIdeal
    ∧ algebraic_KernelProjectSampleIdeal_ReferenceProjectSampleIdeal (hKernelProjectSampleIdeal := hKernelProjectSampleIdeal) (hReferenceProjectSampleIdeal := hReferenceProjectSampleIdeal)
    ∧ preserves_KernelCombineSample_KernelCombineSampleIdeal
    ∧ algebraic_KernelCombineSampleIdeal_ReferenceCombineSampleIdeal (hKernelCombineSampleIdeal := hKernelCombineSampleIdeal) (hReferenceCombineSampleIdeal := hReferenceCombineSampleIdeal)
-- ==== Pre_past_key_selected.lean ====
abbrev S32x4x8320 : Shape := ⟨3, ![32, 4, 8320]⟩
abbrev S32x4x8x128 : Shape := ⟨4, ![32, 4, 8, 128]⟩
abbrev S262144x128 : Shape := ⟨2, ![262144, 128]⟩
abbrev S32x4x8192 : Shape := ⟨3, ![32, 4, 8192]⟩
abbrev S_ : Shape := ⟨0, ![]⟩
abbrev S32x4 : Shape := ⟨2, ![32, 4]⟩

class Facts : Prop where
  slices_S32x4x8320_S32x4x8192_0_0_0 : S32x4x8320.Slices ![0, 0, 0] S32x4x8192
  reducesTo_S32x4x8192_S32x4_d2 : S32x4x8192.ReducesTo [2] S32x4
  h_S_ : 0 < S_.numel
  bcast_S_S32x4x8x128 : S_.BroadcastsInDim S32x4x8x128 (![] : Fin 0 → Fin S32x4x8x128.rank)
  reducesTo_S32x4x8x128_S_d0_1_2_3 : S32x4x8x128.ReducesTo [0, 1, 2, 3] S_
  bcast_S_S262144x128 : S_.BroadcastsInDim S262144x128 (![] : Fin 0 → Fin S262144x128.rank)
  reducesTo_S262144x128_S_d0_1 : S262144x128.ReducesTo [0, 1] S_
  bcast_S_S32x4 : S_.BroadcastsInDim S32x4 (![] : Fin 0 → Fin S32x4.rank)
  reducesTo_S32x4_S_d0_1 : S32x4.ReducesTo [0, 1] S_

variable [Facts]

def fn_part1 {F : FTy → Type} [FloatOps F] (main_v2 : IVec S32x4 32) (main_v16 : IVec S_ 1) : IVec S_ 1 :=
  let main_c_5 : IVec S_ 32 := constantI S_ 32 0#32
  let main_v17 : IVec S32x4 32 := broadcastInDim S32x4 ![] bcast_S_S32x4 main_c_5
  let main_v18 : IVec S32x4 1 := cmpi .sgt main_v2 main_v17
  let main_c_6 : IVec S_ 1 := constantI S_ 1 1#1
  let main_v19 : IVec S_ 1 := (fun x v => Host.reduce IntOp.andi x v reducesTo_S32x4_S_d0_1 h_S_) main_v18 main_c_6
  let main_v20 : IVec S_ 1 := andi main_v16 main_v19
  main_v20

def fn {F : FTy → Type} [FloatOps F] (main_arg0 : FVec F S32x4x8320 .f32) (main_arg1 : FVec F S32x4x8x128 .f32) (main_arg2 : FVec F S262144x128 .f32) (main_arg3 : FVec F S262144x128 .f32) (main_arg4 : FVec F S32x4x8x128 .f32) (main_arg5 : FVec F S32x4x8x128 .f32) : IVec S_ 1 :=
  let main_v0 : FVec F S32x4x8192 .f32 := (extractStridedSlice S32x4x8192 ![0, 0, 0] · slices_S32x4x8320_S32x4x8192_0_0_0) main_arg0
  let main_cst : FVec F S_ .f32 := constant S_ .f32 0x00000000#32
  let main_v1 : FVec F S32x4 .f32 := (fun x v => Host.reduceAdd x v reducesTo_S32x4x8192_S32x4_d2 h_S_) main_v0 main_cst
  let main_v2 : IVec S32x4 32 := fptosi 32 main_v1
  let main_v3 : FVec F S32x4x8x128 .f32 := Host.absf main_arg1
  let main_cst_0 : FVec F S_ .f32 := constant S_ .f32 0x7F800000#32
  let main_v4 : FVec F S32x4x8x128 .f32 := broadcastInDim S32x4x8x128 ![] bcast_S_S32x4x8x128 main_cst_0
  let main_v5 : IVec S32x4x8x128 1 := cmpf .olt main_v3 main_v4
  let main_c : IVec S_ 1 := constantI S_ 1 1#1
  let main_v6 : IVec S_ 1 := (fun x v => Host.reduce IntOp.andi x v reducesTo_S32x4x8x128_S_d0_1_2_3 h_S_) main_v5 main_c
  let main_v7 : FVec F S262144x128 .f32 := Host.absf main_arg2
  let main_cst_1 : FVec F S_ .f32 := constant S_ .f32 0x7F800000#32
  let main_v8 : FVec F S262144x128 .f32 := broadcastInDim S262144x128 ![] bcast_S_S262144x128 main_cst_1
  let main_v9 : IVec S262144x128 1 := cmpf .olt main_v7 main_v8
  let main_c_2 : IVec S_ 1 := constantI S_ 1 1#1
  let main_v10 : IVec S_ 1 := (fun x v => Host.reduce IntOp.andi x v reducesTo_S262144x128_S_d0_1 h_S_) main_v9 main_c_2
  let main_v11 : IVec S_ 1 := andi main_v6 main_v10
  let main_v12 : FVec F S32x4x8x128 .f32 := Host.absf main_arg4
  let main_cst_3 : FVec F S_ .f32 := constant S_ .f32 0x7F800000#32
  let main_v13 : FVec F S32x4x8x128 .f32 := broadcastInDim S32x4x8x128 ![] bcast_S_S32x4x8x128 main_cst_3
  let main_v14 : IVec S32x4x8x128 1 := cmpf .olt main_v12 main_v13
  let main_c_4 : IVec S_ 1 := constantI S_ 1 1#1
  let main_v15 : IVec S_ 1 := (fun x v => Host.reduce IntOp.andi x v reducesTo_S32x4x8x128_S_d0_1_2_3 h_S_) main_v14 main_c_4
  let main_v16 : IVec S_ 1 := andi main_v11 main_v15
  fn_part1 (F := F) main_v2 main_v16
-- ==== KernelAttend.lean ====
abbrev S32x4x8320 : Shape := ⟨3, ![32, 4, 8320]⟩
abbrev S32x4x8x128 : Shape := ⟨4, ![32, 4, 8, 128]⟩
abbrev S262144x128 : Shape := ⟨2, ![262144, 128]⟩
abbrev S_ : Shape := ⟨0, ![]⟩
abbrev S32x32x128 : Shape := ⟨3, ![32, 32, 128]⟩
abbrev S128x2048x128 : Shape := ⟨3, ![128, 2048, 128]⟩
abbrev S1x4x8320 : Shape := ⟨3, ![1, 4, 8320]⟩
abbrev S1x32x128 : Shape := ⟨3, ![1, 32, 128]⟩
abbrev S4x2048x128 : Shape := ⟨3, ![4, 2048, 128]⟩
abbrev S8x2048 : Shape := ⟨2, ![8, 2048]⟩
abbrev S8x32 : Shape := ⟨2, ![8, 32]⟩
abbrev S1x8x128 : Shape := ⟨3, ![1, 8, 128]⟩
abbrev S8x128 : Shape := ⟨2, ![8, 128]⟩
abbrev S1x1x8192 : Shape := ⟨3, ![1, 1, 8192]⟩
abbrev S1x8192 : Shape := ⟨2, ![1, 8192]⟩
abbrev S1 : Shape := ⟨1, ![1]⟩
abbrev S1x1 : Shape := ⟨2, ![1, 1]⟩
abbrev S1x2048x128 : Shape := ⟨3, ![1, 2048, 128]⟩
abbrev S2048x128 : Shape := ⟨2, ![2048, 128]⟩
abbrev S1x1x1 : Shape := ⟨3, ![1, 1, 1]⟩
abbrev S32x128 : Shape := ⟨2, ![32, 128]⟩
abbrev S8 : Shape := ⟨1, ![8]⟩
abbrev S8x1 : Shape := ⟨2, ![8, 1]⟩

abbrev nBuf : Space → Nat
  | .hbm => 18
  | .vmem => 14
  | .smem => 0
  | _ => 0

abbrev bufTy : (tb : Table) → Fin (tcTables nBuf tb) → BufTy
  | .hbm, ⟨0, _⟩ => ⟨S32x4x8320, .f32⟩
  | .hbm, ⟨1, _⟩ => ⟨S32x4x8x128, .f32⟩
  | .hbm, ⟨2, _⟩ => ⟨S262144x128, .f32⟩
  | .hbm, ⟨3, _⟩ => ⟨S262144x128, .f32⟩
  | .hbm, ⟨4, _⟩ => ⟨S32x4x8x128, .f32⟩
  | .hbm, ⟨5, _⟩ => ⟨S32x4x8x128, .f32⟩
  | .hbm, ⟨6, _⟩ => ⟨S_, .f32⟩
  | .hbm, ⟨7, _⟩ => ⟨S32x4x8x128, .f32⟩
  | .hbm, ⟨8, _⟩ => ⟨S32x4x8x128, .f32⟩
  | .hbm, ⟨9, _⟩ => ⟨S32x4x8x128, .bf16⟩
  | .hbm, ⟨10, _⟩ => ⟨S32x32x128, .bf16⟩
  | .hbm, ⟨11, _⟩ => ⟨S32x4x8x128, .bf16⟩
  | .hbm, ⟨12, _⟩ => ⟨S32x32x128, .bf16⟩
  | .hbm, ⟨13, _⟩ => ⟨S32x4x8x128, .bf16⟩
  | .hbm, ⟨14, _⟩ => ⟨S32x32x128, .bf16⟩
  | .hbm, ⟨15, _⟩ => ⟨S128x2048x128, .f32⟩
  | .hbm, ⟨16, _⟩ => ⟨S128x2048x128, .f32⟩
  | .hbm, ⟨17, _⟩ => ⟨S32x32x128, .f32⟩
  | .local _ .vmem, ⟨0, _⟩ => ⟨S1x4x8320, .f32⟩
  | .local _ .vmem, ⟨1, _⟩ => ⟨S1x4x8320, .f32⟩
  | .local _ .vmem, ⟨2, _⟩ => ⟨S1x32x128, .bf16⟩
  | .local _ .vmem, ⟨3, _⟩ => ⟨S1x32x128, .bf16⟩
  | .local _ .vmem, ⟨4, _⟩ => ⟨S4x2048x128, .f32⟩
  | .local _ .vmem, ⟨5, _⟩ => ⟨S4x2048x128, .f32⟩
  | .local _ .vmem, ⟨6, _⟩ => ⟨S4x2048x128, .f32⟩
  | .local _ .vmem, ⟨7, _⟩ => ⟨S4x2048x128, .f32⟩
  | .local _ .vmem, ⟨8, _⟩ => ⟨S1x32x128, .bf16⟩
  | .local _ .vmem, ⟨9, _⟩ => ⟨S1x32x128, .bf16⟩
  | .local _ .vmem, ⟨10, _⟩ => ⟨S1x32x128, .bf16⟩
  | .local _ .vmem, ⟨11, _⟩ => ⟨S1x32x128, .bf16⟩
  | .local _ .vmem, ⟨12, _⟩ => ⟨S1x32x128, .f32⟩
  | .local _ .vmem, ⟨13, _⟩ => ⟨S1x32x128, .f32⟩
  | _, _ => ⟨S32x4x8320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x8320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAttendIdeal.lean ====
abbrev S32x4x8320 : Shape := ⟨3, ![32, 4, 8320]⟩
abbrev S32x4x8x128 : Shape := ⟨4, ![32, 4, 8, 128]⟩
abbrev S262144x128 : Shape := ⟨2, ![262144, 128]⟩
abbrev S32x4x256x8x128 : Shape := ⟨5, ![32, 4, 256, 8, 128]⟩
abbrev S32x1x4x8x128 : Shape := ⟨5, ![32, 1, 4, 8, 128]⟩
abbrev S32x4x4x8x128 : Shape := ⟨5, ![32, 4, 4, 8, 128]⟩
abbrev S32x4x260x8x128 : Shape := ⟨5, ![32, 4, 260, 8, 128]⟩
abbrev S32x4x8192 : Shape := ⟨3, ![32, 4, 8192]⟩
abbrev S_ : Shape := ⟨0, ![]⟩
abbrev S32x4 : Shape := ⟨2, ![32, 4]⟩
abbrev S256 : Shape := ⟨1, ![256]⟩
abbrev S1x1x256 : Shape := ⟨3, ![1, 1, 256]⟩
abbrev S32x4x1 : Shape := ⟨3, ![32, 4, 1]⟩
abbrev S32x4x256 : Shape := ⟨3, ![32, 4, 256]⟩
abbrev S32x4x4 : Shape := ⟨3, ![32, 4, 4]⟩
abbrev S32x4x260 : Shape := ⟨3, ![32, 4, 260]⟩
abbrev S32x4x8x260 : Shape := ⟨4, ![32, 4, 8, 260]⟩
abbrev S32x4x1x260 : Shape := ⟨4, ![32, 4, 1, 260]⟩
abbrev S32x4x8 : Shape := ⟨3, ![32, 4, 8]⟩
abbrev S32x4x8x1 : Shape := ⟨4, ![32, 4, 8, 1]⟩
abbrev S32x32x128 : Shape := ⟨3, ![32, 32, 128]⟩

abbrev nBuf : Space → Nat
  | .hbm => 55
  | .vmem => 0
  | .smem => 0
  | _ => 0

abbrev bufTy : (tb : Table) → Fin (tcTables nBuf tb) → BufTy
  | .hbm, ⟨0, _⟩ => ⟨S32x4x8320, .f32⟩
  | .hbm, ⟨1, _⟩ => ⟨S32x4x8x128, .f32⟩
  | .hbm, ⟨2, _⟩ => ⟨S262144x128, .f32⟩
  | .hbm, ⟨3, _⟩ => ⟨S262144x128, .f32⟩
  | .hbm, ⟨4, _⟩ => ⟨S32x4x8x128, .f32⟩
  | .hbm, ⟨5, _⟩ => ⟨S32x4x8x128, .f32⟩
  | .hbm, ⟨6, _⟩ => ⟨S32x4x256x8x128, .f32⟩
  | .hbm, ⟨7, _⟩ => ⟨S32x1x4x8x128, .f32⟩
  | .hbm, ⟨8, _⟩ => ⟨S32x4x4x8x128, .f32⟩
  | .hbm, ⟨9, _⟩ => ⟨S32x4x260x8x128, .f32⟩
  | .hbm, ⟨10, _⟩ => ⟨S32x4x256x8x128, .f32⟩
  | .hbm, ⟨11, _⟩ => ⟨S32x1x4x8x128, .f32⟩
  | .hbm, ⟨12, _⟩ => ⟨S32x4x4x8x128, .f32⟩
  | .hbm, ⟨13, _⟩ => ⟨S32x4x260x8x128, .f32⟩
  | .hbm, ⟨14, _⟩ => ⟨S32x4x8192, .f32⟩
  | .hbm, ⟨15, _⟩ => ⟨S_, .f32⟩
  | .hbm, ⟨16, _⟩ => ⟨S32x4, .f32⟩
  | .hbm, ⟨17, _⟩ => ⟨S32x4, .i32⟩
  | .hbm, ⟨18, _⟩ => ⟨S256, .i32⟩
  | .hbm, ⟨19, _⟩ => ⟨S1x1x256, .i32⟩
  | .hbm, ⟨20, _⟩ => ⟨S32x4x1, .i32⟩
  | .hbm, ⟨21, _⟩ => ⟨S32x4x256, .i32⟩
  | .hbm, ⟨22, _⟩ => ⟨S32x4x256, .i32⟩
  | .hbm, ⟨23, _⟩ => ⟨S32x4x256, .i1⟩
  | .hbm, ⟨24, _⟩ => ⟨S32x4x4, .f32⟩
  | .hbm, ⟨25, _⟩ => ⟨S_, .f32⟩
  | .hbm, ⟨26, _⟩ => ⟨S32x4x4, .f32⟩
  | .hbm, ⟨27, _⟩ => ⟨S32x4x4, .i1⟩
  | .hbm, ⟨28, _⟩ => ⟨S32x4x260, .i1⟩
  | .hbm, ⟨29, _⟩ => ⟨S32x4x8x260, .f32⟩
  | .hbm, ⟨30, _⟩ => ⟨S_, .f32⟩
  | .hbm, ⟨31, _⟩ => ⟨S32x4x8x260, .f32⟩
  | .hbm, ⟨32, _⟩ => ⟨S32x4x8x260, .f32⟩
  | .hbm, ⟨33, _⟩ => ⟨S32x4x1x260, .i1⟩
  | .hbm, ⟨34, _⟩ => ⟨S_, .f32⟩
  | .hbm, ⟨35, _⟩ => ⟨S_, .f32⟩
  | .hbm, ⟨36, _⟩ => ⟨S32x4x8x260, .i1⟩
  | .hbm, ⟨37, _⟩ => ⟨S32x4x8x260, .f32⟩
  | .hbm, ⟨38, _⟩ => ⟨S32x4x8x260, .f32⟩
  | .hbm, ⟨39, _⟩ => ⟨S_, .f32⟩
  | .hbm, ⟨40, _⟩ => ⟨S32x4x8, .f32⟩
  | .hbm, ⟨41, _⟩ => ⟨S_, .f32⟩
  | .hbm, ⟨42, _⟩ => ⟨S32x4x8, .f32⟩
  | .hbm, ⟨43, _⟩ => ⟨S32x4x8, .f32⟩
  | .hbm, ⟨44, _⟩ => ⟨S32x4x8x1, .f32⟩
  | .hbm, ⟨45, _⟩ => ⟨S32x4x8x260, .f32⟩
  | .hbm, ⟨46, _⟩ => ⟨S32x4x8x260, .f32⟩
  | .hbm, ⟨47, _⟩ => ⟨S32x4x8x260, .f32⟩
  | .hbm, ⟨48, _⟩ => ⟨S_, .f32⟩
  | .hbm, ⟨49, _⟩ => ⟨S32x4x8, .f32⟩
  | .hbm, ⟨50, _⟩ => ⟨S32x4x8x1, .f32⟩
  | .hbm, ⟨51, _⟩ => ⟨S32x4x8x260, .f32⟩
  | .hbm, ⟨52, _⟩ => ⟨S32x4x8x260, .f32⟩
  | .hbm, ⟨53, _⟩ => ⟨S32x4x8x128, .f32⟩
  | .hbm, ⟨54, _⟩ => ⟨S32x32x128, .f32⟩
  | _, _ => ⟨S32x4x8320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]
-- ==== KernelProject.lean ====
abbrev S2x4096x2048 : Shape := ⟨3, ![2, 4096, 2048]⟩
abbrev S1x2048x7248 : Shape := ⟨3, ![1, 2048, 7248]⟩
abbrev S2048x7248 : Shape := ⟨2, ![2048, 7248]⟩
abbrev S7248x2048 : Shape := ⟨2, ![7248, 2048]⟩
abbrev S8192x2048 : Shape := ⟨2, ![8192, 2048]⟩
abbrev S4096 : Shape := ⟨1, ![4096]⟩
abbrev S128 : Shape := ⟨1, ![128]⟩
abbrev S_ : Shape := ⟨0, ![]⟩
abbrev S4096x1 : Shape := ⟨2, ![4096, 1]⟩
abbrev S1x128 : Shape := ⟨2, ![1, 128]⟩
abbrev S4096x128 : Shape := ⟨2, ![4096, 128]⟩
abbrev S1x4096x128 : Shape := ⟨3, ![1, 4096, 128]⟩
abbrev S3x4096x128 : Shape := ⟨3, ![3, 4096, 128]⟩
abbrev S8 : Shape := ⟨1, ![8]⟩
abbrev S1x8 : Shape := ⟨2, ![1, 8]⟩
abbrev S4096x8 : Shape := ⟨2, ![4096, 8]⟩
abbrev S8x4096 : Shape := ⟨2, ![8, 4096]⟩
abbrev S1x8x4096 : Shape := ⟨3, ![1, 8, 4096]⟩
abbrev S2x8x4096 : Shape := ⟨3, ![2, 8, 4096]⟩
abbrev S8192x1024 : Shape := ⟨2, ![8192, 1024]⟩
abbrev S32x1024x256 : Shape := ⟨3, ![32, 1024, 256]⟩
abbrev S16x8192x64 : Shape := ⟨3, ![16, 8192, 64]⟩
abbrev S8192x64 : Shape := ⟨2, ![8192, 64]⟩
abbrev S2x64x4096 : Shape := ⟨3, ![2, 64, 4096]⟩
abbrev S16x8192 : Shape := ⟨2, ![16, 8192]⟩
abbrev S256x2048 : Shape := ⟨2, ![256, 2048]⟩
abbrev S3x256x128 : Shape := ⟨3, ![3, 256, 128]⟩
abbrev S2x8x256 : Shape := ⟨3, ![2, 8, 256]⟩
abbrev S256x1024 : Shape := ⟨2, ![256, 1024]⟩
abbrev S1x1024x256 : Shape := ⟨3, ![1, 1024, 256]⟩
abbrev S16x256x64 : Shape := ⟨3, ![16, 256, 64]⟩
abbrev S256x64 : Shape := ⟨2, ![256, 64]⟩
abbrev S1x64x256 : Shape := ⟨3, ![1, 64, 256]⟩
abbrev S16x256 : Shape := ⟨2, ![16, 256]⟩
abbrev S1024x2048 : Shape := ⟨2, ![1024, 2048]⟩
abbrev S256x128 : Shape := ⟨2, ![256, 128]⟩
abbrev S1x256x128 : Shape := ⟨3, ![1, 256, 128]⟩
abbrev S1024x256 : Shape := ⟨2, ![1024, 256]⟩
abbrev S1x256x64 : Shape := ⟨3, ![1, 256, 64]⟩
abbrev S64x2048 : Shape := ⟨2, ![64, 2048]⟩
abbrev S64x256 : Shape := ⟨2, ![64, 256]⟩
abbrev S8x256 : Shape := ⟨2, ![8, 256]⟩
abbrev S1x8x256 : Shape := ⟨3, ![1, 8, 256]⟩
abbrev S48x256 : Shape := ⟨2, ![48, 256]⟩
abbrev S16x2048 : Shape := ⟨2, ![16, 2048]⟩

abbrev nBuf : Space → Nat
  | .hbm => 230
  | .vmem => 35
  | .smem => 0
  | _ => 0

abbrev hbmTy0_0 (i : Nat) : BufTy := match i % 128 with
  | 0 => ⟨S2x4096x2048, .f32⟩
  | 1 => ⟨S1x2048x7248, .f32⟩
  | 2 => ⟨S2048x7248, .f32⟩
  | 3 => ⟨S7248x2048, .f32⟩
  | 4 => ⟨S7248x2048, .bf16⟩
  | 5 => ⟨S8192x2048, .f32⟩
  | 6 => ⟨S4096, .i32⟩
  | 7 => ⟨S128, .i32⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S128, .i32⟩
  | 15 => ⟨S128, .i32⟩
  | 16 => ⟨S_, .i32⟩
  | 17 => ⟨S128, .i32⟩
  | 18 => ⟨S128, .i1⟩
  | 19 => ⟨S_, .i32⟩
  | 20 => ⟨S128, .i32⟩
  | 21 => ⟨S128, .i1⟩
  | 22 => ⟨S_, .i32⟩
  | 23 => ⟨S_, .i1⟩
  | 24 => ⟨S128, .i1⟩
  | 25 => ⟨S128, .i1⟩
  | 26 => ⟨S128, .i1⟩
  | 27 => ⟨S128, .i32⟩
  | 28 => ⟨S128, .i32⟩
  | 29 => ⟨S128, .i32⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S128, .i32⟩
  | 37 => ⟨S128, .i32⟩
  | 38 => ⟨S_, .i32⟩
  | 39 => ⟨S128, .i32⟩
  | 40 => ⟨S128, .i1⟩
  | 41 => ⟨S_, .i32⟩
  | 42 => ⟨S128, .i32⟩
  | 43 => ⟨S128, .i1⟩
  | 44 => ⟨S_, .i32⟩
  | 45 => ⟨S_, .i1⟩
  | 46 => ⟨S128, .i1⟩
  | 47 => ⟨S128, .i1⟩
  | 48 => ⟨S128, .i1⟩
  | 49 => ⟨S128, .i32⟩
  | 50 => ⟨S128, .i32⟩
  | 51 => ⟨S128, .i32⟩
  | 52 => ⟨S128, .f32⟩
  | 53 => ⟨S128, .f32⟩
  | 54 => ⟨S_, .f32⟩
  | 55 => ⟨S128, .f32⟩
  | 56 => ⟨S128, .f32⟩
  | 57 => ⟨S_, .f32⟩
  | 58 => ⟨S128, .f32⟩
  | 59 => ⟨S128, .f32⟩
  | 60 => ⟨S4096, .f32⟩
  | 61 => ⟨S4096x1, .f32⟩
  | 62 => ⟨S1x128, .f32⟩
  | 63 => ⟨S4096x128, .f32⟩
  | 64 => ⟨S4096x128, .f32⟩
  | 65 => ⟨S4096x128, .f32⟩
  | 66 => ⟨S4096x128, .f32⟩
  | 67 => ⟨S4096x128, .f32⟩
  | 68 => ⟨S_, .i32⟩
  | 69 => ⟨S128, .i32⟩
  | 70 => ⟨S128, .i1⟩
  | 71 => ⟨S1x128, .i1⟩
  | 72 => ⟨S_, .i32⟩
  | 73 => ⟨S128, .i32⟩
  | 74 => ⟨S128, .i1⟩
  | 75 => ⟨S_, .i32⟩
  | 76 => ⟨S128, .i32⟩
  | 77 => ⟨S128, .i1⟩
  | 78 => ⟨S128, .i1⟩
  | 79 => ⟨S1x128, .i1⟩
  | 80 => ⟨S1x128, .i1⟩
  | 81 => ⟨S_, .f32⟩
  | 82 => ⟨S_, .f32⟩
  | 83 => ⟨S4096x128, .i1⟩
  | 84 => ⟨S4096x128, .f32⟩
  | 85 => ⟨S4096x128, .f32⟩
  | 86 => ⟨S4096x128, .f32⟩
  | 87 => ⟨S_, .f32⟩
  | 88 => ⟨S_, .f32⟩
  | 89 => ⟨S4096x128, .i1⟩
  | 90 => ⟨S4096x128, .f32⟩
  | 91 => ⟨S4096x128, .f32⟩
  | 92 => ⟨S_, .f32⟩
  | 93 => ⟨S_, .f32⟩
  | 94 => ⟨S4096x128, .i1⟩
  | 95 => ⟨S4096x128, .f32⟩
  | 96 => ⟨S4096x128, .f32⟩
  | 97 => ⟨S1x4096x128, .f32⟩
  | 98 => ⟨S1x4096x128, .f32⟩
  | 99 => ⟨S1x4096x128, .f32⟩
  | 100 => ⟨S3x4096x128, .f32⟩
  | 101 => ⟨S128, .i32⟩
  | 102 => ⟨S_, .i32⟩
  | 103 => ⟨S_, .i32⟩
  | 104 => ⟨S_, .i32⟩
  | 105 => ⟨S_, .i1⟩
  | 106 => ⟨S_, .i32⟩
  | 107 => ⟨S_, .i32⟩
  | 108 => ⟨S128, .i32⟩
  | 109 => ⟨S128, .i32⟩
  | 110 => ⟨S_, .i32⟩
  | 111 => ⟨S128, .i32⟩
  | 112 => ⟨S128, .i1⟩
  | 113 => ⟨S_, .i32⟩
  | 114 => ⟨S128, .i32⟩
  | 115 => ⟨S128, .i1⟩
  | 116 => ⟨S_, .i32⟩
  | 117 => ⟨S_, .i1⟩
  | 118 => ⟨S128, .i1⟩
  | 119 => ⟨S128, .i1⟩
  | 120 => ⟨S128, .i1⟩
  | 121 => ⟨S128, .i32⟩
  | 122 => ⟨S128, .i32⟩
  | 123 => ⟨S128, .i32⟩
  | 124 => ⟨S_, .i32⟩
  | 125 => ⟨S_, .i32⟩
  | 126 => ⟨S_, .i32⟩
  | 127 => ⟨S_, .i1⟩
  | _ => ⟨S2x4096x2048, .f32⟩

abbrev hbmTy0_1 (i : Nat) : BufTy := match i % 128 with
  | 0 => ⟨S_, .i32⟩
  | 1 => ⟨S_, .i32⟩
  | 2 => ⟨S128, .i32⟩
  | 3 => ⟨S128, .i32⟩
  | 4 => ⟨S_, .i32⟩
  | 5 => ⟨S128, .i32⟩
  | 6 => ⟨S128, .i1⟩
  | 7 => ⟨S_, .i32⟩
  | 8 => ⟨S128, .i32⟩
  | 9 => ⟨S128, .i1⟩
  | 10 => ⟨S_, .i32⟩
  | 11 => ⟨S_, .i1⟩
  | 12 => ⟨S128, .i1⟩
  | 13 => ⟨S128, .i1⟩
  | 14 => ⟨S128, .i1⟩
  | 15 => ⟨S128, .i32⟩
  | 16 => ⟨S128, .i32⟩
  | 17 => ⟨S128, .i32⟩
  | 18 => ⟨S128, .f32⟩
  | 19 => ⟨S128, .f32⟩
  | 20 => ⟨S_, .f32⟩
  | 21 => ⟨S128, .f32⟩
  | 22 => ⟨S128, .f32⟩
  | 23 => ⟨S_, .f32⟩
  | 24 => ⟨S128, .f32⟩
  | 25 => ⟨S128, .f32⟩
  | 26 => ⟨S4096, .f32⟩
  | 27 => ⟨S4096x1, .f32⟩
  | 28 => ⟨S1x128, .f32⟩
  | 29 => ⟨S4096x128, .f32⟩
  | 30 => ⟨S4096x128, .f32⟩
  | 31 => ⟨S4096x128, .f32⟩
  | 32 => ⟨S4096x128, .f32⟩
  | 33 => ⟨S4096x128, .f32⟩
  | 34 => ⟨S_, .i32⟩
  | 35 => ⟨S128, .i32⟩
  | 36 => ⟨S128, .i1⟩
  | 37 => ⟨S1x128, .i1⟩
  | 38 => ⟨S_, .i32⟩
  | 39 => ⟨S128, .i32⟩
  | 40 => ⟨S128, .i1⟩
  | 41 => ⟨S_, .i32⟩
  | 42 => ⟨S128, .i32⟩
  | 43 => ⟨S128, .i1⟩
  | 44 => ⟨S128, .i1⟩
  | 45 => ⟨S1x128, .i1⟩
  | 46 => ⟨S1x128, .i1⟩
  | 47 => ⟨S_, .f32⟩
  | 48 => ⟨S_, .f32⟩
  | 49 => ⟨S4096x128, .i1⟩
  | 50 => ⟨S4096x128, .f32⟩
  | 51 => ⟨S4096x128, .f32⟩
  | 52 => ⟨S4096x128, .f32⟩
  | 53 => ⟨S_, .f32⟩
  | 54 => ⟨S_, .f32⟩
  | 55 => ⟨S4096x128, .i1⟩
  | 56 => ⟨S4096x128, .f32⟩
  | 57 => ⟨S4096x128, .f32⟩
  | 58 => ⟨S_, .f32⟩
  | 59 => ⟨S_, .f32⟩
  | 60 => ⟨S4096x128, .i1⟩
  | 61 => ⟨S4096x128, .f32⟩
  | 62 => ⟨S4096x128, .f32⟩
  | 63 => ⟨S1x4096x128, .f32⟩
  | 64 => ⟨S1x4096x128, .f32⟩
  | 65 => ⟨S1x4096x128, .f32⟩
  | 66 => ⟨S3x4096x128, .f32⟩
  | 67 => ⟨S8, .i32⟩
  | 68 => ⟨S8, .f32⟩
  | 69 => ⟨S8, .f32⟩
  | 70 => ⟨S_, .f32⟩
  | 71 => ⟨S8, .f32⟩
  | 72 => ⟨S8, .f32⟩
  | 73 => ⟨S_, .f32⟩
  | 74 => ⟨S8, .f32⟩
  | 75 => ⟨S8, .f32⟩
  | 76 => ⟨S4096, .f32⟩
  | 77 => ⟨S4096x1, .f32⟩
  | 78 => ⟨S1x8, .f32⟩
  | 79 => ⟨S4096x8, .f32⟩
  | 80 => ⟨S4096x8, .f32⟩
  | 81 => ⟨S4096x8, .f32⟩
  | 82 => ⟨S4096x8, .f32⟩
  | 83 => ⟨S4096x8, .f32⟩
  | 84 => ⟨S8x4096, .f32⟩
  | 85 => ⟨S8x4096, .f32⟩
  | 86 => ⟨S1x8x4096, .f32⟩
  | 87 => ⟨S1x8x4096, .f32⟩
  | 88 => ⟨S2x8x4096, .f32⟩
  | 89 => ⟨S8192x1024, .bf16⟩
  | 90 => ⟨S8192x1024, .f32⟩
  | 91 => ⟨S8192x1024, .bf16⟩
  | 92 => ⟨S8192x1024, .f32⟩
  | 93 => ⟨S32x1024x256, .bf16⟩
  | 94 => ⟨S8192x1024, .f32⟩
  | 95 => ⟨S16x8192x64, .bf16⟩
  | 96 => ⟨S8192x64, .f32⟩
  | 97 => ⟨S8192x64, .bf16⟩
  | 98 => ⟨S2x64x4096, .f32⟩
  | 99 => ⟨S16x8192, .f32⟩
  | 100 => ⟨S8192x1024, .f32⟩
  | 101 => ⟨S8192x1024, .f32⟩
  | _ => ⟨S2x4096x2048, .f32⟩

abbrev hbmTy (i : Nat) : BufTy := match i / 128 with
  | 0 => hbmTy0_0 i
  | 1 => hbmTy0_1 i
  | _ => ⟨S2x4096x2048, .f32⟩

abbrev bufTy : (tb : Table) → Fin (tcTables nBuf tb) → BufTy
  | .hbm, ⟨i, _⟩ => hbmTy i
  | .local _ .vmem, ⟨0, _⟩ => ⟨S256x2048, .f32⟩
  | .local _ .vmem, ⟨1, _⟩ => ⟨S256x2048, .f32⟩
  | .local _ .vmem, ⟨2, _⟩ => ⟨S7248x2048, .bf16⟩
  | .local _ .vmem, ⟨3, _⟩ => ⟨S3x256x128, .f32⟩
  | .local _ .vmem, ⟨4, _⟩ => ⟨S3x256x128, .f32⟩
  | .local _ .vmem, ⟨5, _⟩ => ⟨S3x256x128, .f32⟩
  | .local _ .vmem, ⟨6, _⟩ => ⟨S3x256x128, .f32⟩
  | .local _ .vmem, ⟨7, _⟩ => ⟨S2x8x256, .f32⟩
  | .local _ .vmem, ⟨8, _⟩ => ⟨S2x8x256, .f32⟩
  | .local _ .vmem, ⟨9, _⟩ => ⟨S256x1024, .bf16⟩
  | .local _ .vmem, ⟨10, _⟩ => ⟨S256x1024, .bf16⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S256x1024, .f32⟩
  | .local _ .vmem, ⟨16, _⟩ => ⟨S256x1024, .f32⟩
  | .local _ .vmem, ⟨17, _⟩ => ⟨S1x1024x256, .bf16⟩
  | .local _ .vmem, ⟨18, _⟩ => ⟨S1x1024x256, .bf16⟩
  | .local _ .vmem, ⟨19, _⟩ => ⟨S256x1024, .f32⟩
  | .local _ .vmem, ⟨20, _⟩ => ⟨S256x1024, .f32⟩
  | .local _ .vmem, ⟨21, _⟩ => ⟨S16x256x64, .bf16⟩
  | .local _ .vmem, ⟨22, _⟩ => ⟨S16x256x64, .bf16⟩
  | .local _ .vmem, ⟨23, _⟩ => ⟨S256x64, .f32⟩
  | .local _ .vmem, ⟨24, _⟩ => ⟨S256x64, .f32⟩
  | .local _ .vmem, ⟨25, _⟩ => ⟨S256x64, .bf16⟩
  | .local _ .vmem, ⟨26, _⟩ => ⟨S256x64, .bf16⟩
  | .local _ .vmem, ⟨27, _⟩ => ⟨S1x64x256, .f32⟩
  | .local _ .vmem, ⟨28, _⟩ => ⟨S1x64x256, .f32⟩
  | .local _ .vmem, ⟨29, _⟩ => ⟨S16x256, .f32⟩
  | .local _ .vmem, ⟨30, _⟩ => ⟨S16x256, .f32⟩
  | .local _ .vmem, ⟨31, _⟩ => ⟨S256x1024, .f32⟩
  | .local _ .vmem, ⟨32, _⟩ => ⟨S256x1024, .f32⟩
  | .local _ .vmem, ⟨33, _⟩ => ⟨S256x1024, .f32⟩
  | .local _ .vmem, ⟨34, _⟩ => ⟨S256x1024, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_v5 : Ref sig .tc := ⟨.hbm, 17, rfl⟩
abbrev main_call0_v6 : Ref sig .tc := ⟨.hbm, 18, rfl⟩
abbrev main_call0_c_2 : Ref sig .tc := ⟨.hbm, 19, rfl⟩
abbrev main_call0_v7 : Ref sig .tc := ⟨.hbm, 20, rfl⟩
abbrev main_call0_v8 : Ref sig .tc := ⟨.hbm, 21, rfl⟩
abbrev main_call0_c_3 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_v6 : Ref sig .tc := ⟨.hbm, 29, rfl⟩
abbrev main_c_0 : Ref sig .tc := ⟨.hbm, 30, rfl⟩
abbrev main_call1_v0 : Ref sig .tc := ⟨.hbm, 31, rfl⟩
abbrev main_call1_c : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_c_1 : Ref sig .tc := ⟨.hbm, 38, rfl⟩
abbrev main_call1_v5 : Ref sig .tc := ⟨.hbm, 39, rfl⟩
abbrev main_call1_v6 : Ref sig .tc := ⟨.hbm, 40, rfl⟩
abbrev main_call1_c_2 : Ref sig .tc := ⟨.hbm, 41, rfl⟩
abbrev main_call1_v7 : Ref sig .tc := ⟨.hbm, 42, rfl⟩
abbrev main_call1_v8 : Ref sig .tc := ⟨.hbm, 43, rfl⟩
abbrev main_call1_c_3 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_cst : Ref sig .tc := ⟨.hbm, 54, rfl⟩
abbrev main_v10 : Ref sig .tc := ⟨.hbm, 55, rfl⟩
abbrev main_v11 : Ref sig .tc := ⟨.hbm, 56, rfl⟩
abbrev main_cst_1 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_c_2 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_c_3 : Ref sig .tc := ⟨.hbm, 72, rfl⟩
abbrev main_v25 : Ref sig .tc := ⟨.hbm, 73, rfl⟩
abbrev main_v26 : Ref sig .tc := ⟨.hbm, 74, rfl⟩
abbrev main_c_4 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_cst_5 : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_v32 : Ref sig .tc := ⟨.hbm, 85, rfl⟩
abbrev main_v33 : Ref sig .tc := ⟨.hbm, 86, rfl⟩
abbrev main_cst_6 : Ref sig .tc := ⟨.hbm, 87, rfl⟩
abbrev main_call3_v0 : Ref sig .tc := ⟨.hbm, 88, rfl⟩
abbrev main_call3_v1 : Ref sig .tc := ⟨.hbm, 89, rfl⟩
abbrev main_call3_v2 : Ref sig .tc := ⟨.hbm, 90, rfl⟩
abbrev main_v34 : Ref sig .tc := ⟨.hbm, 91, rfl⟩
abbrev main_cst_7 : Ref sig .tc := ⟨.hbm, 92, rfl⟩
abbrev main_call4_v0 : Ref sig .tc := ⟨.hbm, 93, rfl⟩
abbrev main_call4_v1 : Ref sig .tc := ⟨.hbm, 94, rfl⟩
abbrev main_call4_v2 : Ref sig .tc := ⟨.hbm, 95, rfl⟩
abbrev main_v35 : Ref sig .tc := ⟨.hbm, 96, rfl⟩
abbrev main_v36 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_c_8 : Ref sig .tc := ⟨.hbm, 102, rfl⟩
abbrev main_call5_v0 : Ref sig .tc := ⟨.hbm, 103, rfl⟩
abbrev main_call5_c : Ref sig .tc := ⟨.hbm, 104, rfl⟩
abbrev main_call5_v1 : Ref sig .tc := ⟨.hbm, 105, rfl⟩
abbrev main_call5_c_0 : Ref sig .tc := ⟨.hbm, 106, rfl⟩
abbrev main_call5_v2 : Ref sig .tc := ⟨.hbm, 107, rfl⟩
abbrev main_call5_v3 : Ref sig .tc := ⟨.hbm, 108, rfl⟩
abbrev main_call5_v4 : Ref sig .tc := ⟨.hbm, 109, rfl⟩
abbrev main_call5_c_1 : Ref sig .tc := ⟨.hbm, 110, rfl⟩
abbrev main_call5_v5 : Ref sig .tc := ⟨.hbm, 111, rfl⟩
abbrev main_call5_v6 : Ref sig .tc := ⟨.hbm, 112, rfl⟩
abbrev main_call5_c_2 : Ref sig .tc := ⟨.hbm, 113, rfl⟩
abbrev main_call5_v7 : Ref sig .tc := ⟨.hbm, 114, rfl⟩
abbrev main_call5_v8 : Ref sig .tc := ⟨.hbm, 115, rfl⟩
abbrev main_call5_c_3 : Ref sig .tc := ⟨.hbm, 116, rfl⟩
abbrev main_call5_v9 : Ref sig .tc := ⟨.hbm, 117, rfl⟩
abbrev main_call5_v10 : Ref sig .tc := ⟨.hbm, 118, rfl⟩
abbrev main_call5_v11 : Ref sig .tc := ⟨.hbm, 119, rfl⟩
abbrev main_call5_v12 : Ref sig .tc := ⟨.hbm, 120, rfl⟩
abbrev main_call5_v13 : Ref sig .tc := ⟨.hbm, 121, rfl⟩
abbrev main_call5_v14 : Ref sig .tc := ⟨.hbm, 122, rfl⟩
abbrev main_v41 : Ref sig .tc := ⟨.hbm, 123, rfl⟩
abbrev main_c_9 : Ref sig .tc := ⟨.hbm, 124, rfl⟩
abbrev main_call6_v0 : Ref sig .tc := ⟨.hbm, 125, rfl⟩
abbrev main_call6_c : Ref sig .tc := ⟨.hbm, 126, rfl⟩
abbrev main_call6_v1 : Ref sig .tc := ⟨.hbm, 127, rfl⟩
abbrev main_call6_c_0 : Ref sig .tc := ⟨.hbm, 128, rfl⟩
abbrev main_call6_v2 : Ref sig .tc := ⟨.hbm, 129, rfl⟩
abbrev main_call6_v3 : Ref sig .tc := ⟨.hbm, 130, rfl⟩
abbrev main_call6_v4 : Ref sig .tc := ⟨.hbm, 131, rfl⟩
abbrev main_call6_c_1 : Ref sig .tc := ⟨.hbm, 132, rfl⟩
abbrev main_call6_v5 : Ref sig .tc := ⟨.hbm, 133, rfl⟩
abbrev main_call6_v6 : Ref sig .tc := ⟨.hbm, 134, rfl⟩
abbrev main_call6_c_2 : Ref sig .tc := ⟨.hbm, 135, rfl⟩
abbrev main_call6_v7 : Ref sig .tc := ⟨.hbm, 136, rfl⟩
abbrev main_call6_v8 : Ref sig .tc := ⟨.hbm, 137, rfl⟩
abbrev main_call6_c_3 : Ref sig .tc := ⟨.hbm, 138, rfl⟩
abbrev main_call6_v9 : Ref sig .tc := ⟨.hbm, 139, rfl⟩
abbrev main_call6_v10 : Ref sig .tc := ⟨.hbm, 140, rfl⟩
abbrev main_call6_v11 : Ref sig .tc := ⟨.hbm, 141, rfl⟩
abbrev main_call6_v12 : Ref sig .tc := ⟨.hbm, 142, rfl⟩
abbrev main_call6_v13 : Ref sig .tc := ⟨.hbm, 143, rfl⟩
abbrev main_call6_v14 : Ref sig .tc := ⟨.hbm, 144, rfl⟩
abbrev main_v42 : Ref sig .tc := ⟨.hbm, 145, rfl⟩
abbrev main_v43 : Ref sig .tc := ⟨.hbm, 146, rfl⟩
abbrev main_v44 : Ref sig .tc := ⟨.hbm, 147, rfl⟩
abbrev main_cst_10 : Ref sig .tc := ⟨.hbm, 148, rfl⟩
abbrev main_v45 : Ref sig .tc := ⟨.hbm, 149, rfl⟩
abbrev main_v46 : Ref sig .tc := ⟨.hbm, 150, rfl⟩
abbrev main_cst_11 : Ref sig .tc := ⟨.hbm, 151, rfl⟩
abbrev main_v47 : Ref sig .tc := ⟨.hbm, 152, rfl⟩
abbrev main_v48 : Ref sig .tc := ⟨.hbm, 153, rfl⟩
abbrev main_v49 : Ref sig .tc := ⟨.hbm, 154, rfl⟩
abbrev main_v50 : Ref sig .tc := ⟨.hbm, 155, rfl⟩
abbrev main_v51 : Ref sig .tc := ⟨.hbm, 156, rfl⟩
abbrev main_v52 : Ref sig .tc := ⟨.hbm, 157, rfl⟩
abbrev main_v53 : Ref sig .tc := ⟨.hbm, 158, rfl⟩
abbrev main_v54 : Ref sig .tc := ⟨.hbm, 159, rfl⟩
abbrev main_v55 : Ref sig .tc := ⟨.hbm, 160, rfl⟩
abbrev main_v56 : Ref sig .tc := ⟨.hbm, 161, rfl⟩
abbrev main_c_12 : Ref sig .tc := ⟨.hbm, 162, rfl⟩
abbrev main_v57 : Ref sig .tc := ⟨.hbm, 163, rfl⟩
abbrev main_v58 : Ref sig .tc := ⟨.hbm, 164, rfl⟩
abbrev main_v59 : Ref sig .tc := ⟨.hbm, 165, rfl⟩
abbrev main_c_13 : Ref sig .tc := ⟨.hbm, 166, rfl⟩
abbrev main_v60 : Ref sig .tc := ⟨.hbm, 167, rfl⟩
abbrev main_v61 : Ref sig .tc := ⟨.hbm, 168, rfl⟩
abbrev main_c_14 : Ref sig .tc := ⟨.hbm, 169, rfl⟩
abbrev main_v62 : Ref sig .tc := ⟨.hbm, 170, rfl⟩
abbrev main_v63 : Ref sig .tc := ⟨.hbm, 171, rfl⟩
abbrev main_v64 : Ref sig .tc := ⟨.hbm, 172, rfl⟩
abbrev main_v65 : Ref sig .tc := ⟨.hbm, 173, rfl⟩
abbrev main_v66 : Ref sig .tc := ⟨.hbm, 174, rfl⟩
abbrev main_cst_15 : Ref sig .tc := ⟨.hbm, 175, rfl⟩
abbrev main_call7_v0 : Ref sig .tc := ⟨.hbm, 176, rfl⟩
abbrev main_call7_v1 : Ref sig .tc := ⟨.hbm, 177, rfl⟩
abbrev main_call7_v2 : Ref sig .tc := ⟨.hbm, 178, rfl⟩
abbrev main_v67 : Ref sig .tc := ⟨.hbm, 179, rfl⟩
abbrev main_v68 : Ref sig .tc := ⟨.hbm, 180, rfl⟩
abbrev main_cst_16 : Ref sig .tc := ⟨.hbm, 181, rfl⟩
abbrev main_call8_v0 : Ref sig .tc := ⟨.hbm, 182, rfl⟩
abbrev main_call8_v1 : Ref sig .tc := ⟨.hbm, 183, rfl⟩
abbrev main_call8_v2 : Ref sig .tc := ⟨.hbm, 184, rfl⟩
abbrev main_v69 : Ref sig .tc := ⟨.hbm, 185, rfl⟩
abbrev main_cst_17 : Ref sig .tc := ⟨.hbm, 186, rfl⟩
abbrev main_call9_v0 : Ref sig .tc := ⟨.hbm, 187, rfl⟩
abbrev main_call9_v1 : Ref sig .tc := ⟨.hbm, 188, rfl⟩
abbrev main_call9_v2 : Ref sig .tc := ⟨.hbm, 189, rfl⟩
abbrev main_v70 : Ref sig .tc := ⟨.hbm, 190, rfl⟩
abbrev main_v71 : Ref sig .tc := ⟨.hbm, 191, rfl⟩
abbrev main_v72 : Ref sig .tc := ⟨.hbm, 192, rfl⟩
abbrev main_v73 : Ref sig .tc := ⟨.hbm, 193, rfl⟩
abbrev main_v74 : Ref sig .tc := ⟨.hbm, 194, rfl⟩
abbrev main_v75 : Ref sig .tc := ⟨.hbm, 195, rfl⟩
abbrev main_v76 : Ref sig .tc := ⟨.hbm, 196, rfl⟩
abbrev main_v77 : Ref sig .tc := ⟨.hbm, 197, rfl⟩
abbrev main_cst_18 : Ref sig .tc := ⟨.hbm, 198, rfl⟩
abbrev main_v78 : Ref sig .tc := ⟨.hbm, 199, rfl⟩
abbrev main_v79 : Ref sig .tc := ⟨.hbm, 200, rfl⟩
abbrev main_cst_19 : Ref sig .tc := ⟨.hbm, 201, rfl⟩
abbrev main_v80 : Ref sig .tc := ⟨.hbm, 202, rfl⟩
abbrev main_v81 : Ref sig .tc := ⟨.hbm, 203, rfl⟩
abbrev main_v82 : Ref sig .tc := ⟨.hbm, 204, rfl⟩
abbrev main_v83 : Ref sig .tc := ⟨.hbm, 205, rfl⟩
abbrev main_v84 : Ref sig .tc := ⟨.hbm, 206, rfl⟩
abbrev main_v85 : Ref sig .tc := ⟨.hbm, 207, rfl⟩
abbrev main_v86 : Ref sig .tc := ⟨.hbm, 208, rfl⟩
abbrev main_v87 : Ref sig .tc := ⟨.hbm, 209, rfl⟩
abbrev main_v88 : Ref sig .tc := ⟨.hbm, 210, rfl⟩
abbrev main_v89 : Ref sig .tc := ⟨.hbm, 211, rfl⟩
abbrev main_v90 : Ref sig .tc := ⟨.hbm, 212, rfl⟩
abbrev main_v91 : Ref sig .tc := ⟨.hbm, 213, rfl⟩
abbrev main_v92 : Ref sig .tc := ⟨.hbm, 214, rfl⟩
abbrev main_v93 : Ref sig .tc := ⟨.hbm, 215, rfl⟩
abbrev main_v94 : Ref sig .tc := ⟨.hbm, 216, rfl⟩
abbrev main_v95_0 : Ref sig .tc := ⟨.hbm, 217, rfl⟩
abbrev main_v95_1 : Ref sig .tc := ⟨.hbm, 218, rfl⟩
abbrev main_v95_2 : Ref sig .tc := ⟨.hbm, 219, rfl⟩
abbrev main_v95_3 : Ref sig .tc := ⟨.hbm, 220, rfl⟩
abbrev main_v95_4 : Ref sig .tc := ⟨.hbm, 221, rfl⟩
abbrev main_v95_5 : Ref sig .tc := ⟨.hbm, 222, rfl⟩
abbrev main_v95_6 : Ref sig .tc := ⟨.hbm, 223, rfl⟩
abbrev main_v95_7 : Ref sig .tc := ⟨.hbm, 224, rfl⟩
abbrev main_v95_8 : Ref sig .tc := ⟨.hbm, 225, rfl⟩
abbrev main_v95_9 : Ref sig .tc := ⟨.hbm, 226, rfl⟩
abbrev main_v95_10 : Ref sig .tc := ⟨.hbm, 227, rfl⟩
abbrev main_v95_11 : Ref sig .tc := ⟨.hbm, 228, rfl⟩
abbrev main_v95_12 : Ref sig .tc := ⟨.hbm, 229, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_3 (i : grid0.Coords) : Fin 3 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_4 (i : grid0.Coords) : Fin 3 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, c0_i32_4.toNat, v9.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7248x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x256x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x64 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x64x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S16x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ReferenceProjectIdeal.lean ====
abbrev S2x4096x2048 : Shape := ⟨3, ![2, 4096, 2048]⟩
abbrev S1x2048x7248 : Shape := ⟨3, ![1, 2048, 7248]⟩
abbrev S4096 : Shape := ⟨1, ![4096]⟩
abbrev S2048x7248 : Shape := ⟨2, ![2048, 7248]⟩
abbrev S2x4096x7248 : Shape := ⟨3, ![2, 4096, 7248]⟩
abbrev S2x4096x1024 : Shape := ⟨3, ![2, 4096, 1024]⟩
abbrev S2x4096x64 : Shape := ⟨3, ![2, 4096, 64]⟩
abbrev S2x4096x16 : Shape := ⟨3, ![2, 4096, 16]⟩
abbrev S2x4096x8x128 : Shape := ⟨4, ![2, 4096, 8, 128]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S1x4096x1x16 : Shape := ⟨4, ![1, 4096, 1, 16]⟩
abbrev S2x4096x8x16 : Shape := ⟨4, ![2, 4096, 8, 16]⟩
abbrev S2x4096x8x96 : Shape := ⟨4, ![2, 4096, 8, 96]⟩
abbrev S2x4096x16x64 : Shape := ⟨4, ![2, 4096, 16, 64]⟩
abbrev S8 : Shape := ⟨1, ![8]⟩
abbrev S1x8 : Shape := ⟨2, ![1, 8]⟩
abbrev S4096x8 : Shape := ⟨2, ![4096, 8]⟩
abbrev S1x4096x1x8 : Shape := ⟨4, ![1, 4096, 1, 8]⟩
abbrev S2x4096x16x8 : Shape := ⟨4, ![2, 4096, 16, 8]⟩
abbrev S2x4096x16x48 : Shape := ⟨4, ![2, 4096, 16, 48]⟩
abbrev S1x4096x8 : Shape := ⟨3, ![1, 4096, 8]⟩
abbrev S2x4096x8 : Shape := ⟨3, ![2, 4096, 8]⟩
abbrev S2x4096x48 : Shape := ⟨3, ![2, 4096, 48]⟩
abbrev S8192x1024 : Shape := ⟨2, ![8192, 1024]⟩
abbrev S32x256x1024 : Shape := ⟨3, ![32, 256, 1024]⟩
abbrev S32x1024x256 : Shape := ⟨3, ![32, 1024, 256]⟩
abbrev S8192x16x64 : Shape := ⟨3, ![8192, 16, 64]⟩
abbrev S16x8192x64 : Shape := ⟨3, ![16, 8192, 64]⟩
abbrev S8192x64 : Shape := ⟨2, ![8192, 64]⟩
abbrev S2x64x4096 : Shape := ⟨3, ![2, 64, 4096]⟩
abbrev S8192x16 : Shape := ⟨2, ![8192, 16]⟩
abbrev S16x8192 : Shape := ⟨2, ![16, 8192]⟩

abbrev nBuf : Space → Nat
  | .hbm => 172
  | .vmem => 0
  | .smem => 0
  | _ => 0

abbrev hbmTy0_0 (i : Nat) : BufTy := match i % 128 with
  | 0 => ⟨S2x4096x2048, .f32⟩
  | 1 => ⟨S1x2048x7248, .f32⟩
  | 2 => ⟨S4096, .i32⟩
  | 3 => ⟨S2048x7248, .f32⟩
  | 4 => ⟨S2x4096x7248, .f32⟩
  | 5 => ⟨S2x4096x1024, .f32⟩
  | 6 => ⟨S2x4096x1024, .f32⟩
  | 7 => ⟨S2x4096x1024, .f32⟩
  | 8 => ⟨S2x4096x1024, .f32⟩
  | 9 => ⟨S2x4096x1024, .f32⟩
  | 10 => ⟨S2x4096x64, .f32⟩
  | 11 => ⟨S2x4096x16, .f32⟩
  | 12 => ⟨S2x4096x1024, .f32⟩
  | 13 => ⟨S2x4096x1024, .f32⟩
  | 14 => ⟨S2x4096x8x128, .f32⟩
  | 15 => ⟨S16, .f32⟩
  | 16 => ⟨S16, .f32⟩
  | 17 => ⟨S_, .f32⟩
  | 18 => ⟨S16, .f32⟩
  | 19 => ⟨S16, .f32⟩
  | 20 => ⟨S_, .f32⟩
  | 21 => ⟨S16, .f32⟩
  | 22 => ⟨S16, .f32⟩
  | 23 => ⟨S4096, .f32⟩
  | 24 => ⟨S4096x1, .f32⟩
  | 25 => ⟨S1x16, .f32⟩
  | 26 => ⟨S4096x16, .f32⟩
  | 27 => ⟨S4096x16, .f32⟩
  | 28 => ⟨S4096x16, .f32⟩
  | 29 => ⟨S4096x16, .f32⟩
  | 30 => ⟨S1x4096x1x16, .f32⟩
  | 31 => ⟨S4096x16, .f32⟩
  | 32 => ⟨S1x4096x1x16, .f32⟩
  | 33 => ⟨S2x4096x8x16, .f32⟩
  | 34 => ⟨S2x4096x8x16, .f32⟩
  | 35 => ⟨S2x4096x8x16, .f32⟩
  | 36 => ⟨S2x4096x8x16, .f32⟩
  | 37 => ⟨S2x4096x8x16, .f32⟩
  | 38 => ⟨S2x4096x8x16, .f32⟩
  | 39 => ⟨S2x4096x8x16, .f32⟩
  | 40 => ⟨S2x4096x8x16, .f32⟩
  | 41 => ⟨S2x4096x8x16, .f32⟩
  | 42 => ⟨S2x4096x8x16, .f32⟩
  | 43 => ⟨S2x4096x8x16, .f32⟩
  | 44 => ⟨S2x4096x8x16, .f32⟩
  | 45 => ⟨S2x4096x8x96, .f32⟩
  | 46 => ⟨S2x4096x8x128, .f32⟩
  | 47 => ⟨S2x4096x8x128, .f32⟩
  | 48 => ⟨S16, .f32⟩
  | 49 => ⟨S16, .f32⟩
  | 50 => ⟨S_, .f32⟩
  | 51 => ⟨S16, .f32⟩
  | 52 => ⟨S16, .f32⟩
  | 53 => ⟨S_, .f32⟩
  | 54 => ⟨S16, .f32⟩
  | 55 => ⟨S16, .f32⟩
  | 56 => ⟨S4096, .f32⟩
  | 57 => ⟨S4096x1, .f32⟩
  | 58 => ⟨S1x16, .f32⟩
  | 59 => ⟨S4096x16, .f32⟩
  | 60 => ⟨S4096x16, .f32⟩
  | 61 => ⟨S4096x16, .f32⟩
  | 62 => ⟨S4096x16, .f32⟩
  | 63 => ⟨S1x4096x1x16, .f32⟩
  | 64 => ⟨S4096x16, .f32⟩
  | 65 => ⟨S1x4096x1x16, .f32⟩
  | 66 => ⟨S2x4096x8x16, .f32⟩
  | 67 => ⟨S2x4096x8x16, .f32⟩
  | 68 => ⟨S2x4096x8x16, .f32⟩
  | 69 => ⟨S2x4096x8x16, .f32⟩
  | 70 => ⟨S2x4096x8x16, .f32⟩
  | 71 => ⟨S2x4096x8x16, .f32⟩
  | 72 => ⟨S2x4096x8x16, .f32⟩
  | 73 => ⟨S2x4096x8x16, .f32⟩
  | 74 => ⟨S2x4096x8x16, .f32⟩
  | 75 => ⟨S2x4096x8x16, .f32⟩
  | 76 => ⟨S2x4096x8x16, .f32⟩
  | 77 => ⟨S2x4096x8x16, .f32⟩
  | 78 => ⟨S2x4096x8x96, .f32⟩
  | 79 => ⟨S2x4096x8x128, .f32⟩
  | 80 => ⟨S2x4096x16x64, .f32⟩
  | 81 => ⟨S8, .f32⟩
  | 82 => ⟨S8, .f32⟩
  | 83 => ⟨S_, .f32⟩
  | 84 => ⟨S8, .f32⟩
  | 85 => ⟨S8, .f32⟩
  | 86 => ⟨S_, .f32⟩
  | 87 => ⟨S8, .f32⟩
  | 88 => ⟨S8, .f32⟩
  | 89 => ⟨S4096, .f32⟩
  | 90 => ⟨S4096x1, .f32⟩
  | 91 => ⟨S1x8, .f32⟩
  | 92 => ⟨S4096x8, .f32⟩
  | 93 => ⟨S4096x8, .f32⟩
  | 94 => ⟨S4096x8, .f32⟩
  | 95 => ⟨S4096x8, .f32⟩
  | 96 => ⟨S1x4096x1x8, .f32⟩
  | 97 => ⟨S4096x8, .f32⟩
  | 98 => ⟨S1x4096x1x8, .f32⟩
  | 99 => ⟨S2x4096x16x8, .f32⟩
  | 100 => ⟨S2x4096x16x8, .f32⟩
  | 101 => ⟨S2x4096x16x8, .f32⟩
  | 102 => ⟨S2x4096x16x8, .f32⟩
  | 103 => ⟨S2x4096x16x8, .f32⟩
  | 104 => ⟨S2x4096x16x8, .f32⟩
  | 105 => ⟨S2x4096x16x8, .f32⟩
  | 106 => ⟨S2x4096x16x8, .f32⟩
  | 107 => ⟨S2x4096x16x8, .f32⟩
  | 108 => ⟨S2x4096x16x8, .f32⟩
  | 109 => ⟨S2x4096x16x8, .f32⟩
  | 110 => ⟨S2x4096x16x8, .f32⟩
  | 111 => ⟨S2x4096x16x48, .f32⟩
  | 112 => ⟨S2x4096x16x64, .f32⟩
  | 113 => ⟨S8, .f32⟩
  | 114 => ⟨S8, .f32⟩
  | 115 => ⟨S_, .f32⟩
  | 116 => ⟨S8, .f32⟩
  | 117 => ⟨S8, .f32⟩
  | 118 => ⟨S_, .f32⟩
  | 119 => ⟨S8, .f32⟩
  | 120 => ⟨S8, .f32⟩
  | 121 => ⟨S4096, .f32⟩
  | 122 => ⟨S4096x1, .f32⟩
  | 123 => ⟨S1x8, .f32⟩
  | 124 => ⟨S4096x8, .f32⟩
  | 125 => ⟨S4096x8, .f32⟩
  | 126 => ⟨S4096x8, .f32⟩
  | 127 => ⟨S4096x8, .f32⟩
  | _ => ⟨S2x4096x2048, .f32⟩

abbrev hbmTy0_1 (i : Nat) : BufTy := match i % 128 with
  | 0 => ⟨S1x4096x8, .f32⟩
  | 1 => ⟨S4096x8, .f32⟩
  | 2 => ⟨S1x4096x8, .f32⟩
  | 3 => ⟨S2x4096x8, .f32⟩
  | 4 => ⟨S2x4096x8, .f32⟩
  | 5 => ⟨S2x4096x8, .f32⟩
  | 6 => ⟨S2x4096x8, .f32⟩
  | 7 => ⟨S2x4096x8, .f32⟩
  | 8 => ⟨S2x4096x8, .f32⟩
  | 9 => ⟨S2x4096x8, .f32⟩
  | 10 => ⟨S2x4096x8, .f32⟩
  | 11 => ⟨S2x4096x8, .f32⟩
  | 12 => ⟨S2x4096x8, .f32⟩
  | 13 => ⟨S2x4096x8, .f32⟩
  | 14 => ⟨S2x4096x8, .f32⟩
  | 15 => ⟨S2x4096x48, .f32⟩
  | 16 => ⟨S2x4096x64, .f32⟩
  | 17 => ⟨S_, .f32⟩
  | 18 => ⟨S2x4096x8x128, .f32⟩
  | 19 => ⟨S2x4096x8x128, .f32⟩
  | 20 => ⟨S8192x1024, .f32⟩
  | 21 => ⟨S8192x1024, .bf16⟩
  | 22 => ⟨S8192x1024, .f32⟩
  | 23 => ⟨S8192x1024, .f32⟩
  | 24 => ⟨S8192x1024, .bf16⟩
  | 25 => ⟨S8192x1024, .f32⟩
  | 26 => ⟨S32x256x1024, .f32⟩
  | 27 => ⟨S32x1024x256, .f32⟩
  | 28 => ⟨S32x1024x256, .bf16⟩
  | 29 => ⟨S8192x1024, .f32⟩
  | 30 => ⟨S8192x16x64, .f32⟩
  | 31 => ⟨S16x8192x64, .f32⟩
  | 32 => ⟨S16x8192x64, .bf16⟩
  | 33 => ⟨S8192x64, .f32⟩
  | 34 => ⟨S8192x64, .f32⟩
  | 35 => ⟨S8192x64, .bf16⟩
  | 36 => ⟨S2x64x4096, .f32⟩
  | 37 => ⟨S8192x16, .f32⟩
  | 38 => ⟨S16x8192, .f32⟩
  | 39 => ⟨S_, .f32⟩
  | 40 => ⟨S16x8192, .f32⟩
  | 41 => ⟨S16x8192, .f32⟩
  | 42 => ⟨S8192x1024, .f32⟩
  | 43 => ⟨S8192x1024, .f32⟩
  | _ => ⟨S2x4096x2048, .f32⟩

abbrev hbmTy (i : Nat) : BufTy := match i / 128 with
  | 0 => hbmTy0_0 i
  | 1 => hbmTy0_1 i
  | _ => ⟨S2x4096x2048, .f32⟩

abbrev bufTy : (tb : Table) → Fin (tcTables nBuf tb) → BufTy
  | .hbm, ⟨i, _⟩ => hbmTy i
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_cst_1 : Ref sig .tc := ⟨.hbm, 50, rfl⟩
abbrev main_v46 : Ref sig .tc := ⟨.hbm, 51, rfl⟩
abbrev main_v47 : Ref sig .tc := ⟨.hbm, 52, rfl⟩
abbrev main_cst_2 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_cst_3 : Ref sig .tc := ⟨.hbm, 83, rfl⟩
abbrev main_v77 : Ref sig .tc := ⟨.hbm, 84, rfl⟩
abbrev main_v78 : Ref sig .tc := ⟨.hbm, 85, rfl⟩
abbrev main_cst_4 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_cst_5 : Ref sig .tc := ⟨.hbm, 115, rfl⟩
abbrev main_v107 : Ref sig .tc := ⟨.hbm, 116, rfl⟩
abbrev main_v108 : Ref sig .tc := ⟨.hbm, 117, rfl⟩
abbrev main_cst_6 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_cst_7 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_cst_8 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩

abbrev nD : Nat := 1
abbrev τ : Topo := Topo.v7x

variable {F : FTy → Type} [FloatOps F]
-- ==== KernelCombine.lean ====
abbrev S2x4096x1024 : Shape := ⟨3, ![2, 4096, 1024]⟩
abbrev S2x4096x2048 : Shape := ⟨3, ![2, 4096, 2048]⟩
abbrev S1x4x256x256 : Shape := ⟨4, ![1, 4, 256, 256]⟩
abbrev S1x1024 : Shape := ⟨2, ![1, 1024]⟩
abbrev S1x2048x2048 : Shape := ⟨3, ![1, 2048, 2048]⟩
abbrev S1x2048 : Shape := ⟨2, ![1, 2048]⟩
abbrev S4x256x256 : Shape := ⟨3, ![4, 256, 256]⟩
abbrev S2048x2048 : Shape := ⟨2, ![2048, 2048]⟩
abbrev S1024 : Shape := ⟨1, ![1024]⟩
abbrev S2048 : Shape := ⟨1, ![2048]⟩
abbrev S8192x1024 : Shape := ⟨2, ![8192, 1024]⟩
abbrev S8192x2048 : Shape := ⟨2, ![8192, 2048]⟩
abbrev S256x1024 : Shape := ⟨2, ![256, 1024]⟩
abbrev S16x1024 : Shape := ⟨2, ![16, 1024]⟩
abbrev S256x2048 : Shape := ⟨2, ![256, 2048]⟩
abbrev S272x1024 : Shape := ⟨2, ![272, 1024]⟩
abbrev S256x1 : Shape := ⟨2, ![256, 1]⟩
abbrev S256x256 : Shape := ⟨2, ![256, 256]⟩
abbrev S1x256x256 : Shape := ⟨3, ![1, 256, 256]⟩
abbrev S256 : Shape := ⟨1, ![256]⟩

abbrev nBuf : Space → Nat
  | .hbm => 26
  | .vmem => 20
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x4096x1024, .f32⟩
  | .hbm, ⟨3, _⟩ => ⟨S2x4096x1024, .f32⟩
  | .hbm, ⟨4, _⟩ => ⟨S2x4096x2048, .f32⟩
  | .hbm, ⟨5, _⟩ => ⟨S1x4x256x256, .f32⟩
  | .hbm, ⟨6, _⟩ => ⟨S1x1024, .f32⟩
  | .hbm, ⟨7, _⟩ => ⟨S1x2048x2048, .f32⟩
  | .hbm, ⟨8, _⟩ => ⟨S1x2048, .f32⟩
  | .hbm, ⟨9, _⟩ => ⟨S1x2048, .f32⟩
  | .hbm, ⟨10, _⟩ => ⟨S4x256x256, .f32⟩
  | .hbm, ⟨11, _⟩ => ⟨S4x256x256, .bf16⟩
  | .hbm, ⟨12, _⟩ => ⟨S2048x2048, .f32⟩
  | .hbm, ⟨13, _⟩ => ⟨S2048x2048, .bf16⟩
  | .hbm, ⟨14, _⟩ => ⟨S1024, .f32⟩
  | .hbm, ⟨15, _⟩ => ⟨S1x1024, .f32⟩
  | .hbm, ⟨16, _⟩ => ⟨S2048, .f32⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x2048, .f32⟩
  | .hbm, ⟨25, _⟩ => ⟨S8192x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S16x1024, .f32⟩
  | .local _ .vmem, ⟨9, _⟩ => ⟨S16x1024, .f32⟩
  | .local _ .vmem, ⟨10, _⟩ => ⟨S256x2048, .f32⟩
  | .local _ .vmem, ⟨11, _⟩ => ⟨S256x2048, .f32⟩
  | .local _ .vmem, ⟨12, _⟩ => ⟨S4x256x256, .bf16⟩
  | .local _ .vmem, ⟨13, _⟩ => ⟨S1x1024, .f32⟩
  | .local _ .vmem, ⟨14, _⟩ => ⟨S2048x2048, .bf16⟩
  | .local _ .vmem, ⟨15, _⟩ => ⟨S1x2048, .f32⟩
  | .local _ .vmem, ⟨16, _⟩ => ⟨S1x2048, .f32⟩
  | .local _ .vmem, ⟨17, _⟩ => ⟨S256x2048, .f32⟩
  | .local _ .vmem, ⟨18, _⟩ => ⟨S256x2048, .f32⟩
  | .local _ .vmem, ⟨19, _⟩ => ⟨S272x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceCombineIdeal.lean ====
abbrev S2x4096x1024 : Shape := ⟨3, ![2, 4096, 1024]⟩
abbrev S2x4096x2048 : Shape := ⟨3, ![2, 4096, 2048]⟩
abbrev S1x4x256x256 : Shape := ⟨4, ![1, 4, 256, 256]⟩
abbrev S1x1024 : Shape := ⟨2, ![1, 1024]⟩
abbrev S1x2048x2048 : Shape := ⟨3, ![1, 2048, 2048]⟩
abbrev S1x2048 : Shape := ⟨2, ![1, 2048]⟩
abbrev S4x256x256 : Shape := ⟨3, ![4, 256, 256]⟩
abbrev S1024 : Shape := ⟨1, ![1024]⟩
abbrev S2x4096x4x256 : Shape := ⟨4, ![2, 4096, 4, 256]⟩
abbrev S4096 : Shape := ⟨1, ![4096]⟩
abbrev S4096x1 : Shape := ⟨2, ![4096, 1]⟩
abbrev S_ : Shape := ⟨0, ![]⟩
abbrev S1x4096 : Shape := ⟨2, ![1, 4096]⟩
abbrev S4096x4096 : Shape := ⟨2, ![4096, 4096]⟩
abbrev S2x4096x1x256 : Shape := ⟨4, ![2, 4096, 1, 256]⟩
abbrev S2x4096x256 : Shape := ⟨3, ![2, 4096, 256]⟩
abbrev S2x256x4096 : Shape := ⟨3, ![2, 256, 4096]⟩
abbrev S1x4096x1 : Shape := ⟨3, ![1, 4096, 1]⟩
abbrev S4x256x2x4096 : Shape := ⟨4, ![4, 256, 2, 4096]⟩
abbrev S1x1x1024 : Shape := ⟨3, ![1, 1, 1024]⟩
abbrev S2048x2048 : Shape := ⟨2, ![2048, 2048]⟩
abbrev S2048 : Shape := ⟨1, ![2048]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩

abbrev nBuf : Space → Nat
  | .hbm => 218
  | .vmem => 0
  | .smem => 0
  | _ => 0

abbrev hbmTy0_0 (i : Nat) : BufTy := match i % 128 with
  | 0 => ⟨S2x4096x1024, .f32⟩
  | 1 => ⟨S2x4096x1024, .f32⟩
  | 2 => ⟨S2x4096x1024, .f32⟩
  | 3 => ⟨S2x4096x1024, .f32⟩
  | 4 => ⟨S2x4096x2048, .f32⟩
  | 5 => ⟨S1x4x256x256, .f32⟩
  | 6 => ⟨S1x1024, .f32⟩
  | 7 => ⟨S1x2048x2048, .f32⟩
  | 8 => ⟨S1x2048, .f32⟩
  | 9 => ⟨S1x2048, .f32⟩
  | 10 => ⟨S4x256x256, .f32⟩
  | 11 => ⟨S1024, .f32⟩
  | 12 => ⟨S2x4096x4x256, .f32⟩
  | 13 => ⟨S4096, .i32⟩
  | 14 => ⟨S4096x1, .i32⟩
  | 15 => ⟨S_, .i32⟩
  | 16 => ⟨S4096x1, .i32⟩
  | 17 => ⟨S4096x1, .i32⟩
  | 18 => ⟨S4096, .i32⟩
  | 19 => ⟨S1x4096, .i32⟩
  | 20 => ⟨S4096x4096, .i32⟩
  | 21 => ⟨S4096x4096, .i32⟩
  | 22 => ⟨S4096x4096, .i1⟩
  | 23 => ⟨S_, .i32⟩
  | 24 => ⟨S1x4096, .i32⟩
  | 25 => ⟨S1x4096, .i32⟩
  | 26 => ⟨S4096x4096, .i32⟩
  | 27 => ⟨S4096x4096, .i32⟩
  | 28 => ⟨S4096x4096, .i1⟩
  | 29 => ⟨S4096x4096, .i1⟩
  | 30 => ⟨S_, .f32⟩
  | 31 => ⟨S_, .f32⟩
  | 32 => ⟨S4096x4096, .f32⟩
  | 33 => ⟨S4096x4096, .f32⟩
  | 34 => ⟨S4096x4096, .f32⟩
  | 35 => ⟨S_, .i32⟩
  | 36 => ⟨S4096x1, .i32⟩
  | 37 => ⟨S4096x1, .i32⟩
  | 38 => ⟨S_, .i32⟩
  | 39 => ⟨S4096x1, .i32⟩
  | 40 => ⟨S4096x1, .i32⟩
  | 41 => ⟨S4096x1, .f32⟩
  | 42 => ⟨S2x4096x1x256, .f32⟩
  | 43 => ⟨S2x4096x256, .f32⟩
  | 44 => ⟨S2x256x4096, .f32⟩
  | 45 => ⟨S2x4096x256, .f32⟩
  | 46 => ⟨S1x4096x1, .f32⟩
  | 47 => ⟨S2x4096x256, .f32⟩
  | 48 => ⟨S2x4096x256, .f32⟩
  | 49 => ⟨S2x4096x1x256, .f32⟩
  | 50 => ⟨S2x4096x256, .f32⟩
  | 51 => ⟨S2x4096x256, .f32⟩
  | 52 => ⟨S4096x4096, .i32⟩
  | 53 => ⟨S4096x4096, .i32⟩
  | 54 => ⟨S4096x4096, .i1⟩
  | 55 => ⟨S_, .i32⟩
  | 56 => ⟨S1x4096, .i32⟩
  | 57 => ⟨S1x4096, .i32⟩
  | 58 => ⟨S4096x4096, .i32⟩
  | 59 => ⟨S4096x4096, .i32⟩
  | 60 => ⟨S4096x4096, .i1⟩
  | 61 => ⟨S4096x4096, .i1⟩
  | 62 => ⟨S_, .f32⟩
  | 63 => ⟨S_, .f32⟩
  | 64 => ⟨S4096x4096, .f32⟩
  | 65 => ⟨S4096x4096, .f32⟩
  | 66 => ⟨S4096x4096, .f32⟩
  | 67 => ⟨S_, .i32⟩
  | 68 => ⟨S4096x1, .i32⟩
  | 69 => ⟨S4096x1, .i32⟩
  | 70 => ⟨S_, .i32⟩
  | 71 => ⟨S4096x1, .i32⟩
  | 72 => ⟨S4096x1, .i32⟩
  | 73 => ⟨S4096x1, .f32⟩
  | 74 => ⟨S2x4096x1x256, .f32⟩
  | 75 => ⟨S2x4096x256, .f32⟩
  | 76 => ⟨S2x256x4096, .f32⟩
  | 77 => ⟨S2x4096x256, .f32⟩
  | 78 => ⟨S1x4096x1, .f32⟩
  | 79 => ⟨S2x4096x256, .f32⟩
  | 80 => ⟨S2x4096x256, .f32⟩
  | 81 => ⟨S2x4096x1x256, .f32⟩
  | 82 => ⟨S2x4096x256, .f32⟩
  | 83 => ⟨S2x4096x256, .f32⟩
  | 84 => ⟨S4096x4096, .i32⟩
  | 85 => ⟨S4096x4096, .i32⟩
  | 86 => ⟨S4096x4096, .i1⟩
  | 87 => ⟨S_, .i32⟩
  | 88 => ⟨S1x4096, .i32⟩
  | 89 => ⟨S1x4096, .i32⟩
  | 90 => ⟨S4096x4096, .i32⟩
  | 91 => ⟨S4096x4096, .i32⟩
  | 92 => ⟨S4096x4096, .i1⟩
  | 93 => ⟨S4096x4096, .i1⟩
  | 94 => ⟨S_, .f32⟩
  | 95 => ⟨S_, .f32⟩
  | 96 => ⟨S4096x4096, .f32⟩
  | 97 => ⟨S4096x4096, .f32⟩
  | 98 => ⟨S4096x4096, .f32⟩
  | 99 => ⟨S_, .i32⟩
  | 100 => ⟨S4096x1, .i32⟩
  | 101 => ⟨S4096x1, .i32⟩
  | 102 => ⟨S_, .i32⟩
  | 103 => ⟨S4096x1, .i32⟩
  | 104 => ⟨S4096x1, .i32⟩
  | 105 => ⟨S4096x1, .f32⟩
  | 106 => ⟨S2x4096x1x256, .f32⟩
  | 107 => ⟨S2x4096x256, .f32⟩
  | 108 => ⟨S2x256x4096, .f32⟩
  | 109 => ⟨S2x4096x256, .f32⟩
  | 110 => ⟨S1x4096x1, .f32⟩
  | 111 => ⟨S2x4096x256, .f32⟩
  | 112 => ⟨S2x4096x256, .f32⟩
  | 113 => ⟨S2x4096x1x256, .f32⟩
  | 114 => ⟨S2x4096x256, .f32⟩
  | 115 => ⟨S2x4096x256, .f32⟩
  | 116 => ⟨S4096x4096, .i32⟩
  | 117 => ⟨S4096x4096, .i32⟩
  | 118 => ⟨S4096x4096, .i1⟩
  | 119 => ⟨S_, .i32⟩
  | 120 => ⟨S1x4096, .i32⟩
  | 121 => ⟨S1x4096, .i32⟩
  | 122 => ⟨S4096x4096, .i32⟩
  | 123 => ⟨S4096x4096, .i32⟩
  | 124 => ⟨S4096x4096, .i1⟩
  | 125 => ⟨S4096x4096, .i1⟩
  | 126 => ⟨S_, .f32⟩
  | 127 => ⟨S_, .f32⟩
  | _ => ⟨S2x4096x1024, .f32⟩

abbrev hbmTy0_1 (i : Nat) : BufTy := match i % 128 with
  | 0 => ⟨S4096x4096, .f32⟩
  | 1 => ⟨S4096x4096, .f32⟩
  | 2 => ⟨S4096x4096, .f32⟩
  | 3 => ⟨S_, .i32⟩
  | 4 => ⟨S4096x1, .i32⟩
  | 5 => ⟨S4096x1, .i32⟩
  | 6 => ⟨S_, .i32⟩
  | 7 => ⟨S4096x1, .i32⟩
  | 8 => ⟨S4096x1, .i32⟩
  | 9 => ⟨S4096x1, .f32⟩
  | 10 => ⟨S2x4096x1x256, .f32⟩
  | 11 => ⟨S2x4096x256, .f32⟩
  | 12 => ⟨S2x256x4096, .f32⟩
  | 13 => ⟨S2x4096x256, .f32⟩
  | 14 => ⟨S1x4096x1, .f32⟩
  | 15 => ⟨S2x4096x256, .f32⟩
  | 16 => ⟨S2x4096x256, .f32⟩
  | 17 => ⟨S2x4096x1x256, .f32⟩
  | 18 => ⟨S2x4096x256, .f32⟩
  | 19 => ⟨S2x4096x256, .f32⟩
  | 20 => ⟨S2x4096x1x256, .f32⟩
  | 21 => ⟨S2x4096x1x256, .f32⟩
  | 22 => ⟨S2x4096x1x256, .f32⟩
  | 23 => ⟨S2x4096x1x256, .f32⟩
  | 24 => ⟨S2x4096x4x256, .f32⟩
  | 25 => ⟨S4x256x2x4096, .f32⟩
  | 26 => ⟨S2x4096x4x256, .f32⟩
  | 27 => ⟨S2x4096x1024, .f32⟩
  | 28 => ⟨S1x1x1024, .f32⟩
  | 29 => ⟨S2x4096x1024, .f32⟩
  | 30 => ⟨S2x4096x1024, .f32⟩
  | 31 => ⟨S2048x2048, .f32⟩
  | 32 => ⟨S2048, .f32⟩
  | 33 => ⟨S2048, .f32⟩
  | 34 => ⟨S2x4096x1024, .f32⟩
  | 35 => ⟨S2x4096x1024, .f32⟩
  | 36 => ⟨S_, .f32⟩
  | 37 => ⟨S2x4096x1024, .f32⟩
  | 38 => ⟨S2x4096x1024, .f32⟩
  | 39 => ⟨S_, .f32⟩
  | 40 => ⟨S2x4096x1024, .f32⟩
  | 41 => ⟨S2x4096x1024, .f32⟩
  | 42 => ⟨S2x4096x1024, .f32⟩
  | 43 => ⟨S2x4096x1024, .f32⟩
  | 44 => ⟨S2x4096x1024, .f32⟩
  | 45 => ⟨S2x4096x1024, .f32⟩
  | 46 => ⟨S_, .f32⟩
  | 47 => ⟨S2x4096x1024, .f32⟩
  | 48 => ⟨S2x4096x1024, .f32⟩
  | 49 => ⟨S_, .f32⟩
  | 50 => ⟨S2x4096x1024, .f32⟩
  | 51 => ⟨S2x4096x1024, .f32⟩
  | 52 => ⟨S2x4096x1024, .f32⟩
  | 53 => ⟨S2x4096x1024, .f32⟩
  | 54 => ⟨S2x4096x2048, .f32⟩
  | 55 => ⟨S_, .f32⟩
  | 56 => ⟨S2x4096x2048, .f32⟩
  | 57 => ⟨S2x4096x2048, .f32⟩
  | 58 => ⟨S2x4096x2048, .f32⟩
  | 59 => ⟨S2x4096x2048, .f32⟩
  | 60 => ⟨S_, .f32⟩
  | 61 => ⟨S2x4096, .f32⟩
  | 62 => ⟨S2x4096x1, .f32⟩
  | 63 => ⟨S_, .f32⟩
  | 64 => ⟨S2x4096x1, .f32⟩
  | 65 => ⟨S2x4096x1, .f32⟩
  | 66 => ⟨S2x4096x2048, .f32⟩
  | 67 => ⟨S2x4096x2048, .f32⟩
  | 68 => ⟨S2x4096x2048, .f32⟩
  | 69 => ⟨S_, .f32⟩
  | 70 => ⟨S2x4096, .f32⟩
  | 71 => ⟨S2x4096x1, .f32⟩
  | 72 => ⟨S_, .f32⟩
  | 73 => ⟨S2x4096x1, .f32⟩
  | 74 => ⟨S2x4096x1, .f32⟩
  | 75 => ⟨S2x4096x2048, .f32⟩
  | 76 => ⟨S2x4096x2048, .f32⟩
  | 77 => ⟨S_, .f32⟩
  | 78 => ⟨S2x4096x1, .f32⟩
  | 79 => ⟨S2x4096x1, .f32⟩
  | 80 => ⟨S2x4096x1, .f32⟩
  | 81 => ⟨S2x4096x2048, .f32⟩
  | 82 => ⟨S2x4096x2048, .f32⟩
  | 83 => ⟨S1x1x2048, .f32⟩
  | 84 => ⟨S2x4096x2048, .f32⟩
  | 85 => ⟨S2x4096x2048, .f32⟩
  | 86 => ⟨S1x1x2048, .f32⟩
  | 87 => ⟨S2x4096x2048, .f32⟩
  | 88 => ⟨S2x4096x2048, .f32⟩
  | 89 => ⟨S8192x2048, .f32⟩
  | _ => ⟨S2x4096x1024, .f32⟩

abbrev hbmTy (i : Nat) : BufTy := match i / 128 with
  | 0 => hbmTy0_0 i
  | 1 => hbmTy0_1 i
  | _ => ⟨S2x4096x1024, .f32⟩

abbrev bufTy : (tb : Table) → Fin (tcTables nBuf tb) → BufTy
  | .hbm, ⟨i, _⟩ => hbmTy i
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_cst_1 : Ref sig .tc := ⟨.hbm, 31, rfl⟩
abbrev main_call0_v0 : Ref sig .tc := ⟨.hbm, 32, rfl⟩
abbrev main_call0_v1 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_4 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_5 : Ref sig .tc := ⟨.hbm, 62, rfl⟩
abbrev main_cst_6 : Ref sig .tc := ⟨.hbm, 63, rfl⟩
abbrev main_call1_v0 : Ref sig .tc := ⟨.hbm, 64, rfl⟩
abbrev main_call1_v1 : Ref sig .tc := ⟨.hbm, 65, rfl⟩
abbrev main_v43 : Ref sig .tc := ⟨.hbm, 66, rfl⟩
abbrev main_c_7 : Ref sig .tc := ⟨.hbm, 67, rfl⟩
abbrev main_v44 : Ref sig .tc := ⟨.hbm, 68, rfl⟩
abbrev main_v45 : Ref sig .tc := ⟨.hbm, 69, rfl⟩
abbrev main_c_8 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_9 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_10 : Ref sig .tc := ⟨.hbm, 94, rfl⟩
abbrev main_cst_11 : Ref sig .tc := ⟨.hbm, 95, rfl⟩
abbrev main_call2_v0 : Ref sig .tc := ⟨.hbm, 96, rfl⟩
abbrev main_call2_v1 : Ref sig .tc := ⟨.hbm, 97, rfl⟩
abbrev main_v68 : Ref sig .tc := ⟨.hbm, 98, rfl⟩
abbrev main_c_12 : Ref sig .tc := ⟨.hbm, 99, rfl⟩
abbrev main_v69 : Ref sig .tc := ⟨.hbm, 100, rfl⟩
abbrev main_v70 : Ref sig .tc := ⟨.hbm, 101, rfl⟩
abbrev main_c_13 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_c_14 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_15 : Ref sig .tc := ⟨.hbm, 126, rfl⟩
abbrev main_cst_16 : Ref sig .tc := ⟨.hbm, 127, rfl⟩
abbrev main_call3_v0 : Ref sig .tc := ⟨.hbm, 128, rfl⟩
abbrev main_call3_v1 : Ref sig .tc := ⟨.hbm, 129, rfl⟩
abbrev main_v93 : Ref sig .tc := ⟨.hbm, 130, rfl⟩
abbrev main_c_17 : Ref sig .tc := ⟨.hbm, 131, rfl⟩
abbrev main_v94 : Ref sig .tc := ⟨.hbm, 132, rfl⟩
abbrev main_v95 : Ref sig .tc := ⟨.hbm, 133, rfl⟩
abbrev main_c_18 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_call4_v0 : Ref sig .tc := ⟨.hbm, 162, rfl⟩
abbrev main_call4_v1 : Ref sig .tc := ⟨.hbm, 163, rfl⟩
abbrev main_call4_cst : Ref sig .tc := ⟨.hbm, 164, rfl⟩
abbrev main_call4_v2 : Ref sig .tc := ⟨.hbm, 165, rfl⟩
abbrev main_call4_v3 : Ref sig .tc := ⟨.hbm, 166, rfl⟩
abbrev main_call4_cst_0 : Ref sig .tc := ⟨.hbm, 167, rfl⟩
abbrev main_call4_v4 : Ref sig .tc := ⟨.hbm, 168, rfl⟩
abbrev main_call4_v5 : Ref sig .tc := ⟨.hbm, 169, rfl⟩
abbrev main_v123 : Ref sig .tc := ⟨.hbm, 170, rfl⟩
abbrev main_v124 : Ref sig .tc := ⟨.hbm, 171, rfl⟩
abbrev main_call5_v0 : Ref sig .tc := ⟨.hbm, 172, rfl⟩
abbrev main_call5_v1 : Ref sig .tc := ⟨.hbm, 173, rfl⟩
abbrev main_call5_cst : Ref sig .tc := ⟨.hbm, 174, rfl⟩
abbrev main_call5_v2 : Ref sig .tc := ⟨.hbm, 175, rfl⟩
abbrev main_call5_v3 : Ref sig .tc := ⟨.hbm, 176, rfl⟩
abbrev main_call5_cst_0 : Ref sig .tc := ⟨.hbm, 177, rfl⟩
abbrev main_call5_v4 : Ref sig .tc := ⟨.hbm, 178, rfl⟩
abbrev main_call5_v5 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_cst_19 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_cst_20 : Ref sig .tc := ⟨.hbm, 188, rfl⟩
abbrev main_v132 : Ref sig .tc := ⟨.hbm, 189, rfl⟩
abbrev main_v133 : Ref sig .tc := ⟨.hbm, 190, rfl⟩
abbrev main_cst_21 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_cst_22 : Ref sig .tc := ⟨.hbm, 197, rfl⟩
abbrev main_v139 : Ref sig .tc := ⟨.hbm, 198, rfl⟩
abbrev main_v140 : Ref sig .tc := ⟨.hbm, 199, rfl⟩
abbrev main_cst_23 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_cst_24 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩

abbrev nD : Nat := 1
abbrev τ : Topo := Topo.v7x

variable {F : FTy → Type} [FloatOps F]
-- ==== KernelProjectSample.lean ====
abbrev S32x4x2048 : Shape := ⟨3, ![32, 4, 2048]⟩
abbrev S1x2048x7248 : Shape := ⟨3, ![1, 2048, 7248]⟩
abbrev S2048x7248 : Shape := ⟨2, ![2048, 7248]⟩
abbrev S7248x2048 : Shape := ⟨2, ![7248, 2048]⟩
abbrev S128x2048 : Shape := ⟨2, ![128, 2048]⟩
abbrev S4 : Shape := ⟨1, ![4]⟩
abbrev S_ : Shape := ⟨0, ![]⟩
abbrev S1x4 : Shape := ⟨2, ![1, 4]⟩
abbrev S32x4 : Shape := ⟨2, ![32, 4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S3x128x128 : Shape := ⟨3, ![3, 128, 128]⟩
abbrev S8 : Shape := ⟨1, ![8]⟩
abbrev S1x8 : Shape := ⟨2, ![1, 8]⟩
abbrev S128x8 : Shape := ⟨2, ![128, 8]⟩
abbrev S8x128 : Shape := ⟨2, ![8, 128]⟩
abbrev S1x8x128 : Shape := ⟨3, ![1, 8, 128]⟩
abbrev S2x8x128 : Shape := ⟨3, ![2, 8, 128]⟩
abbrev S128x1024 : Shape := ⟨2, ![128, 1024]⟩
abbrev S128x64 : Shape := ⟨2, ![128, 64]⟩
abbrev S1x64x128 : Shape := ⟨3, ![1, 64, 128]⟩
abbrev S16x128 : Shape := ⟨2, ![16, 128]⟩
abbrev S1024x2048 : Shape := ⟨2, ![1024, 2048]⟩
abbrev S64x2048 : Shape := ⟨2, ![64, 2048]⟩
abbrev S64x128 : Shape := ⟨2, ![64, 128]⟩
abbrev S48x128 : Shape := ⟨2, ![48, 128]⟩
abbrev S16x2048 : Shape := ⟨2, ![16, 2048]⟩

abbrev nBuf : Space → Nat
  | .hbm => 236
  | .vmem => 18
  | .smem => 0
  | _ => 0

abbrev hbmTy0_0 (i : Nat) : BufTy := match i % 128 with
  | 0 => ⟨S32x4x2048, .f32⟩
  | 1 => ⟨S1x2048x7248, .f32⟩
  | 2 => ⟨S2048x7248, .f32⟩
  | 3 => ⟨S7248x2048, .f32⟩
  | 4 => ⟨S7248x2048, .bf16⟩
  | 5 => ⟨S128x2048, .f32⟩
  | 6 => ⟨S4, .i32⟩
  | 7 => ⟨S_, .i32⟩
  | 8 => ⟨S4, .i32⟩
  | 9 => ⟨S4, .i32⟩
  | 10 => ⟨S1x4, .i32⟩
  | 11 => ⟨S32x4, .i32⟩
  | 12 => ⟨S128, .i32⟩
  | 13 => ⟨S128, .i32⟩
  | 14 => ⟨S_, .i32⟩
  | 15 => ⟨S_, .i32⟩
  | 16 => ⟨S_, .i32⟩
  | 17 => ⟨S_, .i1⟩
  | 18 => ⟨S_, .i32⟩
  | 19 => ⟨S_, .i32⟩
  | 20 => ⟨S128, .i32⟩
  | 21 => ⟨S128, .i32⟩
  | 22 => ⟨S_, .i32⟩
  | 23 => ⟨S128, .i32⟩
  | 24 => ⟨S128, .i1⟩
  | 25 => ⟨S_, .i32⟩
  | 26 => ⟨S128, .i32⟩
  | 27 => ⟨S128, .i1⟩
  | 28 => ⟨S_, .i32⟩
  | 29 => ⟨S_, .i1⟩
  | 30 => ⟨S128, .i1⟩
  | 31 => ⟨S128, .i1⟩
  | 32 => ⟨S128, .i1⟩
  | 33 => ⟨S128, .i32⟩
  | 34 => ⟨S128, .i32⟩
  | 35 => ⟨S128, .i32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S128, .i32⟩
  | 43 => ⟨S128, .i32⟩
  | 44 => ⟨S_, .i32⟩
  | 45 => ⟨S128, .i32⟩
  | 46 => ⟨S128, .i1⟩
  | 47 => ⟨S_, .i32⟩
  | 48 => ⟨S128, .i32⟩
  | 49 => ⟨S128, .i1⟩
  | 50 => ⟨S_, .i32⟩
  | 51 => ⟨S_, .i1⟩
  | 52 => ⟨S128, .i1⟩
  | 53 => ⟨S128, .i1⟩
  | 54 => ⟨S128, .i1⟩
  | 55 => ⟨S128, .i32⟩
  | 56 => ⟨S128, .i32⟩
  | 57 => ⟨S128, .i32⟩
  | 58 => ⟨S128, .f32⟩
  | 59 => ⟨S128, .f32⟩
  | 60 => ⟨S_, .f32⟩
  | 61 => ⟨S128, .f32⟩
  | 62 => ⟨S128, .f32⟩
  | 63 => ⟨S_, .f32⟩
  | 64 => ⟨S128, .f32⟩
  | 65 => ⟨S128, .f32⟩
  | 66 => ⟨S128, .f32⟩
  | 67 => ⟨S128x1, .f32⟩
  | 68 => ⟨S1x128, .f32⟩
  | 69 => ⟨S128x128, .f32⟩
  | 70 => ⟨S128x128, .f32⟩
  | 71 => ⟨S128x128, .f32⟩
  | 72 => ⟨S128x128, .f32⟩
  | 73 => ⟨S128x128, .f32⟩
  | 74 => ⟨S_, .i32⟩
  | 75 => ⟨S128, .i32⟩
  | 76 => ⟨S128, .i1⟩
  | 77 => ⟨S1x128, .i1⟩
  | 78 => ⟨S_, .i32⟩
  | 79 => ⟨S128, .i32⟩
  | 80 => ⟨S128, .i1⟩
  | 81 => ⟨S_, .i32⟩
  | 82 => ⟨S128, .i32⟩
  | 83 => ⟨S128, .i1⟩
  | 84 => ⟨S128, .i1⟩
  | 85 => ⟨S1x128, .i1⟩
  | 86 => ⟨S1x128, .i1⟩
  | 87 => ⟨S_, .f32⟩
  | 88 => ⟨S_, .f32⟩
  | 89 => ⟨S128x128, .i1⟩
  | 90 => ⟨S128x128, .f32⟩
  | 91 => ⟨S128x128, .f32⟩
  | 92 => ⟨S128x128, .f32⟩
  | 93 => ⟨S_, .f32⟩
  | 94 => ⟨S_, .f32⟩
  | 95 => ⟨S128x128, .i1⟩
  | 96 => ⟨S128x128, .f32⟩
  | 97 => ⟨S128x128, .f32⟩
  | 98 => ⟨S_, .f32⟩
  | 99 => ⟨S_, .f32⟩
  | 100 => ⟨S128x128, .i1⟩
  | 101 => ⟨S128x128, .f32⟩
  | 102 => ⟨S128x128, .f32⟩
  | 103 => ⟨S1x128x128, .f32⟩
  | 104 => ⟨S1x128x128, .f32⟩
  | 105 => ⟨S1x128x128, .f32⟩
  | 106 => ⟨S3x128x128, .f32⟩
  | 107 => ⟨S128, .i32⟩
  | 108 => ⟨S_, .i32⟩
  | 109 => ⟨S_, .i32⟩
  | 110 => ⟨S_, .i32⟩
  | 111 => ⟨S_, .i1⟩
  | 112 => ⟨S_, .i32⟩
  | 113 => ⟨S_, .i32⟩
  | 114 => ⟨S128, .i32⟩
  | 115 => ⟨S128, .i32⟩
  | 116 => ⟨S_, .i32⟩
  | 117 => ⟨S128, .i32⟩
  | 118 => ⟨S128, .i1⟩
  | 119 => ⟨S_, .i32⟩
  | 120 => ⟨S128, .i32⟩
  | 121 => ⟨S128, .i1⟩
  | 122 => ⟨S_, .i32⟩
  | 123 => ⟨S_, .i1⟩
  | 124 => ⟨S128, .i1⟩
  | 125 => ⟨S128, .i1⟩
  | 126 => ⟨S128, .i1⟩
  | 127 => ⟨S128, .i32⟩
  | _ => ⟨S32x4x2048, .f32⟩

abbrev hbmTy0_1 (i : Nat) : BufTy := match i % 128 with
  | 0 => ⟨S128, .i32⟩
  | 1 => ⟨S128, .i32⟩
  | 2 => ⟨S_, .i32⟩
  | 3 => ⟨S_, .i32⟩
  | 4 => ⟨S_, .i32⟩
  | 5 => ⟨S_, .i1⟩
  | 6 => ⟨S_, .i32⟩
  | 7 => ⟨S_, .i32⟩
  | 8 => ⟨S128, .i32⟩
  | 9 => ⟨S128, .i32⟩
  | 10 => ⟨S_, .i32⟩
  | 11 => ⟨S128, .i32⟩
  | 12 => ⟨S128, .i1⟩
  | 13 => ⟨S_, .i32⟩
  | 14 => ⟨S128, .i32⟩
  | 15 => ⟨S128, .i1⟩
  | 16 => ⟨S_, .i32⟩
  | 17 => ⟨S_, .i1⟩
  | 18 => ⟨S128, .i1⟩
  | 19 => ⟨S128, .i1⟩
  | 20 => ⟨S128, .i1⟩
  | 21 => ⟨S128, .i32⟩
  | 22 => ⟨S128, .i32⟩
  | 23 => ⟨S128, .i32⟩
  | 24 => ⟨S128, .f32⟩
  | 25 => ⟨S128, .f32⟩
  | 26 => ⟨S_, .f32⟩
  | 27 => ⟨S128, .f32⟩
  | 28 => ⟨S128, .f32⟩
  | 29 => ⟨S_, .f32⟩
  | 30 => ⟨S128, .f32⟩
  | 31 => ⟨S128, .f32⟩
  | 32 => ⟨S128, .f32⟩
  | 33 => ⟨S128x1, .f32⟩
  | 34 => ⟨S1x128, .f32⟩
  | 35 => ⟨S128x128, .f32⟩
  | 36 => ⟨S128x128, .f32⟩
  | 37 => ⟨S128x128, .f32⟩
  | 38 => ⟨S128x128, .f32⟩
  | 39 => ⟨S128x128, .f32⟩
  | 40 => ⟨S_, .i32⟩
  | 41 => ⟨S128, .i32⟩
  | 42 => ⟨S128, .i1⟩
  | 43 => ⟨S1x128, .i1⟩
  | 44 => ⟨S_, .i32⟩
  | 45 => ⟨S128, .i32⟩
  | 46 => ⟨S128, .i1⟩
  | 47 => ⟨S_, .i32⟩
  | 48 => ⟨S128, .i32⟩
  | 49 => ⟨S128, .i1⟩
  | 50 => ⟨S128, .i1⟩
  | 51 => ⟨S1x128, .i1⟩
  | 52 => ⟨S1x128, .i1⟩
  | 53 => ⟨S_, .f32⟩
  | 54 => ⟨S_, .f32⟩
  | 55 => ⟨S128x128, .i1⟩
  | 56 => ⟨S128x128, .f32⟩
  | 57 => ⟨S128x128, .f32⟩
  | 58 => ⟨S128x128, .f32⟩
  | 59 => ⟨S_, .f32⟩
  | 60 => ⟨S_, .f32⟩
  | 61 => ⟨S128x128, .i1⟩
  | 62 => ⟨S128x128, .f32⟩
  | 63 => ⟨S128x128, .f32⟩
  | 64 => ⟨S_, .f32⟩
  | 65 => ⟨S_, .f32⟩
  | 66 => ⟨S128x128, .i1⟩
  | 67 => ⟨S128x128, .f32⟩
  | 68 => ⟨S128x128, .f32⟩
  | 69 => ⟨S1x128x128, .f32⟩
  | 70 => ⟨S1x128x128, .f32⟩
  | 71 => ⟨S1x128x128, .f32⟩
  | 72 => ⟨S3x128x128, .f32⟩
  | 73 => ⟨S8, .i32⟩
  | 74 => ⟨S8, .f32⟩
  | 75 => ⟨S8, .f32⟩
  | 76 => ⟨S_, .f32⟩
  | 77 => ⟨S8, .f32⟩
  | 78 => ⟨S8, .f32⟩
  | 79 => ⟨S_, .f32⟩
  | 80 => ⟨S8, .f32⟩
  | 81 => ⟨S8, .f32⟩
  | 82 => ⟨S128, .f32⟩
  | 83 => ⟨S128x1, .f32⟩
  | 84 => ⟨S1x8, .f32⟩
  | 85 => ⟨S128x8, .f32⟩
  | 86 => ⟨S128x8, .f32⟩
  | 87 => ⟨S128x8, .f32⟩
  | 88 => ⟨S128x8, .f32⟩
  | 89 => ⟨S128x8, .f32⟩
  | 90 => ⟨S8x128, .f32⟩
  | 91 => ⟨S8x128, .f32⟩
  | 92 => ⟨S1x8x128, .f32⟩
  | 93 => ⟨S1x8x128, .f32⟩
  | 94 => ⟨S2x8x128, .f32⟩
  | 95 => ⟨S128x1024, .bf16⟩
  | 96 => ⟨S128x1024, .f32⟩
  | 97 => ⟨S128x1024, .bf16⟩
  | 98 => ⟨S128x1024, .f32⟩
  | 99 => ⟨S128x1024, .bf16⟩
  | 100 => ⟨S128x1024, .f32⟩
  | 101 => ⟨S128x1024, .bf16⟩
  | 102 => ⟨S128x64, .f32⟩
  | 103 => ⟨S128x64, .bf16⟩
  | 104 => ⟨S1x64x128, .f32⟩
  | 105 => ⟨S16x128, .f32⟩
  | 106 => ⟨S128x1024, .f32⟩
  | 107 => ⟨S128x1024, .f32⟩
  | _ => ⟨S32x4x2048, .f32⟩

abbrev hbmTy (i : Nat) : BufTy := match i / 128 with
  | 0 => hbmTy0_0 i
  | 1 => hbmTy0_1 i
  | _ => ⟨S32x4x2048, .f32⟩

abbrev bufTy : (tb : Table) → Fin (tcTables nBuf tb) → BufTy
  | .hbm, ⟨i, _⟩ => hbmTy i
  | .local _ .vmem, ⟨0, _⟩ => ⟨S128x2048, .f32⟩
  | .local _ .vmem, ⟨1, _⟩ => ⟨S7248x2048, .bf16⟩
  | .local _ .vmem, ⟨2, _⟩ => ⟨S3x128x128, .f32⟩
  | .local _ .vmem, ⟨3, _⟩ => ⟨S3x128x128, .f32⟩
  | .local _ .vmem, ⟨4, _⟩ => ⟨S2x8x128, .f32⟩
  | .local _ .vmem, ⟨5, _⟩ => ⟨S128x1024, .bf16⟩
  | .local _ .vmem, ⟨6, _⟩ => ⟨S128x1024, .f32⟩
  | .local _ .vmem, ⟨7, _⟩ => ⟨S128x1024, .bf16⟩
  | .local _ .vmem, ⟨8, _⟩ => ⟨S128x1024, .f32⟩
  | .local _ .vmem, ⟨9, _⟩ => ⟨S128x1024, .bf16⟩
  | .local _ .vmem, ⟨10, _⟩ => ⟨S128x1024, .f32⟩
  | .local _ .vmem, ⟨11, _⟩ => ⟨S128x1024, .bf16⟩
  | .local _ .vmem, ⟨12, _⟩ => ⟨S128x64, .f32⟩
  | .local _ .vmem, ⟨13, _⟩ => ⟨S128x64, .bf16⟩
  | .local _ .vmem, ⟨14, _⟩ => ⟨S1x64x128, .f32⟩
  | .local _ .vmem, ⟨15, _⟩ => ⟨S16x128, .f32⟩
  | .local _ .vmem, ⟨16, _⟩ => ⟨S128x1024, .f32⟩
  | .local _ .vmem, ⟨17, _⟩ => ⟨S128x1024, .f32⟩
  | _, _ => ⟨S32x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c_0 : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_1 : Ref sig .tc := ⟨.hbm, 22, rfl⟩
abbrev main_call0_v5 : Ref sig .tc := ⟨.hbm, 23, rfl⟩
abbrev main_call0_v6 : Ref sig .tc := ⟨.hbm, 24, rfl⟩
abbrev main_call0_c_2 : Ref sig .tc := ⟨.hbm, 25, rfl⟩
abbrev main_call0_v7 : Ref sig .tc := ⟨.hbm, 26, rfl⟩
abbrev main_call0_v8 : Ref sig .tc := ⟨.hbm, 27, rfl⟩
abbrev main_call0_c_3 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_v11 : Ref sig .tc := ⟨.hbm, 35, rfl⟩
abbrev main_c_1 : Ref sig .tc := ⟨.hbm, 36, rfl⟩
abbrev main_call1_v0 : Ref sig .tc := ⟨.hbm, 37, rfl⟩
abbrev main_call1_c : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_c_1 : Ref sig .tc := ⟨.hbm, 44, rfl⟩
abbrev main_call1_v5 : Ref sig .tc := ⟨.hbm, 45, rfl⟩
abbrev main_call1_v6 : Ref sig .tc := ⟨.hbm, 46, rfl⟩
abbrev main_call1_c_2 : Ref sig .tc := ⟨.hbm, 47, rfl⟩
abbrev main_call1_v7 : Ref sig .tc := ⟨.hbm, 48, rfl⟩
abbrev main_call1_v8 : Ref sig .tc := ⟨.hbm, 49, rfl⟩
abbrev main_call1_c_3 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_cst : Ref sig .tc := ⟨.hbm, 60, rfl⟩
abbrev main_v15 : Ref sig .tc := ⟨.hbm, 61, rfl⟩
abbrev main_v16 : Ref sig .tc := ⟨.hbm, 62, rfl⟩
abbrev main_cst_2 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_c_3 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_c_4 : Ref sig .tc := ⟨.hbm, 78, rfl⟩
abbrev main_v30 : Ref sig .tc := ⟨.hbm, 79, rfl⟩
abbrev main_v31 : Ref sig .tc := ⟨.hbm, 80, rfl⟩
abbrev main_c_5 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_cst_6 : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_v37 : Ref sig .tc := ⟨.hbm, 91, rfl⟩
abbrev main_v38 : Ref sig .tc := ⟨.hbm, 92, rfl⟩
abbrev main_cst_7 : Ref sig .tc := ⟨.hbm, 93, rfl⟩
abbrev main_call3_v0 : Ref sig .tc := ⟨.hbm, 94, rfl⟩
abbrev main_call3_v1 : Ref sig .tc := ⟨.hbm, 95, rfl⟩
abbrev main_call3_v2 : Ref sig .tc := ⟨.hbm, 96, rfl⟩
abbrev main_v39 : Ref sig .tc := ⟨.hbm, 97, rfl⟩
abbrev main_cst_8 : Ref sig .tc := ⟨.hbm, 98, rfl⟩
abbrev main_call4_v0 : Ref sig .tc := ⟨.hbm, 99, rfl⟩
abbrev main_call4_v1 : Ref sig .tc := ⟨.hbm, 100, rfl⟩
abbrev main_call4_v2 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_c_9 : Ref sig .tc := ⟨.hbm, 108, rfl⟩
abbrev main_call5_v0 : Ref sig .tc := ⟨.hbm, 109, rfl⟩
abbrev main_call5_c : Ref sig .tc := ⟨.hbm, 110, rfl⟩
abbrev main_call5_v1 : Ref sig .tc := ⟨.hbm, 111, rfl⟩
abbrev main_call5_c_0 : Ref sig .tc := ⟨.hbm, 112, rfl⟩
abbrev main_call5_v2 : Ref sig .tc := ⟨.hbm, 113, rfl⟩
abbrev main_call5_v3 : Ref sig .tc := ⟨.hbm, 114, rfl⟩
abbrev main_call5_v4 : Ref sig .tc := ⟨.hbm, 115, rfl⟩
abbrev main_call5_c_1 : Ref sig .tc := ⟨.hbm, 116, rfl⟩
abbrev main_call5_v5 : Ref sig .tc := ⟨.hbm, 117, rfl⟩
abbrev main_call5_v6 : Ref sig .tc := ⟨.hbm, 118, rfl⟩
abbrev main_call5_c_2 : Ref sig .tc := ⟨.hbm, 119, rfl⟩
abbrev main_call5_v7 : Ref sig .tc := ⟨.hbm, 120, rfl⟩
abbrev main_call5_v8 : Ref sig .tc := ⟨.hbm, 121, rfl⟩
abbrev main_call5_c_3 : Ref sig .tc := ⟨.hbm, 122, rfl⟩
abbrev main_call5_v9 : Ref sig .tc := ⟨.hbm, 123, rfl⟩
abbrev main_call5_v10 : Ref sig .tc := ⟨.hbm, 124, rfl⟩
abbrev main_call5_v11 : Ref sig .tc := ⟨.hbm, 125, rfl⟩
abbrev main_call5_v12 : Ref sig .tc := ⟨.hbm, 126, rfl⟩
abbrev main_call5_v13 : Ref sig .tc := ⟨.hbm, 127, rfl⟩
abbrev main_call5_v14 : Ref sig .tc := ⟨.hbm, 128, rfl⟩
abbrev main_v46 : Ref sig .tc := ⟨.hbm, 129, rfl⟩
abbrev main_c_10 : Ref sig .tc := ⟨.hbm, 130, rfl⟩
abbrev main_call6_v0 : Ref sig .tc := ⟨.hbm, 131, rfl⟩
abbrev main_call6_c : Ref sig .tc := ⟨.hbm, 132, rfl⟩
abbrev main_call6_v1 : Ref sig .tc := ⟨.hbm, 133, rfl⟩
abbrev main_call6_c_0 : Ref sig .tc := ⟨.hbm, 134, rfl⟩
abbrev main_call6_v2 : Ref sig .tc := ⟨.hbm, 135, rfl⟩
abbrev main_call6_v3 : Ref sig .tc := ⟨.hbm, 136, rfl⟩
abbrev main_call6_v4 : Ref sig .tc := ⟨.hbm, 137, rfl⟩
abbrev main_call6_c_1 : Ref sig .tc := ⟨.hbm, 138, rfl⟩
abbrev main_call6_v5 : Ref sig .tc := ⟨.hbm, 139, rfl⟩
abbrev main_call6_v6 : Ref sig .tc := ⟨.hbm, 140, rfl⟩
abbrev main_call6_c_2 : Ref sig .tc := ⟨.hbm, 141, rfl⟩
abbrev main_call6_v7 : Ref sig .tc := ⟨.hbm, 142, rfl⟩
abbrev main_call6_v8 : Ref sig .tc := ⟨.hbm, 143, rfl⟩
abbrev main_call6_c_3 : Ref sig .tc := ⟨.hbm, 144, rfl⟩
abbrev main_call6_v9 : Ref sig .tc := ⟨.hbm, 145, rfl⟩
abbrev main_call6_v10 : Ref sig .tc := ⟨.hbm, 146, rfl⟩
abbrev main_call6_v11 : Ref sig .tc := ⟨.hbm, 147, rfl⟩
abbrev main_call6_v12 : Ref sig .tc := ⟨.hbm, 148, rfl⟩
abbrev main_call6_v13 : Ref sig .tc := ⟨.hbm, 149, rfl⟩
abbrev main_call6_v14 : Ref sig .tc := ⟨.hbm, 150, rfl⟩
abbrev main_v47 : Ref sig .tc := ⟨.hbm, 151, rfl⟩
abbrev main_v48 : Ref sig .tc := ⟨.hbm, 152, rfl⟩
abbrev main_v49 : Ref sig .tc := ⟨.hbm, 153, rfl⟩
abbrev main_cst_11 : Ref sig .tc := ⟨.hbm, 154, rfl⟩
abbrev main_v50 : Ref sig .tc := ⟨.hbm, 155, rfl⟩
abbrev main_v51 : Ref sig .tc := ⟨.hbm, 156, rfl⟩
abbrev main_cst_12 : Ref sig .tc := ⟨.hbm, 157, rfl⟩
abbrev main_v52 : Ref sig .tc := ⟨.hbm, 158, rfl⟩
abbrev main_v53 : Ref sig .tc := ⟨.hbm, 159, rfl⟩
abbrev main_v54 : Ref sig .tc := ⟨.hbm, 160, rfl⟩
abbrev main_v55 : Ref sig .tc := ⟨.hbm, 161, rfl⟩
abbrev main_v56 : Ref sig .tc := ⟨.hbm, 162, rfl⟩
abbrev main_v57 : Ref sig .tc := ⟨.hbm, 163, rfl⟩
abbrev main_v58 : Ref sig .tc := ⟨.hbm, 164, rfl⟩
abbrev main_v59 : Ref sig .tc := ⟨.hbm, 165, rfl⟩
abbrev main_v60 : Ref sig .tc := ⟨.hbm, 166, rfl⟩
abbrev main_v61 : Ref sig .tc := ⟨.hbm, 167, rfl⟩
abbrev main_c_13 : Ref sig .tc := ⟨.hbm, 168, rfl⟩
abbrev main_v62 : Ref sig .tc := ⟨.hbm, 169, rfl⟩
abbrev main_v63 : Ref sig .tc := ⟨.hbm, 170, rfl⟩
abbrev main_v64 : Ref sig .tc := ⟨.hbm, 171, rfl⟩
abbrev main_c_14 : Ref sig .tc := ⟨.hbm, 172, rfl⟩
abbrev main_v65 : Ref sig .tc := ⟨.hbm, 173, rfl⟩
abbrev main_v66 : Ref sig .tc := ⟨.hbm, 174, rfl⟩
abbrev main_c_15 : Ref sig .tc := ⟨.hbm, 175, rfl⟩
abbrev main_v67 : Ref sig .tc := ⟨.hbm, 176, rfl⟩
abbrev main_v68 : Ref sig .tc := ⟨.hbm, 177, rfl⟩
abbrev main_v69 : Ref sig .tc := ⟨.hbm, 178, rfl⟩
abbrev main_v70 : Ref sig .tc := ⟨.hbm, 179, rfl⟩
abbrev main_v71 : Ref sig .tc := ⟨.hbm, 180, rfl⟩
abbrev main_cst_16 : Ref sig .tc := ⟨.hbm, 181, rfl⟩
abbrev main_call7_v0 : Ref sig .tc := ⟨.hbm, 182, rfl⟩
abbrev main_call7_v1 : Ref sig .tc := ⟨.hbm, 183, rfl⟩
abbrev main_call7_v2 : Ref sig .tc := ⟨.hbm, 184, rfl⟩
abbrev main_v72 : Ref sig .tc := ⟨.hbm, 185, rfl⟩
abbrev main_v73 : Ref sig .tc := ⟨.hbm, 186, rfl⟩
abbrev main_cst_17 : Ref sig .tc := ⟨.hbm, 187, rfl⟩
abbrev main_call8_v0 : Ref sig .tc := ⟨.hbm, 188, rfl⟩
abbrev main_call8_v1 : Ref sig .tc := ⟨.hbm, 189, rfl⟩
abbrev main_call8_v2 : Ref sig .tc := ⟨.hbm, 190, rfl⟩
abbrev main_v74 : Ref sig .tc := ⟨.hbm, 191, rfl⟩
abbrev main_cst_18 : Ref sig .tc := ⟨.hbm, 192, rfl⟩
abbrev main_call9_v0 : Ref sig .tc := ⟨.hbm, 193, rfl⟩
abbrev main_call9_v1 : Ref sig .tc := ⟨.hbm, 194, rfl⟩
abbrev main_call9_v2 : Ref sig .tc := ⟨.hbm, 195, rfl⟩
abbrev main_v75 : Ref sig .tc := ⟨.hbm, 196, rfl⟩
abbrev main_v76 : Ref sig .tc := ⟨.hbm, 197, rfl⟩
abbrev main_v77 : Ref sig .tc := ⟨.hbm, 198, rfl⟩
abbrev main_v78 : Ref sig .tc := ⟨.hbm, 199, rfl⟩
abbrev main_v79 : Ref sig .tc := ⟨.hbm, 200, rfl⟩
abbrev main_v80 : Ref sig .tc := ⟨.hbm, 201, rfl⟩
abbrev main_v81 : Ref sig .tc := ⟨.hbm, 202, rfl⟩
abbrev main_v82 : Ref sig .tc := ⟨.hbm, 203, rfl⟩
abbrev main_cst_19 : Ref sig .tc := ⟨.hbm, 204, rfl⟩
abbrev main_v83 : Ref sig .tc := ⟨.hbm, 205, rfl⟩
abbrev main_v84 : Ref sig .tc := ⟨.hbm, 206, rfl⟩
abbrev main_cst_20 : Ref sig .tc := ⟨.hbm, 207, rfl⟩
abbrev main_v85 : Ref sig .tc := ⟨.hbm, 208, rfl⟩
abbrev main_v86 : Ref sig .tc := ⟨.hbm, 209, rfl⟩
abbrev main_v87 : Ref sig .tc := ⟨.hbm, 210, rfl⟩
abbrev main_v88 : Ref sig .tc := ⟨.hbm, 211, rfl⟩
abbrev main_v89 : Ref sig .tc := ⟨.hbm, 212, rfl⟩
abbrev main_v90 : Ref sig .tc := ⟨.hbm, 213, rfl⟩
abbrev main_v91 : Ref sig .tc := ⟨.hbm, 214, rfl⟩
abbrev main_v92 : Ref sig .tc := ⟨.hbm, 215, rfl⟩
abbrev main_v93 : Ref sig .tc := ⟨.hbm, 216, rfl⟩
abbrev main_v94 : Ref sig .tc := ⟨.hbm, 217, rfl⟩
abbrev main_v95 : Ref sig .tc := ⟨.hbm, 218, rfl⟩
abbrev main_v96 : Ref sig .tc := ⟨.hbm, 219, rfl⟩
abbrev main_v97 : Ref sig .tc := ⟨.hbm, 220, rfl⟩
abbrev main_v98 : Ref sig .tc := ⟨.hbm, 221, rfl⟩
abbrev main_v99 : Ref sig .tc := ⟨.hbm, 222, rfl⟩
abbrev main_v100_0 : Ref sig .tc := ⟨.hbm, 223, rfl⟩
abbrev main_v100_1 : Ref sig .tc := ⟨.hbm, 224, rfl⟩
abbrev main_v100_2 : Ref sig .tc := ⟨.hbm, 225, rfl⟩
abbrev main_v100_3 : Ref sig .tc := ⟨.hbm, 226, rfl⟩
abbrev main_v100_4 : Ref sig .tc := ⟨.hbm, 227, rfl⟩
abbrev main_v100_5 : Ref sig .tc := ⟨.hbm, 228, rfl⟩
abbrev main_v100_6 : Ref sig .tc := ⟨.hbm, 229, rfl⟩
abbrev main_v100_7 : Ref sig .tc := ⟨.hbm, 230, rfl⟩
abbrev main_v100_8 : Ref sig .tc := ⟨.hbm, 231, rfl⟩
abbrev main_v100_9 : Ref sig .tc := ⟨.hbm, 232, rfl⟩
abbrev main_v100_10 : Ref sig .tc := ⟨.hbm, 233, rfl⟩
abbrev main_v100_11 : Ref sig .tc := ⟨.hbm, 234, rfl⟩
abbrev main_v100_12 : Ref sig .tc := ⟨.hbm, 235, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S7248x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x64 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S1x64x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S16x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S128x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S128x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]
-- ==== ReferenceProjectSampleIdeal.lean ====
abbrev S32x4x2048 : Shape := ⟨3, ![32, 4, 2048]⟩
abbrev S1x2048x7248 : Shape := ⟨3, ![1, 2048, 7248]⟩
abbrev S4 : Shape := ⟨1, ![4]⟩
abbrev S_ : Shape := ⟨0, ![]⟩
abbrev S2048x7248 : Shape := ⟨2, ![2048, 7248]⟩
abbrev S32x4x7248 : Shape := ⟨3, ![32, 4, 7248]⟩
abbrev S32x4x1024 : Shape := ⟨3, ![32, 4, 1024]⟩
abbrev S32x4x64 : Shape := ⟨3, ![32, 4, 64]⟩
abbrev S32x4x16 : Shape := ⟨3, ![32, 4, 16]⟩
abbrev S32x4x8x128 : Shape := ⟨4, ![32, 4, 8, 128]⟩
abbrev S16 : Shape := ⟨1, ![16]⟩
abbrev S4x1 : Shape := ⟨2, ![4, 1]⟩
abbrev S1x16 : Shape := ⟨2, ![1, 16]⟩
abbrev S4x16 : Shape := ⟨2, ![4, 16]⟩
abbrev S1x4x1x16 : Shape := ⟨4, ![1, 4, 1, 16]⟩
abbrev S32x4x8x16 : Shape := ⟨4, ![32, 4, 8, 16]⟩
abbrev S32x4x8x96 : Shape := ⟨4, ![32, 4, 8, 96]⟩
abbrev S32x4x16x64 : Shape := ⟨4, ![32, 4, 16, 64]⟩
abbrev S8 : Shape := ⟨1, ![8]⟩
abbrev S1x8 : Shape := ⟨2, ![1, 8]⟩
abbrev S4x8 : Shape := ⟨2, ![4, 8]⟩
abbrev S1x4x1x8 : Shape := ⟨4, ![1, 4, 1, 8]⟩
abbrev S32x4x16x8 : Shape := ⟨4, ![32, 4, 16, 8]⟩
abbrev S32x4x16x48 : Shape := ⟨4, ![32, 4, 16, 48]⟩
abbrev S1x4x8 : Shape := ⟨3, ![1, 4, 8]⟩
abbrev S32x4x8 : Shape := ⟨3, ![32, 4, 8]⟩
abbrev S32x4x48 : Shape := ⟨3, ![32, 4, 48]⟩
abbrev S128x1024 : Shape := ⟨2, ![128, 1024]⟩
abbrev S128x64 : Shape := ⟨2, ![128, 64]⟩
abbrev S64x128 : Shape := ⟨2, ![64, 128]⟩
abbrev S1x64x128 : Shape := ⟨3, ![1, 64, 128]⟩
abbrev S128x16 : Shape := ⟨2, ![128, 16]⟩
abbrev S16x128 : Shape := ⟨2, ![16, 128]⟩

abbrev nBuf : Space → Nat
  | .hbm => 175
  | .vmem => 0
  | .smem => 0
  | _ => 0

abbrev hbmTy0_0 (i : Nat) : BufTy := match i % 128 with
  | 0 => ⟨S32x4x2048, .f32⟩
  | 1 => ⟨S1x2048x7248, .f32⟩
  | 2 => ⟨S4, .i32⟩
  | 3 => ⟨S_, .i32⟩
  | 4 => ⟨S4, .i32⟩
  | 5 => ⟨S4, .i32⟩
  | 6 => ⟨S2048x7248, .f32⟩
  | 7 => ⟨S32x4x7248, .f32⟩
  | 8 => ⟨S32x4x1024, .f32⟩
  | 9 => ⟨S32x4x1024, .f32⟩
  | 10 => ⟨S32x4x1024, .f32⟩
  | 11 => ⟨S32x4x1024, .f32⟩
  | 12 => ⟨S32x4x1024, .f32⟩
  | 13 => ⟨S32x4x64, .f32⟩
  | 14 => ⟨S32x4x16, .f32⟩
  | 15 => ⟨S32x4x1024, .f32⟩
  | 16 => ⟨S32x4x1024, .f32⟩
  | 17 => ⟨S32x4x8x128, .f32⟩
  | 18 => ⟨S16, .f32⟩
  | 19 => ⟨S16, .f32⟩
  | 20 => ⟨S_, .f32⟩
  | 21 => ⟨S16, .f32⟩
  | 22 => ⟨S16, .f32⟩
  | 23 => ⟨S_, .f32⟩
  | 24 => ⟨S16, .f32⟩
  | 25 => ⟨S16, .f32⟩
  | 26 => ⟨S4, .f32⟩
  | 27 => ⟨S4x1, .f32⟩
  | 28 => ⟨S1x16, .f32⟩
  | 29 => ⟨S4x16, .f32⟩
  | 30 => ⟨S4x16, .f32⟩
  | 31 => ⟨S4x16, .f32⟩
  | 32 => ⟨S4x16, .f32⟩
  | 33 => ⟨S1x4x1x16, .f32⟩
  | 34 => ⟨S4x16, .f32⟩
  | 35 => ⟨S1x4x1x16, .f32⟩
  | 36 => ⟨S32x4x8x16, .f32⟩
  | 37 => ⟨S32x4x8x16, .f32⟩
  | 38 => ⟨S32x4x8x16, .f32⟩
  | 39 => ⟨S32x4x8x16, .f32⟩
  | 40 => ⟨S32x4x8x16, .f32⟩
  | 41 => ⟨S32x4x8x16, .f32⟩
  | 42 => ⟨S32x4x8x16, .f32⟩
  | 43 => ⟨S32x4x8x16, .f32⟩
  | 44 => ⟨S32x4x8x16, .f32⟩
  | 45 => ⟨S32x4x8x16, .f32⟩
  | 46 => ⟨S32x4x8x16, .f32⟩
  | 47 => ⟨S32x4x8x16, .f32⟩
  | 48 => ⟨S32x4x8x96, .f32⟩
  | 49 => ⟨S32x4x8x128, .f32⟩
  | 50 => ⟨S32x4x8x128, .f32⟩
  | 51 => ⟨S16, .f32⟩
  | 52 => ⟨S16, .f32⟩
  | 53 => ⟨S_, .f32⟩
  | 54 => ⟨S16, .f32⟩
  | 55 => ⟨S16, .f32⟩
  | 56 => ⟨S_, .f32⟩
  | 57 => ⟨S16, .f32⟩
  | 58 => ⟨S16, .f32⟩
  | 59 => ⟨S4, .f32⟩
  | 60 => ⟨S4x1, .f32⟩
  | 61 => ⟨S1x16, .f32⟩
  | 62 => ⟨S4x16, .f32⟩
  | 63 => ⟨S4x16, .f32⟩
  | 64 => ⟨S4x16, .f32⟩
  | 65 => ⟨S4x16, .f32⟩
  | 66 => ⟨S1x4x1x16, .f32⟩
  | 67 => ⟨S4x16, .f32⟩
  | 68 => ⟨S1x4x1x16, .f32⟩
  | 69 => ⟨S32x4x8x16, .f32⟩
  | 70 => ⟨S32x4x8x16, .f32⟩
  | 71 => ⟨S32x4x8x16, .f32⟩
  | 72 => ⟨S32x4x8x16, .f32⟩
  | 73 => ⟨S32x4x8x16, .f32⟩
  | 74 => ⟨S32x4x8x16, .f32⟩
  | 75 => ⟨S32x4x8x16, .f32⟩
  | 76 => ⟨S32x4x8x16, .f32⟩
  | 77 => ⟨S32x4x8x16, .f32⟩
  | 78 => ⟨S32x4x8x16, .f32⟩
  | 79 => ⟨S32x4x8x16, .f32⟩
  | 80 => ⟨S32x4x8x16, .f32⟩
  | 81 => ⟨S32x4x8x96, .f32⟩
  | 82 => ⟨S32x4x8x128, .f32⟩
  | 83 => ⟨S32x4x16x64, .f32⟩
  | 84 => ⟨S8, .f32⟩
  | 85 => ⟨S8, .f32⟩
  | 86 => ⟨S_, .f32⟩
  | 87 => ⟨S8, .f32⟩
  | 88 => ⟨S8, .f32⟩
  | 89 => ⟨S_, .f32⟩
  | 90 => ⟨S8, .f32⟩
  | 91 => ⟨S8, .f32⟩
  | 92 => ⟨S4, .f32⟩
  | 93 => ⟨S4x1, .f32⟩
  | 94 => ⟨S1x8, .f32⟩
  | 95 => ⟨S4x8, .f32⟩
  | 96 => ⟨S4x8, .f32⟩
  | 97 => ⟨S4x8, .f32⟩
  | 98 => ⟨S4x8, .f32⟩
  | 99 => ⟨S1x4x1x8, .f32⟩
  | 100 => ⟨S4x8, .f32⟩
  | 101 => ⟨S1x4x1x8, .f32⟩
  | 102 => ⟨S32x4x16x8, .f32⟩
  | 103 => ⟨S32x4x16x8, .f32⟩
  | 104 => ⟨S32x4x16x8, .f32⟩
  | 105 => ⟨S32x4x16x8, .f32⟩
  | 106 => ⟨S32x4x16x8, .f32⟩
  | 107 => ⟨S32x4x16x8, .f32⟩
  | 108 => ⟨S32x4x16x8, .f32⟩
  | 109 => ⟨S32x4x16x8, .f32⟩
  | 110 => ⟨S32x4x16x8, .f32⟩
  | 111 => ⟨S32x4x16x8, .f32⟩
  | 112 => ⟨S32x4x16x8, .f32⟩
  | 113 => ⟨S32x4x16x8, .f32⟩
  | 114 => ⟨S32x4x16x48, .f32⟩
  | 115 => ⟨S32x4x16x64, .f32⟩
  | 116 => ⟨S8, .f32⟩
  | 117 => ⟨S8, .f32⟩
  | 118 => ⟨S_, .f32⟩
  | 119 => ⟨S8, .f32⟩
  | 120 => ⟨S8, .f32⟩
  | 121 => ⟨S_, .f32⟩
  | 122 => ⟨S8, .f32⟩
  | 123 => ⟨S8, .f32⟩
  | 124 => ⟨S4, .f32⟩
  | 125 => ⟨S4x1, .f32⟩
  | 126 => ⟨S1x8, .f32⟩
  | 127 => ⟨S4x8, .f32⟩
  | _ => ⟨S32x4x2048, .f32⟩

abbrev hbmTy0_1 (i : Nat) : BufTy := match i % 128 with
  | 0 => ⟨S4x8, .f32⟩
  | 1 => ⟨S4x8, .f32⟩
  | 2 => ⟨S4x8, .f32⟩
  | 3 => ⟨S1x4x8, .f32⟩
  | 4 => ⟨S4x8, .f32⟩
  | 5 => ⟨S1x4x8, .f32⟩
  | 6 => ⟨S32x4x8, .f32⟩
  | 7 => ⟨S32x4x8, .f32⟩
  | 8 => ⟨S32x4x8, .f32⟩
  | 9 => ⟨S32x4x8, .f32⟩
  | 10 => ⟨S32x4x8, .f32⟩
  | 11 => ⟨S32x4x8, .f32⟩
  | 12 => ⟨S32x4x8, .f32⟩
  | 13 => ⟨S32x4x8, .f32⟩
  | 14 => ⟨S32x4x8, .f32⟩
  | 15 => ⟨S32x4x8, .f32⟩
  | 16 => ⟨S32x4x8, .f32⟩
  | 17 => ⟨S32x4x8, .f32⟩
  | 18 => ⟨S32x4x48, .f32⟩
  | 19 => ⟨S32x4x64, .f32⟩
  | 20 => ⟨S_, .f32⟩
  | 21 => ⟨S32x4x8x128, .f32⟩
  | 22 => ⟨S32x4x8x128, .f32⟩
  | 23 => ⟨S128x1024, .f32⟩
  | 24 => ⟨S128x1024, .bf16⟩
  | 25 => ⟨S128x1024, .f32⟩
  | 26 => ⟨S128x1024, .f32⟩
  | 27 => ⟨S128x1024, .bf16⟩
  | 28 => ⟨S128x1024, .f32⟩
  | 29 => ⟨S128x1024, .f32⟩
  | 30 => ⟨S128x1024, .bf16⟩
  | 31 => ⟨S128x1024, .f32⟩
  | 32 => ⟨S128x1024, .f32⟩
  | 33 => ⟨S128x1024, .bf16⟩
  | 34 => ⟨S128x64, .f32⟩
  | 35 => ⟨S128x64, .f32⟩
  | 36 => ⟨S128x64, .bf16⟩
  | 37 => ⟨S128x64, .f32⟩
  | 38 => ⟨S64x128, .f32⟩
  | 39 => ⟨S1x64x128, .f32⟩
  | 40 => ⟨S128x16, .f32⟩
  | 41 => ⟨S16x128, .f32⟩
  | 42 => ⟨S_, .f32⟩
  | 43 => ⟨S16x128, .f32⟩
  | 44 => ⟨S16x128, .f32⟩
  | 45 => ⟨S128x1024, .f32⟩
  | 46 => ⟨S128x1024, .f32⟩
  | _ => ⟨S32x4x2048, .f32⟩

abbrev hbmTy (i : Nat) : BufTy := match i / 128 with
  | 0 => hbmTy0_0 i
  | 1 => hbmTy0_1 i
  | _ => ⟨S32x4x2048, .f32⟩

abbrev bufTy : (tb : Table) → Fin (tcTables nBuf tb) → BufTy
  | .hbm, ⟨i, _⟩ => hbmTy i
  | _, _ => ⟨S32x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_cst_1 : Ref sig .tc := ⟨.hbm, 53, rfl⟩
abbrev main_v48 : Ref sig .tc := ⟨.hbm, 54, rfl⟩
abbrev main_v49 : Ref sig .tc := ⟨.hbm, 55, rfl⟩
abbrev main_cst_2 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_cst_3 : Ref sig .tc := ⟨.hbm, 86, rfl⟩
abbrev main_v79 : Ref sig .tc := ⟨.hbm, 87, rfl⟩
abbrev main_v80 : Ref sig .tc := ⟨.hbm, 88, rfl⟩
abbrev main_cst_4 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_cst_5 : Ref sig .tc := ⟨.hbm, 118, rfl⟩
abbrev main_v109 : Ref sig .tc := ⟨.hbm, 119, rfl⟩
abbrev main_v110 : Ref sig .tc := ⟨.hbm, 120, rfl⟩
abbrev main_cst_6 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_cst_7 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_cst_8 : Ref sig .tc := ⟨.hbm, 170, rfl⟩
abbrev main_v158 : Ref sig .tc := ⟨.hbm, 171, rfl⟩
abbrev main_v159 : Ref sig .tc := ⟨.hbm, 172, rfl⟩
abbrev main_v160 : Ref sig .tc := ⟨.hbm, 173, rfl⟩
abbrev main_v161 : Ref sig .tc := ⟨.hbm, 174, rfl⟩

abbrev nD : Nat := 1
abbrev τ : Topo := Topo.v7x

variable {F : FTy → Type} [FloatOps F]
-- ==== KernelCombineSample.lean ====
abbrev S32x4x1024 : Shape := ⟨3, ![32, 4, 1024]⟩
abbrev S1x32x15x1024 : Shape := ⟨4, ![1, 32, 15, 1024]⟩
abbrev S32x4x2048 : Shape := ⟨3, ![32, 4, 2048]⟩
abbrev S1x4x256x256 : Shape := ⟨4, ![1, 4, 256, 256]⟩
abbrev S1x1024 : Shape := ⟨2, ![1, 1024]⟩
abbrev S1x2048x2048 : Shape := ⟨3, ![1, 2048, 2048]⟩
abbrev S1x2048 : Shape := ⟨2, ![1, 2048]⟩
abbrev S4x256x256 : Shape := ⟨3, ![4, 256, 256]⟩
abbrev S2048x2048 : Shape := ⟨2, ![2048, 2048]⟩
abbrev S1024 : Shape := ⟨1, ![1024]⟩
abbrev S2048 : Shape := ⟨1, ![2048]⟩
abbrev S32x15x1024 : Shape := ⟨3, ![32, 15, 1024]⟩
abbrev S32x19x1024 : Shape := ⟨3, ![32, 19, 1024]⟩
abbrev S4x32x1024 : Shape := ⟨3, ![4, 32, 1024]⟩
abbrev S128x1024 : Shape := ⟨2, ![128, 1024]⟩
abbrev S19x32x1024 : Shape := ⟨3, ![19, 32, 1024]⟩
abbrev S4x32x2048 : Shape := ⟨3, ![4, 32, 2048]⟩
abbrev S128x2048 : Shape := ⟨2, ![128, 2048]⟩
abbrev S1x32x256 : Shape := ⟨3, ![1, 32, 256]⟩
abbrev S32x256 : Shape := ⟨2, ![32, 256]⟩
abbrev S1x256x256 : Shape := ⟨3, ![1, 256, 256]⟩
abbrev S256x256 : Shape := ⟨2, ![256, 256]⟩
abbrev S32x1024 : Shape := ⟨2, ![32, 1024]⟩
abbrev S128 : Shape := ⟨1, ![128]⟩
abbrev S128x1 : Shape := ⟨2, ![128, 1]⟩

abbrev nBuf : Space → Nat
  | .hbm => 33
  | .vmem => 11
  | .smem => 0
  | _ => 0

abbrev bufTy : (tb : Table) → Fin (tcTables nBuf tb) → BufTy
  | .hbm, ⟨0, _⟩ => ⟨S32x4x1024, .f32⟩
  | .hbm, ⟨1, _⟩ => ⟨S32x4x1024, .f32⟩
  | .hbm, ⟨2, _⟩ => ⟨S32x4x1024, .f32⟩
  | .hbm, ⟨3, _⟩ => ⟨S32x4x1024, .f32⟩
  | .hbm, ⟨4, _⟩ => ⟨S1x32x15x1024, .f32⟩
  | .hbm, ⟨5, _⟩ => ⟨S32x4x2048, .f32⟩
  | .hbm, ⟨6, _⟩ => ⟨S1x4x256x256, .f32⟩
  | .hbm, ⟨7, _⟩ => ⟨S1x1024, .f32⟩
  | .hbm, ⟨8, _⟩ => ⟨S1x2048x2048, .f32⟩
  | .hbm, ⟨9, _⟩ => ⟨S1x2048, .f32⟩
  | .hbm, ⟨10, _⟩ => ⟨S1x2048, .f32⟩
  | .hbm, ⟨11, _⟩ => ⟨S4x256x256, .f32⟩
  | .hbm, ⟨12, _⟩ => ⟨S4x256x256, .bf16⟩
  | .hbm, ⟨13, _⟩ => ⟨S2048x2048, .f32⟩
  | .hbm, ⟨14, _⟩ => ⟨S2048x2048, .bf16⟩
  | .hbm, ⟨15, _⟩ => ⟨S1024, .f32⟩
  | .hbm, ⟨16, _⟩ => ⟨S1x1024, .f32⟩
  | .hbm, ⟨17, _⟩ => ⟨S2048, .f32⟩
  | .hbm, ⟨18, _⟩ => ⟨S1x2048, .f32⟩
  | .hbm, ⟨19, _⟩ => ⟨S2048, .f32⟩
  | .hbm, ⟨20, _⟩ => ⟨S1x2048, .f32⟩
  | .hbm, ⟨21, _⟩ => ⟨S32x15x1024, .f32⟩
  | .hbm, ⟨22, _⟩ => ⟨S32x19x1024, .f32⟩
  | .hbm, ⟨23, _⟩ => ⟨S4x32x1024, .f32⟩
  | .hbm, ⟨24, _⟩ => ⟨S128x1024, .f32⟩
  | .hbm, ⟨25, _⟩ => ⟨S4x32x1024, .f32⟩
  | .hbm, ⟨26, _⟩ => ⟨S128x1024, .f32⟩
  | .hbm, ⟨27, _⟩ => ⟨S4x32x1024, .f32⟩
  | .hbm, ⟨28, _⟩ => ⟨S128x1024, .f32⟩
  | .hbm, ⟨29, _⟩ => ⟨S19x32x1024, .f32⟩
  | .hbm, ⟨30, _⟩ => ⟨S4x32x2048, .f32⟩
  | .hbm, ⟨31, _⟩ => ⟨S128x2048, .f32⟩
  | .hbm, ⟨32, _⟩ => ⟨S128x2048, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S19x32x1024, .f32⟩
  | .local _ .vmem, ⟨4, _⟩ => ⟨S128x2048, .f32⟩
  | .local _ .vmem, ⟨5, _⟩ => ⟨S4x256x256, .bf16⟩
  | .local _ .vmem, ⟨6, _⟩ => ⟨S1x1024, .f32⟩
  | .local _ .vmem, ⟨7, _⟩ => ⟨S2048x2048, .bf16⟩
  | .local _ .vmem, ⟨8, _⟩ => ⟨S1x2048, .f32⟩
  | .local _ .vmem, ⟨9, _⟩ => ⟨S1x2048, .f32⟩
  | .local _ .vmem, ⟨10, _⟩ => ⟨S128x2048, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S19x32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== ReferenceCombineSampleIdeal.lean ====
abbrev S32x4x1024 : Shape := ⟨3, ![32, 4, 1024]⟩
abbrev S1x32x15x1024 : Shape := ⟨4, ![1, 32, 15, 1024]⟩
abbrev S32x4x2048 : Shape := ⟨3, ![32, 4, 2048]⟩
abbrev S1x4x256x256 : Shape := ⟨4, ![1, 4, 256, 256]⟩
abbrev S1x1024 : Shape := ⟨2, ![1, 1024]⟩
abbrev S1x2048x2048 : Shape := ⟨3, ![1, 2048, 2048]⟩
abbrev S1x2048 : Shape := ⟨2, ![1, 2048]⟩
abbrev S32x15x1024 : Shape := ⟨3, ![32, 15, 1024]⟩
abbrev S32x19x1024 : Shape := ⟨3, ![32, 19, 1024]⟩
abbrev S4x256x256 : Shape := ⟨3, ![4, 256, 256]⟩
abbrev S1024 : Shape := ⟨1, ![1024]⟩
abbrev S32x19x4x256 : Shape := ⟨4, ![32, 19, 4, 256]⟩
abbrev S4 : Shape := ⟨1, ![4]⟩
abbrev S4x1 : Shape := ⟨2, ![4, 1]⟩
abbrev S_ : Shape := ⟨0, ![]⟩
abbrev S19 : Shape := ⟨1, ![19]⟩
abbrev S1x19 : Shape := ⟨2, ![1, 19]⟩
abbrev S4x19 : Shape := ⟨2, ![4, 19]⟩
abbrev S32x19x1x256 : Shape := ⟨4, ![32, 19, 1, 256]⟩
abbrev S32x19x256 : Shape := ⟨3, ![32, 19, 256]⟩
abbrev S32x256x4 : Shape := ⟨3, ![32, 256, 4]⟩
abbrev S32x4x256 : Shape := ⟨3, ![32, 4, 256]⟩
abbrev S1x4x1 : Shape := ⟨3, ![1, 4, 1]⟩
abbrev S32x4x1x256 : Shape := ⟨4, ![32, 4, 1, 256]⟩
abbrev S32x4x4x256 : Shape := ⟨4, ![32, 4, 4, 256]⟩
abbrev S4x256x32x4 : Shape := ⟨4, ![4, 256, 32, 4]⟩
abbrev S1x1x1024 : Shape := ⟨3, ![1, 1, 1024]⟩
abbrev S2048x2048 : Shape := ⟨2, ![2048, 2048]⟩
abbrev S2048 : Shape := ⟨1, ![2048]⟩
abbrev S32x4 : Shape := ⟨2, ![32, 4]⟩
abbrev S32x4x1 : Shape := ⟨3, ![32, 4, 1]⟩
abbrev S1x1x2048 : Shape := ⟨3, ![1, 1, 2048]⟩
abbrev S4x32x2048 : Shape := ⟨3, ![4, 32, 2048]⟩
abbrev S128x2048 : Shape := ⟨2, ![128, 2048]⟩

abbrev nBuf : Space → Nat
  | .hbm => 222
  | .vmem => 0
  | .smem => 0
  | _ => 0

abbrev hbmTy0_0 (i : Nat) : BufTy := match i % 128 with
  | 0 => ⟨S32x4x1024, .f32⟩
  | 1 => ⟨S32x4x1024, .f32⟩
  | 2 => ⟨S32x4x1024, .f32⟩
  | 3 => ⟨S32x4x1024, .f32⟩
  | 4 => ⟨S1x32x15x1024, .f32⟩
  | 5 => ⟨S32x4x2048, .f32⟩
  | 6 => ⟨S1x4x256x256, .f32⟩
  | 7 => ⟨S1x1024, .f32⟩
  | 8 => ⟨S1x2048x2048, .f32⟩
  | 9 => ⟨S1x2048, .f32⟩
  | 10 => ⟨S1x2048, .f32⟩
  | 11 => ⟨S32x15x1024, .f32⟩
  | 12 => ⟨S32x19x1024, .f32⟩
  | 13 => ⟨S4x256x256, .f32⟩
  | 14 => ⟨S1024, .f32⟩
  | 15 => ⟨S32x19x4x256, .f32⟩
  | 16 => ⟨S4, .i32⟩
  | 17 => ⟨S4x1, .i32⟩
  | 18 => ⟨S_, .i32⟩
  | 19 => ⟨S4x1, .i32⟩
  | 20 => ⟨S4x1, .i32⟩
  | 21 => ⟨S19, .i32⟩
  | 22 => ⟨S1x19, .i32⟩
  | 23 => ⟨S4x19, .i32⟩
  | 24 => ⟨S4x19, .i32⟩
  | 25 => ⟨S4x19, .i1⟩
  | 26 => ⟨S_, .i32⟩
  | 27 => ⟨S1x19, .i32⟩
  | 28 => ⟨S1x19, .i32⟩
  | 29 => ⟨S4x19, .i32⟩
  | 30 => ⟨S4x19, .i32⟩
  | 31 => ⟨S4x19, .i1⟩
  | 32 => ⟨S4x19, .i1⟩
  | 33 => ⟨S_, .f32⟩
  | 34 => ⟨S_, .f32⟩
  | 35 => ⟨S4x19, .f32⟩
  | 36 => ⟨S4x19, .f32⟩
  | 37 => ⟨S4x19, .f32⟩
  | 38 => ⟨S_, .i32⟩
  | 39 => ⟨S4x1, .i32⟩
  | 40 => ⟨S4x1, .i32⟩
  | 41 => ⟨S_, .i32⟩
  | 42 => ⟨S4x1, .i32⟩
  | 43 => ⟨S4x1, .i32⟩
  | 44 => ⟨S4x1, .f32⟩
  | 45 => ⟨S32x19x1x256, .f32⟩
  | 46 => ⟨S32x19x256, .f32⟩
  | 47 => ⟨S32x256x4, .f32⟩
  | 48 => ⟨S32x4x256, .f32⟩
  | 49 => ⟨S1x4x1, .f32⟩
  | 50 => ⟨S32x4x256, .f32⟩
  | 51 => ⟨S32x4x256, .f32⟩
  | 52 => ⟨S32x4x1x256, .f32⟩
  | 53 => ⟨S32x4x256, .f32⟩
  | 54 => ⟨S32x4x256, .f32⟩
  | 55 => ⟨S4x19, .i32⟩
  | 56 => ⟨S4x19, .i32⟩
  | 57 => ⟨S4x19, .i1⟩
  | 58 => ⟨S_, .i32⟩
  | 59 => ⟨S1x19, .i32⟩
  | 60 => ⟨S1x19, .i32⟩
  | 61 => ⟨S4x19, .i32⟩
  | 62 => ⟨S4x19, .i32⟩
  | 63 => ⟨S4x19, .i1⟩
  | 64 => ⟨S4x19, .i1⟩
  | 65 => ⟨S_, .f32⟩
  | 66 => ⟨S_, .f32⟩
  | 67 => ⟨S4x19, .f32⟩
  | 68 => ⟨S4x19, .f32⟩
  | 69 => ⟨S4x19, .f32⟩
  | 70 => ⟨S_, .i32⟩
  | 71 => ⟨S4x1, .i32⟩
  | 72 => ⟨S4x1, .i32⟩
  | 73 => ⟨S_, .i32⟩
  | 74 => ⟨S4x1, .i32⟩
  | 75 => ⟨S4x1, .i32⟩
  | 76 => ⟨S4x1, .f32⟩
  | 77 => ⟨S32x19x1x256, .f32⟩
  | 78 => ⟨S32x19x256, .f32⟩
  | 79 => ⟨S32x256x4, .f32⟩
  | 80 => ⟨S32x4x256, .f32⟩
  | 81 => ⟨S1x4x1, .f32⟩
  | 82 => ⟨S32x4x256, .f32⟩
  | 83 => ⟨S32x4x256, .f32⟩
  | 84 => ⟨S32x4x1x256, .f32⟩
  | 85 => ⟨S32x4x256, .f32⟩
  | 86 => ⟨S32x4x256, .f32⟩
  | 87 => ⟨S4x19, .i32⟩
  | 88 => ⟨S4x19, .i32⟩
  | 89 => ⟨S4x19, .i1⟩
  | 90 => ⟨S_, .i32⟩
  | 91 => ⟨S1x19, .i32⟩
  | 92 => ⟨S1x19, .i32⟩
  | 93 => ⟨S4x19, .i32⟩
  | 94 => ⟨S4x19, .i32⟩
  | 95 => ⟨S4x19, .i1⟩
  | 96 => ⟨S4x19, .i1⟩
  | 97 => ⟨S_, .f32⟩
  | 98 => ⟨S_, .f32⟩
  | 99 => ⟨S4x19, .f32⟩
  | 100 => ⟨S4x19, .f32⟩
  | 101 => ⟨S4x19, .f32⟩
  | 102 => ⟨S_, .i32⟩
  | 103 => ⟨S4x1, .i32⟩
  | 104 => ⟨S4x1, .i32⟩
  | 105 => ⟨S_, .i32⟩
  | 106 => ⟨S4x1, .i32⟩
  | 107 => ⟨S4x1, .i32⟩
  | 108 => ⟨S4x1, .f32⟩
  | 109 => ⟨S32x19x1x256, .f32⟩
  | 110 => ⟨S32x19x256, .f32⟩
  | 111 => ⟨S32x256x4, .f32⟩
  | 112 => ⟨S32x4x256, .f32⟩
  | 113 => ⟨S1x4x1, .f32⟩
  | 114 => ⟨S32x4x256, .f32⟩
  | 115 => ⟨S32x4x256, .f32⟩
  | 116 => ⟨S32x4x1x256, .f32⟩
  | 117 => ⟨S32x4x256, .f32⟩
  | 118 => ⟨S32x4x256, .f32⟩
  | 119 => ⟨S4x19, .i32⟩
  | 120 => ⟨S4x19, .i32⟩
  | 121 => ⟨S4x19, .i1⟩
  | 122 => ⟨S_, .i32⟩
  | 123 => ⟨S1x19, .i32⟩
  | 124 => ⟨S1x19, .i32⟩
  | 125 => ⟨S4x19, .i32⟩
  | 126 => ⟨S4x19, .i32⟩
  | 127 => ⟨S4x19, .i1⟩
  | _ => ⟨S32x4x1024, .f32⟩

abbrev hbmTy0_1 (i : Nat) : BufTy := match i % 128 with
  | 0 => ⟨S4x19, .i1⟩
  | 1 => ⟨S_, .f32⟩
  | 2 => ⟨S_, .f32⟩
  | 3 => ⟨S4x19, .f32⟩
  | 4 => ⟨S4x19, .f32⟩
  | 5 => ⟨S4x19, .f32⟩
  | 6 => ⟨S_, .i32⟩
  | 7 => ⟨S4x1, .i32⟩
  | 8 => ⟨S4x1, .i32⟩
  | 9 => ⟨S_, .i32⟩
  | 10 => ⟨S4x1, .i32⟩
  | 11 => ⟨S4x1, .i32⟩
  | 12 => ⟨S4x1, .f32⟩
  | 13 => ⟨S32x19x1x256, .f32⟩
  | 14 => ⟨S32x19x256, .f32⟩
  | 15 => ⟨S32x256x4, .f32⟩
  | 16 => ⟨S32x4x256, .f32⟩
  | 17 => ⟨S1x4x1, .f32⟩
  | 18 => ⟨S32x4x256, .f32⟩
  | 19 => ⟨S32x4x256, .f32⟩
  | 20 => ⟨S32x4x1x256, .f32⟩
  | 21 => ⟨S32x4x256, .f32⟩
  | 22 => ⟨S32x4x256, .f32⟩
  | 23 => ⟨S32x4x1x256, .f32⟩
  | 24 => ⟨S32x4x1x256, .f32⟩
  | 25 => ⟨S32x4x1x256, .f32⟩
  | 26 => ⟨S32x4x1x256, .f32⟩
  | 27 => ⟨S32x4x4x256, .f32⟩
  | 28 => ⟨S4x256x32x4, .f32⟩
  | 29 => ⟨S32x4x4x256, .f32⟩
  | 30 => ⟨S32x4x1024, .f32⟩
  | 31 => ⟨S1x1x1024, .f32⟩
  | 32 => ⟨S32x4x1024, .f32⟩
  | 33 => ⟨S32x4x1024, .f32⟩
  | 34 => ⟨S2048x2048, .f32⟩
  | 35 => ⟨S2048, .f32⟩
  | 36 => ⟨S2048, .f32⟩
  | 37 => ⟨S32x4x1024, .f32⟩
  | 38 => ⟨S32x4x1024, .f32⟩
  | 39 => ⟨S_, .f32⟩
  | 40 => ⟨S32x4x1024, .f32⟩
  | 41 => ⟨S32x4x1024, .f32⟩
  | 42 => ⟨S_, .f32⟩
  | 43 => ⟨S32x4x1024, .f32⟩
  | 44 => ⟨S32x4x1024, .f32⟩
  | 45 => ⟨S32x4x1024, .f32⟩
  | 46 => ⟨S32x4x1024, .f32⟩
  | 47 => ⟨S32x4x1024, .f32⟩
  | 48 => ⟨S32x4x1024, .f32⟩
  | 49 => ⟨S_, .f32⟩
  | 50 => ⟨S32x4x1024, .f32⟩
  | 51 => ⟨S32x4x1024, .f32⟩
  | 52 => ⟨S_, .f32⟩
  | 53 => ⟨S32x4x1024, .f32⟩
  | 54 => ⟨S32x4x1024, .f32⟩
  | 55 => ⟨S32x4x1024, .f32⟩
  | 56 => ⟨S32x4x1024, .f32⟩
  | 57 => ⟨S32x4x2048, .f32⟩
  | 58 => ⟨S_, .f32⟩
  | 59 => ⟨S32x4x2048, .f32⟩
  | 60 => ⟨S32x4x2048, .f32⟩
  | 61 => ⟨S32x4x2048, .f32⟩
  | 62 => ⟨S32x4x2048, .f32⟩
  | 63 => ⟨S_, .f32⟩
  | 64 => ⟨S32x4, .f32⟩
  | 65 => ⟨S32x4x1, .f32⟩
  | 66 => ⟨S_, .f32⟩
  | 67 => ⟨S32x4x1, .f32⟩
  | 68 => ⟨S32x4x1, .f32⟩
  | 69 => ⟨S32x4x2048, .f32⟩
  | 70 => ⟨S32x4x2048, .f32⟩
  | 71 => ⟨S32x4x2048, .f32⟩
  | 72 => ⟨S_, .f32⟩
  | 73 => ⟨S32x4, .f32⟩
  | 74 => ⟨S32x4x1, .f32⟩
  | 75 => ⟨S_, .f32⟩
  | 76 => ⟨S32x4x1, .f32⟩
  | 77 => ⟨S32x4x1, .f32⟩
  | 78 => ⟨S32x4x2048, .f32⟩
  | 79 => ⟨S32x4x2048, .f32⟩
  | 80 => ⟨S_, .f32⟩
  | 81 => ⟨S32x4x1, .f32⟩
  | 82 => ⟨S32x4x1, .f32⟩
  | 83 => ⟨S32x4x1, .f32⟩
  | 84 => ⟨S32x4x2048, .f32⟩
  | 85 => ⟨S32x4x2048, .f32⟩
  | 86 => ⟨S1x1x2048, .f32⟩
  | 87 => ⟨S32x4x2048, .f32⟩
  | 88 => ⟨S32x4x2048, .f32⟩
  | 89 => ⟨S1x1x2048, .f32⟩
  | 90 => ⟨S32x4x2048, .f32⟩
  | 91 => ⟨S32x4x2048, .f32⟩
  | 92 => ⟨S4x32x2048, .f32⟩
  | 93 => ⟨S128x2048, .f32⟩
  | _ => ⟨S32x4x1024, .f32⟩

abbrev hbmTy (i : Nat) : BufTy := match i / 128 with
  | 0 => hbmTy0_0 i
  | 1 => hbmTy0_1 i
  | _ => ⟨S32x4x1024, .f32⟩

abbrev bufTy : (tb : Table) → Fin (tcTables nBuf tb) → BufTy
  | .hbm, ⟨i, _⟩ => hbmTy i
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst : Ref sig .tc := ⟨.hbm, 33, rfl⟩
abbrev main_cst_1 : Ref sig .tc := ⟨.hbm, 34, rfl⟩
abbrev main_call0_v0 : Ref sig .tc := ⟨.hbm, 35, rfl⟩
abbrev main_call0_v1 : Ref sig .tc := ⟨.hbm, 36, rfl⟩
abbrev main_v20 : Ref sig .tc := ⟨.hbm, 37, rfl⟩
abbrev main_c_2 : Ref sig .tc := ⟨.hbm, 38, rfl⟩
abbrev main_v21 : Ref sig .tc := ⟨.hbm, 39, rfl⟩
abbrev main_v22 : Ref sig .tc := ⟨.hbm, 40, rfl⟩
abbrev main_c_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_4 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_5 : Ref sig .tc := ⟨.hbm, 65, rfl⟩
abbrev main_cst_6 : Ref sig .tc := ⟨.hbm, 66, rfl⟩
abbrev main_call1_v0 : Ref sig .tc := ⟨.hbm, 67, rfl⟩
abbrev main_call1_v1 : Ref sig .tc := ⟨.hbm, 68, rfl⟩
abbrev main_v45 : Ref sig .tc := ⟨.hbm, 69, rfl⟩
abbrev main_c_7 : Ref sig .tc := ⟨.hbm, 70, rfl⟩
abbrev main_v46 : Ref sig .tc := ⟨.hbm, 71, rfl⟩
abbrev main_v47 : Ref sig .tc := ⟨.hbm, 72, rfl⟩
abbrev main_c_8 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_9 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_10 : Ref sig .tc := ⟨.hbm, 97, rfl⟩
abbrev main_cst_11 : Ref sig .tc := ⟨.hbm, 98, rfl⟩
abbrev main_call2_v0 : Ref sig .tc := ⟨.hbm, 99, rfl⟩
abbrev main_call2_v1 : Ref sig .tc := ⟨.hbm, 100, rfl⟩
abbrev main_v70 : Ref sig .tc := ⟨.hbm, 101, rfl⟩
abbrev main_c_12 : Ref sig .tc := ⟨.hbm, 102, rfl⟩
abbrev main_v71 : Ref sig .tc := ⟨.hbm, 103, rfl⟩
abbrev main_v72 : Ref sig .tc := ⟨.hbm, 104, rfl⟩
abbrev main_c_13 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_c_14 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_15 : Ref sig .tc := ⟨.hbm, 129, rfl⟩
abbrev main_cst_16 : Ref sig .tc := ⟨.hbm, 130, rfl⟩
abbrev main_call3_v0 : Ref sig .tc := ⟨.hbm, 131, rfl⟩
abbrev main_call3_v1 : Ref sig .tc := ⟨.hbm, 132, rfl⟩
abbrev main_v95 : Ref sig .tc := ⟨.hbm, 133, rfl⟩
abbrev main_c_17 : Ref sig .tc := ⟨.hbm, 134, rfl⟩
abbrev main_v96 : Ref sig .tc := ⟨.hbm, 135, rfl⟩
abbrev main_v97 : Ref sig .tc := ⟨.hbm, 136, rfl⟩
abbrev main_c_18 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_call4_v0 : Ref sig .tc := ⟨.hbm, 165, rfl⟩
abbrev main_call4_v1 : Ref sig .tc := ⟨.hbm, 166, rfl⟩
abbrev main_call4_cst : Ref sig .tc := ⟨.hbm, 167, rfl⟩
abbrev main_call4_v2 : Ref sig .tc := ⟨.hbm, 168, rfl⟩
abbrev main_call4_v3 : Ref sig .tc := ⟨.hbm, 169, rfl⟩
abbrev main_call4_cst_0 : Ref sig .tc := ⟨.hbm, 170, rfl⟩
abbrev main_call4_v4 : Ref sig .tc := ⟨.hbm, 171, rfl⟩
abbrev main_call4_v5 : Ref sig .tc := ⟨.hbm, 172, rfl⟩
abbrev main_v125 : Ref sig .tc := ⟨.hbm, 173, rfl⟩
abbrev main_v126 : Ref sig .tc := ⟨.hbm, 174, rfl⟩
abbrev main_call5_v0 : Ref sig .tc := ⟨.hbm, 175, rfl⟩
abbrev main_call5_v1 : Ref sig .tc := ⟨.hbm, 176, rfl⟩
abbrev main_call5_cst : Ref sig .tc := ⟨.hbm, 177, rfl⟩
abbrev main_call5_v2 : Ref sig .tc := ⟨.hbm, 178, rfl⟩
abbrev main_call5_v3 : Ref sig .tc := ⟨.hbm, 179, rfl⟩
abbrev main_call5_cst_0 : Ref sig .tc := ⟨.hbm, 180, rfl⟩
abbrev main_call5_v4 : Ref sig .tc := ⟨.hbm, 181, rfl⟩
abbrev main_call5_v5 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_cst_19 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_cst_20 : Ref sig .tc := ⟨.hbm, 191, rfl⟩
abbrev main_v134 : Ref sig .tc := ⟨.hbm, 192, rfl⟩
abbrev main_v135 : Ref sig .tc := ⟨.hbm, 193, rfl⟩
abbrev main_cst_21 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_cst_22 : Ref sig .tc := ⟨.hbm, 200, rfl⟩
abbrev main_v141 : Ref sig .tc := ⟨.hbm, 201, rfl⟩
abbrev main_v142 : Ref sig .tc := ⟨.hbm, 202, rfl⟩
abbrev main_cst_23 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_cst_24 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩

abbrev nD : Nat := 1
abbrev τ : Topo := Topo.v7x

variable {F : FTy → Type} [FloatOps F]
-- ==== Proof.Attend.Spec.lean ====
/- Attention over a row's slots, as formulas on extended reals: the softmax average over 260 slots (`attend`), and the law that a sum of
   unnormalised weights over the key columns of all 8 heads, the other heads' columns masked, divided once, is that average (`core_eq`). -/
module

public import Idealize.ShloMosaic.Lib.Pointwise

@[expose] public section

noncomputable section

namespace Cert.Attend

open Idealize.ShloMosaic
open scoped BigOperators

/-- The number of a masked slot: `-∞`. -/
abbrev NEG : EReal := Ideal.ofBits .f32 4286578688#32

theorem NEG_eq : NEG = ⊥ := by simp [NEG, Ideal.ofBits, Ideal.ieee]

/-- Whether slot `j` takes part: the first 256 slots below the count `n` of selected past keys, the last four as the mask `s` says. -/
def bit (n : BitVec 32) (s : Fin 4 → EReal) (j : Fin 260) : BitVec 1 :=
  if h : j.val < 256 then IntOp.cmpi .slt (BitVec.ofNat 32 j.val) n
  else BitVec.ofBool (decide (Ideal.ofBits .f32 1056964608#32 < s ⟨j.val - 256, by omega⟩))

/-- The score of slot `j`. -/
def slotScore (n : BitVec 32) (s : Fin 4 → EReal) (q : Fin 128 → EReal) (k : Fin 260 → Fin 128 → EReal) (j : Fin 260) : EReal :=
  Scalar.select (bit n s j) ((∑ e : Fin 128, q e * k j e) * Ideal.ofBits .f32 1035273459#32) NEG

/-- The largest score. -/
def top (S : Fin 260 → EReal) : EReal := max NEG (Finset.univ.fold max NEG S)

/-- The softmax average of the values `v` under the scores `S`. -/
def attend (S v : Fin 260 → EReal) : EReal :=
  ∑ j : Fin 260, Ideal.div (Ideal.exp (S j - top S)) (∑ i : Fin 260, Ideal.exp (S i - top S)) * v j

theorem top_eq (S : Fin 260 → EReal) : top S = Finset.univ.sup S := by
  unfold top; rw [NEG_eq, max_eq_right bot_le]; rfl

theorem exp_bot : Ideal.exp ⊥ = 0 := rfl

theorem exp_pos (x : EReal) (h : x ≠ ⊥) : 0 < Ideal.exp x := by
  induction x using EReal.rec with
  | bot => exact absurd rfl h
  | top => exact EReal.zero_lt_top
  | coe r => exact EReal.coe_pos.2 (Real.exp_pos r)

theorem exp_nonneg (x : EReal) : 0 ≤ Ideal.exp x := by
  by_cases h : x = ⊥
  · rw [h, exp_bot]
  · exact (exp_pos x h).le

/-- A sum over the columns `8 k + h`, every other column zero. -/
theorem sum_columns (n : ℕ) (h : Fin 8) (f : Fin (8 * n) → EReal) (g : Fin n → EReal) (hz : ∀ c : Fin (8 * n), c.val % 8 ≠ h.val → f c = 0)
    (hg : ∀ c : Fin (8 * n), c.val % 8 = h.val → f c = g ⟨c.val / 8, by omega⟩) : ∑ c, f c = ∑ k, g k := by
  symm
  refine Fintype.sum_of_injective (fun k : Fin n => (⟨8 * k.val + h.val, by omega⟩ : Fin (8 * n))) ?_ _ _ ?_ ?_
  · intro a b e
    have := congrArg Fin.val e
    exact Fin.ext (by simp only at this; omega)
  · intro c hc
    apply hz
    intro e
    exact hc ⟨⟨c.val / 8, by omega⟩, Fin.ext (by simp only; omega)⟩
  · intro k
    rw [hg _ (by simp only; omega)]
    congr 1
    exact Fin.ext (by simp only; omega)

/-- The largest number over the columns `8 k + h`, every other column `⊥`. -/
theorem sup_columns (n : ℕ) (h : Fin 8) (f : Fin (8 * n) → EReal) (g : Fin n → EReal) (hz : ∀ c : Fin (8 * n), c.val % 8 ≠ h.val → f c = ⊥)
    (hg : ∀ c : Fin (8 * n), c.val % 8 = h.val → f c = g ⟨c.val / 8, by omega⟩) : Finset.univ.sup f = Finset.univ.sup g := by
  apply le_antisymm
  · refine Finset.sup_le fun c _ => ?_
    by_cases e : c.val % 8 = h.val
    · rw [hg c e]; exact Finset.le_sup (f := g) (Finset.mem_univ _)
    · rw [hz c e]; exact bot_le
  · refine Finset.sup_le fun k _ => ?_
    have e := hg ⟨8 * k.val + h.val, by omega⟩ (by simp only; omega)
    have e' : (⟨(8 * k.val + h.val) / 8, by omega⟩ : Fin n) = k := Fin.ext (by simp only; omega)
    simp only [e'] at e
    rw [← e]; exact Finset.le_sup (f := f) (Finset.mem_univ _)

theorem sup_split (S : Fin 260 → EReal) : Finset.univ.sup S
    = max (Finset.univ.sup fun k : Fin 256 => S ⟨k.val, by omega⟩) (Finset.univ.sup fun u : Fin 4 => S ⟨256 + u.val, by omega⟩) := by
  apply le_antisymm
  · refine Finset.sup_le fun j _ => ?_
    by_cases e : j.val < 256
    · exact le_max_of_le_left (Finset.le_sup (f := fun k : Fin 256 => S ⟨k.val, by omega⟩) (Finset.mem_univ (⟨j.val, e⟩ : Fin 256)))
    · have := Finset.le_sup (f := fun u : Fin 4 => S ⟨256 + u.val, by omega⟩) (Finset.mem_univ (⟨j.val - 256, by omega⟩ : Fin 4))
      have e' : (⟨256 + (j.val - 256), by omega⟩ : Fin 260) = j := Fin.ext (by simp only; omega)
      simp only [e'] at this
      exact le_max_of_le_right this
  · exact max_le (Finset.sup_le fun k _ => Finset.le_sup (f := S) (Finset.mem_univ _))
      (Finset.sup_le fun k _ => Finset.le_sup (f := S) (Finset.mem_univ _))

theorem sum_split (f : Fin 260 → EReal) :
    ∑ j, f j = (∑ k : Fin 256, f ⟨k.val, by omega⟩) + ∑ u : Fin 4, f ⟨256 + u.val, by omega⟩ :=
  Fin.sum_univ_add (a := 256) (b := 4) f

/-- A nonnegative factor below `⊤` distributes over a sum. -/
theorem sum_mul {ι : Type} (s : Finset ι) (f : ι → EReal) (c : EReal) (h0 : 0 ≤ c) (hc : c ≠ ⊤) : (∑ i ∈ s, f i) * c = ∑ i ∈ s, f i * c := by
  classical
  induction s using Finset.induction_on with
  | empty => simp
  | insert a s ha ih =>
    rw [Finset.sum_insert ha, Finset.sum_insert ha, ← ih, EReal.right_distrib_of_nonneg_of_ne_top h0 hc]

theorem inv_ne_top (l : EReal) : l⁻¹ ≠ ⊤ := by
  induction l using EReal.rec with
  | bot => simp
  | top => simp
  | coe r => rw [← EReal.coe_inv]; exact EReal.coe_ne_top _

/-- The masked columns of all heads, summed unnormalised and divided once, against the softmax average over the slots. -/
theorem core_eq (S V : Fin 260 → EReal) (h : Fin 8) (K1 V1 : Fin 2048 → EReal) (K2 V2 : Fin 32 → EReal)
    (z1 : ∀ c : Fin 2048, c.val % 8 ≠ h.val → K1 c = ⊥) (e1 : ∀ c : Fin 2048, c.val % 8 = h.val → K1 c = S ⟨c.val / 8, by omega⟩)
    (v1 : ∀ c : Fin 2048, c.val % 8 = h.val → V1 c = V ⟨c.val / 8, by omega⟩)
    (z2 : ∀ c : Fin 32, c.val % 8 ≠ h.val → K2 c = ⊥) (e2 : ∀ c : Fin 32, c.val % 8 = h.val → K2 c = S ⟨256 + c.val / 8, by omega⟩)
    (v2 : ∀ c : Fin 32, c.val % 8 = h.val → V2 c = V ⟨256 + c.val / 8, by omega⟩)
    (hS : ∀ j, S j ≠ ⊤) (j0 : Fin 260) (hj : S j0 ≠ ⊥) (M : EReal)
    (hM : M = max (Finset.univ.fold max NEG K1) (Finset.univ.fold max NEG K2)) :
    Ideal.div ((∑ c, Ideal.exp (K1 c - M) * V1 c) + ∑ u, Ideal.exp (K2 u - M) * V2 u)
      ((∑ c, Ideal.exp (K1 c - M)) + ∑ u, Ideal.exp (K2 u - M)) = attend S V := by
  have hM' : M = Finset.univ.sup S := by
    rw [hM, NEG_eq, sup_split]
    exact congrArg₂ max (sup_columns 256 h K1 _ z1 e1) (sup_columns 4 h K2 (fun u => S ⟨256 + u.val, by omega⟩) z2 e2)
  have zexp (x : EReal) (hx : x = ⊥) : Ideal.exp (x - M) = 0 := by rw [hx, sub_eq_add_neg, EReal.bot_add, exp_bot]
  have hl : (∑ c, Ideal.exp (K1 c - M)) + ∑ u, Ideal.exp (K2 u - M) = ∑ j, Ideal.exp (S j - M) := by
    rw [sum_split]
    refine congrArg₂ (· + ·) ?_ ?_
    · exact sum_columns 256 h _ _ (fun c hc => zexp _ (z1 c hc)) (fun c hc => by rw [e1 c hc])
    · exact sum_columns 4 h (fun u : Fin 32 => Ideal.exp (K2 u - M)) (fun u : Fin 4 => Ideal.exp (S ⟨256 + u.val, by omega⟩ - M)) (fun c hc => zexp _ (z2 c hc)) (fun c hc => by simp only [e2 c hc])
  have hn : (∑ c, Ideal.exp (K1 c - M) * V1 c) + ∑ u, Ideal.exp (K2 u - M) * V2 u = ∑ j, Ideal.exp (S j - M) * V j := by
    rw [sum_split]
    refine congrArg₂ (· + ·) ?_ ?_
    · exact sum_columns 256 h _ _ (fun c hc => by simp only [zexp _ (z1 c hc), zero_mul]) (fun c hc => by rw [e1 c hc, v1 c hc])
    · exact sum_columns 4 h (fun u : Fin 32 => Ideal.exp (K2 u - M) * V2 u) (fun u : Fin 4 => Ideal.exp (S ⟨256 + u.val, by omega⟩ - M) * V ⟨256 + u.val, by omega⟩)
        (fun c hc => by simp only [zexp _ (z2 c hc), zero_mul]) (fun c hc => by simp only [e2 c hc, v2 c hc])
  have hMt : M ≠ ⊤ := by
    rw [hM']
    exact ne_of_lt ((Finset.sup_lt_iff bot_lt_top).2 fun j _ => lt_top_iff_ne_top.2 (hS j))
  have hpos : 0 < Ideal.exp (S j0 - M) := by
    apply exp_pos
    rw [sub_eq_add_neg]
    intro e
    rcases EReal.add_eq_bot_iff.1 e with e | e
    · exact hj e
    · exact hMt (EReal.neg_eq_bot_iff.1 e)
  have hl0 : ∑ j, Ideal.exp (S j - M) ≠ 0 := by
    have := Finset.single_le_sum (f := fun j => Ideal.exp (S j - M)) (fun j _ => exp_nonneg _) (Finset.mem_univ j0)
    exact ne_of_gt (lt_of_lt_of_le hpos this)
  have hl1 : 0 ≤ ∑ j, Ideal.exp (S j - M) := Finset.sum_nonneg fun j _ => exp_nonneg _
  rw [hl, hn]
  unfold attend
  rw [top_eq, ← hM']
  simp only [Ideal.div, if_neg hl0]
  rw [sum_mul _ _ _ (EReal.inv_nonneg_of_nonneg hl1) (inv_ne_top _)]
  exact Finset.sum_congr rfl fun j _ => by rw [mul_assoc, mul_comm (V j), ← mul_assoc]

end Cert.Attend
-- ==== Proof.Attend.Columns.lean ====
/- One row and head as the kernel computes it: masked scores of the columns of all heads (`past`, `fresh`), unnormalised weights divided once
   (`mean`), and the theorem that this is the softmax average over the row's slots (`mean_eq`). -/
module

public import proofs.«01_k».proof.Proof.Attend.Spec

@[expose] public section

set_option maxRecDepth 16384

noncomputable section

namespace Cert.Attend

open Idealize.ShloMosaic
open scoped BigOperators

/-- The masked score of gathered column `c` (slot `c / 8`, head `c % 8`) for head `h`: `n` the count of selected past keys. -/
def past (n : BitVec 32) (h : Fin 8) (q : Fin 128 → EReal) (k : Fin 2048 → Fin 128 → EReal) (c : Fin 2048) : EReal :=
  Scalar.select (IntOp.andi (IntOp.cmpi .eq (IntOp.andi (BitVec.ofNat 32 c.val) 7#32) (BitVec.ofNat 32 h.val))
    (IntOp.cmpi .slt (IntOp.shrui ArithUnit.vector (BitVec.ofNat 32 c.val) 3#32) n)) (∑ e : Fin 128, q e * k c e) NEG

/-- The masked score of new column `u` (key `u / 8`, head `u % 8`) for head `h`: `s` the mask of the four new keys. -/
def fresh (s0 s1 s2 s3 : EReal) (h : Fin 8) (q : Fin 128 → EReal) (k : Fin 32 → Fin 128 → EReal) (u : Fin 32) : EReal :=
  Scalar.select (IntOp.andi (IntOp.ori (IntOp.ori (IntOp.ori (IntOp.ori (0#1)
      (IntOp.andi (IntOp.cmpi .eq (IntOp.shrui ArithUnit.vector (BitVec.ofNat 32 u.val) 3#32) 0#32) (BitVec.ofBool (decide (Ideal.ofBits .f32 1056964608#32 < s0)))))
      (IntOp.andi (IntOp.cmpi .eq (IntOp.shrui ArithUnit.vector (BitVec.ofNat 32 u.val) 3#32) 1#32) (BitVec.ofBool (decide (Ideal.ofBits .f32 1056964608#32 < s1)))))
      (IntOp.andi (IntOp.cmpi .eq (IntOp.shrui ArithUnit.vector (BitVec.ofNat 32 u.val) 3#32) 2#32) (BitVec.ofBool (decide (Ideal.ofBits .f32 1056964608#32 < s2)))))
      (IntOp.andi (IntOp.cmpi .eq (IntOp.shrui ArithUnit.vector (BitVec.ofNat 32 u.val) 3#32) 3#32) (BitVec.ofBool (decide (Ideal.ofBits .f32 1056964608#32 < s3)))))
    (IntOp.cmpi .eq (IntOp.andi (BitVec.ofNat 32 u.val) 7#32) (BitVec.ofNat 32 h.val))) (∑ e : Fin 128, q e * k u e) NEG

/-- Unnormalised weights of two sets of columns, their weighted sums added and divided once. -/
def mean (K1 V1 : Fin 2048 → EReal) (K2 V2 : Fin 32 → EReal) : EReal :=
  Ideal.div ((∑ c, Ideal.exp (K1 c - max (Finset.univ.fold max NEG K1) (Finset.univ.fold max NEG K2)) * V1 c)
      + ∑ u, Ideal.exp (K2 u - max (Finset.univ.fold max NEG K1) (Finset.univ.fold max NEG K2)) * V2 u)
    ((∑ c, Ideal.exp (K1 c - max (Finset.univ.fold max NEG K1) (Finset.univ.fold max NEG K2)))
      + ∑ u, Ideal.exp (K2 u - max (Finset.univ.fold max NEG K1) (Finset.univ.fold max NEG K2)))

/-- A column's head, read off its number's low three bits. -/
theorem head_bit : ∀ (c : Fin 2048) (h : Fin 8), IntOp.cmpi .eq (IntOp.andi (BitVec.ofNat 32 c.val) 7#32) (BitVec.ofNat 32 h.val)
    = BitVec.ofBool (decide (c.val % 8 = h.val)) := by decide +kernel

/-- A column's slot, the number's other bits. -/
theorem slot_word : ∀ c : Fin 2048, IntOp.shrui ArithUnit.vector (BitVec.ofNat 32 c.val) 3#32 = BitVec.ofNat 32 (c.val / 8) := by decide +kernel

/-- The mask of a new column is its key's. -/
theorem fresh_bit : ∀ (u : Fin 32) (p : Fin 4 → Bool),
    IntOp.ori (IntOp.ori (IntOp.ori (IntOp.ori (0#1)
      (IntOp.andi (IntOp.cmpi .eq (IntOp.shrui ArithUnit.vector (BitVec.ofNat 32 u.val) 3#32) 0#32) (BitVec.ofBool (p 0))))
      (IntOp.andi (IntOp.cmpi .eq (IntOp.shrui ArithUnit.vector (BitVec.ofNat 32 u.val) 3#32) 1#32) (BitVec.ofBool (p 1))))
      (IntOp.andi (IntOp.cmpi .eq (IntOp.shrui ArithUnit.vector (BitVec.ofNat 32 u.val) 3#32) 2#32) (BitVec.ofBool (p 2))))
      (IntOp.andi (IntOp.cmpi .eq (IntOp.shrui ArithUnit.vector (BitVec.ofNat 32 u.val) 3#32) 3#32) (BitVec.ofBool (p 3)))
      = BitVec.ofBool (p ⟨u.val / 8, by omega⟩) := by decide +kernel

theorem andi_one : ∀ b : BitVec 1, IntOp.andi 1#1 b = b := by decide
theorem andi_zero : ∀ b : BitVec 1, IntOp.andi 0#1 b = 0#1 := by decide
theorem andi_one' : ∀ b : BitVec 1, IntOp.andi b 1#1 = b := by decide
theorem andi_zero' : ∀ b : BitVec 1, IntOp.andi b 0#1 = 0#1 := by decide

theorem select_zero (x y : EReal) : Scalar.select 0#1 x y = y := rfl
theorem select_one (x y : EReal) : Scalar.select 1#1 x y = x := rfl

/-- The scale is a real number. -/
theorem scale_real : ∃ r : ℝ, 0 ≤ r ∧ Ideal.ofBits .f32 1035273459#32 = (r : EReal) := by
  refine ⟨(11863283 : ℝ) / 134217728, by positivity, ?_⟩
  simp [Ideal.ofBits, Ideal.ieee, -EReal.coe_mul]
  norm_num

/-- A finite sum of products of real numbers is real. -/
theorem dot_real {n : ℕ} (a b : Fin n → EReal) (ha : ∀ e, a e ≠ ⊤ ∧ a e ≠ ⊥) (hb : ∀ e, b e ≠ ⊤ ∧ b e ≠ ⊥) : ∃ r : ℝ, ∑ e, a e * b e = (r : EReal) := by
  have key (s : Finset (Fin n)) : ∃ r : ℝ, ∑ e ∈ s, a e * b e = (r : EReal) := by
    induction s using Finset.induction_on with
    | empty => exact ⟨0, by simp⟩
    | insert e s he ih =>
      obtain ⟨r, hr⟩ := ih
      refine ⟨(a e).toReal * (b e).toReal + r, ?_⟩
      rw [Finset.sum_insert he, hr, EReal.coe_add, EReal.coe_mul, EReal.coe_toReal (ha e).1 (ha e).2, EReal.coe_toReal (hb e).1 (hb e).2]
  exact key _

theorem select_cases (b : BitVec 1) (x y : EReal) : Scalar.select b x y = x ∨ Scalar.select b x y = y := by
  unfold Scalar.select; split <;> simp

/-- One row and head of the kernel is the softmax average over the row's slots, when queries and keys are real and some past key is selected. -/
theorem mean_eq (n : BitVec 32) (s : Fin 4 → EReal) (h : Fin 8) (q : Fin 128 → EReal) (k : Fin 260 → Fin 128 → EReal) (v : Fin 260 → EReal)
    (k1 : Fin 2048 → Fin 128 → EReal) (v1 : Fin 2048 → EReal) (k2 : Fin 32 → Fin 128 → EReal) (v2 : Fin 32 → EReal)
    (hk1 : ∀ c : Fin 2048, c.val % 8 = h.val → k1 c = k ⟨c.val / 8, by omega⟩) (hv1 : ∀ c : Fin 2048, c.val % 8 = h.val → v1 c = v ⟨c.val / 8, by omega⟩)
    (hk2 : ∀ u : Fin 32, u.val % 8 = h.val → k2 u = k ⟨256 + u.val / 8, by omega⟩) (hv2 : ∀ u : Fin 32, u.val % 8 = h.val → v2 u = v ⟨256 + u.val / 8, by omega⟩)
    (hq : ∀ e, q e ≠ ⊤ ∧ q e ≠ ⊥) (hk : ∀ j e, k j e ≠ ⊤ ∧ k j e ≠ ⊥) (hn : IntOp.cmpi .slt (0#32) n = 1#1) :
    mean (past n h (fun e => q e * Ideal.ofBits .f32 1035273459#32) k1) v1 (fresh (s 0) (s 1) (s 2) (s 3) h (fun e => q e * Ideal.ofBits .f32 1035273459#32) k2) v2
      = attend (slotScore n s q k) v := by
  obtain ⟨r, hr, er⟩ := scale_real
  have scaled (b : Fin 128 → EReal) : ∑ e, (q e * Ideal.ofBits .f32 1035273459#32) * b e = (∑ e, q e * b e) * Ideal.ofBits .f32 1035273459#32 := by
    rw [er, sum_mul _ _ _ (by exact_mod_cast hr) (EReal.coe_ne_top _)]
    exact Finset.sum_congr rfl fun e _ => by rw [mul_assoc, mul_comm (r : EReal), ← mul_assoc]
  have real (j : Fin 260) : ∃ x : ℝ, (∑ e, q e * k j e) * Ideal.ofBits .f32 1035273459#32 = (x : EReal) := by
    obtain ⟨x, hx⟩ := dot_real q (k j) hq (hk j)
    exact ⟨x * r, by rw [hx, er, EReal.coe_mul]⟩
  unfold mean
  refine core_eq (slotScore n s q k) v h _ v1 _ v2 ?_ ?_ hv1 ?_ ?_ hv2 ?_ ⟨0, by omega⟩ ?_ _ rfl
  · intro c hc
    unfold past
    rw [head_bit, decide_eq_false hc]
    exact (congrArg (fun b => Scalar.select b _ _) (andi_zero _)).trans NEG_eq
  · intro c hc
    unfold past slotScore bit
    rw [head_bit, decide_eq_true hc, slot_word, dif_pos (show c.val / 8 < 256 by omega), scaled, hk1 c hc]
    exact congrArg (fun b => Scalar.select b _ _) (andi_one _)
  · intro u hu
    unfold fresh
    rw [head_bit ⟨u.val, by omega⟩, decide_eq_false hu]
    exact (congrArg (fun b => Scalar.select b _ _) (andi_zero' _)).trans NEG_eq
  · intro u hu
    unfold fresh slotScore bit
    rw [head_bit ⟨u.val, by omega⟩, decide_eq_true hu, dif_neg (by simp), scaled, hk2 u hu]
    refine congrArg (fun b => Scalar.select b _ _) ((andi_one' _).trans ?_)
    refine (fresh_bit u fun w => decide (Ideal.ofBits .f32 1056964608#32 < s w)).trans ?_
    simp
  · intro j
    rcases select_cases (bit n s j) ((∑ e, q e * k j e) * Ideal.ofBits .f32 1035273459#32) NEG with e | e
    · unfold slotScore; rw [e]; obtain ⟨x, hx⟩ := real j; rw [hx]; exact EReal.coe_ne_top _
    · unfold slotScore; rw [e, NEG_eq]; exact bot_ne_top
  · unfold slotScore bit
    rw [dif_pos (show (0 : ℕ) < 256 by omega)]
    obtain ⟨x, hx⟩ := real ⟨0, by omega⟩
    rw [hx]
    exact (congrArg (fun b => Scalar.select b _ _) hn).trans_ne (EReal.coe_ne_bot _)

/-- Slot `j` of row `t` of sequence `b`, head `h`: a gathered row for the first 256 slots, a new one for the last four. -/
def slot (z : (⟨2, ![262144, 128]⟩ : Shape).Idx → EReal) (zn : (⟨4, ![32, 4, 8, 128]⟩ : Shape).Idx → EReal) (b : Fin 32) (t : Fin 4) (h : Fin 8)
    (j : Fin 260) (e : Fin 128) : EReal :=
  if hj : j.val < 256 then z (ix2 (⟨b.val * 8192 + t.val * 2048 + j.val * 8 + h.val, by omega⟩ : Fin 262144) e)
  else zn (ix4 b (⟨j.val - 256, by omega⟩ : Fin 4) h e)

/-- The count of the past keys that row `t` of sequence `b` selects. -/
def selected (sel : (⟨3, ![32, 4, 8320]⟩ : Shape).Idx → EReal) (b : Fin 32) (t : Fin 4) : BitVec 32 :=
  FloatOps.fptosi (F := Ideal) (φ := .f32) 32 (∑ x : Fin 8192, sel (ix3 b t (⟨x.val, by omega⟩ : Fin 8320)))

/-- The attention of row `t` of sequence `b`, head `h`, at coordinate `d`. -/
def at4 (sel : (⟨3, ![32, 4, 8320]⟩ : Shape).Idx → EReal) (q : (⟨4, ![32, 4, 8, 128]⟩ : Shape).Idx → EReal) (kg vg : (⟨2, ![262144, 128]⟩ : Shape).Idx → EReal)
    (kn vn : (⟨4, ![32, 4, 8, 128]⟩ : Shape).Idx → EReal) (b : Fin 32) (t : Fin 4) (h : Fin 8) (d : Fin 128) : EReal :=
  attend (slotScore (selected sel b t) (fun u => sel (ix3 b t (⟨8192 + u.val, by omega⟩ : Fin 8320))) (fun e => q (ix4 b t h e)) (slot kg kn b t h))
    (fun j => slot vg vn b t h j d)

theorem slot_past (z : (⟨2, ![262144, 128]⟩ : Shape).Idx → EReal) (zn : (⟨4, ![32, 4, 8, 128]⟩ : Shape).Idx → EReal) (b : Fin 32) (t : Fin 4) (h : Fin 8)
    (c : Fin 2048) (hc : c.val % 8 = h.val) (e : Fin 128) :
    z (ix2 (⟨b.val * 8192 + t.val * 2048 + c.val, by omega⟩ : Fin 262144) e) = slot z zn b t h ⟨c.val / 8, by omega⟩ e := by
  unfold slot
  rw [dif_pos (show c.val / 8 < 256 by omega)]
  exact congrArg (fun r => z (ix2 r e)) (Fin.ext (by simp only; omega))

theorem slot_new (z : (⟨2, ![262144, 128]⟩ : Shape).Idx → EReal) (zn : (⟨4, ![32, 4, 8, 128]⟩ : Shape).Idx → EReal) (b : Fin 32) (t : Fin 4) (h : Fin 8)
    (u : Fin 32) (hu : u.val % 8 = h.val) (e : Fin 128) :
    zn (ix4 b (⟨u.val / 8, by omega⟩ : Fin 4) (⟨u.val % 8, by omega⟩ : Fin 8) e) = slot z zn b t h ⟨256 + u.val / 8, by omega⟩ e := by
  unfold slot
  rw [dif_neg (by simp)]
  have e1 : (⟨u.val % 8, by omega⟩ : Fin 8) = h := Fin.ext hu
  rw [e1]
  exact congrArg (fun r => zn (ix4 b r h e)) (Fin.ext (by simp))

/-- One row and head of the kernel, its columns read off the argument arrays, is the row's attention. -/
theorem block_eq (sel : (⟨3, ![32, 4, 8320]⟩ : Shape).Idx → EReal) (q : (⟨4, ![32, 4, 8, 128]⟩ : Shape).Idx → EReal) (kg vg : (⟨2, ![262144, 128]⟩ : Shape).Idx → EReal)
    (kn vn : (⟨4, ![32, 4, 8, 128]⟩ : Shape).Idx → EReal) (b : Fin 32) (t : Fin 4) (h : Fin 8) (d : Fin 128)
    (hq : ∀ i, q i ≠ ⊤ ∧ q i ≠ ⊥) (hk : ∀ i, kg i ≠ ⊤ ∧ kg i ≠ ⊥) (hn : ∀ i, kn i ≠ ⊤ ∧ kn i ≠ ⊥)
    (hs : IntOp.cmpi .slt (0#32) (selected sel b t) = 1#1) :
    mean (past (selected sel b t) h (fun e => q (ix4 b t h e) * Ideal.ofBits .f32 1035273459#32)
        (fun c e => kg (ix2 (⟨b.val * 8192 + t.val * 2048 + c.val, by omega⟩ : Fin 262144) e)))
      (fun c => vg (ix2 (⟨b.val * 8192 + t.val * 2048 + c.val, by omega⟩ : Fin 262144) d))
      (fresh (sel (ix3 b t (8192 : Fin 8320))) (sel (ix3 b t (8193 : Fin 8320))) (sel (ix3 b t (8194 : Fin 8320))) (sel (ix3 b t (8195 : Fin 8320))) h
        (fun e => q (ix4 b t h e) * Ideal.ofBits .f32 1035273459#32)
        (fun u e => kn (ix4 b (⟨u.val / 8, by omega⟩ : Fin 4) (⟨u.val % 8, by omega⟩ : Fin 8) e)))
      (fun u => vn (ix4 b (⟨u.val / 8, by omega⟩ : Fin 4) (⟨u.val % 8, by omega⟩ : Fin 8) d))
      = at4 sel q kg vg kn vn b t h d := by
  refine mean_eq (selected sel b t) (fun u => sel (ix3 b t (⟨8192 + u.val, by omega⟩ : Fin 8320))) h (fun e => q (ix4 b t h e)) (slot kg kn b t h)
    (fun j => slot vg vn b t h j d) _ _ _ _ ?_ ?_ ?_ ?_ (fun e => hq _) ?_ hs
  · intro c hc; funext e; exact slot_past kg kn b t h c hc e
  · intro c hc; exact slot_past vg vn b t h c hc d
  · intro u hu; funext e; exact slot_new kg kn b t h u hu e
  · intro u hu; exact slot_new vg vn b t h u hu d
  · intro j e
    unfold slot
    split
    · exact hk _
    · exact hn _

end Cert.Attend
-- ==== Proof.Attend.Pre.lean ====
/- What the precondition `past_key_selected` says entry by entry: the queries and both key arrays are finite, and every
   row selects at least one past key. -/
module

public import proofs.«01_k».proof.Proof.Attend.Columns
public import proofs.«01_k».proof.Pre_past_key_selected
public import Idealize.ShloMosaic.Lib.ReduceAll
public import Idealize.ShloMosaic.Lib.Decide

@[expose] public section

set_option maxRecDepth 100000

noncomputable section

namespace Cert.Pre_past_key_selected.Own

open Idealize.ShloMosaic Cert.Pre_past_key_selected

theorem slices_S32x4x8320_S32x4x8192_0_0_0 : S32x4x8320.Slices ![0, 0, 0] S32x4x8192 := by decide
theorem reducesTo_S32x4x8192_S32x4_d2 : S32x4x8192.ReducesTo [2] S32x4 := by decide
theorem h_S_ : 0 < S_.numel := by decide
theorem bcast_S_S32x4x8x128 : S_.BroadcastsInDim S32x4x8x128 (![] : Fin 0 → Fin S32x4x8x128.rank) := by decide
theorem reducesTo_S32x4x8x128_S_d0_1_2_3 : S32x4x8x128.ReducesTo [0, 1, 2, 3] S_ := by decide
theorem bcast_S_S262144x128 : S_.BroadcastsInDim S262144x128 (![] : Fin 0 → Fin S262144x128.rank) := by decide
theorem reducesTo_S262144x128_S_d0_1 : S262144x128.ReducesTo [0, 1] S_ := by decide
theorem bcast_S_S32x4 : S_.BroadcastsInDim S32x4 (![] : Fin 0 → Fin S32x4.rank) := by decide
theorem reducesTo_S32x4_S_d0_1 : S32x4.ReducesTo [0, 1] S_ := by decide

/-- The side conditions of the precondition's operations. -/
instance facts : Cert.Pre_past_key_selected.Facts where
  slices_S32x4x8320_S32x4x8192_0_0_0 := slices_S32x4x8320_S32x4x8192_0_0_0
  reducesTo_S32x4x8192_S32x4_d2 := reducesTo_S32x4x8192_S32x4_d2
  h_S_ := h_S_
  bcast_S_S32x4x8x128 := bcast_S_S32x4x8x128
  reducesTo_S32x4x8x128_S_d0_1_2_3 := reducesTo_S32x4x8x128_S_d0_1_2_3
  bcast_S_S262144x128 := bcast_S_S262144x128
  reducesTo_S262144x128_S_d0_1 := reducesTo_S262144x128_S_d0_1
  bcast_S_S32x4 := bcast_S_S32x4
  reducesTo_S32x4_S_d0_1 := reducesTo_S32x4_S_d0_1

/-- A conjunction of two bits is set only when both are. -/
theorem andi_one (p q : BitVec 1) (h : IntOp.andi p q = 1#1) : p = 1#1 ∧ q = 1#1 := by
  revert p q; decide

/-- An absolute value below the top is that of a finite number. -/
theorem finite_of_abs (x : EReal) (h : BitVec.ofBool (decide (max x (-x) < Ideal.ofBits .f32 0x7F800000#32)) = 1#1) : x ≠ ⊤ ∧ x ≠ ⊥ := by
  have hlt : max x (-x) < Ideal.ofBits .f32 0x7F800000#32 := by
    by_contra hc
    simp [hc] at h
  constructor
  · rintro rfl
    rw [max_eq_left le_top] at hlt
    exact absurd hlt (not_lt.2 le_top)
  · rintro rfl
    rw [EReal.neg_bot, max_eq_right le_top] at hlt
    exact absurd hlt (not_lt.2 le_top)

/-- Greater than zero, read the other way round. -/
theorem slt_of_sgt (v : BitVec 32) (h : IntOp.cmpi .sgt v 0#32 = 1#1) : IntOp.cmpi .slt 0#32 v = 1#1 := h

variable (sel : FVec Ideal S32x4x8320 .f32) (q : FVec Ideal S32x4x8x128 .f32) (kg vg : FVec Ideal S262144x128 .f32) (kn vn : FVec Ideal S32x4x8x128 .f32)

/-- The precondition read entry by entry. -/
theorem entries (h : fn (F := Ideal) sel q kg vg kn vn = fun _ => 1#1) :
    (∀ i, (q i : EReal) ≠ ⊤ ∧ (q i : EReal) ≠ ⊥) ∧ (∀ i, (kg i : EReal) ≠ ⊤ ∧ (kg i : EReal) ≠ ⊥) ∧ (∀ i, (kn i : EReal) ≠ ⊤ ∧ (kn i : EReal) ≠ ⊥)
      ∧ ∀ b t, IntOp.cmpi .slt (0#32) (Cert.Attend.selected sel b t) = 1#1 := by
  have : Subsingleton S_.Idx := ⟨fun a b => funext fun x => x.elim0⟩
  have e := congrFun h (fun a => a.elim0)
  obtain ⟨e1, es⟩ := andi_one _ _ e
  obtain ⟨e2, en⟩ := andi_one _ _ e1
  obtain ⟨eq, ek⟩ := andi_one _ _ e2
  refine ⟨fun i => finite_of_abs _ (Host.reduce_andi_all _ _ _ _ _ eq i), fun i => finite_of_abs _ (Host.reduce_andi_all _ _ _ _ _ ek i),
    fun i => finite_of_abs _ (Host.reduce_andi_all _ _ _ _ _ en i), fun b t => slt_of_sgt _ ?_⟩
  refine (congrArg (fun z => IntOp.cmpi .sgt z 0#32) ?_).trans (Host.reduce_andi_all _ _ _ _ _ es (ix2 b t))
  unfold Cert.Attend.selected
  pointwise

end Cert.Pre_past_key_selected.Own
-- ==== Proof.Attend.Frames.lean ====
/- The gathered attention: every run of the kernel and of the reference ends, leaves the arguments alone and no count standing. -/
module

public import proofs.«01_k».proof.Proof.Gen.KernelAttend.Frame
public import proofs.«01_k».proof.Proof.Gen.KernelAttendIdeal.Frame
public import proofs.«01_k».proof.Proof.Gen.ReferenceAttendIdeal.Run
public import proofs.«01_k».proof.Proof.Attend.Pre
public import proofs.«01_k».proof.Defs

@[expose] public section

noncomputable section

namespace Cert.Attend

open Idealize.ShloMosaic Idealize.SL.Sem

theorem frame_kernel : Cert.quiescent_KernelAttend := fun m ρ _ => Cert.KernelAttend.Gen.frame (F := Bits) m ρ
theorem frame_ideal : Cert.quiescent_KernelAttendIdeal := fun m ρ _ => Cert.KernelAttendIdeal.Gen.frame (F := Ideal) m ρ
theorem frame_ideal_pre : Cert.quiescent_KernelAttendIdeal_pre_past_key_selected := fun m ρ _ => Cert.KernelAttendIdeal.Gen.frame (F := Ideal) m ρ
theorem frame_reference : Cert.quiescent_ReferenceAttendIdeal := fun m ρ _ =>
  (θ_run Cert.ReferenceAttendIdeal.defs _ _).mono (fun r h => ⟨fun c => (h c).2, sem_eq_zero_of_no_sems (by decide) r.2⟩)
    (Cert.ReferenceAttendIdeal.Value.run (F := Ideal) m ρ)
theorem frame_reference_pre : Cert.quiescent_ReferenceAttendIdeal_pre_past_key_selected := fun m ρ _ => frame_reference m ρ trivial

end Cert.Attend
-- ==== Proof.Attend.Kernel.lean ====
module
public import proofs.«01_k».proof.Proof.Gen.KernelAttendIdeal.Frame
public import proofs.«01_k».proof.Proof.Attend.Columns
public import Idealize.ShloMosaic.Lib.Pipeline.ValueKit
@[expose] public section
set_option maxRecDepth 100000
noncomputable section
namespace Cert.KernelAttendIdeal.Attend
open Cert.KernelAttendIdeal Cert.KernelAttendIdeal.Gen Idealize.ShloMosaic Idealize.ShloMosaic.TcCoe Idealize.SL.Sem
open Cert.Attend
open scoped BigOperators
variable (m : (ℓ : Loc nD τ sig) → Buf (Elt Ideal) ℓ) (ρ : Dev nD → PrngReg)

set_option maxHeartbeats 1600000 in
/-- One grid point's block of the result, row by row: the row's head is its number modulo 8. -/
theorem point (x0 : Vec Ideal S1x4x8320 .f32) (x1 : Vec Ideal S1x32x128 .bf16) (x2 x3 : Vec Ideal S4x2048x128 .f32) (x4 x5 : Vec Ideal S1x32x128 .bf16) (y : S1x32x128.Idx) (t : Fin 4) (h : Fin 8) (hy : (y 1).val = 8 * t.val + h.val) : out0_6 (F := Ideal) x0 x1 x2 x3 x4 x5 y
    = mean (past (FloatOps.fptosi (F := Ideal) (φ := .f32) 32 (∑ x : Fin 8192, (x0 (ix3 (0 : Fin 1) t ⟨x.val, by omega⟩) : EReal))) h
          (fun e => x1 (ix3 (0 : Fin 1) (y 1) e)) (fun c e => x2 (ix3 t c e))) (fun c => x3 (ix3 t c (y 2)))
        (fresh (x0 (ix3 (0 : Fin 1) t 8192)) (x0 (ix3 (0 : Fin 1) t 8193)) (x0 (ix3 (0 : Fin 1) t 8194)) (x0 (ix3 (0 : Fin 1) t 8195)) h
          (fun e => x1 (ix3 (0 : Fin 1) (y 1) e)) (fun u e => x4 (ix3 (0 : Fin 1) u e))) (fun u => x5 (ix3 (0 : Fin 1) u (y 2))) := by
  have hlt := h.isLt
  canon_tiles x hx
  case piece0 =>
    obtain rfl : h = x 1 := Fin.ext (by omega)
    obtain rfl : t = 3 := Fin.ext (by show t.val = 3; omega)
    rw [show y 1 = (⟨24 + (x 1).val, by omega⟩ : Fin 32) from Fin.ext (by simp only; omega), show y 2 = x 2 from Fin.ext hx2]
    open_payloads
    pointwise
    rfl
  case piece1 =>
    obtain rfl : h = x 1 := Fin.ext (by omega)
    obtain rfl : t = 2 := Fin.ext (by show t.val = 2; omega)
    rw [show y 1 = (⟨16 + (x 1).val, by omega⟩ : Fin 32) from Fin.ext (by simp only; omega), show y 2 = x 2 from Fin.ext hx2]
    open_payloads
    pointwise
    rfl
  case piece2 =>
    obtain rfl : h = x 1 := Fin.ext (by omega)
    obtain rfl : t = 1 := Fin.ext (by show t.val = 1; omega)
    rw [show y 1 = (⟨8 + (x 1).val, by omega⟩ : Fin 32) from Fin.ext (by simp only; omega), show y 2 = x 2 from Fin.ext hx2]
    open_payloads
    pointwise
    rfl
  case piece3 =>
    obtain rfl : h = x 1 := Fin.ext (by omega)
    obtain rfl : t = 0 := Fin.ext (by show t.val = 0; omega)
    rw [show y 1 = (⟨(x 1).val, by omega⟩ : Fin 32) from Fin.ext (by simp only; omega), show y 2 = x 2 from Fin.ext hx2]
    open_payloads
    pointwise
    rfl
/-- Every window's block at grid point `t` is the `t`-th. -/
theorem idx_val : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0] :=
  (by decide +kernel : ∀ t : Fin grid0.N, _)

/-- The argument arrays, as functions to the extended reals. -/
abbrev arr0 (c : Dev nD) : S32x4x8320.Idx → EReal := m ((c.tc : Thread nD τ).loc main_arg0)
abbrev arr1 (c : Dev nD) : S32x4x8x128.Idx → EReal := m ((c.tc : Thread nD τ).loc main_arg1)
abbrev arr2 (c : Dev nD) : S262144x128.Idx → EReal := m ((c.tc : Thread nD τ).loc main_arg2)
abbrev arr3 (c : Dev nD) : S262144x128.Idx → EReal := m ((c.tc : Thread nD τ).loc main_arg3)
abbrev arr4 (c : Dev nD) : S32x4x8x128.Idx → EReal := m ((c.tc : Thread nD τ).loc main_arg4)
abbrev arr5 (c : Dev nD) : S32x4x8x128.Idx → EReal := m ((c.tc : Thread nD τ).loc main_arg5)

/-- The result array of the kernel. -/
def result (c : Dev nD) : S32x32x128.Idx → EReal := fun i =>
  at4 (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (i 0) (⟨(i 1).val / 8, by have : (i 1).val < 32 := (i 1).isLt; omega⟩) (⟨(i 1).val % 8, by omega⟩) (i 2)

/-- One entry of a grid point's output block, when its input blocks are sequence `b`'s. -/
theorem row (x0 : Vec Ideal S1x4x8320 .f32) (x1 : Vec Ideal S1x32x128 .bf16) (x2 x3 : Vec Ideal S4x2048x128 .f32) (x4 x5 : Vec Ideal S1x32x128 .bf16)
    (sel : (⟨3, ![32, 4, 8320]⟩ : Shape).Idx → EReal) (q : (⟨4, ![32, 4, 8, 128]⟩ : Shape).Idx → EReal) (kg vg : (⟨2, ![262144, 128]⟩ : Shape).Idx → EReal)
    (kn vn : (⟨4, ![32, 4, 8, 128]⟩ : Shape).Idx → EReal) (b : Fin 32)
    (h0 : ∀ (a : Fin 4) (x : Fin 8320), (x0 (ix3 (0 : Fin 1) a x) : EReal) = sel (ix3 b a x))
    (h1 : ∀ (a : Fin 32) (x : Fin 128), (x1 (ix3 (0 : Fin 1) a x) : EReal)
      = q (ix4 b (⟨a.val / 8, by omega⟩ : Fin 4) (⟨a.val % 8, by omega⟩ : Fin 8) x) * Ideal.ofBits .f32 1035273459#32)
    (h2 : ∀ (a : Fin 4) (r : Fin 2048) (x : Fin 128), (x2 (ix3 a r x) : EReal) = kg (ix2 (⟨b.val * 8192 + a.val * 2048 + r.val, by omega⟩ : Fin 262144) x))
    (h3 : ∀ (a : Fin 4) (r : Fin 2048) (x : Fin 128), (x3 (ix3 a r x) : EReal) = vg (ix2 (⟨b.val * 8192 + a.val * 2048 + r.val, by omega⟩ : Fin 262144) x))
    (h4 : ∀ (a : Fin 32) (x : Fin 128), (x4 (ix3 (0 : Fin 1) a x) : EReal) = kn (ix4 b (⟨a.val / 8, by omega⟩ : Fin 4) (⟨a.val % 8, by omega⟩ : Fin 8) x))
    (h5 : ∀ (a : Fin 32) (x : Fin 128), (x5 (ix3 (0 : Fin 1) a x) : EReal) = vn (ix4 b (⟨a.val / 8, by omega⟩ : Fin 4) (⟨a.val % 8, by omega⟩ : Fin 8) x))
    (hq : ∀ i, q i ≠ ⊤ ∧ q i ≠ ⊥) (hk : ∀ i, kg i ≠ ⊤ ∧ kg i ≠ ⊥) (hn : ∀ i, kn i ≠ ⊤ ∧ kn i ≠ ⊥)
    (hs : ∀ b t, IntOp.cmpi .slt (0#32) (selected sel b t) = 1#1) (a : Fin 32) (d : Fin 128) :
    out0_6 (F := Ideal) x0 x1 x2 x3 x4 x5 (ix3 (0 : Fin 1) a d)
      = at4 sel q kg vg kn vn b (⟨a.val / 8, by omega⟩ : Fin 4) (⟨a.val % 8, by omega⟩ : Fin 8) d := by
  refine (point x0 x1 x2 x3 x4 x5 (ix3 (0 : Fin 1) a d) ⟨a.val / 8, by omega⟩ ⟨a.val % 8, by omega⟩ (by show a.val = _; simp only; omega)).trans ?_
  have e1 : (ix3 (0 : Fin 1) a d : S1x32x128.Idx) 1 = a := rfl
  have e2 : (ix3 (0 : Fin 1) a d : S1x32x128.Idx) 2 = d := rfl
  rw [e1, e2]
  simp only [h0, h1, h2, h3, h4, h5]
  exact block_eq sel q kg vg kn vn b _ _ d hq hk hn (hs _ _)

variable (c : Dev nD) (t : Fin cfg0.N)

/-- The sequence of grid point `t`. -/
def seqOf : Fin 32 := ⟨t.val, t.isLt⟩

theorem blk0 (a : Fin 4) (x : Fin 8320) : (iblk m c 0 t (ix3 (0 : Fin 1) a x) : EReal) = arr0 m c (ix3 (seqOf t) a x) := by
  obtain ⟨e0, e1, e2, e3, e4, e5, e6⟩ := idx_val t
  blk_ext [iblk, V, e0, seqOf]

theorem blk1 (a : Fin 32) (x : Fin 128) : (iblk m c 1 t (ix3 (0 : Fin 1) a x) : EReal)
    = arr1 m c (ix4 (seqOf t) (⟨a.val / 8, by omega⟩ : Fin 4) (⟨a.val % 8, by omega⟩ : Fin 8) x) * Ideal.ofBits .f32 1035273459#32 := by
  obtain ⟨e0, e1, e2, e3, e4, e5, e6⟩ := idx_val t
  have e : ((cfg0.win 1).blk t).view.emb (ix3 (0 : Fin 1) a x) = ix3 (seqOf t) a x := by blk_ext [e1, seqOf]
  refine (congrArg (V m c main_v3) e).trans ?_
  entry_read
  pointwise

theorem blk2 (a : Fin 4) (r : Fin 2048) (x : Fin 128) : (iblk m c 2 t (ix3 a r x) : EReal)
    = arr2 m c (ix2 (⟨(seqOf t).val * 8192 + a.val * 2048 + r.val, by omega⟩ : Fin 262144) x) := by
  obtain ⟨e0, e1, e2, e3, e4, e5, e6⟩ := idx_val t
  have e : ((cfg0.win 2).blk t).view.emb (ix3 a r x) = ix3 (⟨(seqOf t).val * 4 + a.val, by omega⟩ : Fin 128) r x := by blk_ext [e2, seqOf]
  refine (congrArg (V m c main_v8) e).trans ?_
  entry_read
  pointwise
  blk_ext [seqOf]

theorem blk3 (a : Fin 4) (r : Fin 2048) (x : Fin 128) : (iblk m c 3 t (ix3 a r x) : EReal)
    = arr3 m c (ix2 (⟨(seqOf t).val * 8192 + a.val * 2048 + r.val, by omega⟩ : Fin 262144) x) := by
  obtain ⟨e0, e1, e2, e3, e4, e5, e6⟩ := idx_val t
  have e : ((cfg0.win 3).blk t).view.emb (ix3 a r x) = ix3 (⟨(seqOf t).val * 4 + a.val, by omega⟩ : Fin 128) r x := by blk_ext [e3, seqOf]
  refine (congrArg (V m c main_v9) e).trans ?_
  entry_read
  pointwise
  blk_ext [seqOf]

theorem blk4 (a : Fin 32) (x : Fin 128) : (iblk m c 4 t (ix3 (0 : Fin 1) a x) : EReal)
    = arr4 m c (ix4 (seqOf t) (⟨a.val / 8, by omega⟩ : Fin 4) (⟨a.val % 8, by omega⟩ : Fin 8) x) := by
  obtain ⟨e0, e1, e2, e3, e4, e5, e6⟩ := idx_val t
  have e : ((cfg0.win 4).blk t).view.emb (ix3 (0 : Fin 1) a x) = ix3 (seqOf t) a x := by blk_ext [e4, seqOf]
  refine (congrArg (V m c main_v5) e).trans ?_
  entry_read
  pointwise

theorem blk5 (a : Fin 32) (x : Fin 128) : (iblk m c 5 t (ix3 (0 : Fin 1) a x) : EReal)
    = arr5 m c (ix4 (seqOf t) (⟨a.val / 8, by omega⟩ : Fin 4) (⟨a.val % 8, by omega⟩ : Fin 8) x) := by
  obtain ⟨e0, e1, e2, e3, e4, e5, e6⟩ := idx_val t
  have e : ((cfg0.win 5).blk t).view.emb (ix3 (0 : Fin 1) a x) = ix3 (seqOf t) a x := by blk_ext [e5, seqOf]
  refine (congrArg (V m c main_v7) e).trans ?_
  entry_read
  pointwise

/-- Where the output block of grid point `t` lies in the result. -/
theorem emb6 (a : Fin 32) (d : Fin 128) : ((cfg0.win 6).blk t).view.emb (ix3 (0 : Fin 1) a d) = ix3 (seqOf t) a d := by
  obtain ⟨e0, e1, e2, e3, e4, e5, e6⟩ := idx_val t
  blk_ext [e6, seqOf]

/-- After the last grid point the result array holds the attention of every row. -/
theorem final (hq : ∀ i, arr1 m c i ≠ ⊤ ∧ arr1 m c i ≠ ⊥)
    (hk : ∀ i, arr2 m c i ≠ ⊤ ∧ arr2 m c i ≠ ⊥)
    (hn : ∀ i, arr4 m c i ≠ ⊤ ∧ arr4 m c i ≠ ⊥)
    (hs : ∀ b t, IntOp.cmpi .slt (0#32) (selected (arr0 m c) b t) = 1#1) :
    (dats m 0 c).arrAt 6 (cfgs 0).N = result m c := by
  refine (dats m 0 c).arrAt_eq_of_covers 6 _ (by decide +kernel) fun t hf y => ?_
  have hy : ∀ y : S1x32x128.Idx, y = ix3 (0 : Fin 1) (y 1) (y 2) := fun y => by
    funext a
    match a with
    | ⟨0, _⟩ => exact Subsingleton.elim (α := Fin 1) _ _
    | ⟨1, _⟩ => rfl
    | ⟨2, _⟩ => rfl
  blk_simp; rw [after0_6]
  rw [hy y]
  refine (row _ _ _ _ _ _ (arr0 m c) (arr1 m c) (arr2 m c) (arr3 m c) (arr4 m c) (arr5 m c) (seqOf t) (blk0 m c t) (blk1 m c t) (blk2 m c t)
    (blk3 m c t) (blk4 m c t) (blk5 m c t) hq hk hn hs (y 1) (y 2)).trans ?_
  exact (congrArg (result m c) (emb6 t (y 1) (y 2))).symm

end Cert.KernelAttendIdeal.Attend
-- ==== Proof.Attend.Reference.lean ====
/- The reference's attention of the sample rows, read at an index: the softmax average over the slots (`at4`). -/
module
public import proofs.«01_k».proof.Proof.Gen.ReferenceAttendIdeal.Run
public import proofs.«01_k».proof.Proof.Attend.Columns
@[expose] public section
set_option maxRecDepth 16384
noncomputable section
namespace Cert.ReferenceAttendIdeal.Attend
open Cert.ReferenceAttendIdeal Cert.ReferenceAttendIdeal.Gen Idealize.ShloMosaic Idealize.ShloMosaic.TcCoe Idealize.SL.Sem
open Cert.Attend
open scoped BigOperators

/-- The masked scores of all slots. -/
def masked (sel : FVec Ideal S32x4x8320 .f32) (q : FVec Ideal S32x4x8x128 .f32) (kg : FVec Ideal S262144x128 .f32) (kn : FVec Ideal S32x4x8x128 .f32) : FVec Ideal S32x4x8x260 .f32 :=
  select (broadcastInDim S32x4x8x260 ![0, 1, 2, 3] bcast_S32x4x1x260_S32x4x8x260_0_1_2_3 (broadcastInDim S32x4x1x260 ![0, 1, 3] bcast_S32x4x260_S32x4x1x260_0_1_3 (concatenate S32x4x260 2 [⟨S32x4x256, (cmpi .slt (broadcastInDim S32x4x256 ![0, 1, 2] bcast_S1x1x256_S32x4x256_0_1_2 (broadcastInDim S1x1x256 ![2] bcast_S256_S1x1x256_2 (iotaInDim S256 32 0))) (broadcastInDim S32x4x256 ![0, 1, 2] bcast_S32x4x1_S32x4x256_0_1_2 (broadcastInDim S32x4x1 ![0, 1] bcast_S32x4_S32x4x1_0_1 (fptosi 32 (Host.reduceAdd (extractStridedSlice S32x4x8192 ![0, 0, 0] sel slices_S32x4x8320_S32x4x8192_0_0_0) (constant S_ .f32 0x00000000#32) reducesTo_S32x4x8192_S32x4_d2 h_S_)))))⟩, ⟨S32x4x4, (cmpf .ogt (extractStridedSlice S32x4x4 ![0, 0, 8192] sel slices_S32x4x8320_S32x4x4_0_0_8192) (broadcastInDim S32x4x4 ![] bcast_S_S32x4x4 (constant S_ .f32 0x3F000000#32)))⟩] concatenates_S32x4x256_S32x4x4_S32x4x260_d2))) (mulf (Host.dotGeneral dot_S32x4x8x128_S32x4x260x8x128_S32x4x8x260_3_4_n_2_012_013 none q (concatenate S32x4x260x8x128 2 [⟨S32x4x256x8x128, (shapeCast _ kg shapeCasts_S262144x128_S32x4x256x8x128)⟩, ⟨S32x4x4x8x128, (broadcastInDim S32x4x4x8x128 ![0, 1, 2, 3, 4] bcast_S32x1x4x8x128_S32x4x4x8x128_0_1_2_3_4 (broadcastInDim S32x1x4x8x128 ![0, 2, 3, 4] bcast_S32x4x8x128_S32x1x4x8x128_0_2_3_4 kn))⟩] concatenates_S32x4x256x8x128_S32x4x4x8x128_S32x4x260x8x128_d2)) (broadcastInDim S32x4x8x260 ![] bcast_S_S32x4x8x260 (constant S_ .f32 0x3DB504F3#32))) (broadcastInDim S32x4x8x260 ![] bcast_S_S32x4x8x260 (id (constant S_ .f32 0xFF800000#32)))

/-- The softmax of the scores along the slots. -/
def soft (s : FVec Ideal S32x4x8x260 .f32) : FVec Ideal S32x4x8x260 .f32 :=
  Host.divf (Host.exp (subf s (broadcastInDim S32x4x8x260 ![0, 1, 2, 3] bcast_S32x4x8x1_S32x4x8x260_0_1_2_3 (broadcastInDim S32x4x8x1 ![0, 1, 2] bcast_S32x4x8_S32x4x8x1_0_1_2 (maximumf (broadcastInDim S32x4x8 ![] bcast_S_S32x4x8 (constant S_ .f32 0xFF800000#32)) (Host.reduce FloatOps.maximumf s (constant S_ .f32 0xFF800000#32) reducesTo_S32x4x8x260_S32x4x8_d3 h_S_)))))) (broadcastInDim S32x4x8x260 ![0, 1, 2, 3] bcast_S32x4x8x1_S32x4x8x260_0_1_2_3 (broadcastInDim S32x4x8x1 ![0, 1, 2] bcast_S32x4x8_S32x4x8x1_0_1_2 (Host.reduceAdd (Host.exp (subf s (broadcastInDim S32x4x8x260 ![0, 1, 2, 3] bcast_S32x4x8x1_S32x4x8x260_0_1_2_3 (broadcastInDim S32x4x8x1 ![0, 1, 2] bcast_S32x4x8_S32x4x8x1_0_1_2 (maximumf (broadcastInDim S32x4x8 ![] bcast_S_S32x4x8 (constant S_ .f32 0xFF800000#32)) (Host.reduce FloatOps.maximumf s (constant S_ .f32 0xFF800000#32) reducesTo_S32x4x8x260_S32x4x8_d3 h_S_)))))) (constant S_ .f32 0x00000000#32) reducesTo_S32x4x8x260_S32x4x8_d3 h_S_)))

/-- The value rows of all slots. -/
def values (vg : FVec Ideal S262144x128 .f32) (vn : FVec Ideal S32x4x8x128 .f32) : FVec Ideal S32x4x260x8x128 .f32 :=
  concatenate S32x4x260x8x128 2 [⟨S32x4x256x8x128, (shapeCast _ vg shapeCasts_S262144x128_S32x4x256x8x128)⟩, ⟨S32x4x4x8x128, (broadcastInDim S32x4x4x8x128 ![0, 1, 2, 3, 4] bcast_S32x1x4x8x128_S32x4x4x8x128_0_1_2_3_4 (broadcastInDim S32x1x4x8x128 ![0, 2, 3, 4] bcast_S32x4x8x128_S32x1x4x8x128_0_2_3_4 vn))⟩] concatenates_S32x4x256x8x128_S32x4x4x8x128_S32x4x260x8x128_d2

theorem values_apply (vg : FVec Ideal S262144x128 .f32) (vn : FVec Ideal S32x4x8x128 .f32) (b : Fin 32) (t : Fin 4) (j : Fin 260) (h : Fin 8) (d : Fin 128) :
    values vg vn (ix5 b t j h d) = slot vg vn b t h j d := by
  unfold values slot
  pointwise

theorem soft_apply (s : FVec Ideal S32x4x8x260 .f32) (b : Fin 32) (t : Fin 4) (h : Fin 8) (j : Fin 260) :
    soft s (ix4 b t h j) = Ideal.div (Ideal.exp (s (ix4 b t h j) - top fun j => s (ix4 b t h j))) (∑ i : Fin 260, Ideal.exp (s (ix4 b t h i) - top fun j => s (ix4 b t h j))) := by
  unfold soft top
  pointwise

theorem masked_apply (sel : FVec Ideal S32x4x8320 .f32) (q : FVec Ideal S32x4x8x128 .f32) (kg : FVec Ideal S262144x128 .f32) (kn : FVec Ideal S32x4x8x128 .f32)
    (b : Fin 32) (t : Fin 4) (h : Fin 8) (j : Fin 260) :
    masked sel q kg kn (ix4 b t h j) = slotScore (selected sel b t) (fun u => sel (ix3 b t (⟨8192 + u.val, by omega⟩ : Fin 8320))) (fun e => q (ix4 b t h e)) (slot kg kn b t h) j := by
  unfold masked slotScore bit slot selected
  pointwise
  rfl

variable (m : (ℓ : Loc nD τ sig) → Buf (Elt Ideal) ℓ) (ρ : Dev nD → PrngReg)

/-- The reference ends with the softmax averages. -/
theorem run : θ_run (defs (F := Ideal)) (onTc (τ := τ) (main (F := Ideal))) ⟨m, fun _ => 0, ρ⟩ fun r => ∀ c : Dev nD,
      r.2.mem ((c.tc : Thread nD τ).loc main_v38) = fun i => at4 (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (i 0) (⟨(i 1).val / 8, by have : (i 1).val < 32 := (i 1).isLt; omega⟩) (⟨(i 1).val % 8, by omega⟩) (i 2) := by
  refine (θ_run defs _ _).mono (fun r h c => ?_) (Value.run (F := Ideal) m ρ)
  refine (h c).1.trans ?_
  clear h
  funext i; idx_vars i
  have e : Value.res_main_v38 m c = shapeCast _ (Host.dotGeneral dot_S32x4x8x260_S32x4x260x8x128_S32x4x8x128_3_2_n_4_012_013 none
      (soft (masked (m ((c.tc : Thread nD τ).loc main_arg0)) (m ((c.tc : Thread nD τ).loc main_arg1)) (m ((c.tc : Thread nD τ).loc main_arg2)) (m ((c.tc : Thread nD τ).loc main_arg4))))
      (values (m ((c.tc : Thread nD τ).loc main_arg3)) (m ((c.tc : Thread nD τ).loc main_arg5)))) shapeCasts_S32x4x8x128_S32x32x128 := rfl
  rw [e]
  pointwise
  simp only [soft_apply, masked_apply, values_apply]
  rfl
end Cert.ReferenceAttendIdeal.Attend
-- ==== Proof.Attend.Claims.lean ====
/- The gathered attention of the sampled rows: the kernel and the reference end with equal results. -/
module

public import proofs.«01_k».proof.Proof.Attend.Kernel
public import proofs.«01_k».proof.Proof.Attend.Reference
public import proofs.«01_k».proof.Proof.Attend.Pre
public import proofs.«01_k».proof.Proof.Gen.KernelAttendIdeal.Value
public import proofs.«01_k».proof.Defs
public import Idealize.ShloMosaic.Lib.Claim

@[expose] public section

noncomputable section

namespace Cert.Attend

open Idealize.ShloMosaic Idealize.ShloMosaic.TcCoe Idealize.SL.Sem

/-- Both runs end with the softmax averages of every row. -/
theorem claim : Cert.algebraic_KernelAttendIdeal_ReferenceAttendIdeal_pre_past_key_selected := by
  intro m g m' g' hp hm
  have hp0 := fun c => Cert.Pre_past_key_selected.Own.entries _ _ _ _ _ _ (hp c)
  refine ⟨fun c => Cert.KernelAttendIdeal.Attend.result m c, ?_, ?_⟩
  · refine (θ_run _ _ _).mono (fun r h c => ?_) (Cert.KernelAttendIdeal.Value.run_blocks m g)
    obtain ⟨hq, hk, hn, hs⟩ := hp0 c
    exact ⟨(h c).1.trans (Cert.KernelAttendIdeal.Attend.final m c hq hk hn hs), (h c).2⟩
  · refine (θ_run _ _ _).mono (fun r h c => ?_)
      (θ_run_and (Cert.ReferenceAttendIdeal.Attend.run m' g') (Cert.ReferenceAttendIdeal.Value.run (F := Ideal) m' g'))
    refine ⟨(h.1 c).trans ?_, (h.2 c).2⟩
    obtain ⟨h0, h1, h2, h3, h4, h5⟩ := hm c
    rw [h0, h1, h2, h3, h4, h5]
    rfl

end Cert.Attend
-- ==== Proof.Project.Frames.lean ====
/- The prompt group's projection: every run of the kernel and of the reference ends, leaves the arguments alone and no count standing. -/
module

public import proofs.«01_k».proof.Proof.Gen.KernelProject.Frame
public import proofs.«01_k».proof.Proof.Gen.KernelProjectIdeal.Frame
public import proofs.«01_k».proof.Proof.Gen.ReferenceProjectIdeal.Run
public import proofs.«01_k».proof.Defs

@[expose] public section

noncomputable section

namespace Cert.Project

open Idealize.ShloMosaic Idealize.SL.Sem

theorem frame_kernel : Cert.quiescent_KernelProject := fun m ρ _ => Cert.KernelProject.Gen.frame (F := Bits) m ρ
theorem frame_ideal : Cert.quiescent_KernelProjectIdeal := fun m ρ _ => Cert.KernelProjectIdeal.Gen.frame (F := Ideal) m ρ
theorem frame_reference : Cert.quiescent_ReferenceProjectIdeal := fun m ρ _ =>
  (θ_run Cert.ReferenceProjectIdeal.defs _ _).mono (fun r h => ⟨fun c => (h c).2.2.2.2.2.2.2.2.2.2.2.2.2, sem_eq_zero_of_no_sems (by decide) r.2⟩)
    (Cert.ReferenceProjectIdeal.Value.run (F := Ideal) m ρ)

end Cert.Project
-- ==== Proof.Project.Spec.lean ====
/- The projections of one token group, entry by entry: the product with the input weights, and the rotary turn of the
   query, key and indexer columns. -/
module

public import Idealize.ShloMosaic.PureOps
public import Idealize.ShloMosaic.PureOps.Ideal
public import Idealize.ShloMosaic.Lib.Pointwise

@[expose] public section

noncomputable section

namespace Cert.Project

open Idealize.ShloMosaic
open scoped BigOperators

/-- The rotary angle of position `p` at frequency `j`: the position by the base to the power `-j` times `lit`. -/
def ang (lit : BitVec 32) (p j : BitVec 32) : EReal :=
  (FloatOps.sitofp (F := Ideal) .f32 p : EReal)
    * (FloatOps.hostPowf (F := Ideal) (φ := .f32) (Ideal.ofBits .f32 0x48F42400#32) (-(FloatOps.sitofp (F := Ideal) .f32 j : EReal) * Ideal.ofBits .f32 lit) : EReal)

/-- Its cosine and its sine. -/
def cosA (lit : BitVec 32) (p j : BitVec 32) : EReal := FloatOps.hostUnary (F := Ideal) (φ := .f32) .cos (ang lit p j)
def sinA (lit : BitVec 32) (p j : BitVec 32) : EReal := FloatOps.hostUnary (F := Ideal) (φ := .f32) .sin (ang lit p j)

/-- The rotary turn of a vector: its first `half` entries and the next are a pair of coordinates each, the rest are kept. -/
def turn {n : Nat} (half : Nat) (hn : 2 * half ≤ n) (C S : Nat → EReal) (z : Fin n → EReal) (d : Fin n) : EReal :=
  if h : d.val < half then z d * C d.val - z ⟨d.val + half, by omega⟩ * S d.val
  else if d.val < 2 * half then z ⟨d.val - half, by omega⟩ * S (d.val - half) + z d * C (d.val - half)
  else z d

/-- The turn as three pieces put side by side. -/
theorem cat_eq {n : Nat} (half : Nat) (hn : 2 * half ≤ n) (C S : Nat → EReal) (z : Fin n → EReal) (d : Fin n) :
    (if h : d.val < half then z d * C d.val - z ⟨half + d.val, by omega⟩ * S d.val
      else if h2 : d.val - half < half then z ⟨d.val - half, by omega⟩ * S (d.val - half) + z ⟨half + (d.val - half), by omega⟩ * C (d.val - half)
      else z ⟨2 * half + (d.val - half - half), by omega⟩) = turn half hn C S z d := by
  unfold turn
  by_cases h : d.val < half
  · rw [dif_pos h, dif_pos h]
    congr 3
    exact Fin.ext (by simp only; omega)
  · rw [dif_neg h, dif_neg h]
    by_cases h2 : d.val - half < half
    · rw [dif_pos h2, if_pos (by omega)]
      congr 3
      exact Fin.ext (by simp only; omega)
    · rw [dif_neg h2, if_neg (by omega)]
      congr 1
      exact Fin.ext (by simp only; omega)

/-- One lane of the register form of the turn: the lanes `half` to either side, weighed by three tables that are zero where a
    lane has no partner there. -/
theorem lane_eq {n : Nat} (half : Nat) (hn : 2 * half ≤ n) (C S : Nat → EReal) (z : Fin n → EReal) (d : Fin n) (x fwd bwd c s1 s2 : EReal)
    (hx : x = z d) (hf : ∀ h : d.val < half, fwd = z ⟨d.val + half, by omega⟩) (hb : ∀ (_ : ¬ d.val < half) (_ : d.val < 2 * half), bwd = z ⟨d.val - half, by omega⟩)
    (hc : c = if d.val < half then C d.val else if d.val < 2 * half then C (d.val - half) else 1)
    (h1 : s1 = if d.val < half then -S d.val else 0)
    (h2 : s2 = if ¬ d.val < half ∧ d.val < 2 * half then S (d.val - half) else 0) :
    x * c + fwd * s1 + bwd * s2 = turn half hn C S z d := by
  unfold turn
  by_cases h : d.val < half
  · rw [if_pos h] at hc h1
    rw [if_neg (fun q => q.1 h)] at h2
    rw [dif_pos h, hx, hc, h1, h2, hf h, mul_zero, add_zero, mul_neg, ← sub_eq_add_neg]
  · by_cases h' : d.val < 2 * half
    · rw [if_neg h, if_pos h'] at hc
      rw [if_neg h] at h1
      rw [if_pos ⟨h, h'⟩] at h2
      rw [dif_neg h, if_pos h', hx, hc, h1, h2, hb h h', mul_zero, add_zero, add_comm]
    · rw [if_neg h, if_neg h'] at hc
      rw [if_neg h] at h1
      rw [if_neg (fun q => h' q.2)] at h2
      rw [dif_neg h, if_neg h', hx, hc, h1, h2, mul_zero, mul_zero, mul_one, add_zero, add_zero]

/-- The turn of a head's 128 entries and of the indexer's 64 at position `p`. -/
def turnHead (p : Nat) (z : Fin 128 → EReal) (d : Fin 128) : EReal :=
  turn 16 (by omega) (fun j => cosA 0x3D800000#32 (BitVec.ofNat 32 p) (BitVec.ofNat 32 j)) (fun j => sinA 0x3D800000#32 (BitVec.ofNat 32 p) (BitVec.ofNat 32 j)) z d
def turnIdx (p : Nat) (z : Fin 64 → EReal) (d : Fin 64) : EReal :=
  turn 8 (by omega) (fun j => cosA 0x3E000000#32 (BitVec.ofNat 32 p) (BitVec.ofNat 32 j)) (fun j => sinA 0x3E000000#32 (BitVec.ofNat 32 p) (BitVec.ofNat 32 j)) z d

end Cert.Project
-- ==== Proof.Project.Prompt.lean ====
/- The thirteen results of the prompt group's projections, entry by entry. -/
module

public import proofs.«01_k».proof.Proof.Project.Spec

@[expose] public section

noncomputable section

namespace Cert.Project.Prompt

open Idealize.ShloMosaic
open scoped BigOperators

variable (x : (⟨3, ![2, 4096, 2048]⟩ : Shape).Idx → EReal) (w : (⟨3, ![1, 2048, 7248]⟩ : Shape).Idx → EReal)

/-- The projection of row `r` (token `r % 4096` of sequence `r / 4096`) onto input column `c`. -/
def proj (r : Fin 8192) (c : Fin 7248) : EReal :=
  ∑ e : Fin 2048, x (ix3 (⟨r.val / 4096, by omega⟩ : Fin 2) (⟨r.val % 4096, by omega⟩ : Fin 4096) e) * w (ix3 (0 : Fin 1) e c)

/-- Column `c` of the turned heads that begin at input column `off`. -/
def head (off : Nat) (hoff : off + 1024 ≤ 7248) (r : Fin 8192) (c : Fin 1024) : EReal :=
  turnHead (r.val % 4096) (fun e => proj x w r ⟨off + (c.val / 128 * 128 + e.val), by omega⟩) ⟨c.val % 128, by omega⟩

/-- Coordinate `d` of turned indexer head `h`. -/
def query (r : Fin 8192) (h : Fin 16) (d : Fin 64) : EReal :=
  turnIdx (r.val % 4096) (fun e => proj x w r ⟨4096 + (h.val * 64 + e.val), by omega⟩) d

/-- Coordinate `d` of the turned indexer key. -/
def key (r : Fin 8192) (d : Fin 64) : EReal :=
  turnIdx (r.val % 4096) (fun e => proj x w r ⟨5120 + e.val, by omega⟩) d

/-- A column of the plain projections that begin at input column `off`. -/
def plain (off : Nat) (hoff : off + 1024 ≤ 7248) (r : Fin 8192) (c : Fin 1024) : EReal := proj x w r ⟨off + c.val, by omega⟩

def out0 : (⟨2, ![8192, 1024]⟩ : Shape).Idx → EReal := fun i => head x w 0 (by omega) (i 0) (i 1) * Ideal.ofBits .f32 0x3E0293EE#32
def out1 : (⟨2, ![8192, 1024]⟩ : Shape).Idx → EReal := fun i => head x w 1024 (by omega) (i 0) (i 1)
def out3 : (⟨2, ![8192, 1024]⟩ : Shape).Idx → EReal := fun i => plain x w 2048 (by omega) (i 0) (i 1)
def out4 : (⟨3, ![32, 1024, 256]⟩ : Shape).Idx → EReal := fun i =>
  plain x w 2048 (by omega) ⟨(i 0).val * 256 + (i 2).val, by have h0 : (i 0).val < 32 := (i 0).isLt; have h2 : (i 2).val < 256 := (i 2).isLt; omega⟩ (i 1)
def out5 : (⟨2, ![8192, 1024]⟩ : Shape).Idx → EReal := fun i => plain x w 3072 (by omega) (i 0) (i 1)
def out6 : (⟨3, ![16, 8192, 64]⟩ : Shape).Idx → EReal := fun i => query x w (i 1) (i 0) (i 2)
def out7 : (⟨2, ![8192, 64]⟩ : Shape).Idx → EReal := fun i => key x w (i 0) (i 1)
def out9 : (⟨3, ![2, 64, 4096]⟩ : Shape).Idx → EReal := fun i =>
  key x w ⟨(i 0).val * 4096 + (i 2).val, by have h0 : (i 0).val < 2 := (i 0).isLt; have h2 : (i 2).val < 4096 := (i 2).isLt; omega⟩ (i 1)
def out10 : (⟨2, ![16, 8192]⟩ : Shape).Idx → EReal := fun i =>
  proj x w (i 1) ⟨5184 + (i 0).val, by have h0 : (i 0).val < 16 := (i 0).isLt; omega⟩ * Ideal.ofBits .f32 0x3D000000#32
def out11 : (⟨2, ![8192, 1024]⟩ : Shape).Idx → EReal := fun i => plain x w 5200 (by omega) (i 0) (i 1)
def out12 : (⟨2, ![8192, 1024]⟩ : Shape).Idx → EReal := fun i => plain x w 6224 (by omega) (i 0) (i 1)

end Cert.Project.Prompt
-- ==== Proof.Project.Block.lean ====
/- One grid point of the prompt group's projection, when its input blocks are the rows, the weights and the rotary tables. -/
module

public import proofs.«01_k».proof.Proof.Gen.KernelProjectIdeal.Frame
public import proofs.«01_k».proof.Proof.Project.Prompt
public import Idealize.ShloMosaic.Lib.Pipeline.ValueKit

@[expose] public section

set_option maxRecDepth 100000

noncomputable section

namespace Cert.KernelProjectIdeal.Project

open Cert.KernelProjectIdeal Cert.KernelProjectIdeal.Gen Idealize.ShloMosaic Idealize.ShloMosaic.TcCoe Idealize.SL.Sem
open Cert.Project Cert.Project.Prompt
open scoped BigOperators

variable (x0 : Vec Ideal S256x2048 .f32) (x1 : Vec Ideal S7248x2048 .bf16) (x2 x3 : Vec Ideal S3x256x128 .f32) (x4 : Vec Ideal S2x8x256 .f32)

/-- The product of row `r` of the block with weight row `c`. -/
abbrev dot (r : Fin 256) (c : Fin 7248) : EReal := ∑ e : Fin 2048, (x0 (ix2 r e) : EReal) * x1 (ix2 c e)

/-- The three tables of a turn: `half` lanes of cosines twice over then ones, minus the sines, the sines, every `n` lanes. -/
def Table (T : Vec Ideal S3x256x128 .f32) (half n : Nat) (C S : Fin 256 → Nat → EReal) : Prop :=
  ∀ (r : Fin 256) (l : Fin 128),
    (T (ix3 (0 : Fin 3) r l) : EReal) = (if l.val % n < half then C r (l.val % n) else if l.val % n < 2 * half then C r (l.val % n - half) else 1)
    ∧ (T (ix3 (1 : Fin 3) r l) : EReal) = (if l.val % n < half then -S r (l.val % n) else 0)
    ∧ (T (ix3 (2 : Fin 3) r l) : EReal) = (if ¬ l.val % n < half ∧ l.val % n < 2 * half then S r (l.val % n - half) else 0)

variable (X : (⟨3, ![2, 4096, 2048]⟩ : Shape).Idx → EReal) (W : (⟨3, ![1, 2048, 7248]⟩ : Shape).Idx → EReal) (R : Fin 256 → Fin 8192)

/-- What the blocks of a grid point hold. -/
structure Holds : Prop where
  rows : ∀ r c, dot x0 x1 r c = proj X W (R r) c
  head : Table x2 16 128 (fun r j => cosA 0x3D800000#32 (BitVec.ofNat 32 ((R r).val % 4096)) (BitVec.ofNat 32 j))
    (fun r j => sinA 0x3D800000#32 (BitVec.ofNat 32 ((R r).val % 4096)) (BitVec.ofNat 32 j))
  idx : Table x3 8 64 (fun r j => cosA 0x3E000000#32 (BitVec.ofNat 32 ((R r).val % 4096)) (BitVec.ofNat 32 j))
    (fun r j => sinA 0x3E000000#32 (BitVec.ofNat 32 ((R r).val % 4096)) (BitVec.ofNat 32 j))
  cosT : ∀ (j : Fin 8) r, (x4 (ix3 (0 : Fin 2) j r) : EReal) = cosA 0x3E000000#32 (BitVec.ofNat 32 ((R r).val % 4096)) (BitVec.ofNat 32 j.val)
  sinT : ∀ (j : Fin 8) r, (x4 (ix3 (1 : Fin 2) j r) : EReal) = sinA 0x3E000000#32 (BitVec.ofNat 32 ((R r).val % 4096)) (BitVec.ofNat 32 j.val)

variable {x0 x1 x2 x3 x4 X W R} (H : Holds x0 x1 x2 x3 x4 X W R)
include H

/-- A plain column. -/
theorem lane_plain (off : Nat) (hoff : off + 1024 ≤ 7248) (r r' : Fin 256) (hr : r'.val = r.val) (c : Fin 1024) (c0 : Fin 7248) (h0 : c0.val = off + c.val) :
    dot x0 x1 r c0 = plain X W off hoff (R r') c := by
  obtain rfl : r' = r := Fin.ext hr
  rw [H.rows]
  exact congrArg (proj X W (R r')) (Fin.ext h0)

/-- A lane of a turned head. -/
theorem lane_head (off : Nat) (hoff : off + 1024 ≤ 7248) (r r' : Fin 256) (hr : r'.val = r.val) (c : Fin 1024) (l : Fin 128) (hl : l.val = c.val % 128)
    (c0 c1 c2 : Fin 7248) (h0 : c0.val = off + c.val) (h1 : l.val < 16 → c1.val = off + c.val + 16) (h2 : ¬ l.val < 16 → l.val < 32 → c2.val + 16 = off + c.val) :
    dot x0 x1 r c0 * (x2 (ix3 (0 : Fin 3) r l) : EReal) + dot x0 x1 r c1 * x2 (ix3 (1 : Fin 3) r l) + dot x0 x1 r c2 * x2 (ix3 (2 : Fin 3) r l)
      = head X W off hoff (R r') c := by
  obtain rfl : r' = r := Fin.ext hr
  obtain ⟨t0, t1, t2⟩ := H.head r' l
  have e : l.val % 128 = l.val := by omega
  rw [e] at t0 t1 t2
  have el : (⟨c.val % 128, by omega⟩ : Fin 128) = l := Fin.ext hl.symm
  unfold head turnHead
  rw [el]
  refine lane_eq 16 (by omega) _ _ _ _ _ _ _ _ _ _ ?_ ?_ ?_ t0 t1 t2
  · rw [H.rows]
    exact congrArg (proj X W (R r')) (Fin.ext (by simp only; omega))
  · intro h
    have h1' := h1 h
    rw [H.rows]
    exact congrArg (proj X W (R r')) (Fin.ext (by simp only at *; omega))
  · intro h h'
    have h2' := h2 h h'
    rw [H.rows]
    exact congrArg (proj X W (R r')) (Fin.ext (by simp only at *; omega))

/-- A lane of the indexer's turn of the 64 columns from `b`. -/
theorem lane_idx (b : Nat) (hb : b + 64 ≤ 7248) (r r' : Fin 256) (hr : r'.val = r.val) (d : Fin 64) (l : Fin 128) (hl : l.val % 64 = d.val)
    (x fwd bwd : EReal) (h0 : x = dot x0 x1 r ⟨b + d.val, by omega⟩) (h1 : ∀ h : d.val < 8, fwd = dot x0 x1 r ⟨b + (d.val + 8), by omega⟩)
    (h2 : ¬ d.val < 8 → d.val < 16 → bwd = dot x0 x1 r ⟨b + (d.val - 8), by omega⟩) :
    x * (x3 (ix3 (0 : Fin 3) r l) : EReal) + fwd * x3 (ix3 (1 : Fin 3) r l) + bwd * x3 (ix3 (2 : Fin 3) r l)
      = turnIdx ((R r').val % 4096) (fun e => proj X W (R r') ⟨b + e.val, by omega⟩) d := by
  obtain rfl : r' = r := Fin.ext hr
  obtain ⟨t0, t1, t2⟩ := H.idx r' l
  rw [hl] at t0 t1 t2
  unfold turnIdx
  refine lane_eq 8 (by omega) _ _ _ _ _ _ _ _ _ _ ?_ ?_ ?_ t0 t1 t2
  · rw [h0, H.rows]
  · intro h
    rw [h1 h, H.rows]
  · intro h h'
    rw [h2 h h', H.rows]

/-- The same product with its factors the other way round. -/
theorem swap (q : Fin 7248) (r : Fin 256) : ∑ e : Fin 2048, (x1 (ix2 q e) : EReal) * x0 (ix2 r e) = proj X W (R r) q :=
  (Finset.sum_congr rfl fun e _ => mul_comm _ _).trans (H.rows r q)

/-- An entry of the key's turn put together from three pieces. -/
theorem lane_cat (d : Fin 64) (r : Fin 256) :
    (if h : d.val < 8 then (∑ e : Fin 2048, (x1 (ix2 (⟨5120 + d.val, by omega⟩ : Fin 7248) e) : EReal) * x0 (ix2 r e)) * x4 (ix3 (0 : Fin 2) (⟨d.val, h⟩ : Fin 8) r)
        - (∑ e : Fin 2048, (x1 (ix2 (⟨5120 + (8 + d.val), by omega⟩ : Fin 7248) e) : EReal) * x0 (ix2 r e)) * x4 (ix3 (1 : Fin 2) (⟨d.val, h⟩ : Fin 8) r)
      else if h2 : d.val - 8 < 8 then (∑ e : Fin 2048, (x1 (ix2 (⟨5120 + (d.val - 8), by omega⟩ : Fin 7248) e) : EReal) * x0 (ix2 r e)) * x4 (ix3 (1 : Fin 2) (⟨d.val - 8, h2⟩ : Fin 8) r)
        + (∑ e : Fin 2048, (x1 (ix2 (⟨5120 + (8 + (d.val - 8)), by omega⟩ : Fin 7248) e) : EReal) * x0 (ix2 r e)) * x4 (ix3 (0 : Fin 2) (⟨d.val - 8, h2⟩ : Fin 8) r)
      else ∑ e : Fin 2048, (x1 (ix2 (⟨5120 + (16 + (d.val - 8 - 8)), by omega⟩ : Fin 7248) e) : EReal) * x0 (ix2 r e)) = key X W (R r) d := by
  simp only [swap H, H.cosT, H.sinT]
  exact cat_eq (n := 64) 8 (by omega) (fun j => cosA 0x3E000000#32 (BitVec.ofNat 32 ((R r).val % 4096)) (BitVec.ofNat 32 j))
    (fun j => sinA 0x3E000000#32 (BitVec.ofNat 32 ((R r).val % 4096)) (BitVec.ofNat 32 j))
    (fun e => proj X W (R r) ⟨5120 + e.val, by omega⟩) d

set_option maxHeartbeats 1600000 in
/-- Turned and scaled query heads. -/
theorem p5 (y : S256x1024.Idx) : out0_5 (F := Ideal) x0 x1 x2 x3 x4 y = head X W 0 (by omega) (R (y 0)) (y 1) * Ideal.ofBits .f32 0x3E0293EE#32 := by
  canon_tiles x hx
  all_goals (open_payloads; pointwise)
  all_goals
    refine congrArg (· * Ideal.ofBits .f32 0x3E0293EE#32) (lane_head H 0 (by omega) _ _ (by omega) _ _ ?_ _ _ _ ?_ ?_ ?_)
    · omega
    · simp only; omega
    · intro h; simp only; omega
    · intro h h'; simp only; omega

set_option maxHeartbeats 1600000 in
/-- Turned key heads. -/
theorem p6 (y : S256x1024.Idx) : out0_6 (F := Ideal) x0 x1 x2 x3 x4 y = head X W 1024 (by omega) (R (y 0)) (y 1) := by
  canon_tiles x hx
  all_goals (open_payloads; pointwise)
  all_goals
    refine (lane_head H 1024 (by omega) _ _ (by omega) _ _ ?_ _ _ _ ?_ ?_ ?_)
    · omega
    · simp only; omega
    · intro h; simp only; omega
    · intro h h'; simp only; omega

set_option maxHeartbeats 1600000 in
/-- Turned key heads. -/
theorem p7 (y : S256x1024.Idx) : out0_7 (F := Ideal) x0 x1 x2 x3 x4 y = head X W 1024 (by omega) (R (y 0)) (y 1) := by
  canon_tiles x hx
  all_goals (open_payloads; pointwise)
  all_goals
    refine (lane_head H 1024 (by omega) _ _ (by omega) _ _ ?_ _ _ _ ?_ ?_ ?_)
    · omega
    · simp only; omega
    · intro h; simp only; omega
    · intro h h'; simp only; omega

set_option maxHeartbeats 1600000 in
/-- Plain columns. -/
theorem p8 (y : S256x1024.Idx) : out0_8 (F := Ideal) x0 x1 x2 x3 x4 y = plain X W 2048 (by omega) (R (y 0)) (y 1) := by
  canon_tiles x hx
  all_goals (open_payloads; pointwise)
  exact lane_plain H 2048 (by omega) _ _ (by omega) _ _ (by simp only; omega)

set_option maxHeartbeats 1600000 in
/-- Plain columns. -/
theorem p10 (y : S256x1024.Idx) : out0_10 (F := Ideal) x0 x1 x2 x3 x4 y = plain X W 3072 (by omega) (R (y 0)) (y 1) := by
  canon_tiles x hx
  all_goals (open_payloads; pointwise)
  exact lane_plain H 3072 (by omega) _ _ (by omega) _ _ (by simp only; omega)

set_option maxHeartbeats 1600000 in
/-- Plain columns. -/
theorem p16 (y : S256x1024.Idx) : out0_16 (F := Ideal) x0 x1 x2 x3 x4 y = plain X W 5200 (by omega) (R (y 0)) (y 1) := by
  canon_tiles x hx
  all_goals (open_payloads; pointwise)
  exact lane_plain H 5200 (by omega) _ _ (by omega) _ _ (by simp only; omega)

set_option maxHeartbeats 1600000 in
/-- Plain columns. -/
theorem p17 (y : S256x1024.Idx) : out0_17 (F := Ideal) x0 x1 x2 x3 x4 y = plain X W 6224 (by omega) (R (y 0)) (y 1) := by
  canon_tiles x hx
  all_goals (open_payloads; pointwise)
  exact lane_plain H 6224 (by omega) _ _ (by omega) _ _ (by simp only; omega)

set_option maxHeartbeats 1600000 in
/-- Plain columns, turned on their side. -/
theorem p9 (y : S1x1024x256.Idx) : out0_9 (F := Ideal) x0 x1 x2 x3 x4 y = plain X W 2048 (by omega) (R (y 2)) (y 1) := by
  canon_tiles x hx
  all_goals (open_payloads; pointwise)
  exact lane_plain H 2048 (by omega) _ _ (by omega) _ _ (by simp only; omega)

set_option maxHeartbeats 1600000 in
/-- The weights of the indexer heads. -/
theorem p15 (y : S16x256.Idx) : out0_15 (F := Ideal) x0 x1 x2 x3 x4 y = proj X W (R (y 1)) ⟨5184 + (y 0).val, by have : (y 0).val < 16 := (y 0).isLt; omega⟩ * Ideal.ofBits .f32 0x3D000000#32 := by
  canon_tiles x hx
  all_goals (open_payloads; pointwise)
  refine congrArg (· * Ideal.ofBits .f32 0x3D000000#32) ?_
  have e1 : x 1 = y 1 := Fin.ext hx1.symm
  exact (swap H _ (x 1)).trans (congrArg₂ (proj X W) (congrArg R e1) (Fin.ext (by simp only; omega)))

set_option maxHeartbeats 1600000 in
/-- Turned indexer heads. -/
theorem p11 (y : S16x256x64.Idx) : out0_11 (F := Ideal) x0 x1 x2 x3 x4 y = query X W (R (y 1)) (y 0) (y 2) := by
  canon_tiles x hx
  all_goals (open_payloads; pointwise)
  all_goals
    refine (lane_idx H (4096 + (y 0).val * 64) (by have : (y 0).val < 16 := (y 0).isLt; omega) _ (y 1) (by omega) (y 2) _ ?_ _ _ _ ?_ ?_ ?_).trans ?_
    · simp only; omega
    · refine congrArg (dot x0 x1 _) (Fin.ext ?_)
      simp only; omega
    · intro h
      refine congrArg (dot x0 x1 _) (Fin.ext ?_)
      simp only; omega
    · intro h h'
      refine congrArg (dot x0 x1 _) (Fin.ext ?_)
      simp only; omega
    · unfold query
      refine congrArg (fun z => turnIdx _ z _) (funext fun e => congrArg (proj X W _) (Fin.ext ?_))
      simp only; omega

set_option maxHeartbeats 1600000 in
/-- The turned indexer key. -/
theorem p12 (y : S256x64.Idx) : out0_12 (F := Ideal) x0 x1 x2 x3 x4 y = key X W (R (y 0)) (y 1) := by
  canon_tiles x hx
  all_goals (open_payloads; pointwise)
  refine lane_idx H 5120 (by omega) _ (y 0) (by omega) (y 1) _ ?_ _ _ _ ?_ ?_ ?_
  · simp only; omega
  · refine congrArg (dot x0 x1 _) (Fin.ext ?_)
    simp only; omega
  · intro h
    rw [dif_pos (by omega)]
    refine congrArg (dot x0 x1 _) (Fin.ext ?_)
    simp only; omega
  · intro h h'
    rw [dif_pos (by omega)]
    refine congrArg (dot x0 x1 _) (Fin.ext ?_)
    simp only; omega

set_option maxHeartbeats 1600000 in
/-- The turned indexer key. -/
theorem p13 (y : S256x64.Idx) : out0_13 (F := Ideal) x0 x1 x2 x3 x4 y = key X W (R (y 0)) (y 1) := by
  canon_tiles x hx
  all_goals (open_payloads; pointwise)
  refine lane_idx H 5120 (by omega) _ (y 0) (by omega) (y 1) _ ?_ _ _ _ ?_ ?_ ?_
  · simp only; omega
  · refine congrArg (dot x0 x1 _) (Fin.ext ?_)
    simp only; omega
  · intro h
    rw [dif_pos (by omega)]
    refine congrArg (dot x0 x1 _) (Fin.ext ?_)
    simp only; omega
  · intro h h'
    rw [dif_pos (by omega)]
    refine congrArg (dot x0 x1 _) (Fin.ext ?_)
    simp only; omega

set_option maxHeartbeats 1600000 in
/-- The turned indexer key, turned on its side. -/
theorem p14 (y : S1x64x256.Idx) : out0_14 (F := Ideal) x0 x1 x2 x3 x4 y = key X W (R (y 2)) (y 1) := by
  canon_tiles x hx
  all_goals (open_payloads; pointwise)
  have e1 : x 1 = y 1 := Fin.ext hx1.symm
  have e2 : x 2 = y 2 := Fin.ext hx2.symm
  exact (lane_cat H (x 1) (x 2)).trans (congrArg₂ (fun r d => key X W r d) (congrArg R e2) e1)

end Cert.KernelProjectIdeal.Project
-- ==== Proof.Project.Tables.lean ====
/- The rotary tables the prompt group's projection is given, entry by entry. -/
module

public import proofs.«01_k».proof.Proof.Project.Block

@[expose] public section

set_option maxRecDepth 100000
set_option maxHeartbeats 2000000

noncomputable section

namespace Cert.KernelProjectIdeal.Project

open Cert.KernelProjectIdeal Cert.KernelProjectIdeal.Gen Idealize.ShloMosaic Idealize.ShloMosaic.TcCoe Idealize.SL.Sem
open Cert.Project Cert.Project.Prompt
open scoped BigOperators

/-- Operations one after the other. -/
theorem after_app {τ : Topo} {sig : RefSig} {Val : EltTy → Type} (l₁ l₂ : List (HloOp τ sig Val)) (s : (b : DevRef τ sig) → b.ty.Contents Val) :
    StableHlo.after (l₁ ++ l₂) s = StableHlo.after l₂ (StableHlo.after l₁ s) := by
  induction l₁ generalizing s with
  | nil => rfl
  | cons op l ih => exact ih _

/-! ## The lanes' words -/

theorem h_low : ∀ d : Fin 128, IntOp.cmpi .slt (BitVec.ofNat 32 (d.val % 128)) 16#32 = if d.val % 128 < 16 then 1#1 else 0#1 := by decide
theorem h_high : ∀ d : Fin 128, IntOp.andi (IntOp.cmpi .sge (BitVec.ofNat 32 (d.val % 128)) 16#32) (IntOp.cmpi .slt (BitVec.ofNat 32 (d.val % 128)) 32#32)
    = if ¬ d.val % 128 < 16 ∧ d.val % 128 < 2 * 16 then 1#1 else 0#1 := by decide
theorem h_turned : ∀ d : Fin 128, IntOp.ori (IntOp.cmpi .slt (BitVec.ofNat 32 (d.val % 128)) 16#32)
    (IntOp.andi (IntOp.cmpi .sge (BitVec.ofNat 32 (d.val % 128)) 16#32) (IntOp.cmpi .slt (BitVec.ofNat 32 (d.val % 128)) 32#32))
    = if d.val % 128 < 2 * 16 then 1#1 else 0#1 := by decide

theorem i_low : ∀ d : Fin 128, IntOp.cmpi .slt (BitVec.ofNat 32 (d.val % 64)) 8#32 = if d.val % 64 < 8 then 1#1 else 0#1 := by decide
theorem i_high : ∀ d : Fin 128, IntOp.andi (IntOp.cmpi .sge (BitVec.ofNat 32 (d.val % 64)) 8#32) (IntOp.cmpi .slt (BitVec.ofNat 32 (d.val % 64)) 16#32)
    = if ¬ d.val % 64 < 8 ∧ d.val % 64 < 2 * 8 then 1#1 else 0#1 := by decide
theorem i_turned : ∀ d : Fin 128, IntOp.ori (IntOp.cmpi .slt (BitVec.ofNat 32 (d.val % 64)) 8#32)
    (IntOp.andi (IntOp.cmpi .sge (BitVec.ofNat 32 (d.val % 64)) 8#32) (IntOp.cmpi .slt (BitVec.ofNat 32 (d.val % 64)) 16#32))
    = if d.val % 64 < 2 * 8 then 1#1 else 0#1 := by decide

variable (s : (b : DevRef τ sig) → b.ty.Contents (Elt Ideal))

/-- Positions. -/
theorem pos (p : Fin 4096) : (StableHlo.after (hostOps0 ++ hostOps0_1) s (Proc.tc.devRef main_v4) (ix1 p)) = BitVec.ofNat 32 p.val := by
  simp only [List.cons_append, List.nil_append, hostOps0, hostOps0_1]
  entry_read
  try simp -implicitDefEqProofs only [StableHlo.TRef.toBuf, StableHlo.TRef.ofBuf, cast_cast, cast_eq]
  pointwise

/-- Lanes of a head. -/
theorem lane6 (d : Fin 128) : (StableHlo.after (hostOps0 ++ hostOps0_1) s (Proc.tc.devRef main_v6) (ix1 d)) = BitVec.ofNat 32 (d.val % 128) := by
  simp only [List.cons_append, List.nil_append, hostOps0, hostOps0_1]
  entry_read
  try simp -implicitDefEqProofs only [StableHlo.TRef.toBuf, StableHlo.TRef.ofBuf, cast_cast, cast_eq]
  pointwise
  revert d
  decide

/-- Frequencies of a head. -/
theorem lane7 (h : ∀ d : Fin 128, s (Proc.tc.devRef main_v6) (ix1 d) = BitVec.ofNat 32 (d.val % 128)) (d : Fin 128) : (StableHlo.after (hostOps0_2 ++ hostOps0_3) s (Proc.tc.devRef main_v7) (ix1 d)) = BitVec.ofNat 32 (d.val % 128 % 16) := by
  simp only [List.cons_append, List.nil_append, hostOps0_2, hostOps0_3]
  entry_read
  try simp -implicitDefEqProofs only [StableHlo.TRef.toBuf, StableHlo.TRef.ofBuf, cast_cast, cast_eq]
  pointwise
  rw [h]
  revert d
  decide

/-- Lanes of an indexer head. -/
theorem lane41 (d : Fin 128) : (StableHlo.after ((hostOps0_10.drop 4) ++ hostOps0_11) s (Proc.tc.devRef main_v41) (ix1 d)) = BitVec.ofNat 32 (d.val % 64) := by
  simp only [List.cons_append, List.nil_append, hostOps0_10, List.drop_succ_cons, List.drop_zero, hostOps0_11]
  entry_read
  try simp -implicitDefEqProofs only [StableHlo.TRef.toBuf, StableHlo.TRef.ofBuf, cast_cast, cast_eq]
  pointwise
  revert d
  decide

/-- Frequencies of an indexer head. -/
theorem lane42 (h : ∀ d : Fin 128, s (Proc.tc.devRef main_v41) (ix1 d) = BitVec.ofNat 32 (d.val % 64)) (d : Fin 128) : (StableHlo.after (hostOps0_12 ++ hostOps0_13) s (Proc.tc.devRef main_v42) (ix1 d)) = BitVec.ofNat 32 (d.val % 64 % 8) := by
  simp only [List.cons_append, List.nil_append, hostOps0_12, hostOps0_13]
  entry_read
  try simp -implicitDefEqProofs only [StableHlo.TRef.toBuf, StableHlo.TRef.ofBuf, cast_cast, cast_eq]
  pointwise
  rw [h]
  revert d
  decide

theorem keep4a : StableHlo.after (hostOps0_2 ++ hostOps0_3 : List (HloOp τ sig (Elt Ideal))) s (Proc.tc.devRef main_v4) = s (Proc.tc.devRef main_v4) := by
  simp only [List.cons_append, List.nil_append, hostOps0_2, hostOps0_3]
  entry_read
  rfl
theorem keep6 : StableHlo.after (hostOps0_2 ++ hostOps0_3 : List (HloOp τ sig (Elt Ideal))) s (Proc.tc.devRef main_v6) = s (Proc.tc.devRef main_v6) := by
  simp only [List.cons_append, List.nil_append, hostOps0_2, hostOps0_3]
  entry_read
  rfl
theorem keep4b : StableHlo.after (hostOps0_4 ++ hostOps0_5 ++ hostOps0_6 ++ hostOps0_7 ++ hostOps0_8 ++ hostOps0_9 : List (HloOp τ sig (Elt Ideal))) s (Proc.tc.devRef main_v4) = s (Proc.tc.devRef main_v4) := by
  simp only [List.cons_append, List.nil_append, hostOps0_4, hostOps0_5, hostOps0_6, hostOps0_7, hostOps0_8, hostOps0_9]
  entry_read
  rfl
theorem keep4c : StableHlo.after ((hostOps0_10 : List (HloOp τ sig (Elt Ideal))).take 4) s (Proc.tc.devRef main_v4) = s (Proc.tc.devRef main_v4) := by
  refine StableHlo.after_of_forall_not_mem _ _ ?_
  decide
theorem keep4d : StableHlo.after ((hostOps0_10.drop 4) ++ hostOps0_11 : List (HloOp τ sig (Elt Ideal))) s (Proc.tc.devRef main_v4) = s (Proc.tc.devRef main_v4) := by
  simp only [List.cons_append, List.nil_append, hostOps0_10, List.drop_succ_cons, List.drop_zero, hostOps0_11]
  entry_read
  rfl
theorem keep4e : StableHlo.after (hostOps0_12 ++ hostOps0_13 : List (HloOp τ sig (Elt Ideal))) s (Proc.tc.devRef main_v4) = s (Proc.tc.devRef main_v4) := by
  simp only [List.cons_append, List.nil_append, hostOps0_12, hostOps0_13]
  entry_read
  rfl
theorem keep41 : StableHlo.after (hostOps0_12 ++ hostOps0_13 : List (HloOp τ sig (Elt Ideal))) s (Proc.tc.devRef main_v41) = s (Proc.tc.devRef main_v41) := by
  simp only [List.cons_append, List.nil_append, hostOps0_12, hostOps0_13]
  entry_read
  rfl
theorem keep39a : StableHlo.after ((hostOps0_10.drop 4) ++ hostOps0_11 ++ hostOps0_12 ++ hostOps0_13 ++ hostOps0_14 ++ hostOps0_15 ++ hostOps0_16 ++ hostOps0_17 ++ hostOps0_18 ++ hostOps0_19 : List (HloOp τ sig (Elt Ideal))) s (Proc.tc.devRef main_v39) = s (Proc.tc.devRef main_v39) := by
  simp only [List.cons_append, List.nil_append, hostOps0_10, List.drop_succ_cons, List.drop_zero, hostOps0_11, hostOps0_12, hostOps0_13, hostOps0_14, hostOps0_15, hostOps0_16, hostOps0_17, hostOps0_18, hostOps0_19]
  entry_read
  rfl
theorem keep74 : StableHlo.after ((hostOps0_20.drop 4) : List (HloOp τ sig (Elt Ideal))) s (Proc.tc.devRef main_v74) = s (Proc.tc.devRef main_v74) := by
  simp only [List.cons_append, List.nil_append, hostOps0_20, List.drop_succ_cons, List.drop_zero]
  entry_read
  rfl
theorem keep4f : StableHlo.after (hostOps0_14 ++ hostOps0_15 ++ hostOps0_16 ++ hostOps0_17 ++ hostOps0_18 ++ hostOps0_19 : List (HloOp τ sig (Elt Ideal))) s (Proc.tc.devRef main_v4) = s (Proc.tc.devRef main_v4) := by
  simp only [List.cons_append, List.nil_append, hostOps0_14, hostOps0_15, hostOps0_16, hostOps0_17, hostOps0_18, hostOps0_19]
  entry_read
  rfl
/-- The cosines. -/
theorem h_cos (h4 : ∀ p : Fin 4096, s (Proc.tc.devRef main_v4) (ix1 p) = BitVec.ofNat 32 p.val)
    (hl : ∀ d : Fin 128, s (Proc.tc.devRef main_v6) (ix1 d) = BitVec.ofNat 32 (d.val % 128))
    (hf : ∀ d : Fin 128, s (Proc.tc.devRef main_v7) (ix1 d) = BitVec.ofNat 32 (d.val % 128 % 16))
    (p : Fin 4096) (d : Fin 128) : (StableHlo.after (hostOps0_4 ++ hostOps0_5 ++ hostOps0_6 ++ hostOps0_7 ++ hostOps0_8 ++ hostOps0_9) s (Proc.tc.devRef main_v32) (ix2 p d) : EReal) = (if d.val % 128 < 16 then cosA 0x3D800000#32 (BitVec.ofNat 32 p.val) (BitVec.ofNat 32 (d.val % 128)) else if d.val % 128 < 2 * 16 then cosA 0x3D800000#32 (BitVec.ofNat 32 p.val) (BitVec.ofNat 32 (d.val % 128 - 16)) else 1 : EReal) := by
  simp only [List.cons_append, List.nil_append, hostOps0_4, hostOps0_5, hostOps0_6, hostOps0_7, hostOps0_8, hostOps0_9]
  entry_read
  try simp -implicitDefEqProofs only [StableHlo.TRef.toBuf, StableHlo.TRef.ofBuf, cast_cast, cast_eq]
  pointwise
  rw [h4, hl, hf, h_turned]
  by_cases q : d.val % 128 < 16
  · rw [if_pos (by omega), if_pos q, show d.val % 128 % 16 = d.val % 128 by omega]
    rfl
  · by_cases q' : d.val % 128 < 2 * 16
    · rw [if_pos q', if_neg q, if_pos q', show d.val % 128 % 16 = d.val % 128 - 16 by omega]
      rfl
    · rw [if_neg q', if_neg q, if_neg q']
      rfl

/-- Minus the sines. -/
theorem h_neg (h4 : ∀ p : Fin 4096, s (Proc.tc.devRef main_v4) (ix1 p) = BitVec.ofNat 32 p.val)
    (hl : ∀ d : Fin 128, s (Proc.tc.devRef main_v6) (ix1 d) = BitVec.ofNat 32 (d.val % 128))
    (hf : ∀ d : Fin 128, s (Proc.tc.devRef main_v7) (ix1 d) = BitVec.ofNat 32 (d.val % 128 % 16))
    (p : Fin 4096) (d : Fin 128) : (StableHlo.after (hostOps0_4 ++ hostOps0_5 ++ hostOps0_6 ++ hostOps0_7 ++ hostOps0_8 ++ hostOps0_9) s (Proc.tc.devRef main_v34) (ix2 p d) : EReal) = (if d.val % 128 < 16 then -sinA 0x3D800000#32 (BitVec.ofNat 32 p.val) (BitVec.ofNat 32 (d.val % 128)) else 0 : EReal) := by
  simp only [List.cons_append, List.nil_append, hostOps0_4, hostOps0_5, hostOps0_6, hostOps0_7, hostOps0_8, hostOps0_9]
  entry_read
  try simp -implicitDefEqProofs only [StableHlo.TRef.toBuf, StableHlo.TRef.ofBuf, cast_cast, cast_eq]
  pointwise
  rw [h4, hl, hf, h_low]
  by_cases q : d.val % 128 < 16
  · rw [if_pos q, if_pos q, show d.val % 128 % 16 = d.val % 128 by omega]
    rfl
  · rw [if_neg q, if_neg q]
    rfl

/-- The sines. -/
theorem h_sin (h4 : ∀ p : Fin 4096, s (Proc.tc.devRef main_v4) (ix1 p) = BitVec.ofNat 32 p.val)
    (hl : ∀ d : Fin 128, s (Proc.tc.devRef main_v6) (ix1 d) = BitVec.ofNat 32 (d.val % 128))
    (hf : ∀ d : Fin 128, s (Proc.tc.devRef main_v7) (ix1 d) = BitVec.ofNat 32 (d.val % 128 % 16))
    (p : Fin 4096) (d : Fin 128) : (StableHlo.after (hostOps0_4 ++ hostOps0_5 ++ hostOps0_6 ++ hostOps0_7 ++ hostOps0_8 ++ hostOps0_9) s (Proc.tc.devRef main_v35) (ix2 p d) : EReal) = (if ¬ d.val % 128 < 16 ∧ d.val % 128 < 2 * 16 then sinA 0x3D800000#32 (BitVec.ofNat 32 p.val) (BitVec.ofNat 32 (d.val % 128 - 16)) else 0 : EReal) := by
  simp only [List.cons_append, List.nil_append, hostOps0_4, hostOps0_5, hostOps0_6, hostOps0_7, hostOps0_8, hostOps0_9]
  entry_read
  try simp -implicitDefEqProofs only [StableHlo.TRef.toBuf, StableHlo.TRef.ofBuf, cast_cast, cast_eq]
  pointwise
  rw [h4, hl, hf, h_high]
  by_cases q : ¬ d.val % 128 < 16 ∧ d.val % 128 < 2 * 16
  · rw [if_pos q, if_pos q, show d.val % 128 % 16 = d.val % 128 - 16 by omega]
    rfl
  · rw [if_neg q, if_neg q]
    rfl

/-- The cosines. -/
theorem i_cos (h4 : ∀ p : Fin 4096, s (Proc.tc.devRef main_v4) (ix1 p) = BitVec.ofNat 32 p.val)
    (hl : ∀ d : Fin 128, s (Proc.tc.devRef main_v41) (ix1 d) = BitVec.ofNat 32 (d.val % 64))
    (hf : ∀ d : Fin 128, s (Proc.tc.devRef main_v42) (ix1 d) = BitVec.ofNat 32 (d.val % 64 % 8))
    (p : Fin 4096) (d : Fin 128) : (StableHlo.after (hostOps0_14 ++ hostOps0_15 ++ hostOps0_16 ++ hostOps0_17 ++ hostOps0_18 ++ hostOps0_19) s (Proc.tc.devRef main_v67) (ix2 p d) : EReal) = (if d.val % 64 < 8 then cosA 0x3E000000#32 (BitVec.ofNat 32 p.val) (BitVec.ofNat 32 (d.val % 64)) else if d.val % 64 < 2 * 8 then cosA 0x3E000000#32 (BitVec.ofNat 32 p.val) (BitVec.ofNat 32 (d.val % 64 - 8)) else 1 : EReal) := by
  simp only [List.cons_append, List.nil_append, hostOps0_14, hostOps0_15, hostOps0_16, hostOps0_17, hostOps0_18, hostOps0_19]
  entry_read
  try simp -implicitDefEqProofs only [StableHlo.TRef.toBuf, StableHlo.TRef.ofBuf, cast_cast, cast_eq]
  pointwise
  rw [h4, hl, hf, i_turned]
  by_cases q : d.val % 64 < 8
  · rw [if_pos (by omega), if_pos q, show d.val % 64 % 8 = d.val % 64 by omega]
    rfl
  · by_cases q' : d.val % 64 < 2 * 8
    · rw [if_pos q', if_neg q, if_pos q', show d.val % 64 % 8 = d.val % 64 - 8 by omega]
      rfl
    · rw [if_neg q', if_neg q, if_neg q']
      rfl

/-- Minus the sines. -/
theorem i_neg (h4 : ∀ p : Fin 4096, s (Proc.tc.devRef main_v4) (ix1 p) = BitVec.ofNat 32 p.val)
    (hl : ∀ d : Fin 128, s (Proc.tc.devRef main_v41) (ix1 d) = BitVec.ofNat 32 (d.val % 64))
    (hf : ∀ d : Fin 128, s (Proc.tc.devRef main_v42) (ix1 d) = BitVec.ofNat 32 (d.val % 64 % 8))
    (p : Fin 4096) (d : Fin 128) : (StableHlo.after (hostOps0_14 ++ hostOps0_15 ++ hostOps0_16 ++ hostOps0_17 ++ hostOps0_18 ++ hostOps0_19) s (Proc.tc.devRef main_v69) (ix2 p d) : EReal) = (if d.val % 64 < 8 then -sinA 0x3E000000#32 (BitVec.ofNat 32 p.val) (BitVec.ofNat 32 (d.val % 64)) else 0 : EReal) := by
  simp only [List.cons_append, List.nil_append, hostOps0_14, hostOps0_15, hostOps0_16, hostOps0_17, hostOps0_18, hostOps0_19]
  entry_read
  try simp -implicitDefEqProofs only [StableHlo.TRef.toBuf, StableHlo.TRef.ofBuf, cast_cast, cast_eq]
  pointwise
  rw [h4, hl, hf, i_low]
  by_cases q : d.val % 64 < 8
  · rw [if_pos q, if_pos q, show d.val % 64 % 8 = d.val % 64 by omega]
    rfl
  · rw [if_neg q, if_neg q]
    rfl

/-- The sines. -/
theorem i_sin (h4 : ∀ p : Fin 4096, s (Proc.tc.devRef main_v4) (ix1 p) = BitVec.ofNat 32 p.val)
    (hl : ∀ d : Fin 128, s (Proc.tc.devRef main_v41) (ix1 d) = BitVec.ofNat 32 (d.val % 64))
    (hf : ∀ d : Fin 128, s (Proc.tc.devRef main_v42) (ix1 d) = BitVec.ofNat 32 (d.val % 64 % 8))
    (p : Fin 4096) (d : Fin 128) : (StableHlo.after (hostOps0_14 ++ hostOps0_15 ++ hostOps0_16 ++ hostOps0_17 ++ hostOps0_18 ++ hostOps0_19) s (Proc.tc.devRef main_v70) (ix2 p d) : EReal) = (if ¬ d.val % 64 < 8 ∧ d.val % 64 < 2 * 8 then sinA 0x3E000000#32 (BitVec.ofNat 32 p.val) (BitVec.ofNat 32 (d.val % 64 - 8)) else 0 : EReal) := by
  simp only [List.cons_append, List.nil_append, hostOps0_14, hostOps0_15, hostOps0_16, hostOps0_17, hostOps0_18, hostOps0_19]
  entry_read
  try simp -implicitDefEqProofs only [StableHlo.TRef.toBuf, StableHlo.TRef.ofBuf, cast_cast, cast_eq]
  pointwise
  rw [h4, hl, hf, i_high]
  by_cases q : ¬ d.val % 64 < 8 ∧ d.val % 64 < 2 * 8
  · rw [if_pos q, if_pos q, show d.val % 64 % 8 = d.val % 64 - 8 by omega]
    rfl
  · rw [if_neg q, if_neg q]
    rfl

/-- The three tables side by side. -/
theorem h_join (k : Fin 3) (p : Fin 4096) (d : Fin 128) : (StableHlo.after (hostOps0_10.take 4) s (Proc.tc.devRef main_v39)) (ix3 k p d)
   = (match k with | 0 => s (Proc.tc.devRef main_v32) (ix2 p d) | 1 => s (Proc.tc.devRef main_v34) (ix2 p d) | 2 => s (Proc.tc.devRef main_v35) (ix2 p d) : EReal) := by
  have e1 : StableHlo.after (hostOps0_10.take 3) s (Proc.tc.devRef main_v36) = broadcastInDim S1x4096x128 ![1, 2] bcast_S4096x128_S1x4096x128_1_2 (s (Proc.tc.devRef main_v32)) := by
    simp only [hostOps0_10, List.take_succ_cons, List.take_zero]
    after_results
  have e2 : StableHlo.after (hostOps0_10.take 3) s (Proc.tc.devRef main_v37) = broadcastInDim S1x4096x128 ![1, 2] bcast_S4096x128_S1x4096x128_1_2 (s (Proc.tc.devRef main_v34)) := by
    simp only [hostOps0_10, List.take_succ_cons, List.take_zero]
    after_results
  have e3 : StableHlo.after (hostOps0_10.take 3) s (Proc.tc.devRef main_v38) = broadcastInDim S1x4096x128 ![1, 2] bcast_S4096x128_S1x4096x128_1_2 (s (Proc.tc.devRef main_v35)) := by
    simp only [hostOps0_10, List.take_succ_cons, List.take_zero]
    after_results
  have e : (hostOps0_10 : List (HloOp τ sig (Elt Ideal))).take 4 = hostOps0_10.take 3 ++ (hostOps0_10.drop 3).take 1 := rfl
  rw [e, after_app]
  generalize StableHlo.after (hostOps0_10.take 3) s = s' at e1 e2 e3 ⊢
  simp only [hostOps0_10, List.drop_succ_cons, List.drop_zero, List.take_succ_cons, List.take_zero, StableHlo.after_cons, StableHlo.after_nil]
  rw [StableHlo.nary_result]
  match k with
  | 0 =>
    pointwise
    refine (congrFun e1 _).trans ?_
    pointwise
  | 1 =>
    pointwise
    refine (congrFun e2 _).trans ?_
    pointwise
  | 2 =>
    pointwise
    refine (congrFun e3 _).trans ?_
    pointwise

/-- The three tables side by side. -/
theorem i_join (k : Fin 3) (p : Fin 4096) (d : Fin 128) : (StableHlo.after (hostOps0_20.take 4) s (Proc.tc.devRef main_v74)) (ix3 k p d)
   = (match k with | 0 => s (Proc.tc.devRef main_v67) (ix2 p d) | 1 => s (Proc.tc.devRef main_v69) (ix2 p d) | 2 => s (Proc.tc.devRef main_v70) (ix2 p d) : EReal) := by
  have e1 : StableHlo.after (hostOps0_20.take 3) s (Proc.tc.devRef main_v71) = broadcastInDim S1x4096x128 ![1, 2] bcast_S4096x128_S1x4096x128_1_2 (s (Proc.tc.devRef main_v67)) := by
    simp only [hostOps0_20, List.take_succ_cons, List.take_zero]
    after_results
  have e2 : StableHlo.after (hostOps0_20.take 3) s (Proc.tc.devRef main_v72) = broadcastInDim S1x4096x128 ![1, 2] bcast_S4096x128_S1x4096x128_1_2 (s (Proc.tc.devRef main_v69)) := by
    simp only [hostOps0_20, List.take_succ_cons, List.take_zero]
    after_results
  have e3 : StableHlo.after (hostOps0_20.take 3) s (Proc.tc.devRef main_v73) = broadcastInDim S1x4096x128 ![1, 2] bcast_S4096x128_S1x4096x128_1_2 (s (Proc.tc.devRef main_v70)) := by
    simp only [hostOps0_20, List.take_succ_cons, List.take_zero]
    after_results
  have e : (hostOps0_20 : List (HloOp τ sig (Elt Ideal))).take 4 = hostOps0_20.take 3 ++ (hostOps0_20.drop 3).take 1 := rfl
  rw [e, after_app]
  generalize StableHlo.after (hostOps0_20.take 3) s = s' at e1 e2 e3 ⊢
  simp only [hostOps0_20, List.drop_succ_cons, List.drop_zero, List.take_succ_cons, List.take_zero, StableHlo.after_cons, StableHlo.after_nil]
  rw [StableHlo.nary_result]
  match k with
  | 0 =>
    pointwise
    refine (congrFun e1 _).trans ?_
    pointwise
  | 1 =>
    pointwise
    refine (congrFun e2 _).trans ?_
    pointwise
  | 2 =>
    pointwise
    refine (congrFun e3 _).trans ?_
    pointwise

theorem keep39b : StableHlo.after (hostOps0_20 : List (HloOp τ sig (Elt Ideal))) s (Proc.tc.devRef main_v39) = s (Proc.tc.devRef main_v39) := by
  refine StableHlo.after_of_forall_not_mem _ _ ?_
  decide

theorem keep4g : StableHlo.after ((hostOps0_20 : List (HloOp τ sig (Elt Ideal))).take 4) s (Proc.tc.devRef main_v4) = s (Proc.tc.devRef main_v4) := by
  refine StableHlo.after_of_forall_not_mem _ _ ?_
  decide

variable (m : (ℓ : Loc nD τ sig) → Buf (Elt Ideal) ℓ) (c : Dev nD)

/-- The contents the region is entered with, stage by stage. -/
def st1 : (b : DevRef τ sig) → b.ty.Contents (Elt Ideal) := StableHlo.after (hostOps0_2 ++ hostOps0_3) (StableHlo.after (hostOps0 ++ hostOps0_1) fun b => m (c, b))
def st2 : (b : DevRef τ sig) → b.ty.Contents (Elt Ideal) :=
  StableHlo.after (hostOps0_4 ++ hostOps0_5 ++ hostOps0_6 ++ hostOps0_7 ++ hostOps0_8 ++ hostOps0_9) (st1 m c)
def st3 : (b : DevRef τ sig) → b.ty.Contents (Elt Ideal) := StableHlo.after (hostOps0_10.take 4) (st2 m c)
def st4 : (b : DevRef τ sig) → b.ty.Contents (Elt Ideal) := StableHlo.after (hostOps0_12 ++ hostOps0_13) (StableHlo.after ((hostOps0_10.drop 4) ++ hostOps0_11) (st3 m c))
def st5 : (b : DevRef τ sig) → b.ty.Contents (Elt Ideal) :=
  StableHlo.after (hostOps0_14 ++ hostOps0_15 ++ hostOps0_16 ++ hostOps0_17 ++ hostOps0_18 ++ hostOps0_19) (st4 m c)

theorem V_eq (b : Ref sig .tc) : V m c b = StableHlo.after hostOps0_20 (st5 m c) (Proc.tc.devRef b) := by
  unfold V st5 st4 st3 st2 st1
  simp only [List.flatten_cons, List.flatten_nil, List.append_nil, after_app]
  have e := List.take_append_drop 4 (hostOps0_10 : List (HloOp τ sig (Elt Ideal)))
  conv_lhs => rw [← e]
  simp only [after_app]

theorem st1_4 (p : Fin 4096) : st1 m c (Proc.tc.devRef main_v4) (ix1 p) = BitVec.ofNat 32 p.val := (congrFun (keep4a _) _).trans (pos _ p)
theorem st1_6 (d : Fin 128) : st1 m c (Proc.tc.devRef main_v6) (ix1 d) = BitVec.ofNat 32 (d.val % 128) := (congrFun (keep6 _) _).trans (lane6 _ d)
theorem st1_7 (d : Fin 128) : st1 m c (Proc.tc.devRef main_v7) (ix1 d) = BitVec.ofNat 32 (d.val % 128 % 16) := lane7 _ (fun d => lane6 _ d) d
theorem st3_4 (p : Fin 4096) : st3 m c (Proc.tc.devRef main_v4) (ix1 p) = BitVec.ofNat 32 p.val :=
  (congrFun (keep4c _) _).trans ((congrFun (keep4b _) _).trans (st1_4 m c p))
theorem st4_4 (p : Fin 4096) : st4 m c (Proc.tc.devRef main_v4) (ix1 p) = BitVec.ofNat 32 p.val :=
  (congrFun (keep4e _) _).trans ((congrFun (keep4d _) _).trans (st3_4 m c p))
theorem st4_41 (d : Fin 128) : st4 m c (Proc.tc.devRef main_v41) (ix1 d) = BitVec.ofNat 32 (d.val % 64) := (congrFun (keep41 _) _).trans (lane41 _ d)
theorem st4_42 (d : Fin 128) : st4 m c (Proc.tc.devRef main_v42) (ix1 d) = BitVec.ofNat 32 (d.val % 64 % 8) := lane42 _ (fun d => lane41 _ d) d

/-- The heads' tables, as the region is entered. -/
theorem V39 (k : Fin 3) (p : Fin 4096) (d : Fin 128) : V m c main_v39 (ix3 k p d) = st3 m c (Proc.tc.devRef main_v39) (ix3 k p d) := by
  have h := keep39a (st3 m c)
  have e : StableHlo.after ((hostOps0_10.drop 4) ++ hostOps0_11 ++ hostOps0_12 ++ hostOps0_13 ++ hostOps0_14 ++ hostOps0_15 ++ hostOps0_16 ++ hostOps0_17 ++ hostOps0_18 ++ hostOps0_19) (st3 m c)
      = st5 m c := by
    unfold st5 st4
    simp only [after_app]
  rw [e] at h
  rw [V_eq, keep39b, h]

theorem head_tables (p : Fin 4096) (d : Fin 128) :
    (V m c main_v39 (ix3 (0 : Fin 3) p d) : EReal) = (if d.val % 128 < 16 then cosA 0x3D800000#32 (BitVec.ofNat 32 p.val) (BitVec.ofNat 32 (d.val % 128))
      else if d.val % 128 < 2 * 16 then cosA 0x3D800000#32 (BitVec.ofNat 32 p.val) (BitVec.ofNat 32 (d.val % 128 - 16)) else 1)
    ∧ (V m c main_v39 (ix3 (1 : Fin 3) p d) : EReal) = (if d.val % 128 < 16 then -sinA 0x3D800000#32 (BitVec.ofNat 32 p.val) (BitVec.ofNat 32 (d.val % 128)) else 0)
    ∧ (V m c main_v39 (ix3 (2 : Fin 3) p d) : EReal)
      = (if ¬ d.val % 128 < 16 ∧ d.val % 128 < 2 * 16 then sinA 0x3D800000#32 (BitVec.ofNat 32 p.val) (BitVec.ofNat 32 (d.val % 128 - 16)) else 0) :=
  ⟨(V39 m c 0 p d).trans ((h_join _ 0 p d).trans (h_cos _ (st1_4 m c) (st1_6 m c) (st1_7 m c) p d)),
   (V39 m c 1 p d).trans ((h_join _ 1 p d).trans (h_neg _ (st1_4 m c) (st1_6 m c) (st1_7 m c) p d)),
   (V39 m c 2 p d).trans ((h_join _ 2 p d).trans (h_sin _ (st1_4 m c) (st1_6 m c) (st1_7 m c) p d))⟩

/-- The indexer's tables, as the region is entered. -/
theorem V74 (k : Fin 3) (p : Fin 4096) (d : Fin 128) : V m c main_v74 (ix3 k p d) = StableHlo.after (hostOps0_20.take 4) (st5 m c) (Proc.tc.devRef main_v74) (ix3 k p d) := by
  rw [V_eq]
  have e := List.take_append_drop 4 (hostOps0_20 : List (HloOp τ sig (Elt Ideal)))
  conv_lhs => rw [← e]
  rw [after_app, keep74]

theorem idx_tables (p : Fin 4096) (d : Fin 128) :
    (V m c main_v74 (ix3 (0 : Fin 3) p d) : EReal) = (if d.val % 64 < 8 then cosA 0x3E000000#32 (BitVec.ofNat 32 p.val) (BitVec.ofNat 32 (d.val % 64))
      else if d.val % 64 < 2 * 8 then cosA 0x3E000000#32 (BitVec.ofNat 32 p.val) (BitVec.ofNat 32 (d.val % 64 - 8)) else 1)
    ∧ (V m c main_v74 (ix3 (1 : Fin 3) p d) : EReal) = (if d.val % 64 < 8 then -sinA 0x3E000000#32 (BitVec.ofNat 32 p.val) (BitVec.ofNat 32 (d.val % 64)) else 0)
    ∧ (V m c main_v74 (ix3 (2 : Fin 3) p d) : EReal)
      = (if ¬ d.val % 64 < 8 ∧ d.val % 64 < 2 * 8 then sinA 0x3E000000#32 (BitVec.ofNat 32 p.val) (BitVec.ofNat 32 (d.val % 64 - 8)) else 0) :=
  ⟨(V74 m c 0 p d).trans ((i_join _ 0 p d).trans (i_cos _ (st4_4 m c) (st4_41 m c) (st4_42 m c) p d)),
   (V74 m c 1 p d).trans ((i_join _ 1 p d).trans (i_neg _ (st4_4 m c) (st4_41 m c) (st4_42 m c) p d)),
   (V74 m c 2 p d).trans ((i_join _ 2 p d).trans (i_sin _ (st4_4 m c) (st4_41 m c) (st4_42 m c) p d))⟩

/-- The cosines and the sines of the key turned on its side. -/
theorem side_cos (j : Fin 8) (p : Fin 4096) : (V m c main_v94 (ix3 (0 : Fin 2) j p) : EReal) = cosA 0x3E000000#32 (BitVec.ofNat 32 p.val) (BitVec.ofNat 32 j.val) := by
  rw [V_eq]
  have e := List.take_append_drop 4 (hostOps0_20 : List (HloOp τ sig (Elt Ideal)))
  rw [← e, after_app]
  have h4 : StableHlo.after (hostOps0_20.take 4) (st5 m c) (Proc.tc.devRef main_v4) (ix1 p) = BitVec.ofNat 32 p.val :=
    (congrFun (keep4g _) _).trans ((congrFun (keep4f _) _).trans (st4_4 m c p))
  generalize StableHlo.after (hostOps0_20.take 4) (st5 m c) = s' at h4 ⊢
  simp only [hostOps0_20, List.drop_succ_cons, List.drop_zero]
  entry_read
  pointwise
  rw [h4]
  rfl
theorem side_sin (j : Fin 8) (p : Fin 4096) : (V m c main_v94 (ix3 (1 : Fin 2) j p) : EReal) = sinA 0x3E000000#32 (BitVec.ofNat 32 p.val) (BitVec.ofNat 32 j.val) := by
  rw [V_eq]
  have e := List.take_append_drop 4 (hostOps0_20 : List (HloOp τ sig (Elt Ideal)))
  rw [← e, after_app]
  have h4 : StableHlo.after (hostOps0_20.take 4) (st5 m c) (Proc.tc.devRef main_v4) (ix1 p) = BitVec.ofNat 32 p.val :=
    (congrFun (keep4g _) _).trans ((congrFun (keep4f _) _).trans (st4_4 m c p))
  generalize StableHlo.after (hostOps0_20.take 4) (st5 m c) = s' at h4 ⊢
  simp only [hostOps0_20, List.drop_succ_cons, List.drop_zero]
  entry_read
  pointwise
  rw [h4]
  rfl

end Cert.KernelProjectIdeal.Project
-- ==== Proof.Project.Kernel.lean ====
/- The prompt group's projection: what every result array of the kernel ends with. -/
module

public import proofs.«01_k».proof.Proof.Project.Tables

@[expose] public section

set_option maxRecDepth 100000
set_option maxHeartbeats 1000000

noncomputable section

namespace Cert.KernelProjectIdeal.Project

open Cert.KernelProjectIdeal Cert.KernelProjectIdeal.Gen Idealize.ShloMosaic Idealize.ShloMosaic.TcCoe Idealize.SL.Sem
open Cert.Project Cert.Project.Prompt
open scoped BigOperators

variable (m : (ℓ : Loc nD τ sig) → Buf (Elt Ideal) ℓ) (c : Dev nD)

/-- The argument arrays, as functions to the extended reals. -/
abbrev arr0 : S2x4096x2048.Idx → EReal := m ((c.tc : Thread nD τ).loc main_arg0)
abbrev arr1 : S1x2048x7248.Idx → EReal := m ((c.tc : Thread nD τ).loc main_arg1)

theorem V3 (r : Fin 8192) (e : Fin 2048) : (V m c main_v3 (ix2 r e) : EReal)
    = arr0 m c (ix3 (⟨r.val / 4096, by omega⟩ : Fin 2) (⟨r.val % 4096, by omega⟩ : Fin 4096) e) := by
  unfold V
  simp only [List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]
  entry_read
  pointwise
theorem V2 (q : Fin 7248) (e : Fin 2048) : (V m c main_v2 (ix2 q e) : EReal) = arr1 m c (ix3 (0 : Fin 1) e q) := by
  unfold V
  simp only [List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]
  entry_read
  pointwise

/-- Which block of its array each window holds at a grid point. -/
theorem idx_rows : ∀ t : Fin cfg0.N, win0_0.index t = ![t.val, 0] ∧ win0_1.index t = ![0, 0] ∧ win0_2.index t = ![0, t.val % 16, 0]
    ∧ win0_3.index t = ![0, t.val % 16, 0] ∧ win0_4.index t = ![0, 0, t.val % 16] :=
  (by decide +kernel : ∀ t : Fin grid0.N, _)
theorem idx_5 : ∀ t : Fin cfg0.N, win0_5.index t = ![t.val, 0] := (by decide +kernel : ∀ t : Fin grid0.N, _)
theorem idx_6 : ∀ t : Fin cfg0.N, win0_6.index t = ![t.val, 0] := (by decide +kernel : ∀ t : Fin grid0.N, _)
theorem idx_7 : ∀ t : Fin cfg0.N, win0_7.index t = ![t.val, 0] := (by decide +kernel : ∀ t : Fin grid0.N, _)
theorem idx_8 : ∀ t : Fin cfg0.N, win0_8.index t = ![t.val, 0] := (by decide +kernel : ∀ t : Fin grid0.N, _)
theorem idx_9 : ∀ t : Fin cfg0.N, win0_9.index t = ![t.val, 0, 0] := (by decide +kernel : ∀ t : Fin grid0.N, _)
theorem idx_10 : ∀ t : Fin cfg0.N, win0_10.index t = ![t.val, 0] := (by decide +kernel : ∀ t : Fin grid0.N, _)
theorem idx_11 : ∀ t : Fin cfg0.N, win0_11.index t = ![0, t.val, 0] := (by decide +kernel : ∀ t : Fin grid0.N, _)
theorem idx_12 : ∀ t : Fin cfg0.N, win0_12.index t = ![t.val, 0] := (by decide +kernel : ∀ t : Fin grid0.N, _)
theorem idx_13 : ∀ t : Fin cfg0.N, win0_13.index t = ![t.val, 0] := (by decide +kernel : ∀ t : Fin grid0.N, _)
theorem idx_14 : ∀ t : Fin cfg0.N, win0_14.index t = ![t.val / 16, 0, t.val % 16] := (by decide +kernel : ∀ t : Fin grid0.N, _)
theorem idx_15 : ∀ t : Fin cfg0.N, win0_15.index t = ![0, t.val] := (by decide +kernel : ∀ t : Fin grid0.N, _)
theorem idx_16 : ∀ t : Fin cfg0.N, win0_16.index t = ![t.val, 0] := (by decide +kernel : ∀ t : Fin grid0.N, _)
theorem idx_17 : ∀ t : Fin cfg0.N, win0_17.index t = ![t.val, 0] := (by decide +kernel : ∀ t : Fin grid0.N, _)

variable (t : Fin cfg0.N)

/-- The row of the flattened input that is row `r` of grid point `t`'s block, and its position. -/
def rowOf (r : Fin 256) : Fin 8192 := ⟨t.val * 256 + r.val, by have : t.val < 32 := t.isLt; omega⟩
def posOf (r : Fin 256) : Fin 4096 := ⟨t.val % 16 * 256 + r.val, by omega⟩
theorem posOf_val (r : Fin 256) : (posOf t r).val = (rowOf t r).val % 4096 := by
  have : t.val < 32 := t.isLt
  simp only [posOf, rowOf]
  omega

theorem blk0 (r : Fin 256) (e : Fin 2048) : (iblk m c 0 t (ix2 r e) : EReal)
    = arr0 m c (ix3 (⟨(rowOf t r).val / 4096, by omega⟩ : Fin 2) (⟨(rowOf t r).val % 4096, by omega⟩ : Fin 4096) e) := by
  obtain ⟨e0, e1, e2, e3, e4⟩ := idx_rows t
  have he : ((cfg0.win 0).blk t).view.emb (ix2 r e) = ix2 (rowOf t r) e := by blk_ext [e0, rowOf]
  exact (congrArg (V m c main_v3) he).trans (V3 m c _ e)
theorem blk1 (q : Fin 7248) (e : Fin 2048) : (iblk m c 1 t (ix2 q e) : EReal) = arr1 m c (ix3 (0 : Fin 1) e q) := by
  obtain ⟨e0, e1, e2, e3, e4⟩ := idx_rows t
  have he : ((cfg0.win 1).blk t).view.emb (ix2 q e) = ix2 q e := by blk_ext [e1]
  exact (congrArg (V m c main_v2) he).trans (V2 m c q e)
theorem blk2 (k : Fin 3) (r : Fin 256) (d : Fin 128) : iblk m c 2 t (ix3 k r d) = V m c main_v39 (ix3 k (posOf t r) d) := by
  obtain ⟨e0, e1, e2, e3, e4⟩ := idx_rows t
  have he : ((cfg0.win 2).blk t).view.emb (ix3 k r d) = ix3 k (posOf t r) d := by blk_ext [e2, posOf]
  exact congrArg (V m c main_v39) he
theorem blk3 (k : Fin 3) (r : Fin 256) (d : Fin 128) : iblk m c 3 t (ix3 k r d) = V m c main_v74 (ix3 k (posOf t r) d) := by
  obtain ⟨e0, e1, e2, e3, e4⟩ := idx_rows t
  have he : ((cfg0.win 3).blk t).view.emb (ix3 k r d) = ix3 k (posOf t r) d := by blk_ext [e3, posOf]
  exact congrArg (V m c main_v74) he
theorem blk4 (k : Fin 2) (j : Fin 8) (r : Fin 256) : iblk m c 4 t (ix3 k j r) = V m c main_v94 (ix3 k j (posOf t r)) := by
  obtain ⟨e0, e1, e2, e3, e4⟩ := idx_rows t
  have he : ((cfg0.win 4).blk t).view.emb (ix3 k j r) = ix3 k j (posOf t r) := by blk_ext [e4, posOf]
  exact congrArg (V m c main_v94) he

/-- What a grid point's blocks hold. -/
theorem holds : Holds (iblk m c 0 t) (iblk m c 1 t) (iblk m c 2 t) (iblk m c 3 t) (iblk m c 4 t) (arr0 m c) (arr1 m c) (rowOf t) where
  rows r q := Finset.sum_congr rfl fun e _ => congrArg₂ (fun a b : EReal => a * b) (blk0 m c t r e) (blk1 m c t q e)
  head r l := by
    have h := head_tables m c (posOf t r) l
    rw [posOf_val] at h
    exact ⟨(blk2 m c t 0 r l).trans h.1, (blk2 m c t 1 r l).trans h.2.1, (blk2 m c t 2 r l).trans h.2.2⟩
  idx r l := by
    have h := idx_tables m c (posOf t r) l
    rw [posOf_val] at h
    exact ⟨(blk3 m c t 0 r l).trans h.1, (blk3 m c t 1 r l).trans h.2.1, (blk3 m c t 2 r l).trans h.2.2⟩
  cosT j r := by
    have h := side_cos m c j (posOf t r)
    rw [posOf_val] at h
    exact (blk4 m c t 0 j r).trans h
  sinT j r := by
    have h := side_sin m c j (posOf t r)
    rw [posOf_val] at h
    exact (blk4 m c t 1 j r).trans h

/-- Where output block 5 of a grid point lies in its result. -/
theorem emb5 (y : S256x1024.Idx) : ((cfg0.win 5).blk t).view.emb y = ix2 (rowOf t (y 0)) (y 1) := by
  have e := idx_5 t
  blk_ext [e, rowOf, posOf]
theorem final5 : (dats m 0 c).arrAt 5 (cfgs 0).N = out0 (arr0 m c) (arr1 m c) := by
  refine (dats m 0 c).arrAt_eq_of_covers 5 _ (by decide +kernel) fun t hf y => ?_
  blk_simp; rw [after0_5]
  refine (p5 (holds m c t) y).trans ?_
  refine Eq.trans ?_ (congrArg (out0 (arr0 m c) (arr1 m c)) (emb5 t y)).symm
  exact rfl

/-- Where output block 6 of a grid point lies in its result. -/
theorem emb6 (y : S256x1024.Idx) : ((cfg0.win 6).blk t).view.emb y = ix2 (rowOf t (y 0)) (y 1) := by
  have e := idx_6 t
  blk_ext [e, rowOf, posOf]
theorem final6 : (dats m 0 c).arrAt 6 (cfgs 0).N = out1 (arr0 m c) (arr1 m c) := by
  refine (dats m 0 c).arrAt_eq_of_covers 6 _ (by decide +kernel) fun t hf y => ?_
  blk_simp; rw [after0_6]
  refine (p6 (holds m c t) y).trans ?_
  refine Eq.trans ?_ (congrArg (out1 (arr0 m c) (arr1 m c)) (emb6 t y)).symm
  exact rfl

/-- Where output block 7 of a grid point lies in its result. -/
theorem emb7 (y : S256x1024.Idx) : ((cfg0.win 7).blk t).view.emb y = ix2 (rowOf t (y 0)) (y 1) := by
  have e := idx_7 t
  blk_ext [e, rowOf, posOf]
theorem final7 : (dats m 0 c).arrAt 7 (cfgs 0).N = out1 (arr0 m c) (arr1 m c) := by
  refine (dats m 0 c).arrAt_eq_of_covers 7 _ (by decide +kernel) fun t hf y => ?_
  blk_simp; rw [after0_7]
  refine (p7 (holds m c t) y).trans ?_
  refine Eq.trans ?_ (congrArg (out1 (arr0 m c) (arr1 m c)) (emb7 t y)).symm
  exact rfl

/-- Where output block 8 of a grid point lies in its result. -/
theorem emb8 (y : S256x1024.Idx) : ((cfg0.win 8).blk t).view.emb y = ix2 (rowOf t (y 0)) (y 1) := by
  have e := idx_8 t
  blk_ext [e, rowOf, posOf]
theorem final8 : (dats m 0 c).arrAt 8 (cfgs 0).N = out3 (arr0 m c) (arr1 m c) := by
  refine (dats m 0 c).arrAt_eq_of_covers 8 _ (by decide +kernel) fun t hf y => ?_
  blk_simp; rw [after0_8]
  refine (p8 (holds m c t) y).trans ?_
  refine Eq.trans ?_ (congrArg (out3 (arr0 m c) (arr1 m c)) (emb8 t y)).symm
  exact rfl

/-- Where output block 9 of a grid point lies in its result. -/
theorem emb9 (y : S1x1024x256.Idx) : ((cfg0.win 9).blk t).view.emb y = ix3 (⟨t.val, t.isLt⟩ : Fin 32) (y 1) (y 2) := by
  have e := idx_9 t
  blk_ext [e, rowOf, posOf]
theorem final9 : (dats m 0 c).arrAt 9 (cfgs 0).N = out4 (arr0 m c) (arr1 m c) := by
  refine (dats m 0 c).arrAt_eq_of_covers 9 _ (by decide +kernel) fun t hf y => ?_
  blk_simp; rw [after0_9]
  refine (p9 (holds m c t) y).trans ?_
  refine Eq.trans ?_ (congrArg (out4 (arr0 m c) (arr1 m c)) (emb9 t y)).symm
  exact congrArg (fun q => plain (arr0 m c) (arr1 m c) 2048 (by omega) q (y 1)) (Fin.ext rfl)

/-- Where output block 10 of a grid point lies in its result. -/
theorem emb10 (y : S256x1024.Idx) : ((cfg0.win 10).blk t).view.emb y = ix2 (rowOf t (y 0)) (y 1) := by
  have e := idx_10 t
  blk_ext [e, rowOf, posOf]
theorem final10 : (dats m 0 c).arrAt 10 (cfgs 0).N = out5 (arr0 m c) (arr1 m c) := by
  refine (dats m 0 c).arrAt_eq_of_covers 10 _ (by decide +kernel) fun t hf y => ?_
  blk_simp; rw [after0_10]
  refine (p10 (holds m c t) y).trans ?_
  refine Eq.trans ?_ (congrArg (out5 (arr0 m c) (arr1 m c)) (emb10 t y)).symm
  exact rfl

/-- Where output block 11 of a grid point lies in its result. -/
theorem emb11 (y : S16x256x64.Idx) : ((cfg0.win 11).blk t).view.emb y = ix3 (y 0) (rowOf t (y 1)) (y 2) := by
  have e := idx_11 t
  blk_ext [e, rowOf, posOf]
theorem final11 : (dats m 0 c).arrAt 11 (cfgs 0).N = out6 (arr0 m c) (arr1 m c) := by
  refine (dats m 0 c).arrAt_eq_of_covers 11 _ (by decide +kernel) fun t hf y => ?_
  blk_simp; rw [after0_11]
  refine (p11 (holds m c t) y).trans ?_
  refine Eq.trans ?_ (congrArg (out6 (arr0 m c) (arr1 m c)) (emb11 t y)).symm
  exact rfl

/-- Where output block 12 of a grid point lies in its result. -/
theorem emb12 (y : S256x64.Idx) : ((cfg0.win 12).blk t).view.emb y = ix2 (rowOf t (y 0)) (y 1) := by
  have e := idx_12 t
  blk_ext [e, rowOf, posOf]
theorem final12 : (dats m 0 c).arrAt 12 (cfgs 0).N = out7 (arr0 m c) (arr1 m c) := by
  refine (dats m 0 c).arrAt_eq_of_covers 12 _ (by decide +kernel) fun t hf y => ?_
  blk_simp; rw [after0_12]
  refine (p12 (holds m c t) y).trans ?_
  refine Eq.trans ?_ (congrArg (out7 (arr0 m c) (arr1 m c)) (emb12 t y)).symm
  exact rfl

/-- Where output block 13 of a grid point lies in its result. -/
theorem emb13 (y : S256x64.Idx) : ((cfg0.win 13).blk t).view.emb y = ix2 (rowOf t (y 0)) (y 1) := by
  have e := idx_13 t
  blk_ext [e, rowOf, posOf]
theorem final13 : (dats m 0 c).arrAt 13 (cfgs 0).N = out7 (arr0 m c) (arr1 m c) := by
  refine (dats m 0 c).arrAt_eq_of_covers 13 _ (by decide +kernel) fun t hf y => ?_
  blk_simp; rw [after0_13]
  refine (p13 (holds m c t) y).trans ?_
  refine Eq.trans ?_ (congrArg (out7 (arr0 m c) (arr1 m c)) (emb13 t y)).symm
  exact rfl

/-- Where output block 14 of a grid point lies in its result. -/
theorem emb14 (y : S1x64x256.Idx) : ((cfg0.win 14).blk t).view.emb y = ix3 (⟨t.val / 16, by have : t.val < 32 := t.isLt; omega⟩ : Fin 2) (y 1) (posOf t (y 2)) := by
  have e := idx_14 t
  blk_ext [e, rowOf, posOf]
theorem final14 : (dats m 0 c).arrAt 14 (cfgs 0).N = out9 (arr0 m c) (arr1 m c) := by
  refine (dats m 0 c).arrAt_eq_of_covers 14 _ (by decide +kernel) fun t hf y => ?_
  blk_simp; rw [after0_14]
  refine (p14 (holds m c t) y).trans ?_
  refine Eq.trans ?_ (congrArg (out9 (arr0 m c) (arr1 m c)) (emb14 t y)).symm
  exact congrArg (fun q => key (arr0 m c) (arr1 m c) q (y 1)) (Fin.ext (by have : t.val < 32 := t.isLt; show t.val * 256 + (y 2).val = t.val / 16 * 4096 + (t.val % 16 * 256 + (y 2).val); omega))

/-- Where output block 15 of a grid point lies in its result. -/
theorem emb15 (y : S16x256.Idx) : ((cfg0.win 15).blk t).view.emb y = ix2 (y 0) (rowOf t (y 1)) := by
  have e := idx_15 t
  blk_ext [e, rowOf, posOf]
theorem final15 : (dats m 0 c).arrAt 15 (cfgs 0).N = out10 (arr0 m c) (arr1 m c) := by
  refine (dats m 0 c).arrAt_eq_of_covers 15 _ (by decide +kernel) fun t hf y => ?_
  blk_simp; rw [after0_15]
  refine (p15 (holds m c t) y).trans ?_
  refine Eq.trans ?_ (congrArg (out10 (arr0 m c) (arr1 m c)) (emb15 t y)).symm
  exact rfl

/-- Where output block 16 of a grid point lies in its result. -/
theorem emb16 (y : S256x1024.Idx) : ((cfg0.win 16).blk t).view.emb y = ix2 (rowOf t (y 0)) (y 1) := by
  have e := idx_16 t
  blk_ext [e, rowOf, posOf]
theorem final16 : (dats m 0 c).arrAt 16 (cfgs 0).N = out11 (arr0 m c) (arr1 m c) := by
  refine (dats m 0 c).arrAt_eq_of_covers 16 _ (by decide +kernel) fun t hf y => ?_
  blk_simp; rw [after0_16]
  refine (p16 (holds m c t) y).trans ?_
  refine Eq.trans ?_ (congrArg (out11 (arr0 m c) (arr1 m c)) (emb16 t y)).symm
  exact rfl

/-- Where output block 17 of a grid point lies in its result. -/
theorem emb17 (y : S256x1024.Idx) : ((cfg0.win 17).blk t).view.emb y = ix2 (rowOf t (y 0)) (y 1) := by
  have e := idx_17 t
  blk_ext [e, rowOf, posOf]
theorem final17 : (dats m 0 c).arrAt 17 (cfgs 0).N = out12 (arr0 m c) (arr1 m c) := by
  refine (dats m 0 c).arrAt_eq_of_covers 17 _ (by decide +kernel) fun t hf y => ?_
  blk_simp; rw [after0_17]
  refine (p17 (holds m c t) y).trans ?_
  refine Eq.trans ?_ (congrArg (out12 (arr0 m c) (arr1 m c)) (emb17 t y)).symm
  exact rfl

end Cert.KernelProjectIdeal.Project
-- ==== Proof.Project.Reference.lean ====
/- The reference's projections of the prompt group, read at an index. -/
module

public import proofs.«01_k».proof.Proof.Gen.ReferenceProjectIdeal.Run
public import proofs.«01_k».proof.Proof.Project.Prompt

@[expose] public section

set_option maxRecDepth 16384

noncomputable section

namespace Cert.ReferenceProjectIdeal.Project

open Cert.ReferenceProjectIdeal Cert.ReferenceProjectIdeal.Gen Idealize.ShloMosaic Idealize.ShloMosaic.TcCoe Idealize.SL.Sem
open Cert.Project Cert.Project.Prompt
open scoped BigOperators

/-- The projections as one array. -/
def hidden (x : FVec Ideal S2x4096x2048 .f32) (w : FVec Ideal S1x2048x7248 .f32) : FVec Ideal S2x4096x7248 .f32 :=
  Host.dotGeneral dot_S2x4096x2048_S2048x7248_S2x4096x7248_2_0_01_1_n_n none x (shapeCast _ w shapeCasts_S1x2048x7248_S2048x7248)

theorem hidden_apply (x : FVec Ideal S2x4096x2048 .f32) (w : FVec Ideal S1x2048x7248 .f32) (b : Fin 2) (t : Fin 4096) (c : Fin 7248) :
    hidden x w (ix3 b t c) = proj x w ⟨b.val * 4096 + t.val, by omega⟩ c := by
  unfold hidden proj
  pointwise
  refine Finset.sum_congr rfl fun e _ => ?_
  rw [show (⟨(b.val * 4096 + t.val) / 4096, by omega⟩ : Fin 2) = b from Fin.ext (by simp only; omega),
    show (⟨(b.val * 4096 + t.val) % 4096, by omega⟩ : Fin 4096) = t from Fin.ext (by simp only; omega)]

/-- The rotary angles of the heads. -/
def angles16 : FVec Ideal S4096x16 .f32 :=
  mulf (broadcastInDim S4096x16 ![0, 1] bcast_S4096x1_S4096x16_0_1 (broadcastInDim S4096x1 ![0] bcast_S4096_S4096x1_0 (sitofp .f32 (iotaInDim S4096 32 0)))) (broadcastInDim S4096x16 ![0, 1] bcast_S1x16_S4096x16_0_1 (broadcastInDim S1x16 ![1] bcast_S16_S1x16_1 (Host.powf (broadcastInDim S16 ![] bcast_S_S16 (constant S_ .f32 0x48F42400#32)) (mulf (Host.negf (sitofp .f32 (iotaInDim S16 32 0))) (broadcastInDim S16 ![] bcast_S_S16 (constant S_ .f32 0x3D800000#32))))))

theorem angles16_apply (t : Fin 4096) (j : Fin 16) : angles16 (ix2 t j) = ang 0x3D800000#32 (BitVec.ofNat 32 t.val) (BitVec.ofNat 32 j.val) := by
  unfold angles16 ang
  pointwise

/-- The rotary angles of the indexer. -/
def angles8 : FVec Ideal S4096x8 .f32 :=
  mulf (broadcastInDim S4096x8 ![0, 1] bcast_S4096x1_S4096x8_0_1 (broadcastInDim S4096x1 ![0] bcast_S4096_S4096x1_0 (sitofp .f32 (iotaInDim S4096 32 0)))) (broadcastInDim S4096x8 ![0, 1] bcast_S1x8_S4096x8_0_1 (broadcastInDim S1x8 ![1] bcast_S8_S1x8_1 (Host.powf (broadcastInDim S8 ![] bcast_S_S8 (constant S_ .f32 0x48F42400#32)) (mulf (Host.negf (sitofp .f32 (iotaInDim S8 32 0))) (broadcastInDim S8 ![] bcast_S_S8 (constant S_ .f32 0x3E000000#32))))))

theorem angles8_apply (t : Fin 4096) (j : Fin 8) : angles8 (ix2 t j) = ang 0x3E000000#32 (BitVec.ofNat 32 t.val) (BitVec.ofNat 32 j.val) := by
  unfold angles8 ang
  pointwise

/-- The rotary turn of eight heads' columns. -/
def turnedHeads (y : FVec Ideal S2x4096x8x128 .f32) : FVec Ideal S2x4096x8x128 .f32 :=
  concatenate S2x4096x8x128 3 [⟨S2x4096x8x16, (subf (mulf (extractStridedSlice S2x4096x8x16 ![0, 0, 0, 0] y slices_S2x4096x8x128_S2x4096x8x16_0_0_0_0) (broadcastInDim S2x4096x8x16 ![0, 1, 2, 3] bcast_S1x4096x1x16_S2x4096x8x16_0_1_2_3 (shapeCast _ (Host.cos angles16) shapeCasts_S4096x16_S1x4096x1x16))) (mulf (extractStridedSlice S2x4096x8x16 ![0, 0, 0, 16] y slices_S2x4096x8x128_S2x4096x8x16_0_0_0_16) (broadcastInDim S2x4096x8x16 ![0, 1, 2, 3] bcast_S1x4096x1x16_S2x4096x8x16_0_1_2_3 (shapeCast _ (Host.sin angles16) shapeCasts_S4096x16_S1x4096x1x16))) : FVec Ideal S2x4096x8x16 .f32)⟩, ⟨S2x4096x8x16, (addf (mulf (extractStridedSlice S2x4096x8x16 ![0, 0, 0, 0] y slices_S2x4096x8x128_S2x4096x8x16_0_0_0_0) (broadcastInDim S2x4096x8x16 ![0, 1, 2, 3] bcast_S1x4096x1x16_S2x4096x8x16_0_1_2_3 (shapeCast _ (Host.sin angles16) shapeCasts_S4096x16_S1x4096x1x16))) (mulf (extractStridedSlice S2x4096x8x16 ![0, 0, 0, 16] y slices_S2x4096x8x128_S2x4096x8x16_0_0_0_16) (broadcastInDim S2x4096x8x16 ![0, 1, 2, 3] bcast_S1x4096x1x16_S2x4096x8x16_0_1_2_3 (shapeCast _ (Host.cos angles16) shapeCasts_S4096x16_S1x4096x1x16))) : FVec Ideal S2x4096x8x16 .f32)⟩, ⟨S2x4096x8x96, (extractStridedSlice S2x4096x8x96 ![0, 0, 0, 32] y slices_S2x4096x8x128_S2x4096x8x96_0_0_0_32 : FVec Ideal S2x4096x8x96 .f32)⟩] concatenates_S2x4096x8x16_S2x4096x8x16_S2x4096x8x96_S2x4096x8x128_d3

theorem turnedHeads_apply (y : FVec Ideal S2x4096x8x128 .f32) (b : Fin 2) (t : Fin 4096) (h : Fin 8) (d : Fin 128) :
    turnedHeads y (ix4 b t h d) = turnHead t.val (fun e => y (ix4 b t h e)) d := by
  unfold turnHead
  refine Eq.trans ?_ (cat_eq 16 _ _ _ _ _)
  unfold turnedHeads
  pointwise
  simp only [angles16_apply]
  rfl

/-- The rotary turn of sixteen indexer heads' columns. -/
def turnedIdx (y : FVec Ideal S2x4096x16x64 .f32) : FVec Ideal S2x4096x16x64 .f32 :=
  concatenate S2x4096x16x64 3 [⟨S2x4096x16x8, (subf (mulf (extractStridedSlice S2x4096x16x8 ![0, 0, 0, 0] y slices_S2x4096x16x64_S2x4096x16x8_0_0_0_0) (broadcastInDim S2x4096x16x8 ![0, 1, 2, 3] bcast_S1x4096x1x8_S2x4096x16x8_0_1_2_3 (shapeCast _ (Host.cos angles8) shapeCasts_S4096x8_S1x4096x1x8))) (mulf (extractStridedSlice S2x4096x16x8 ![0, 0, 0, 8] y slices_S2x4096x16x64_S2x4096x16x8_0_0_0_8) (broadcastInDim S2x4096x16x8 ![0, 1, 2, 3] bcast_S1x4096x1x8_S2x4096x16x8_0_1_2_3 (shapeCast _ (Host.sin angles8) shapeCasts_S4096x8_S1x4096x1x8))) : FVec Ideal S2x4096x16x8 .f32)⟩, ⟨S2x4096x16x8, (addf (mulf (extractStridedSlice S2x4096x16x8 ![0, 0, 0, 0] y slices_S2x4096x16x64_S2x4096x16x8_0_0_0_0) (broadcastInDim S2x4096x16x8 ![0, 1, 2, 3] bcast_S1x4096x1x8_S2x4096x16x8_0_1_2_3 (shapeCast _ (Host.sin angles8) shapeCasts_S4096x8_S1x4096x1x8))) (mulf (extractStridedSlice S2x4096x16x8 ![0, 0, 0, 8] y slices_S2x4096x16x64_S2x4096x16x8_0_0_0_8) (broadcastInDim S2x4096x16x8 ![0, 1, 2, 3] bcast_S1x4096x1x8_S2x4096x16x8_0_1_2_3 (shapeCast _ (Host.cos angles8) shapeCasts_S4096x8_S1x4096x1x8))) : FVec Ideal S2x4096x16x8 .f32)⟩, ⟨S2x4096x16x48, (extractStridedSlice S2x4096x16x48 ![0, 0, 0, 16] y slices_S2x4096x16x64_S2x4096x16x48_0_0_0_16 : FVec Ideal S2x4096x16x48 .f32)⟩] concatenates_S2x4096x16x8_S2x4096x16x8_S2x4096x16x48_S2x4096x16x64_d3

theorem turnedIdx_apply (y : FVec Ideal S2x4096x16x64 .f32) (b : Fin 2) (t : Fin 4096) (h : Fin 16) (d : Fin 64) :
    turnedIdx y (ix4 b t h d) = turnIdx t.val (fun e => y (ix4 b t h e)) d := by
  unfold turnIdx
  refine Eq.trans ?_ (cat_eq 8 _ _ _ _ _)
  unfold turnedIdx
  pointwise
  simp only [angles8_apply]
  rfl

/-- The rotary turn of the indexer's key columns. -/
def turnedKey (y : FVec Ideal S2x4096x64 .f32) : FVec Ideal S2x4096x64 .f32 :=
  concatenate S2x4096x64 2 [⟨S2x4096x8, (subf (mulf (extractStridedSlice S2x4096x8 ![0, 0, 0] y slices_S2x4096x64_S2x4096x8_0_0_0) (broadcastInDim S2x4096x8 ![0, 1, 2] bcast_S1x4096x8_S2x4096x8_0_1_2 (shapeCast _ (Host.cos angles8) shapeCasts_S4096x8_S1x4096x8))) (mulf (extractStridedSlice S2x4096x8 ![0, 0, 8] y slices_S2x4096x64_S2x4096x8_0_0_8) (broadcastInDim S2x4096x8 ![0, 1, 2] bcast_S1x4096x8_S2x4096x8_0_1_2 (shapeCast _ (Host.sin angles8) shapeCasts_S4096x8_S1x4096x8))) : FVec Ideal S2x4096x8 .f32)⟩, ⟨S2x4096x8, (addf (mulf (extractStridedSlice S2x4096x8 ![0, 0, 0] y slices_S2x4096x64_S2x4096x8_0_0_0) (broadcastInDim S2x4096x8 ![0, 1, 2] bcast_S1x4096x8_S2x4096x8_0_1_2 (shapeCast _ (Host.sin angles8) shapeCasts_S4096x8_S1x4096x8))) (mulf (extractStridedSlice S2x4096x8 ![0, 0, 8] y slices_S2x4096x64_S2x4096x8_0_0_8) (broadcastInDim S2x4096x8 ![0, 1, 2] bcast_S1x4096x8_S2x4096x8_0_1_2 (shapeCast _ (Host.cos angles8) shapeCasts_S4096x8_S1x4096x8))) : FVec Ideal S2x4096x8 .f32)⟩, ⟨S2x4096x48, (extractStridedSlice S2x4096x48 ![0, 0, 16] y slices_S2x4096x64_S2x4096x48_0_0_16 : FVec Ideal S2x4096x48 .f32)⟩] concatenates_S2x4096x8_S2x4096x8_S2x4096x48_S2x4096x64_d2

theorem turnedKey_apply (y : FVec Ideal S2x4096x64 .f32) (b : Fin 2) (t : Fin 4096) (d : Fin 64) :
    turnedKey y (ix3 b t d) = turnIdx t.val (fun e => y (ix3 b t e)) d := by
  unfold turnIdx
  refine Eq.trans ?_ (cat_eq 8 _ _ _ _ _)
  unfold turnedKey
  pointwise
  simp only [angles8_apply]
  rfl

/-- A row number put together again from its sequence and token. -/
theorem row_back (r : Nat) (h : r / 4096 * 4096 + r % 4096 < 8192) : (⟨r / 4096 * 4096 + r % 4096, h⟩ : Fin 8192) = ⟨r, by omega⟩ :=
  Fin.ext (by simp only; omega)

theorem token_back (b : Fin 2) (t : Fin 4096) : (b.val * 4096 + t.val) % 4096 = t.val := by omega

variable (x : FVec Ideal S2x4096x2048 .f32) (w : FVec Ideal S1x2048x7248 .f32)

theorem res0 (r : Fin 8192) (c : Fin 1024) : (truncf .bf16 (shapeCast _ (mulf (turnedHeads (shapeCast _ (extractStridedSlice S2x4096x1024 ![0, 0, 0] (hidden x w) slices_S2x4096x7248_S2x4096x1024_0_0_0) shapeCasts_S2x4096x1024_S2x4096x8x128)) (broadcastInDim S2x4096x8x128 ![] bcast_S_S2x4096x8x128 (constant S_ .f32 0x3E0293EE#32))) shapeCasts_S2x4096x8x128_S8192x1024) bitsLt_bf16_f32) (ix2 r c) = out0 x w (ix2 r c) := by
  unfold out0 head
  pointwise
  simp only [turnedHeads_apply, turnedIdx_apply, turnedKey_apply]
  pointwise
  simp only [hidden_apply, row_back, token_back]

theorem res1 (r : Fin 8192) (c : Fin 1024) : (shapeCast S8192x1024 (turnedHeads (shapeCast _ (extractStridedSlice S2x4096x1024 ![0, 0, 1024] (hidden x w) slices_S2x4096x7248_S2x4096x1024_0_0_1024) shapeCasts_S2x4096x1024_S2x4096x8x128)) shapeCasts_S2x4096x8x128_S8192x1024) (ix2 r c) = out1 x w (ix2 r c) := by
  unfold out1 head
  pointwise
  simp only [turnedHeads_apply, turnedIdx_apply, turnedKey_apply]
  pointwise
  simp only [hidden_apply, row_back, token_back]

theorem res6 (h : Fin 16) (r : Fin 8192) (d : Fin 64) : (truncf .bf16 (transpose S16x8192x64 [1, 0, 2] (shapeCast _ (turnedIdx (shapeCast _ (extractStridedSlice S2x4096x1024 ![0, 0, 4096] (hidden x w) slices_S2x4096x7248_S2x4096x1024_0_0_4096) shapeCasts_S2x4096x1024_S2x4096x16x64)) shapeCasts_S2x4096x16x64_S8192x16x64) transposes_S8192x16x64_S16x8192x64_1_0_2) bitsLt_bf16_f32) (ix3 h r d) = out6 x w (ix3 h r d) := by
  unfold out6 query
  pointwise
  simp only [turnedHeads_apply, turnedIdx_apply, turnedKey_apply]
  pointwise
  simp only [hidden_apply, row_back, token_back]

theorem res7 (r : Fin 8192) (d : Fin 64) : (shapeCast S8192x64 (turnedKey (extractStridedSlice S2x4096x64 ![0, 0, 5120] (hidden x w) slices_S2x4096x7248_S2x4096x64_0_0_5120)) shapeCasts_S2x4096x64_S8192x64) (ix2 r d) = out7 x w (ix2 r d) := by
  unfold out7 key
  pointwise
  simp only [turnedHeads_apply, turnedIdx_apply, turnedKey_apply]
  pointwise
  simp only [hidden_apply, row_back, token_back]

theorem res9 (b : Fin 2) (d : Fin 64) (t : Fin 4096) : (transpose S2x64x4096 [0, 2, 1] (turnedKey (extractStridedSlice S2x4096x64 ![0, 0, 5120] (hidden x w) slices_S2x4096x7248_S2x4096x64_0_0_5120)) transposes_S2x4096x64_S2x64x4096_0_2_1) (ix3 b d t) = out9 x w (ix3 b d t) := by
  unfold out9 key
  pointwise
  simp only [turnedHeads_apply, turnedIdx_apply, turnedKey_apply]
  pointwise
  simp only [hidden_apply, row_back, token_back]

theorem res3 (r : Fin 8192) (c : Fin 1024) : (shapeCast S8192x1024 (extractStridedSlice S2x4096x1024 ![0, 0, 2048] (hidden x w) slices_S2x4096x7248_S2x4096x1024_0_0_2048) shapeCasts_S2x4096x1024_S8192x1024) (ix2 r c) = out3 x w (ix2 r c) := by
  unfold out3 plain
  pointwise
  simp only [hidden_apply, row_back, token_back]

theorem res4 (k : Fin 32) (c : Fin 1024) (t : Fin 256) : (truncf .bf16 (transpose S32x1024x256 [0, 2, 1] (shapeCast _ (extractStridedSlice S2x4096x1024 ![0, 0, 2048] (hidden x w) slices_S2x4096x7248_S2x4096x1024_0_0_2048) shapeCasts_S2x4096x1024_S32x256x1024) transposes_S32x256x1024_S32x1024x256_0_2_1) bitsLt_bf16_f32) (ix3 k c t) = out4 x w (ix3 k c t) := by
  unfold out4 plain
  pointwise
  simp only [hidden_apply, row_back, token_back]
  exact congrArg (fun z => proj x w z _) (Fin.ext (by simp only; omega))

theorem res5 (r : Fin 8192) (c : Fin 1024) : (shapeCast S8192x1024 (extractStridedSlice S2x4096x1024 ![0, 0, 3072] (hidden x w) slices_S2x4096x7248_S2x4096x1024_0_0_3072) shapeCasts_S2x4096x1024_S8192x1024) (ix2 r c) = out5 x w (ix2 r c) := by
  unfold out5 plain
  pointwise
  simp only [hidden_apply, row_back, token_back]

theorem res10 (h : Fin 16) (r : Fin 8192) : (mulf (transpose S16x8192 [1, 0] (shapeCast _ (extractStridedSlice S2x4096x16 ![0, 0, 5184] (hidden x w) slices_S2x4096x7248_S2x4096x16_0_0_5184) shapeCasts_S2x4096x16_S8192x16) transposes_S8192x16_S16x8192_1_0) (broadcastInDim S16x8192 ![] bcast_S_S16x8192 (constant S_ .f32 0x3D000000#32))) (ix2 h r) = out10 x w (ix2 h r) := by
  unfold out10
  pointwise
  simp only [hidden_apply, row_back, token_back]

theorem res11 (r : Fin 8192) (c : Fin 1024) : (shapeCast S8192x1024 (extractStridedSlice S2x4096x1024 ![0, 0, 5200] (hidden x w) slices_S2x4096x7248_S2x4096x1024_0_0_5200) shapeCasts_S2x4096x1024_S8192x1024) (ix2 r c) = out11 x w (ix2 r c) := by
  unfold out11 plain
  pointwise
  simp only [hidden_apply, row_back, token_back]

theorem res12 (r : Fin 8192) (c : Fin 1024) : (shapeCast S8192x1024 (extractStridedSlice S2x4096x1024 ![0, 0, 6224] (hidden x w) slices_S2x4096x7248_S2x4096x1024_0_0_6224) shapeCasts_S2x4096x1024_S8192x1024) (ix2 r c) = out12 x w (ix2 r c) := by
  unfold out12 plain
  pointwise
  simp only [hidden_apply, row_back, token_back]

variable (m : (ℓ : Loc nD τ sig) → Buf (Elt Ideal) ℓ) (ρ : Dev nD → PrngReg)

/-- The reference ends with the thirteen results. -/
theorem run : θ_run (defs (F := Ideal)) (onTc (τ := τ) (main (F := Ideal))) ⟨m, fun _ => 0, ρ⟩ fun r => ∀ c : Dev nD,
      r.2.mem ((c.tc : Thread nD τ).loc main_v138) = out0 (m ((c.tc : Thread nD τ).loc main_arg0)) (m ((c.tc : Thread nD τ).loc main_arg1))
      ∧ r.2.mem ((c.tc : Thread nD τ).loc main_v139) = out1 (m ((c.tc : Thread nD τ).loc main_arg0)) (m ((c.tc : Thread nD τ).loc main_arg1))
      ∧ r.2.mem ((c.tc : Thread nD τ).loc main_v141) = out1 (m ((c.tc : Thread nD τ).loc main_arg0)) (m ((c.tc : Thread nD τ).loc main_arg1))
      ∧ r.2.mem ((c.tc : Thread nD τ).loc main_v142) = out3 (m ((c.tc : Thread nD τ).loc main_arg0)) (m ((c.tc : Thread nD τ).loc main_arg1))
      ∧ r.2.mem ((c.tc : Thread nD τ).loc main_v145) = out4 (m ((c.tc : Thread nD τ).loc main_arg0)) (m ((c.tc : Thread nD τ).loc main_arg1))
      ∧ r.2.mem ((c.tc : Thread nD τ).loc main_v146) = out5 (m ((c.tc : Thread nD τ).loc main_arg0)) (m ((c.tc : Thread nD τ).loc main_arg1))
      ∧ r.2.mem ((c.tc : Thread nD τ).loc main_v149) = out6 (m ((c.tc : Thread nD τ).loc main_arg0)) (m ((c.tc : Thread nD τ).loc main_arg1))
      ∧ r.2.mem ((c.tc : Thread nD τ).loc main_v150) = out7 (m ((c.tc : Thread nD τ).loc main_arg0)) (m ((c.tc : Thread nD τ).loc main_arg1))
      ∧ r.2.mem ((c.tc : Thread nD τ).loc main_v152) = out7 (m ((c.tc : Thread nD τ).loc main_arg0)) (m ((c.tc : Thread nD τ).loc main_arg1))
      ∧ r.2.mem ((c.tc : Thread nD τ).loc main_v153) = out9 (m ((c.tc : Thread nD τ).loc main_arg0)) (m ((c.tc : Thread nD τ).loc main_arg1))
      ∧ r.2.mem ((c.tc : Thread nD τ).loc main_v157) = out10 (m ((c.tc : Thread nD τ).loc main_arg0)) (m ((c.tc : Thread nD τ).loc main_arg1))
      ∧ r.2.mem ((c.tc : Thread nD τ).loc main_v158) = out11 (m ((c.tc : Thread nD τ).loc main_arg0)) (m ((c.tc : Thread nD τ).loc main_arg1))
      ∧ r.2.mem ((c.tc : Thread nD τ).loc main_v159) = out12 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Value.run (F := Ideal) m ρ)
  obtain ⟨h138, h139, h141, h142, h145, h146, h149, h150, h152, h153, h157, h158, h159, ha, hb⟩ := h c
  clear h
  refine ⟨h138.trans ?_, h139.trans ?_, h141.trans ?_, h142.trans ?_, h145.trans ?_, h146.trans ?_, h149.trans ?_, h150.trans ?_, h152.trans ?_, h153.trans ?_, h157.trans ?_, h158.trans ?_, h159.trans ?_, ha, hb⟩
  · funext i; idx_vars i; exact res0 (m ((c.tc : Thread nD τ).loc main_arg0)) (m ((c.tc : Thread nD τ).loc main_arg1)) _ _
  · funext i; idx_vars i; exact res1 (m ((c.tc : Thread nD τ).loc main_arg0)) (m ((c.tc : Thread nD τ).loc main_arg1)) _ _
  · funext i; idx_vars i; exact res1 (m ((c.tc : Thread nD τ).loc main_arg0)) (m ((c.tc : Thread nD τ).loc main_arg1)) _ _
  · funext i; idx_vars i; exact res3 (m ((c.tc : Thread nD τ).loc main_arg0)) (m ((c.tc : Thread nD τ).loc main_arg1)) _ _
  · funext i; idx_vars i; exact res4 (m ((c.tc : Thread nD τ).loc main_arg0)) (m ((c.tc : Thread nD τ).loc main_arg1)) _ _ _
  · funext i; idx_vars i; exact res5 (m ((c.tc : Thread nD τ).loc main_arg0)) (m ((c.tc : Thread nD τ).loc main_arg1)) _ _
  · funext i; idx_vars i; exact res6 (m ((c.tc : Thread nD τ).loc main_arg0)) (m ((c.tc : Thread nD τ).loc main_arg1)) _ _ _
  · funext i; idx_vars i; exact res7 (m ((c.tc : Thread nD τ).loc main_arg0)) (m ((c.tc : Thread nD τ).loc main_arg1)) _ _
  · funext i; idx_vars i; exact res7 (m ((c.tc : Thread nD τ).loc main_arg0)) (m ((c.tc : Thread nD τ).loc main_arg1)) _ _
  · funext i; idx_vars i; exact res9 (m ((c.tc : Thread nD τ).loc main_arg0)) (m ((c.tc : Thread nD τ).loc main_arg1)) _ _ _
  · funext i; idx_vars i; exact res10 (m ((c.tc : Thread nD τ).loc main_arg0)) (m ((c.tc : Thread nD τ).loc main_arg1)) _ _
  · funext i; idx_vars i; exact res11 (m ((c.tc : Thread nD τ).loc main_arg0)) (m ((c.tc : Thread nD τ).loc main_arg1)) _ _
  · funext i; idx_vars i; exact res12 (m ((c.tc : Thread nD τ).loc main_arg0)) (m ((c.tc : Thread nD τ).loc main_arg1)) _ _

end Cert.ReferenceProjectIdeal.Project
-- ==== Proof.Project.Claims.lean ====
/- The prompt group's projection: the kernel and the reference end with equal results. -/
module

public import proofs.«01_k».proof.Proof.Project.Kernel
public import proofs.«01_k».proof.Proof.Project.Reference
public import proofs.«01_k».proof.Proof.Gen.KernelProjectIdeal.Value
public import proofs.«01_k».proof.Defs
public import Idealize.ShloMosaic.Lib.Claim

@[expose] public section

noncomputable section

namespace Cert.Project

open Idealize.ShloMosaic Idealize.ShloMosaic.TcCoe Idealize.SL.Sem

/-- Both runs end with the thirteen projections of every row. -/
theorem claim : Cert.algebraic_KernelProjectIdeal_ReferenceProjectIdeal := by
  intro m g m' g' hp hm
  refine ⟨fun c => Prompt.out0 (Cert.KernelProjectIdeal.Project.arr0 m c) (Cert.KernelProjectIdeal.Project.arr1 m c),
    fun c => Prompt.out1 (Cert.KernelProjectIdeal.Project.arr0 m c) (Cert.KernelProjectIdeal.Project.arr1 m c),
    fun c => Prompt.out1 (Cert.KernelProjectIdeal.Project.arr0 m c) (Cert.KernelProjectIdeal.Project.arr1 m c),
    fun c => Prompt.out3 (Cert.KernelProjectIdeal.Project.arr0 m c) (Cert.KernelProjectIdeal.Project.arr1 m c),
    fun c => Prompt.out4 (Cert.KernelProjectIdeal.Project.arr0 m c) (Cert.KernelProjectIdeal.Project.arr1 m c),
    fun c => Prompt.out5 (Cert.KernelProjectIdeal.Project.arr0 m c) (Cert.KernelProjectIdeal.Project.arr1 m c),
    fun c => Prompt.out6 (Cert.KernelProjectIdeal.Project.arr0 m c) (Cert.KernelProjectIdeal.Project.arr1 m c),
    fun c => Prompt.out7 (Cert.KernelProjectIdeal.Project.arr0 m c) (Cert.KernelProjectIdeal.Project.arr1 m c),
    fun c => Prompt.out7 (Cert.KernelProjectIdeal.Project.arr0 m c) (Cert.KernelProjectIdeal.Project.arr1 m c),
    fun c => Prompt.out9 (Cert.KernelProjectIdeal.Project.arr0 m c) (Cert.KernelProjectIdeal.Project.arr1 m c),
    fun c => Prompt.out10 (Cert.KernelProjectIdeal.Project.arr0 m c) (Cert.KernelProjectIdeal.Project.arr1 m c),
    fun c => Prompt.out11 (Cert.KernelProjectIdeal.Project.arr0 m c) (Cert.KernelProjectIdeal.Project.arr1 m c),
    fun c => Prompt.out12 (Cert.KernelProjectIdeal.Project.arr0 m c) (Cert.KernelProjectIdeal.Project.arr1 m c), ?_, ?_⟩
  · refine (θ_run _ _ _).mono (fun r h c => ?_) (Cert.KernelProjectIdeal.Value.run_blocks (F := Ideal) m g)
    obtain ⟨h0, h1, h2, h3, h4, h5, h6, h7, h8, h9, h10, h11, h12, k0, k1⟩ := h c
    exact ⟨h0.trans (Cert.KernelProjectIdeal.Project.final5 m c),
      h1.trans (Cert.KernelProjectIdeal.Project.final6 m c),
      h2.trans (Cert.KernelProjectIdeal.Project.final7 m c),
      h3.trans (Cert.KernelProjectIdeal.Project.final8 m c),
      h4.trans (Cert.KernelProjectIdeal.Project.final9 m c),
      h5.trans (Cert.KernelProjectIdeal.Project.final10 m c),
      h6.trans (Cert.KernelProjectIdeal.Project.final11 m c),
      h7.trans (Cert.KernelProjectIdeal.Project.final12 m c),
      h8.trans (Cert.KernelProjectIdeal.Project.final13 m c),
      h9.trans (Cert.KernelProjectIdeal.Project.final14 m c),
      h10.trans (Cert.KernelProjectIdeal.Project.final15 m c),
      h11.trans (Cert.KernelProjectIdeal.Project.final16 m c),
      h12.trans (Cert.KernelProjectIdeal.Project.final17 m c), k0, k1⟩
  · refine (θ_run _ _ _).mono (fun r h c => ?_) (Cert.ReferenceProjectIdeal.Project.run m' g')
    obtain ⟨h0, h1, h2, h3, h4, h5, h6, h7, h8, h9, h10, h11, h12, k0, k1⟩ := h c
    obtain ⟨a0, a1⟩ := hm c
    exact ⟨h0.trans (by rw [a0, a1]),
      h1.trans (by rw [a0, a1]),
      h2.trans (by rw [a0, a1]),
      h3.trans (by rw [a0, a1]),
      h4.trans (by rw [a0, a1]),
      h5.trans (by rw [a0, a1]),
      h6.trans (by rw [a0, a1]),
      h7.trans (by rw [a0, a1]),
      h8.trans (by rw [a0, a1]),
      h9.trans (by rw [a0, a1]),
      h10.trans (by rw [a0, a1]),
      h11.trans (by rw [a0, a1]),
      h12.trans (by rw [a0, a1]), k0, k1⟩

end Cert.Project
-- ==== Proof.Combine.Frames.lean ====
/- The prompt group's last call: every run of the kernel and of the reference ends, leaves the arguments alone and no count standing. -/
module

public import proofs.«01_k».proof.Proof.Gen.KernelCombine.Frame
public import proofs.«01_k».proof.Proof.Gen.KernelCombineIdeal.Frame
public import proofs.«01_k».proof.Proof.Gen.ReferenceCombineIdeal.Run
public import proofs.«01_k».proof.Defs

@[expose] public section

noncomputable section

namespace Cert.Combine

open Idealize.ShloMosaic Idealize.SL.Sem

theorem frame_kernel : Cert.quiescent_KernelCombine := fun m ρ _ => Cert.KernelCombine.Gen.frame (F := Bits) m ρ
theorem frame_ideal : Cert.quiescent_KernelCombineIdeal := fun m ρ _ => Cert.KernelCombineIdeal.Gen.frame (F := Ideal) m ρ
theorem frame_reference : Cert.quiescent_ReferenceCombineIdeal := fun m ρ _ =>
  (θ_run Cert.ReferenceCombineIdeal.defs _ _).mono (fun r h => ⟨fun c => (h c).2, sem_eq_zero_of_no_sems (by decide) r.2⟩)
    (Cert.ReferenceCombineIdeal.Value.run (F := Ideal) m ρ)

end Cert.Combine
-- ==== Proof.Combine.Spec.lean ====
/- The pooling, the gates, the output projection and the layer norm of the prompt group, as plain functions of the arrays. -/
module

public import Idealize.ShloMosaic.Lib.Pipeline.ValueKit

@[expose] public section

noncomputable section

namespace Cert.Combine

open Idealize.ShloMosaic Idealize.ShloMosaic.TcCoe
open scoped BigOperators

/-- An array of 2 sequences of 4096 rows of `n` columns. -/
abbrev Rows (n : Nat) := (⟨3, ![2, 4096, n]⟩ : Shape).Idx → EReal

/-- A gate: its input times the input's logistic. -/
def gate (x : EReal) : EReal := x * Ideal.div 1 (1 + Ideal.exp (0 - x))

/-- The number of rows in position `t`'s window of width `w`, as the word it is converted from. -/
def rowsIn (w t : Nat) : EReal := FloatOps.sitofp (F := Ideal) .f32 (IntOp.minsi (BitVec.ofNat 32 (t + 1)) (BitVec.ofNat 32 w))

/-- The row that lies `j` before row `t`. -/
def back (t : Fin 4096) (j : Nat) : Fin 4096 := ⟨t.val - j, by omega⟩

/-- Column `d` of the row that lies `j` before row `t` of sequence `b`, or nothing. -/
def lag (u : Rows 1024) (b : Fin 2) (t : Fin 4096) (j : Nat) (d : Fin 1024) : EReal := if j ≤ t.val then u (ix3 b (back t j) d) else 0

/-- The trailing mean of width `w`, less the row itself. -/
def pooled (u : Rows 1024) (w : Nat) (b : Fin 2) (t : Fin 4096) (d : Fin 1024) : EReal :=
  Ideal.div (∑ j ∈ Finset.range w, lag u b t j d) (rowsIn w t.val) - u (ix3 b t d)

/-- The width of a group's window. -/
def width : Fin 4 → Nat := ![2, 4, 8, 16]

/-- The weights of the groups' mixtures. -/
abbrev Mixing := (⟨4, ![1, 4, 256, 256]⟩ : Shape).Idx → EReal

/-- One column of group `g`'s mixture. -/
def mix (u : Rows 1024) (wp : Mixing) (b : Fin 2) (t : Fin 4096) (g : Fin 4) (e : Fin 256) : EReal :=
  ∑ x : Fin 256, pooled u (width g) b t ⟨256 * g.val + x.val, by omega⟩ * wp (ix4 (0 : Fin 1) g x e)

/-- One column of the pooling mixer. -/
def poolMix (u : Rows 1024) (wp : Mixing) (ps : (⟨2, ![1, 1024]⟩ : Shape).Idx → EReal) (b : Fin 2) (t : Fin 4096) (k : Fin 1024) : EReal :=
  mix u wp b t ⟨k.val / 256, by omega⟩ ⟨k.val % 256, by omega⟩ * ps (ix2 (0 : Fin 1) k)

/-- One entry of the row before the layer norm. -/
def gatedRow (a ga gb : Rows 1024) (p : Fin 2 → Fin 4096 → Fin 1024 → EReal) (x : Rows 2048) (wo : (⟨3, ![1, 2048, 2048]⟩ : Shape).Idx → EReal)
    (b : Fin 2) (t : Fin 4096) (o : Fin 2048) : EReal :=
  Ideal.ofBits .f32 1066940400#32 * x (ix3 b t o)
    + (∑ k : Fin 1024, a (ix3 b t k) * gate (ga (ix3 b t k)) * wo (ix3 (0 : Fin 1) ⟨k.val, by omega⟩ o)
      + ∑ k : Fin 1024, p b t k * gate (gb (ix3 b t k)) * wo (ix3 (0 : Fin 1) ⟨1024 + k.val, by omega⟩ o))

/-- The mean of a row. -/
def mean (h : Fin 2048 → EReal) : EReal := Ideal.div (∑ o, h o) (Ideal.ofBits .f32 1157627904#32)

/-- The layer norm of a row. -/
def norm (h g b : Fin 2048 → EReal) (o : Fin 2048) : EReal :=
  (h o - mean h) * Ideal.rsqrt (mean (fun o => (h o - mean h) * (h o - mean h)) + Ideal.ofBits .f32 925353388#32) * g o + b o

/-- One entry of the result. -/
def entry (a ga gb u : Rows 1024) (x : Rows 2048) (wp : Mixing) (ps : (⟨2, ![1, 1024]⟩ : Shape).Idx → EReal)
    (wo : (⟨3, ![1, 2048, 2048]⟩ : Shape).Idx → EReal) (g β : (⟨2, ![1, 2048]⟩ : Shape).Idx → EReal) (b : Fin 2) (t : Fin 4096) (o : Fin 2048) : EReal :=
  norm (gatedRow a ga gb (poolMix u wp ps) x wo b t) (fun o => g (ix2 (0 : Fin 1) o)) (fun o => β (ix2 (0 : Fin 1) o)) o

/-- The result, one row per position of either sequence. -/
def result (a ga gb u : Rows 1024) (x : Rows 2048) (wp : Mixing) (ps : (⟨2, ![1, 1024]⟩ : Shape).Idx → EReal)
    (wo : (⟨3, ![1, 2048, 2048]⟩ : Shape).Idx → EReal) (g β : (⟨2, ![1, 2048]⟩ : Shape).Idx → EReal) : (⟨2, ![8192, 2048]⟩ : Shape).Idx → EReal := fun i =>
  entry a ga gb u x wp ps wo g β ⟨(i 0).val / 4096, by have : (i 0).val < 8192 := (i 0).isLt; omega⟩ ⟨(i 0).val % 4096, by omega⟩ (i 1)

/-- The sum of a column over the rows of a window is the sum over how far back they lie. -/
theorem window_sum (f : Fin 4096 → EReal) (w : Nat) (t : Fin 4096) :
    (∑ s : Fin 4096, if s.val ≤ t.val ∧ t.val < s.val + w then f s else 0) = ∑ j ∈ Finset.range w, if j ≤ t.val then f (back t j) else 0 := by
  rw [← Finset.sum_filter, ← Finset.sum_filter]
  refine Finset.sum_nbij' (fun s => t.val - s.val) (fun j => back t j) ?_ ?_ ?_ ?_ ?_
  · intro s hs
    have hs := (Finset.mem_filter.mp hs).2
    exact Finset.mem_filter.mpr ⟨Finset.mem_range.mpr (by omega), by omega⟩
  · intro j hj
    obtain ⟨h1, h2⟩ := Finset.mem_filter.mp hj
    have h1 := Finset.mem_range.mp h1
    refine Finset.mem_filter.mpr ⟨Finset.mem_univ _, ?_⟩
    simp only [back]
    omega
  · intro s hs
    have hs := (Finset.mem_filter.mp hs).2
    exact Fin.ext (by simp only [back]; omega)
  · intro j hj
    have h2 := (Finset.mem_filter.mp hj).2
    simp only [back]
    omega
  · intro s hs
    have hs := (Finset.mem_filter.mp hs).2
    exact congrArg f (Fin.ext (by simp only [back]; omega))

end Cert.Combine

end
-- ==== Proof.Combine.Block.lean ====
/- One grid point of the prompt group's last call, when its input blocks are rows of the arrays and the rows before them. -/
module

public import proofs.«01_k».proof.Proof.Gen.KernelCombineIdeal.Frame
public import proofs.«01_k».proof.Proof.Combine.Spec
public import Idealize.ShloMosaic.Lib.Pipeline.ValueKit

@[expose] public section

set_option maxRecDepth 100000

noncomputable section

namespace Cert.KernelCombineIdeal.Combine

open Cert.KernelCombineIdeal Cert.KernelCombineIdeal.Gen Idealize.ShloMosaic Idealize.ShloMosaic.TcCoe Idealize.SL.Sem
open Cert.Combine
open scoped BigOperators

/-- A load of the scratch reads what was stored there. -/
theorem load_stored {κ : Kind} {sp : Space} (v : View sig κ sp S272x1024 .f32) (L : List (View.Piece (Elt Ideal) S272x1024 .f32)) (r : Rect S272x1024) :
    v.readCov L r.toLoadRect = View.ld (View.canon L) r :=
  View.readCov_eq_canon' v L r.toLoadRect

/-- The scratch after its two stores. -/
def stored (A : Vec Ideal S16x1024 .f32) (B : Vec Ideal S256x1024 .f32) : Vec Ideal S272x1024 .f32 :=
  View.canon [⟨Rect.unit ![16, 0] ![256, 1024] inb_S272x1024_S256x1024_16_0, B⟩, ⟨Rect.unit ![0, 0] ![16, 1024] inb_S272x1024_S16x1024_0_0, A⟩]

theorem stored_high (A : Vec Ideal S16x1024 .f32) (B : Vec Ideal S256x1024 .f32) (q : Fin 272) (r : Fin 256) (d : Fin 1024) (h : q.val = 16 + r.val) :
    stored A B (ix2 q d) = B (ix2 r d) := by
  have e : (Rect.unit (s := S272x1024) ![16, 0] ![256, 1024] inb_S272x1024_S256x1024_16_0).emb (ix2 r d) = ix2 q d := by
    blk_ext [h]
  unfold stored
  rw [← e]
  exact View.canon_cons_emb (Rect.unit (s := S272x1024) ![16, 0] ![256, 1024] inb_S272x1024_S256x1024_16_0) B _ (ix2 r d)

theorem stored_low (A : Vec Ideal S16x1024 .f32) (B : Vec Ideal S256x1024 .f32) (q : Fin 272) (r : Fin 16) (d : Fin 1024) (h : q.val = r.val) :
    stored A B (ix2 q d) = A (ix2 r d) := by
  have e : (Rect.unit (s := S272x1024) ![0, 0] ![16, 1024] inb_S272x1024_S16x1024_0_0).emb (ix2 r d) = ix2 q d := by
    blk_ext [h]
  unfold stored
  rw [View.canon_cons_of_not_mem]
  · rw [← e]
    exact View.canon_cons_emb (Rect.unit (s := S272x1024) ![0, 0] ![16, 1024] inb_S272x1024_S16x1024_0_0) A _ (ix2 r d)
  · intro hm
    obtain ⟨x, hx⟩ := (Rect.unit (s := S272x1024) ![16, 0] ![256, 1024] inb_S272x1024_S256x1024_16_0).exists_idx_of_mem hm
    have h0 := congrArg (fun z => (z 0).val) hx
    have h1 : 16 + (x 0).val = q.val := by
      refine Eq.trans ?_ h0
      show _ = 16 + 1 * (x 0).val
      omega
    omega

/-- The layer norm of the gated row's projection. -/
theorem last (v153 v155 v157 v159 v168 : FVec Ideal S256x1024 .f32) (v161 : FVec Ideal S256x2048 .f32) (v184 : Vec Ideal S2048x2048 .bf16)
    (v204 v208 : Vec Ideal S1x2048 .f32) (r : Fin 256) (o : Fin 2048) :
    k0_pay18 (F := Ideal) v153 v155 v157 v159 v161 v168 v184 v204 v208 (ix2 r o)
      = norm (fun o => Ideal.ofBits .f32 1066940400#32 * v161 (ix2 r o)
          + (∑ k : Fin 1024, v155 (ix2 r k) * (v157 (ix2 r k) * v168 (ix2 r k)) * v184 (ix2 (⟨k.val, by omega⟩ : Fin 2048) o)
            + ∑ k : Fin 1024, v153 (ix2 r k) * gate (v159 (ix2 r k)) * v184 (ix2 (⟨1024 + k.val, by omega⟩ : Fin 2048) o)))
        (fun o => v204 (ix2 (0 : Fin 1) o)) (fun o => v208 (ix2 (0 : Fin 1) o)) o := by
  unfold k0_pay18
  pointwise
  rfl

theorem logistic (v : Vec Ideal S256x1024 .f32) (r : Fin 256) (k : Fin 1024) :
    k0_pay17 (F := Ideal) v (ix2 r k) = Ideal.div 1 (1 + Ideal.exp (0 - v (ix2 r k))) := by
  unfold k0_pay17 k0_pay14
  pointwise
theorem same13 (v : Vec Ideal S256x1024 .f32) (r : Fin 256) (k : Fin 1024) : k0_pay13 (F := Ideal) v (ix2 r k) = v (ix2 r k) := by
  unfold k0_pay13
  pointwise
theorem same14 (v : Vec Ideal S256x1024 .f32) (r : Fin 256) (k : Fin 1024) : k0_pay14 (F := Ideal) v (ix2 r k) = v (ix2 r k) := by
  unfold k0_pay14
  pointwise
theorem same15 (v : Vec Ideal S256x1024 .f32) (r : Fin 256) (k : Fin 1024) : k0_pay15 (F := Ideal) v (ix2 r k) = v (ix2 r k) := by
  unfold k0_pay15
  pointwise
theorem same16 (v : Vec Ideal S256x2048 .f32) (r : Fin 256) (k : Fin 2048) : k0_pay16 (F := Ideal) v (ix2 r k) = v (ix2 r k) := by
  unfold k0_pay16
  pointwise
theorem same2 (v : Vec Ideal S256x1024 .f32) (r : Fin 256) (k : Fin 1024) : k0_pay2 (F := Ideal) v (ix2 r k) = v (ix2 r k) := by
  unfold k0_pay2
  pointwise

/-- The pooled entries, the windows' sums written out. -/
theorem pooled_two (u : Rows 1024) (b : Fin 2) (t : Fin 4096) (d d' : Fin 1024) (h : d.val = d'.val) :
    Ideal.div (lag u b t 0 d + lag u b t 1 d)
        (FloatOps.sitofp (F := Ideal) .f32 (IntOp.minsi (BitVec.ofNat 32 (t.val + 1)) 2#32)) - u (ix3 b t d) = pooled u 2 b t d' := by
  obtain rfl : d = d' := Fin.ext h
  simp only [pooled, rowsIn, Finset.sum_range_succ, Finset.sum_range_zero, zero_add]
theorem pooled_four (u : Rows 1024) (b : Fin 2) (t : Fin 4096) (d d' : Fin 1024) (h : d.val = d'.val) :
    Ideal.div (lag u b t 0 d + lag u b t 1 d + lag u b t 2 d + lag u b t 3 d)
        (FloatOps.sitofp (F := Ideal) .f32 (IntOp.minsi (BitVec.ofNat 32 (t.val + 1)) 4#32)) - u (ix3 b t d) = pooled u 4 b t d' := by
  obtain rfl : d = d' := Fin.ext h
  simp only [pooled, rowsIn, Finset.sum_range_succ, Finset.sum_range_zero, zero_add]
theorem pooled_eight (u : Rows 1024) (b : Fin 2) (t : Fin 4096) (d d' : Fin 1024) (h : d.val = d'.val) :
    Ideal.div (lag u b t 0 d + lag u b t 1 d + lag u b t 2 d + lag u b t 3 d + lag u b t 4 d + lag u b t 5 d + lag u b t 6 d + lag u b t 7 d)
        (FloatOps.sitofp (F := Ideal) .f32 (IntOp.minsi (BitVec.ofNat 32 (t.val + 1)) 8#32)) - u (ix3 b t d) = pooled u 8 b t d' := by
  obtain rfl : d = d' := Fin.ext h
  simp only [pooled, rowsIn, Finset.sum_range_succ, Finset.sum_range_zero, zero_add]
theorem pooled_sixteen (u : Rows 1024) (b : Fin 2) (t : Fin 4096) (d d' : Fin 1024) (h : d.val = d'.val) :
    Ideal.div (lag u b t 0 d + lag u b t 1 d + lag u b t 2 d + lag u b t 3 d + lag u b t 4 d + lag u b t 5 d + lag u b t 6 d + lag u b t 7 d + lag u b t 8 d + lag u b t 9 d + lag u b t 10 d + lag u b t 11 d + lag u b t 12 d + lag u b t 13 d + lag u b t 14 d + lag u b t 15 d)
        (FloatOps.sitofp (F := Ideal) .f32 (IntOp.minsi (BitVec.ofNat 32 (t.val + 1)) 16#32)) - u (ix3 b t d) = pooled u 16 b t d' := by
  obtain rfl : d = d' := Fin.ext h
  simp only [pooled, rowsIn, Finset.sum_range_succ, Finset.sum_range_zero, zero_add]

set_option maxHeartbeats 2000000 in
/-- The pooling mixer of a block of rows. -/
theorem mixer (E : Vec Ideal S272x1024 .f32) (x3 : Vec Ideal S256x1024 .f32) (x6 : Vec Ideal S4x256x256 .bf16) (x7 : Vec Ideal S1x1024 .f32) (v33 : BitVec 32)
    (u : Rows 1024) (wp : Mixing) (ps : (⟨2, ![1, 1024]⟩ : Shape).Idx → EReal) (b : Fin 2) (T : Fin 256 → Fin 4096)
    (hE : ∀ (q : Fin 272) (r : Fin 256) (j : Nat) (d : Fin 1024), q.val + j = 16 + r.val → (E (ix2 q d) : EReal) = lag u b (T r) j d)
    (h3 : ∀ r d, (x3 (ix2 r d) : EReal) = u (ix3 b (T r) d)) (h6 : ∀ g x e, (x6 (ix3 g x e) : EReal) = wp (ix4 (0 : Fin 1) g x e))
    (h7 : ∀ k, (x7 (ix2 (0 : Fin 1) k) : EReal) = ps (ix2 (0 : Fin 1) k))
    (hv : ∀ r : Fin 256, IntOp.addi (IntOp.addi v33 (BitVec.ofNat 32 r.val)) 1#32 = BitVec.ofNat 32 ((T r).val + 1)) (r : Fin 256) (k : Fin 1024) :
    k0_pay12 (F := Ideal) (k0_pay3 v33) (k0_pay4 v33 (View.ld E (Rect.unit ![16, 0] ![256, 256] inb_S272x1024_S256x256_16_0)) (View.ld E (Rect.unit ![15, 0] ![256, 256] inb_S272x1024_S256x256_15_0)) (View.ld x3 (Rect.unit ![0, 0] ![256, 256] inb_S256x1024_S256x256_0_0)) (View.ld x6 (Rect.unit ![0, 0, 0] ![1, 256, 256] inb_S4x256x256_S1x256x256_0_0_0)))
      (k0_pay7 (k0_pay5 v33 (View.ld E (Rect.unit ![16, 256] ![256, 256] inb_S272x1024_S256x256_16_256)) (View.ld E (Rect.unit ![15, 256] ![256, 256] inb_S272x1024_S256x256_15_256)) (View.ld E (Rect.unit ![14, 256] ![256, 256] inb_S272x1024_S256x256_14_256)) (View.ld E (Rect.unit ![13, 256] ![256, 256] inb_S272x1024_S256x256_13_256))) (k0_pay6 (View.ld x3 (Rect.unit ![0, 256] ![256, 256] inb_S256x1024_S256x256_0_256))) (View.ld x6 (Rect.unit ![1, 0, 0] ![1, 256, 256] inb_S4x256x256_S1x256x256_1_0_0)))
      (k0_pay10 (k0_pay8 (k0_pay3 v33) (View.ld E (Rect.unit ![16, 512] ![256, 256] inb_S272x1024_S256x256_16_512)) (View.ld E (Rect.unit ![15, 512] ![256, 256] inb_S272x1024_S256x256_15_512)) (View.ld E (Rect.unit ![14, 512] ![256, 256] inb_S272x1024_S256x256_14_512)) (View.ld E (Rect.unit ![13, 512] ![256, 256] inb_S272x1024_S256x256_13_512)) (View.ld E (Rect.unit ![12, 512] ![256, 256] inb_S272x1024_S256x256_12_512)) (View.ld E (Rect.unit ![11, 512] ![256, 256] inb_S272x1024_S256x256_11_512)) (View.ld E (Rect.unit ![10, 512] ![256, 256] inb_S272x1024_S256x256_10_512)) (View.ld E (Rect.unit ![9, 512] ![256, 256] inb_S272x1024_S256x256_9_512)) (View.ld x3 (Rect.unit ![0, 512] ![256, 256] inb_S256x1024_S256x256_0_512))) (k0_pay9 (View.ld x6 (Rect.unit ![2, 0, 0] ![1, 256, 256] inb_S4x256x256_S1x256x256_2_0_0))))
      (k0_pay11 (View.ld E (Rect.unit ![16, 768] ![256, 256] inb_S272x1024_S256x256_16_768)) (View.ld E (Rect.unit ![15, 768] ![256, 256] inb_S272x1024_S256x256_15_768)) (View.ld E (Rect.unit ![14, 768] ![256, 256] inb_S272x1024_S256x256_14_768)) (View.ld E (Rect.unit ![13, 768] ![256, 256] inb_S272x1024_S256x256_13_768)) (View.ld E (Rect.unit ![12, 768] ![256, 256] inb_S272x1024_S256x256_12_768)) (View.ld E (Rect.unit ![11, 768] ![256, 256] inb_S272x1024_S256x256_11_768)) (View.ld E (Rect.unit ![10, 768] ![256, 256] inb_S272x1024_S256x256_10_768)) (View.ld E (Rect.unit ![9, 768] ![256, 256] inb_S272x1024_S256x256_9_768)) (View.ld E (Rect.unit ![8, 768] ![256, 256] inb_S272x1024_S256x256_8_768)) (View.ld E (Rect.unit ![7, 768] ![256, 256] inb_S272x1024_S256x256_7_768)) (View.ld E (Rect.unit ![6, 768] ![256, 256] inb_S272x1024_S256x256_6_768)) (View.ld E (Rect.unit ![5, 768] ![256, 256] inb_S272x1024_S256x256_5_768)) (View.ld E (Rect.unit ![4, 768] ![256, 256] inb_S272x1024_S256x256_4_768)) (View.ld E (Rect.unit ![3, 768] ![256, 256] inb_S272x1024_S256x256_3_768))) (View.ld E (Rect.unit ![2, 768] ![256, 256] inb_S272x1024_S256x256_2_768)) (View.ld E (Rect.unit ![1, 768] ![256, 256] inb_S272x1024_S256x256_1_768)) (View.ld x3 (Rect.unit ![0, 768] ![256, 256] inb_S256x1024_S256x256_0_768)) (View.ld x6 (Rect.unit ![3, 0, 0] ![1, 256, 256] inb_S4x256x256_S1x256x256_3_0_0)) x7 (ix2 r k)
      = poolMix u wp ps b (T r) k := by
  unfold k0_pay12 k0_pay11 k0_pay10 k0_pay9 k0_pay8 k0_pay7 k0_pay6 k0_pay5 k0_pay4 k0_pay3
  pointwise
  have e0 : ∀ (r : Fin 256) (d : Fin 1024) (p : 16 + r.val < 272), (E (ix2 (⟨16 + r.val, p⟩ : Fin 272) d) : EReal) = lag u b (T r) 0 d := fun r d p => hE _ r 0 d (by simp only; omega)
  have e1 : ∀ (r : Fin 256) (d : Fin 1024) (p : 15 + r.val < 272), (E (ix2 (⟨15 + r.val, p⟩ : Fin 272) d) : EReal) = lag u b (T r) 1 d := fun r d p => hE _ r 1 d (by simp only; omega)
  have e2 : ∀ (r : Fin 256) (d : Fin 1024) (p : 14 + r.val < 272), (E (ix2 (⟨14 + r.val, p⟩ : Fin 272) d) : EReal) = lag u b (T r) 2 d := fun r d p => hE _ r 2 d (by simp only; omega)
  have e3 : ∀ (r : Fin 256) (d : Fin 1024) (p : 13 + r.val < 272), (E (ix2 (⟨13 + r.val, p⟩ : Fin 272) d) : EReal) = lag u b (T r) 3 d := fun r d p => hE _ r 3 d (by simp only; omega)
  have e4 : ∀ (r : Fin 256) (d : Fin 1024) (p : 12 + r.val < 272), (E (ix2 (⟨12 + r.val, p⟩ : Fin 272) d) : EReal) = lag u b (T r) 4 d := fun r d p => hE _ r 4 d (by simp only; omega)
  have e5 : ∀ (r : Fin 256) (d : Fin 1024) (p : 11 + r.val < 272), (E (ix2 (⟨11 + r.val, p⟩ : Fin 272) d) : EReal) = lag u b (T r) 5 d := fun r d p => hE _ r 5 d (by simp only; omega)
  have e6 : ∀ (r : Fin 256) (d : Fin 1024) (p : 10 + r.val < 272), (E (ix2 (⟨10 + r.val, p⟩ : Fin 272) d) : EReal) = lag u b (T r) 6 d := fun r d p => hE _ r 6 d (by simp only; omega)
  have e7 : ∀ (r : Fin 256) (d : Fin 1024) (p : 9 + r.val < 272), (E (ix2 (⟨9 + r.val, p⟩ : Fin 272) d) : EReal) = lag u b (T r) 7 d := fun r d p => hE _ r 7 d (by simp only; omega)
  have e8 : ∀ (r : Fin 256) (d : Fin 1024) (p : 8 + r.val < 272), (E (ix2 (⟨8 + r.val, p⟩ : Fin 272) d) : EReal) = lag u b (T r) 8 d := fun r d p => hE _ r 8 d (by simp only; omega)
  have e9 : ∀ (r : Fin 256) (d : Fin 1024) (p : 7 + r.val < 272), (E (ix2 (⟨7 + r.val, p⟩ : Fin 272) d) : EReal) = lag u b (T r) 9 d := fun r d p => hE _ r 9 d (by simp only; omega)
  have e10 : ∀ (r : Fin 256) (d : Fin 1024) (p : 6 + r.val < 272), (E (ix2 (⟨6 + r.val, p⟩ : Fin 272) d) : EReal) = lag u b (T r) 10 d := fun r d p => hE _ r 10 d (by simp only; omega)
  have e11 : ∀ (r : Fin 256) (d : Fin 1024) (p : 5 + r.val < 272), (E (ix2 (⟨5 + r.val, p⟩ : Fin 272) d) : EReal) = lag u b (T r) 11 d := fun r d p => hE _ r 11 d (by simp only; omega)
  have e12 : ∀ (r : Fin 256) (d : Fin 1024) (p : 4 + r.val < 272), (E (ix2 (⟨4 + r.val, p⟩ : Fin 272) d) : EReal) = lag u b (T r) 12 d := fun r d p => hE _ r 12 d (by simp only; omega)
  have e13 : ∀ (r : Fin 256) (d : Fin 1024) (p : 3 + r.val < 272), (E (ix2 (⟨3 + r.val, p⟩ : Fin 272) d) : EReal) = lag u b (T r) 13 d := fun r d p => hE _ r 13 d (by simp only; omega)
  have e14 : ∀ (r : Fin 256) (d : Fin 1024) (p : 2 + r.val < 272), (E (ix2 (⟨2 + r.val, p⟩ : Fin 272) d) : EReal) = lag u b (T r) 14 d := fun r d p => hE _ r 14 d (by simp only; omega)
  have e15 : ∀ (r : Fin 256) (d : Fin 1024) (p : 1 + r.val < 272), (E (ix2 (⟨1 + r.val, p⟩ : Fin 272) d) : EReal) = lag u b (T r) 15 d := fun r d p => hE _ r 15 d (by simp only; omega)
  simp only [h7, h6, h3, hv, e0, e1, e2, e3, e4, e5, e6, e7, e8, e9, e10, e11, e12, e13, e14, e15]
  unfold poolMix
  refine congrArg (fun z : EReal => z * ps (ix2 (0 : Fin 1) k)) ?_
  by_cases h0 : k.val < 256
  · rw [dif_pos h0]
    · rw [show (⟨k.val / 256, by omega⟩ : Fin 4) = 0 from Fin.ext (by show k.val / 256 = 0; omega),
        show (⟨k.val % 256, by omega⟩ : Fin 256) = ⟨k.val, by omega⟩ from Fin.ext (by simp only; omega)]
      exact Finset.sum_congr rfl fun x _ => congrArg (fun z : EReal => z * wp (ix4 (0 : Fin 1) (0 : Fin 4) x (⟨k.val, by omega⟩ : Fin 256))) (pooled_two u b (T r) _ _ (by show _ = 256 * 0 + x.val; simp only; try omega))
  · rw [dif_neg h0]
    by_cases h1 : k.val - 256 < 256
    · rw [dif_pos h1]
      rw [show (⟨k.val / 256, by omega⟩ : Fin 4) = 1 from Fin.ext (by show k.val / 256 = 1; omega),
        show (⟨k.val % 256, by omega⟩ : Fin 256) = ⟨k.val - 256, by omega⟩ from Fin.ext (by simp only; omega)]
      exact Finset.sum_congr rfl fun x _ => congrArg (fun z : EReal => z * wp (ix4 (0 : Fin 1) (1 : Fin 4) x (⟨k.val - 256, by omega⟩ : Fin 256))) (pooled_four u b (T r) _ _ (by show _ = 256 * 1 + x.val; simp only; try omega))
    · rw [dif_neg h1]
      by_cases h2 : k.val - 256 - 256 < 256
      · rw [dif_pos h2]
        rw [show (⟨k.val / 256, by omega⟩ : Fin 4) = 2 from Fin.ext (by show k.val / 256 = 2; omega),
          show (⟨k.val % 256, by omega⟩ : Fin 256) = ⟨k.val - 256 - 256, by omega⟩ from Fin.ext (by simp only; omega)]
        exact Finset.sum_congr rfl fun x _ => congrArg (fun z : EReal => z * wp (ix4 (0 : Fin 1) (2 : Fin 4) x (⟨k.val - 256 - 256, by omega⟩ : Fin 256))) (pooled_eight u b (T r) _ _ (by show _ = 256 * 2 + x.val; simp only; try omega))
      · rw [dif_neg h2]
        rw [show (⟨k.val / 256, by omega⟩ : Fin 4) = 3 from Fin.ext (by show k.val / 256 = 3; omega),
          show (⟨k.val % 256, by omega⟩ : Fin 256) = ⟨k.val - 256 - 256 - 256, by omega⟩ from Fin.ext (by simp only; omega)]
        exact Finset.sum_congr rfl fun x _ => congrArg (fun z : EReal => z * wp (ix4 (0 : Fin 1) (3 : Fin 4) x (⟨k.val - 256 - 256 - 256, by omega⟩ : Fin 256))) (pooled_sixteen u b (T r) _ _ (by show _ = 256 * 3 + x.val; simp only; try omega))

theorem norm_congr {h h' g g' b b' : Fin 2048 → EReal} (e : ∀ o, h o = h' o) (eg : ∀ o, g o = g' o) (eb : ∀ o, b o = b' o) (o : Fin 2048) :
    norm h g b o = norm h' g' b' o := by
  rw [show h = h' from funext e, show g = g' from funext eg, show b = b' from funext eb]

/-- The remainder of a grid point's number by 16, as the kernel takes it. -/
def place (i : BitVec 32) : BitVec 32 :=
  Scalar.select (Scalar.andi (Scalar.xori (Scalar.cmpi .slt (Scalar.remsi i 16#32) 0#32) 0#1) (Scalar.cmpi .ne (Scalar.remsi i 16#32) 0#32))
    (Scalar.addi (Scalar.remsi i 16#32) 16#32) (Scalar.remsi i 16#32)

theorem place_eq : ∀ n : Fin 32, place (BitVec.ofNat 32 n.val) = BitVec.ofNat 32 (n.val % 16) := by decide +kernel
theorem start_eq : ∀ n : Fin 32, Scalar.muli (place (BitVec.ofNat 32 n.val)) 256#32 = BitVec.ofNat 32 (n.val % 16 * 256) := by decide +kernel

/-- The rows that precede the block, or zeros where a sequence begins. -/
theorem halo (i : grid0.Coords) (v : Vec Ideal S16x1024 .f32) (r : Fin 16) (d : Fin 1024) :
    k0_pay1 (F := Ideal) i v (ix2 r d) = if (i 0).val % 16 = 0 then 0 else v (ix2 r d) := by
  have hi : (i 0).val < 32 := (i 0).isLt
  have e := place_eq ⟨(i 0).val, hi⟩
  unfold k0_pay1
  pointwise
  refine Eq.trans (b := Scalar.select (Scalar.cmpi .eq (place (BitVec.ofNat 32 (i 0).val)) 0#32) (0 : EReal) (v (ix2 r d))) rfl ?_
  rw [e]
  have h : ∀ n : Fin 16, Scalar.cmpi CmpIPredicate.eq (BitVec.ofNat 32 n.val) 0#32 = if n.val = 0 then 1#1 else 0#1 := by decide +kernel
  rw [h ⟨(i 0).val % 16, by omega⟩]
  simp only
  split <;> rfl

variable (m : (ℓ : Loc nD τ sig) → Buf (Elt Ideal) ℓ) (c : Dev nD) (t : Fin cfg0.N)
variable {a ga gb u : Rows 1024} {x : Rows 2048} {wp : Mixing} {ps : (⟨2, ![1, 1024]⟩ : Shape).Idx → EReal}
  {wo : (⟨3, ![1, 2048, 2048]⟩ : Shape).Idx → EReal} {g β : (⟨2, ![1, 2048]⟩ : Shape).Idx → EReal} {b : Fin 2} {T : Fin 256 → Fin 4096}

set_option maxHeartbeats 2000000 in
/-- What a grid point leaves in its block of the result. -/
theorem block (h0 : ∀ r k, (iblk m c 0 t (ix2 r k) : EReal) = a (ix3 b (T r) k)) (h1 : ∀ r k, (iblk m c 1 t (ix2 r k) : EReal) = ga (ix3 b (T r) k))
    (h2 : ∀ r k, (iblk m c 2 t (ix2 r k) : EReal) = gb (ix3 b (T r) k)) (h3 : ∀ r k, (iblk m c 3 t (ix2 r k) : EReal) = u (ix3 b (T r) k))
    (h5 : ∀ r k, (iblk m c 5 t (ix2 r k) : EReal) = x (ix3 b (T r) k)) (h6 : ∀ g x e, (iblk m c 6 t (ix3 g x e) : EReal) = wp (ix4 (0 : Fin 1) g x e))
    (h7 : ∀ k, (iblk m c 7 t (ix2 (0 : Fin 1) k) : EReal) = ps (ix2 (0 : Fin 1) k))
    (h8 : ∀ k o, (iblk m c 8 t (ix2 k o) : EReal) = wo (ix3 (0 : Fin 1) k o))
    (h9 : ∀ o, (iblk m c 9 t (ix2 (0 : Fin 1) o) : EReal) = g (ix2 (0 : Fin 1) o)) (h10 : ∀ o, (iblk m c 10 t (ix2 (0 : Fin 1) o) : EReal) = β (ix2 (0 : Fin 1) o))
    (hE : ∀ (q : Fin 272) (r : Fin 256) (j : Nat) (d : Fin 1024), q.val + j = 16 + r.val →
      (stored (k0_pay1 (grid0.coords t) (iblk m c 4 t)) (k0_pay2 (iblk m c 3 t)) (ix2 q d) : EReal) = lag u b (T r) j d)
    (hv : ∀ r : Fin 256, IntOp.addi (IntOp.addi (Scalar.muli (place (BitVec.ofNat 32 (grid0.coords t 0).val)) 256#32) (BitVec.ofNat 32 r.val)) 1#32
      = BitVec.ofNat 32 ((T r).val + 1))
    (r : Fin 256) (o : Fin 2048) : outsAt0 m c t (ix2 r o) = entry a ga gb u x wp ps wo g β b (T r) o := by
  unfold outsAt0
  frame_out
  simp only [load_stored]
  rw [last]
  unfold entry
  refine norm_congr (fun o => ?_) (fun o => h9 o) (fun o => h10 o) o
  unfold gatedRow
  refine congrArg₂ (fun p q : EReal => p + q) ?_ (congrArg₂ (fun p q : EReal => p + q) (Finset.sum_congr rfl fun k _ => ?_) (Finset.sum_congr rfl fun k _ => ?_))
  · rw [same16, h5]
  · rw [same13, same14, logistic, h0, h1, h8]
    rfl
  · rw [same15, h2, h8]
    exact congrArg (fun z : EReal => z * gate (gb (ix3 b (T r) k)) * wo (ix3 (0 : Fin 1) (⟨1024 + k.val, by omega⟩ : Fin 2048) o))
      (mixer (stored (k0_pay1 (grid0.coords t) (iblk m c 4 t)) (k0_pay2 (iblk m c 3 t))) _ _ _ _ u wp ps b T hE h3 h6 h7 hv r k)

end Cert.KernelCombineIdeal.Combine

end
-- ==== Proof.Combine.Kernel.lean ====
/- The prompt group's last call: what its result array ends with. -/
module

public import proofs.«01_k».proof.Proof.Combine.Block

@[expose] public section

set_option maxRecDepth 100000
set_option maxHeartbeats 1000000

noncomputable section

namespace Cert.KernelCombineIdeal.Combine

open Cert.KernelCombineIdeal Cert.KernelCombineIdeal.Gen Idealize.ShloMosaic Idealize.ShloMosaic.TcCoe Idealize.SL.Sem
open Cert.Combine
open scoped BigOperators

variable (m : (ℓ : Loc nD τ sig) → Buf (Elt Ideal) ℓ) (c : Dev nD)

/-- The argument arrays, as functions to the extended reals. -/
abbrev arr0 : Rows 1024 := m ((c.tc : Thread nD τ).loc main_arg0)
abbrev arr1 : Rows 1024 := m ((c.tc : Thread nD τ).loc main_arg1)
abbrev arr2 : Rows 1024 := m ((c.tc : Thread nD τ).loc main_arg2)
abbrev arr3 : Rows 1024 := m ((c.tc : Thread nD τ).loc main_arg3)
abbrev arr4 : Rows 2048 := m ((c.tc : Thread nD τ).loc main_arg4)
abbrev arr5 : Mixing := m ((c.tc : Thread nD τ).loc main_arg5)
abbrev arr6 : (⟨2, ![1, 1024]⟩ : Shape).Idx → EReal := m ((c.tc : Thread nD τ).loc main_arg6)
abbrev arr7 : (⟨3, ![1, 2048, 2048]⟩ : Shape).Idx → EReal := m ((c.tc : Thread nD τ).loc main_arg7)
abbrev arr8 : (⟨2, ![1, 2048]⟩ : Shape).Idx → EReal := m ((c.tc : Thread nD τ).loc main_arg8)
abbrev arr9 : (⟨2, ![1, 2048]⟩ : Shape).Idx → EReal := m ((c.tc : Thread nD τ).loc main_arg9)

/-- The arrays that the call is handed. -/
theorem V10 (r : Fin 8192) (e : Fin 1024) : (V m c main_v10 (ix2 r e) : EReal)
    = arr0 m c (ix3 (⟨r.val / 4096, by omega⟩ : Fin 2) (⟨r.val % 4096, by omega⟩ : Fin 4096) e) := by
  unfold V
  simp only [List.flatten_cons, List.flatten_nil, List.append_nil, List.cons_append, List.nil_append, hostOps0]
  entry_read
  pointwise
theorem V11 (r : Fin 8192) (e : Fin 1024) : (V m c main_v11 (ix2 r e) : EReal)
    = arr1 m c (ix3 (⟨r.val / 4096, by omega⟩ : Fin 2) (⟨r.val % 4096, by omega⟩ : Fin 4096) e) := by
  unfold V
  simp only [List.flatten_cons, List.flatten_nil, List.append_nil, List.cons_append, List.nil_append, hostOps0]
  entry_read
  pointwise
theorem V12 (r : Fin 8192) (e : Fin 1024) : (V m c main_v12 (ix2 r e) : EReal)
    = arr2 m c (ix3 (⟨r.val / 4096, by omega⟩ : Fin 2) (⟨r.val % 4096, by omega⟩ : Fin 4096) e) := by
  unfold V
  simp only [List.flatten_cons, List.flatten_nil, List.append_nil, List.cons_append, List.nil_append, hostOps0]
  entry_read
  pointwise
theorem V13 (r : Fin 8192) (e : Fin 1024) : (V m c main_v13 (ix2 r e) : EReal)
    = arr3 m c (ix3 (⟨r.val / 4096, by omega⟩ : Fin 2) (⟨r.val % 4096, by omega⟩ : Fin 4096) e) := by
  unfold V
  simp only [List.flatten_cons, List.flatten_nil, List.append_nil, List.cons_append, List.nil_append, hostOps0]
  entry_read
  pointwise
theorem V14 (r : Fin 8192) (e : Fin 2048) : (V m c main_v14 (ix2 r e) : EReal)
    = arr4 m c (ix3 (⟨r.val / 4096, by omega⟩ : Fin 2) (⟨r.val % 4096, by omega⟩ : Fin 4096) e) := by
  unfold V
  simp only [List.flatten_cons, List.flatten_nil, List.append_nil, List.cons_append, List.nil_append, hostOps0]
  entry_read
  pointwise
theorem V1 (g : Fin 4) (x e : Fin 256) : (V m c main_v1 (ix3 g x e) : EReal) = arr5 m c (ix4 (0 : Fin 1) g x e) := by
  unfold V
  simp only [List.flatten_cons, List.flatten_nil, List.append_nil, List.cons_append, List.nil_append, hostOps0]
  entry_read
  pointwise
theorem V5 (k : Fin 1024) : (V m c main_v5 (ix2 (0 : Fin 1) k) : EReal) = arr6 m c (ix2 (0 : Fin 1) k) := by
  unfold V
  simp only [List.flatten_cons, List.flatten_nil, List.append_nil, List.cons_append, List.nil_append, hostOps0]
  entry_read
  pointwise
theorem V3 (k o : Fin 2048) : (V m c main_v3 (ix2 k o) : EReal) = arr7 m c (ix3 (0 : Fin 1) k o) := by
  unfold V
  simp only [List.flatten_cons, List.flatten_nil, List.append_nil, List.cons_append, List.nil_append, hostOps0]
  entry_read
  pointwise
theorem V7 (o : Fin 2048) : (V m c main_v7 (ix2 (0 : Fin 1) o) : EReal) = arr8 m c (ix2 (0 : Fin 1) o) := by
  unfold V
  simp only [List.flatten_cons, List.flatten_nil, List.append_nil, List.cons_append, List.nil_append, hostOps0]
  entry_read
  pointwise
theorem V9 (o : Fin 2048) : (V m c main_v9 (ix2 (0 : Fin 1) o) : EReal) = arr9 m c (ix2 (0 : Fin 1) o) := by
  unfold V
  simp only [List.flatten_cons, List.flatten_nil, List.append_nil, List.cons_append, List.nil_append, hostOps0]
  entry_read
  pointwise

/-- Which block of its array each window holds at a grid point. -/
theorem idx_rows : ∀ t : Fin cfg0.N, win0_0.index t = ![t.val, 0] ∧ win0_1.index t = ![t.val, 0] ∧ win0_2.index t = ![t.val, 0]
    ∧ win0_3.index t = ![t.val, 0] ∧ win0_4.index t = ![t.val * 16 - 1, 0] ∧ win0_5.index t = ![t.val, 0] ∧ win0_11.index t = ![t.val, 0] :=
  (by decide +kernel : ∀ t : Fin grid0.N, _)
theorem idx_whole : ∀ t : Fin cfg0.N, win0_6.index t = ![0, 0, 0] ∧ win0_7.index t = ![0, 0] ∧ win0_8.index t = ![0, 0]
    ∧ win0_9.index t = ![0, 0] ∧ win0_10.index t = ![0, 0] :=
  (by decide +kernel : ∀ t : Fin grid0.N, _)
theorem coord : ∀ t : Fin cfg0.N, (grid0.coords t 0).val = t.val := (by decide +kernel : ∀ t : Fin grid0.N, _)

variable (t : Fin cfg0.N)

/-- The row of the flattened arrays that is row `r` of grid point `t`'s block, its sequence and its position. -/
def rowOf (r : Fin 256) : Fin 8192 := ⟨t.val * 256 + r.val, by have : t.val < 32 := t.isLt; omega⟩
def seqOf : Fin 2 := ⟨t.val / 16, by have : t.val < 32 := t.isLt; omega⟩
def posOf (r : Fin 256) : Fin 4096 := ⟨t.val % 16 * 256 + r.val, by omega⟩

theorem split (r : Fin 256) (n : Nat) (A : Rows n) (e : Fin n) :
    A (ix3 (⟨(rowOf t r).val / 4096, by omega⟩ : Fin 2) (⟨(rowOf t r).val % 4096, by omega⟩ : Fin 4096) e) = A (ix3 (seqOf t) (posOf t r) e) := by
  have : t.val < 32 := t.isLt
  rw [show (⟨(rowOf t r).val / 4096, by omega⟩ : Fin 2) = seqOf t from Fin.ext (by simp only [rowOf, seqOf]; omega),
    show (⟨(rowOf t r).val % 4096, by omega⟩ : Fin 4096) = posOf t r from Fin.ext (by simp only [rowOf, posOf]; omega)]

theorem blk0 (r : Fin 256) (e : Fin 1024) : (iblk m c 0 t (ix2 r e) : EReal) = arr0 m c (ix3 (seqOf t) (posOf t r) e) := by
  obtain ⟨e0, e1, e2, e3, e4, e5, e11⟩ := idx_rows t
  have he : ((cfg0.win 0).blk t).view.emb (ix2 r e) = ix2 (rowOf t r) e := by blk_ext [e0, rowOf]
  exact ((congrArg (V m c main_v10) he).trans (V10 m c _ e)).trans (split t r 1024 (arr0 m c) e)
theorem blk1 (r : Fin 256) (e : Fin 1024) : (iblk m c 1 t (ix2 r e) : EReal) = arr1 m c (ix3 (seqOf t) (posOf t r) e) := by
  obtain ⟨e0, e1, e2, e3, e4, e5, e11⟩ := idx_rows t
  have he : ((cfg0.win 1).blk t).view.emb (ix2 r e) = ix2 (rowOf t r) e := by blk_ext [e1, rowOf]
  exact ((congrArg (V m c main_v11) he).trans (V11 m c _ e)).trans (split t r 1024 (arr1 m c) e)
theorem blk2 (r : Fin 256) (e : Fin 1024) : (iblk m c 2 t (ix2 r e) : EReal) = arr2 m c (ix3 (seqOf t) (posOf t r) e) := by
  obtain ⟨e0, e1, e2, e3, e4, e5, e11⟩ := idx_rows t
  have he : ((cfg0.win 2).blk t).view.emb (ix2 r e) = ix2 (rowOf t r) e := by blk_ext [e2, rowOf]
  exact ((congrArg (V m c main_v12) he).trans (V12 m c _ e)).trans (split t r 1024 (arr2 m c) e)
theorem blk3 (r : Fin 256) (e : Fin 1024) : (iblk m c 3 t (ix2 r e) : EReal) = arr3 m c (ix3 (seqOf t) (posOf t r) e) := by
  obtain ⟨e0, e1, e2, e3, e4, e5, e11⟩ := idx_rows t
  have he : ((cfg0.win 3).blk t).view.emb (ix2 r e) = ix2 (rowOf t r) e := by blk_ext [e3, rowOf]
  exact ((congrArg (V m c main_v13) he).trans (V13 m c _ e)).trans (split t r 1024 (arr3 m c) e)
theorem blk5 (r : Fin 256) (e : Fin 2048) : (iblk m c 5 t (ix2 r e) : EReal) = arr4 m c (ix3 (seqOf t) (posOf t r) e) := by
  obtain ⟨e0, e1, e2, e3, e4, e5, e11⟩ := idx_rows t
  have he : ((cfg0.win 5).blk t).view.emb (ix2 r e) = ix2 (rowOf t r) e := by blk_ext [e5, rowOf]
  exact ((congrArg (V m c main_v14) he).trans (V14 m c _ e)).trans (split t r 2048 (arr4 m c) e)
/-- The sixteen rows before the block, where it does not begin a sequence. -/
theorem blk4 (r : Fin 16) (e : Fin 1024) (q : Fin 4096) (h : t.val % 16 ≠ 0) (hq : q.val + 16 = t.val % 16 * 256 + r.val) :
    (iblk m c 4 t (ix2 r e) : EReal) = arr3 m c (ix3 (seqOf t) q e) := by
  obtain ⟨e0, e1, e2, e3, e4, e5, e11⟩ := idx_rows t
  have ht : t.val < 32 := t.isLt
  have he : ((cfg0.win 4).blk t).view.emb (ix2 r e) = ix2 (⟨t.val * 256 - 16 + r.val, by omega⟩ : Fin 8192) e := by blk_ext [e4]
  refine ((congrArg (V m c main_v13) he).trans (V13 m c _ e)).trans ?_
  rw [show (⟨(t.val * 256 - 16 + r.val) / 4096, by omega⟩ : Fin 2) = seqOf t from Fin.ext (by simp only [seqOf]; omega),
    show (⟨(t.val * 256 - 16 + r.val) % 4096, by omega⟩ : Fin 4096) = q from Fin.ext (by simp only; omega)]
theorem blk6 (g : Fin 4) (x e : Fin 256) : (iblk m c 6 t (ix3 g x e) : EReal) = arr5 m c (ix4 (0 : Fin 1) g x e) := by
  obtain ⟨e6, e7, e8, e9, e10⟩ := idx_whole t
  have he : ((cfg0.win 6).blk t).view.emb (ix3 g x e) = ix3 g x e := by blk_ext [e6]
  exact (congrArg (V m c main_v1) he).trans (V1 m c g x e)
theorem blk7 (k : Fin 1024) : (iblk m c 7 t (ix2 (0 : Fin 1) k) : EReal) = arr6 m c (ix2 (0 : Fin 1) k) := by
  obtain ⟨e6, e7, e8, e9, e10⟩ := idx_whole t
  have he : ((cfg0.win 7).blk t).view.emb (ix2 (0 : Fin 1) k) = ix2 (0 : Fin 1) k := by blk_ext [e7]
  exact (congrArg (V m c main_v5) he).trans (V5 m c k)
theorem blk8 (k o : Fin 2048) : (iblk m c 8 t (ix2 k o) : EReal) = arr7 m c (ix3 (0 : Fin 1) k o) := by
  obtain ⟨e6, e7, e8, e9, e10⟩ := idx_whole t
  have he : ((cfg0.win 8).blk t).view.emb (ix2 k o) = ix2 k o := by blk_ext [e8]
  exact (congrArg (V m c main_v3) he).trans (V3 m c k o)
theorem blk9 (o : Fin 2048) : (iblk m c 9 t (ix2 (0 : Fin 1) o) : EReal) = arr8 m c (ix2 (0 : Fin 1) o) := by
  obtain ⟨e6, e7, e8, e9, e10⟩ := idx_whole t
  have he : ((cfg0.win 9).blk t).view.emb (ix2 (0 : Fin 1) o) = ix2 (0 : Fin 1) o := by blk_ext [e9]
  exact (congrArg (V m c main_v7) he).trans (V7 m c o)
theorem blk10 (o : Fin 2048) : (iblk m c 10 t (ix2 (0 : Fin 1) o) : EReal) = arr9 m c (ix2 (0 : Fin 1) o) := by
  obtain ⟨e6, e7, e8, e9, e10⟩ := idx_whole t
  have he : ((cfg0.win 10).blk t).view.emb (ix2 (0 : Fin 1) o) = ix2 (0 : Fin 1) o := by blk_ext [e10]
  exact (congrArg (V m c main_v9) he).trans (V9 m c o)

/-- What the scratch holds for the row that lies `j` before row `r` of the block. -/
theorem rows_stored (q : Fin 272) (r : Fin 256) (j : Nat) (d : Fin 1024) (h : q.val + j = 16 + r.val) :
    (stored (k0_pay1 (grid0.coords t) (iblk m c 4 t)) (k0_pay2 (iblk m c 3 t)) (ix2 q d) : EReal) = lag (arr3 m c) (seqOf t) (posOf t r) j d := by
  have hp : (posOf t r).val = t.val % 16 * 256 + r.val := rfl
  unfold lag
  by_cases hq : 16 ≤ q.val
  · rw [stored_high _ _ q ⟨q.val - 16, by omega⟩ d (by simp only; omega), same2, blk3, if_pos (by omega)]
    exact congrArg (fun p => arr3 m c (ix3 (seqOf t) p d)) (Fin.ext (by simp only [back, posOf]; omega))
  · rw [stored_low _ _ q ⟨q.val, by omega⟩ d rfl, halo, coord]
    by_cases h0 : t.val % 16 = 0
    · rw [if_pos h0, if_neg (by omega)]
    · rw [if_neg h0, if_pos (by omega)]
      exact blk4 m c t _ d _ h0 (by simp only [back, posOf]; omega)

theorem position (r : Fin 256) : IntOp.addi (IntOp.addi (Scalar.muli (place (BitVec.ofNat 32 (grid0.coords t 0).val)) 256#32) (BitVec.ofNat 32 r.val)) 1#32
      = BitVec.ofNat 32 ((posOf t r).val + 1) := by
  have ht : t.val < 32 := t.isLt
  rw [coord, start_eq ⟨t.val, ht⟩]
  show BitVec.ofNat 32 _ + BitVec.ofNat 32 _ + BitVec.ofNat 32 1 = _
  rw [← BitVec.ofNat_add, ← BitVec.ofNat_add]
  rfl

/-- Where the output block of a grid point lies in the result. -/
theorem emb11 (y : S256x2048.Idx) : ((cfg0.win 11).blk t).view.emb y = ix2 (rowOf t (y 0)) (y 1) := by
  obtain ⟨e0, e1, e2, e3, e4, e5, e⟩ := idx_rows t
  blk_ext [e, rowOf]

/-- The result array of the kernel. -/
abbrev out : (⟨2, ![8192, 2048]⟩ : Shape).Idx → EReal :=
  result (arr0 m c) (arr1 m c) (arr2 m c) (arr3 m c) (arr4 m c) (arr5 m c) (arr6 m c) (arr7 m c) (arr8 m c) (arr9 m c)

theorem final : (dats m 0 c).arrAt 11 (cfgs 0).N = out m c := by
  refine (dats m 0 c).arrAt_eq_of_covers 11 _ (by decide +kernel) fun t hf y => ?_
  blk_simp; rw [after0_11]
  have hy : y = ix2 (y 0) (y 1) := by
    funext i
    fin_cases i <;> rfl
  refine (congrArg (outsAt0 m c t) hy).trans ?_
  refine (block m c t (blk0 m c t) (blk1 m c t) (blk2 m c t) (blk3 m c t) (blk5 m c t) (blk6 m c t) (blk7 m c t) (blk8 m c t) (blk9 m c t) (blk10 m c t)
    (rows_stored m c t) (position t) (y 0) (y 1)).trans ?_
  refine Eq.trans ?_ (congrArg (out m c) (emb11 t y)).symm
  have ht : t.val < 32 := t.isLt
  exact congrArg₂ (fun b p => entry (arr0 m c) (arr1 m c) (arr2 m c) (arr3 m c) (arr4 m c) (arr5 m c) (arr6 m c) (arr7 m c) (arr8 m c) (arr9 m c) b p (y 1))
    (Fin.ext (by show t.val / 16 = (t.val * 256 + (y 0).val) / 4096; have : (y 0).val < 256 := (y 0).isLt; omega))
    (Fin.ext (by show t.val % 16 * 256 + (y 0).val = (t.val * 256 + (y 0).val) % 4096; have : (y 0).val < 256 := (y 0).isLt; omega))

end Cert.KernelCombineIdeal.Combine

end
-- ==== Proof.Combine.Reference.lean ====
/- The reference's pooling, gates, output projection and layer norm, read at an index. -/
module

public import proofs.«01_k».proof.Proof.Gen.ReferenceCombineIdeal.Run
public import proofs.«01_k».proof.Proof.Combine.Spec
public import Idealize.ShloMosaic.Lib.WordCmp

@[expose] public section

set_option maxRecDepth 100000
set_option maxHeartbeats 1000000

noncomputable section

namespace Cert.ReferenceCombineIdeal.Combine

open Cert.ReferenceCombineIdeal Cert.ReferenceCombineIdeal.Gen Idealize.ShloMosaic Idealize.ShloMosaic.TcCoe Idealize.SL.Sem
open Cert.Combine Cert.ReferenceCombineIdeal.Value
open scoped BigOperators

/-- A position's word. -/
theorem position (t : Nat) : IntOp.addi 0#32 (BitVec.ofNat 32 t) = BitVec.ofNat 32 t := BitVec.zero_add _

/-- The weight of row `s` in position `t`'s window of width `w`, as the reference states it. -/
theorem inside (w s t : Nat) (hw : w ≤ 16) (hs : s < 4096) (ht : t < 4096) (f : EReal) :
    Scalar.select (IntOp.andi (IntOp.cmpi .sle (BitVec.ofNat 32 s) (IntOp.addi 0#32 (BitVec.ofNat 32 t)))
      (IntOp.cmpi .sgt (IntOp.addi (BitVec.ofNat 32 s) (BitVec.ofNat 32 w)) (IntOp.addi 0#32 (BitVec.ofNat 32 t)))) f 0
      = if s ≤ t ∧ t < s + w then f else 0 := by
  have e : IntOp.addi (BitVec.ofNat 32 s) (BitVec.ofNat 32 w) = BitVec.ofNat 32 (s + w) := (BitVec.ofNat_add s w).symm
  rw [position, e, WordCmp.cmpi_sle_ofNat (by omega) (by omega), WordCmp.cmpi_sgt_ofNat (by omega) (by omega)]
  by_cases h1 : s ≤ t <;> by_cases h2 : t < s + w <;> simp [h1, h2, Scalar.select, IntOp.andi]

/-- The trailing mean, as the reference states it. -/
theorem stated (u : Rows 1024) (w : Nat) (hw : w ≤ 16) (b : Fin 2) (t : Fin 4096) (d : Fin 1024) :
    Ideal.div (∑ s : Fin 4096, Scalar.select (IntOp.andi (IntOp.cmpi .sle (BitVec.ofNat 32 s.val) (IntOp.addi 0#32 (BitVec.ofNat 32 t.val)))
        (IntOp.cmpi .sgt (IntOp.addi (BitVec.ofNat 32 s.val) (BitVec.ofNat 32 w)) (IntOp.addi 0#32 (BitVec.ofNat 32 t.val)))) (u (ix3 b s d)) 0)
      (FloatOps.sitofp (F := Ideal) .f32 (IntOp.minsi (IntOp.addi (IntOp.addi 0#32 (BitVec.ofNat 32 t.val)) 1#32) (BitVec.ofNat 32 w))) - u (ix3 b t d)
      = pooled u w b t d := by
  have e : IntOp.addi (BitVec.ofNat 32 t.val) 1#32 = BitVec.ofNat 32 (t.val + 1) := (BitVec.ofNat_add t.val 1).symm
  unfold pooled rowsIn lag
  rw [← window_sum (fun s => u (ix3 b s d)) w t, Finset.sum_congr rfl fun s _ => inside w s.val t.val hw s.isLt t.isLt (u (ix3 b s d)), position, e]

variable (V : Valuation τ sig (Elt Ideal))

theorem pooled_apply (b : Fin 2) (t : Fin 4096) (g : Fin 4) (x : Fin 256) :
    (res_main_v113 (F := Ideal) V (ix4 b t g x) : EReal) = pooled (V (Proc.devRef .tc main_arg3)) (width g) b t ⟨256 * g.val + x.val, by omega⟩ := by
  unfold res_main_v113 res_main_v2 res_main_v6 res_main_v8
  pointwise
  have col : ∀ n (h : n < 1024) (h' : 256 * g.val + x.val < 1024), n = 256 * g.val + x.val → (⟨n, h⟩ : Fin 1024) = ⟨256 * g.val + x.val, h'⟩ :=
    fun n h h' e => Fin.ext e
  have hg : g.val < 4 := g.isLt
  have hw : width g ≤ 16 := (by decide : ∀ g : Fin 4, width g ≤ 16) g
  refine Eq.trans ?_ (stated _ (width g) hw b t _)
  by_cases h0 : g.val < 1
  · rw [dif_pos h0]
    obtain rfl : g = 0 := Fin.ext (by show g.val = 0; omega)
    simp only [col x.val (by omega) (by omega) (by show _ = 256 * 0 + x.val; omega)]
    rfl
  by_cases h1 : g.val - 1 < 1
  · rw [dif_neg h0, dif_pos h1]
    obtain rfl : g = 1 := Fin.ext (by show g.val = 1; omega)
    simp only [col (256 + x.val) (by omega) (by omega) (by show _ = 256 * 1 + x.val; omega)]
    rfl
  by_cases h2 : g.val - 1 - 1 < 1
  · rw [dif_neg h0, dif_neg h1, dif_pos h2]
    obtain rfl : g = 2 := Fin.ext (by show g.val = 2; omega)
    simp only [col (512 + x.val) (by omega) (by omega) (by show _ = 256 * 2 + x.val; omega)]
    rfl
  · rw [dif_neg h0, dif_neg h1, dif_neg h2]
    obtain rfl : g = 3 := Fin.ext (by show g.val = 3; omega)
    simp only [col (768 + x.val) (by omega) (by omega) (by show _ = 256 * 3 + x.val; omega)]
    rfl

theorem gated_apply (b : Fin 2) (t : Fin 4096) (o : Fin 2048) :
    (res_main_v131 (F := Ideal) V (ix3 b t o) : EReal) = gatedRow (V (Proc.devRef .tc main_arg0)) (V (Proc.devRef .tc main_arg1)) (V (Proc.devRef .tc main_arg2))
      (poolMix (V (Proc.devRef .tc main_arg3)) (V (Proc.devRef .tc main_arg5)) (V (Proc.devRef .tc main_arg6))) (V (Proc.devRef .tc main_arg4)) (V (Proc.devRef .tc main_arg7)) b t o := by
  unfold res_main_v131 gatedRow poolMix mix gate
  pointwise
  simp only [pooled_apply, zero_sub]
  refine congrArg₂ (· + ·) rfl (congrArg₂ (· + ·) rfl (Finset.sum_congr rfl fun k _ => ?_))
  exact congrArg (fun z : EReal => z * _ * _ * _) (Finset.sum_congr rfl fun x _ => mul_comm (_ : EReal) _)

/-- The rows before the layer norm. -/
abbrev rows (b : Fin 2) (t : Fin 4096) : Fin 2048 → EReal := gatedRow (V (Proc.devRef .tc main_arg0)) (V (Proc.devRef .tc main_arg1)) (V (Proc.devRef .tc main_arg2))
      (poolMix (V (Proc.devRef .tc main_arg3)) (V (Proc.devRef .tc main_arg5)) (V (Proc.devRef .tc main_arg6))) (V (Proc.devRef .tc main_arg4)) (V (Proc.devRef .tc main_arg7)) b t

theorem mean_apply (b : Fin 2) (t : Fin 4096) : (res_main_v135 (F := Ideal) V (ix3 b t (0 : Fin 1)) : EReal) = mean (rows V b t) := by
  unfold res_main_v135 mean
  pointwise
  simp only [gated_apply]

theorem less_mean (b : Fin 2) (t : Fin 4096) (o : Fin 2048) : (res_main_v137 (F := Ideal) V (ix3 b t o) : EReal) = rows V b t o - mean (rows V b t) := by
  unfold res_main_v137
  pointwise
  simp only [gated_apply, mean_apply]

variable (m : (ℓ : Loc nD τ sig) → Buf (Elt Ideal) ℓ) (ρ : Dev nD → PrngReg)

/-- The reference ends with the normed rows. -/
theorem run : θ_run (defs (F := Ideal)) (onTc (τ := τ) (main (F := Ideal))) ⟨m, fun _ => 0, ρ⟩ fun r => ∀ c : Dev nD,
      r.2.mem ((c.tc : Thread nD τ).loc main_v156) = result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun r h c => ⟨?_, (h c).2⟩) (Value.run (F := Ideal) m ρ)
  refine (h c).1.trans ?_
  clear h
  funext i; idx_vars i
  pointwise
  simp only [gated_apply, mean_apply, less_mean]
  rfl

end Cert.ReferenceCombineIdeal.Combine
-- ==== Proof.Combine.Claims.lean ====
/- The prompt group's last call: the kernel and the reference end with equal results. -/
module

public import proofs.«01_k».proof.Proof.Combine.Kernel
public import proofs.«01_k».proof.Proof.Combine.Reference
public import proofs.«01_k».proof.Proof.Gen.KernelCombineIdeal.Value
public import proofs.«01_k».proof.Defs
public import Idealize.ShloMosaic.Lib.Claim

@[expose] public section

noncomputable section

namespace Cert.Combine

open Idealize.ShloMosaic Idealize.ShloMosaic.TcCoe Idealize.SL.Sem

/-- Both runs end with the normed rows. -/
theorem claim : Cert.algebraic_KernelCombineIdeal_ReferenceCombineIdeal := by
  intro m g m' g' hp hm
  refine ⟨fun c => Cert.KernelCombineIdeal.Combine.out m c, ?_, ?_⟩
  · refine (θ_run _ _ _).mono (fun r h c => ?_) (Cert.KernelCombineIdeal.Value.run_blocks (F := Ideal) m g)
    exact ⟨(h c).1.trans (Cert.KernelCombineIdeal.Combine.final m c), (h c).2⟩
  · refine (θ_run _ _ _).mono (fun r h c => ?_) (Cert.ReferenceCombineIdeal.Combine.run m' g')
    obtain ⟨a0, a1, a2, a3, a4, a5, a6, a7, a8, a9⟩ := hm c
    exact ⟨(h c).1.trans (by rw [a0, a1, a2, a3, a4, a5, a6, a7, a8, a9]), (h c).2⟩

end Cert.Combine
-- ==== Proof.ProjectSample.Frames.lean ====
/- The sample group's projection: every run of the kernel and of the reference ends, leaves the arguments alone and no count standing. -/
module

public import proofs.«01_k».proof.Proof.Gen.KernelProjectSample.Frame
public import proofs.«01_k».proof.Proof.Gen.KernelProjectSampleIdeal.Frame
public import proofs.«01_k».proof.Proof.Gen.ReferenceProjectSampleIdeal.Run
public import proofs.«01_k».proof.Defs

@[expose] public section

noncomputable section

namespace Cert.ProjectSample

open Idealize.ShloMosaic Idealize.SL.Sem

theorem frame_kernel : Cert.quiescent_KernelProjectSample := fun m ρ _ => Cert.KernelProjectSample.Gen.frame (F := Bits) m ρ
theorem frame_ideal : Cert.quiescent_KernelProjectSampleIdeal := fun m ρ _ => Cert.KernelProjectSampleIdeal.Gen.frame (F := Ideal) m ρ
theorem frame_reference : Cert.quiescent_ReferenceProjectSampleIdeal := fun m ρ _ =>
  (θ_run Cert.ReferenceProjectSampleIdeal.defs _ _).mono (fun r h => ⟨fun c => (h c).2.2.2.2.2.2.2.2.2.2.2.2.2, sem_eq_zero_of_no_sems (by decide) r.2⟩)
    (Cert.ReferenceProjectSampleIdeal.Value.run (F := Ideal) m ρ)

end Cert.ProjectSample
-- ==== Proof.ProjectSample.Sample.lean ====
/- The thirteen results of the sample group's projections, entry by entry. -/
module

public import proofs.«01_k».proof.Proof.Project.Spec

@[expose] public section

noncomputable section

namespace Cert.Project.Sample

open Idealize.ShloMosaic
open scoped BigOperators

variable (x : (⟨3, ![32, 4, 2048]⟩ : Shape).Idx → EReal) (w : (⟨3, ![1, 2048, 7248]⟩ : Shape).Idx → EReal)

/-- The projection of row `r` (token `r % 4` of sequence `r / 4`) onto input column `c`. -/
def proj (r : Fin 128) (c : Fin 7248) : EReal :=
  ∑ e : Fin 2048, x (ix3 (⟨r.val / 4, by omega⟩ : Fin 32) (⟨r.val % 4, by omega⟩ : Fin 4) e) * w (ix3 (0 : Fin 1) e c)

/-- Column `c` of the turned heads that begin at input column `off`. -/
def head (off : Nat) (hoff : off + 1024 ≤ 7248) (r : Fin 128) (c : Fin 1024) : EReal :=
  turnHead (8192 + r.val % 4) (fun e => proj x w r ⟨off + (c.val / 128 * 128 + e.val), by omega⟩) ⟨c.val % 128, by omega⟩

/-- Coordinate `d` of turned indexer head `h`. -/
def query (r : Fin 128) (h : Fin 16) (d : Fin 64) : EReal :=
  turnIdx (8192 + r.val % 4) (fun e => proj x w r ⟨4096 + (h.val * 64 + e.val), by omega⟩) d

/-- Coordinate `d` of the turned indexer key. -/
def key (r : Fin 128) (d : Fin 64) : EReal :=
  turnIdx (8192 + r.val % 4) (fun e => proj x w r ⟨5120 + e.val, by omega⟩) d

/-- A column of the plain projections that begin at input column `off`. -/
def plain (off : Nat) (hoff : off + 1024 ≤ 7248) (r : Fin 128) (c : Fin 1024) : EReal := proj x w r ⟨off + c.val, by omega⟩

def out0 : (⟨2, ![128, 1024]⟩ : Shape).Idx → EReal := fun i => head x w 0 (by omega) (i 0) (i 1) * Ideal.ofBits .f32 0x3DB504F3#32
def out1 : (⟨2, ![128, 1024]⟩ : Shape).Idx → EReal := fun i => head x w 1024 (by omega) (i 0) (i 1)
def out3 : (⟨2, ![128, 1024]⟩ : Shape).Idx → EReal := fun i => plain x w 2048 (by omega) (i 0) (i 1)
def out5 : (⟨2, ![128, 1024]⟩ : Shape).Idx → EReal := fun i => plain x w 3072 (by omega) (i 0) (i 1)
def out6 : (⟨2, ![128, 1024]⟩ : Shape).Idx → EReal := fun i =>
  query x w (i 0) ⟨(i 1).val / 64, by have h1 : (i 1).val < 1024 := (i 1).isLt; omega⟩ ⟨(i 1).val % 64, by omega⟩
def out7 : (⟨2, ![128, 64]⟩ : Shape).Idx → EReal := fun i => key x w (i 0) (i 1)
def out9 : (⟨3, ![1, 64, 128]⟩ : Shape).Idx → EReal := fun i => key x w (i 2) (i 1)
def out10 : (⟨2, ![16, 128]⟩ : Shape).Idx → EReal := fun i =>
  proj x w (i 1) ⟨5184 + (i 0).val, by have h0 : (i 0).val < 16 := (i 0).isLt; omega⟩ * Ideal.ofBits .f32 0x3D000000#32
def out11 : (⟨2, ![128, 1024]⟩ : Shape).Idx → EReal := fun i => plain x w 5200 (by omega) (i 0) (i 1)
def out12 : (⟨2, ![128, 1024]⟩ : Shape).Idx → EReal := fun i => plain x w 6224 (by omega) (i 0) (i 1)

end Cert.Project.Sample
-- ==== Proof.ProjectSample.Block.lean ====
/- The one grid point of the sample group's projection, when its input blocks are the rows, the weights and the rotary tables. -/
module

public import proofs.«01_k».proof.Proof.Gen.KernelProjectSampleIdeal.Frame
public import proofs.«01_k».proof.Proof.ProjectSample.Sample
public import Idealize.ShloMosaic.Lib.Pipeline.ValueKit

@[expose] public section

set_option maxRecDepth 100000

noncomputable section

namespace Cert.KernelProjectSampleIdeal.Project

open Cert.KernelProjectSampleIdeal Cert.KernelProjectSampleIdeal.Gen Idealize.ShloMosaic Idealize.ShloMosaic.TcCoe Idealize.SL.Sem
open Cert.Project Cert.Project.Sample
open scoped BigOperators

variable (x0 : Vec Ideal S128x2048 .f32) (x1 : Vec Ideal S7248x2048 .bf16) (x2 x3 : Vec Ideal S3x128x128 .f32) (x4 : Vec Ideal S2x8x128 .f32)

/-- The product of row `r` of the block with weight row `c`. -/
abbrev dot (r : Fin 128) (c : Fin 7248) : EReal := ∑ e : Fin 2048, (x0 (ix2 r e) : EReal) * x1 (ix2 c e)

/-- The three tables of a turn: `half` lanes of cosines twice over then ones, minus the sines, the sines, every `n` lanes. -/
def Table (T : Vec Ideal S3x128x128 .f32) (half n : Nat) (C S : Fin 128 → Nat → EReal) : Prop :=
  ∀ (r : Fin 128) (l : Fin 128),
    (T (ix3 (0 : Fin 3) r l) : EReal) = (if l.val % n < half then C r (l.val % n) else if l.val % n < 2 * half then C r (l.val % n - half) else 1)
    ∧ (T (ix3 (1 : Fin 3) r l) : EReal) = (if l.val % n < half then -S r (l.val % n) else 0)
    ∧ (T (ix3 (2 : Fin 3) r l) : EReal) = (if ¬ l.val % n < half ∧ l.val % n < 2 * half then S r (l.val % n - half) else 0)

variable (X : (⟨3, ![32, 4, 2048]⟩ : Shape).Idx → EReal) (W : (⟨3, ![1, 2048, 7248]⟩ : Shape).Idx → EReal)

/-- What the blocks hold. -/
structure Holds : Prop where
  rows : ∀ r c, dot x0 x1 r c = proj X W r c
  head : Table x2 16 128 (fun r j => cosA 0x3D800000#32 (BitVec.ofNat 32 (8192 + r.val % 4)) (BitVec.ofNat 32 j))
    (fun r j => sinA 0x3D800000#32 (BitVec.ofNat 32 (8192 + r.val % 4)) (BitVec.ofNat 32 j))
  idx : Table x3 8 64 (fun r j => cosA 0x3E000000#32 (BitVec.ofNat 32 (8192 + r.val % 4)) (BitVec.ofNat 32 j))
    (fun r j => sinA 0x3E000000#32 (BitVec.ofNat 32 (8192 + r.val % 4)) (BitVec.ofNat 32 j))
  cosT : ∀ (j : Fin 8) r, (x4 (ix3 (0 : Fin 2) j r) : EReal) = cosA 0x3E000000#32 (BitVec.ofNat 32 (8192 + r.val % 4)) (BitVec.ofNat 32 j.val)
  sinT : ∀ (j : Fin 8) r, (x4 (ix3 (1 : Fin 2) j r) : EReal) = sinA 0x3E000000#32 (BitVec.ofNat 32 (8192 + r.val % 4)) (BitVec.ofNat 32 j.val)

variable {x0 x1 x2 x3 x4 X W} (H : Holds x0 x1 x2 x3 x4 X W)
include H

/-- A plain column. -/
theorem lane_plain (off : Nat) (hoff : off + 1024 ≤ 7248) (r r' : Fin 128) (hr : r'.val = r.val) (c : Fin 1024) (c0 : Fin 7248) (h0 : c0.val = off + c.val) :
    dot x0 x1 r c0 = plain X W off hoff r' c := by
  obtain rfl : r' = r := Fin.ext hr
  rw [H.rows]
  exact congrArg (proj X W r') (Fin.ext h0)

/-- A lane of a turned head. -/
theorem lane_head (off : Nat) (hoff : off + 1024 ≤ 7248) (r r' : Fin 128) (hr : r'.val = r.val) (c : Fin 1024) (l : Fin 128) (hl : l.val = c.val % 128)
    (c0 c1 c2 : Fin 7248) (h0 : c0.val = off + c.val) (h1 : l.val < 16 → c1.val = off + c.val + 16) (h2 : ¬ l.val < 16 → l.val < 32 → c2.val + 16 = off + c.val) :
    dot x0 x1 r c0 * (x2 (ix3 (0 : Fin 3) r l) : EReal) + dot x0 x1 r c1 * x2 (ix3 (1 : Fin 3) r l) + dot x0 x1 r c2 * x2 (ix3 (2 : Fin 3) r l)
      = head X W off hoff r' c := by
  obtain rfl : r' = r := Fin.ext hr
  obtain ⟨t0, t1, t2⟩ := H.head r' l
  have e : l.val % 128 = l.val := by omega
  rw [e] at t0 t1 t2
  have el : (⟨c.val % 128, by omega⟩ : Fin 128) = l := Fin.ext hl.symm
  unfold head turnHead
  rw [el]
  refine lane_eq 16 (by omega) _ _ _ _ _ _ _ _ _ _ ?_ ?_ ?_ t0 t1 t2
  · rw [H.rows]
    exact congrArg (proj X W r') (Fin.ext (by simp only; omega))
  · intro h
    have h1' := h1 h
    rw [H.rows]
    exact congrArg (proj X W r') (Fin.ext (by simp only at *; omega))
  · intro h h'
    have h2' := h2 h h'
    rw [H.rows]
    exact congrArg (proj X W r') (Fin.ext (by simp only at *; omega))

/-- A lane of the indexer's turn of the 64 columns from `b`. -/
theorem lane_idx (b : Nat) (hb : b + 64 ≤ 7248) (r r' : Fin 128) (hr : r'.val = r.val) (d : Fin 64) (l : Fin 128) (hl : l.val % 64 = d.val)
    (x fwd bwd : EReal) (h0 : x = dot x0 x1 r ⟨b + d.val, by omega⟩) (h1 : ∀ h : d.val < 8, fwd = dot x0 x1 r ⟨b + (d.val + 8), by omega⟩)
    (h2 : ¬ d.val < 8 → d.val < 16 → bwd = dot x0 x1 r ⟨b + (d.val - 8), by omega⟩) :
    x * (x3 (ix3 (0 : Fin 3) r l) : EReal) + fwd * x3 (ix3 (1 : Fin 3) r l) + bwd * x3 (ix3 (2 : Fin 3) r l)
      = turnIdx (8192 + r'.val % 4) (fun e => proj X W r' ⟨b + e.val, by omega⟩) d := by
  obtain rfl : r' = r := Fin.ext hr
  obtain ⟨t0, t1, t2⟩ := H.idx r' l
  rw [hl] at t0 t1 t2
  unfold turnIdx
  refine lane_eq 8 (by omega) _ _ _ _ _ _ _ _ _ _ ?_ ?_ ?_ t0 t1 t2
  · rw [h0, H.rows]
  · intro h
    rw [h1 h, H.rows]
  · intro h h'
    rw [h2 h h', H.rows]

/-- The same product with its factors the other way round. -/
theorem swap (q : Fin 7248) (r : Fin 128) : ∑ e : Fin 2048, (x1 (ix2 q e) : EReal) * x0 (ix2 r e) = proj X W r q :=
  (Finset.sum_congr rfl fun e _ => mul_comm _ _).trans (H.rows r q)

/-- An entry of the key's turn put together from three pieces. -/
theorem lane_cat (d : Fin 64) (r : Fin 128) :
    (if h : d.val < 8 then (∑ e : Fin 2048, (x1 (ix2 (⟨5120 + d.val, by omega⟩ : Fin 7248) e) : EReal) * x0 (ix2 r e)) * x4 (ix3 (0 : Fin 2) (⟨d.val, h⟩ : Fin 8) r)
        - (∑ e : Fin 2048, (x1 (ix2 (⟨5120 + (8 + d.val), by omega⟩ : Fin 7248) e) : EReal) * x0 (ix2 r e)) * x4 (ix3 (1 : Fin 2) (⟨d.val, h⟩ : Fin 8) r)
      else if h2 : d.val - 8 < 8 then (∑ e : Fin 2048, (x1 (ix2 (⟨5120 + (d.val - 8), by omega⟩ : Fin 7248) e) : EReal) * x0 (ix2 r e)) * x4 (ix3 (1 : Fin 2) (⟨d.val - 8, h2⟩ : Fin 8) r)
        + (∑ e : Fin 2048, (x1 (ix2 (⟨5120 + (8 + (d.val - 8)), by omega⟩ : Fin 7248) e) : EReal) * x0 (ix2 r e)) * x4 (ix3 (0 : Fin 2) (⟨d.val - 8, h2⟩ : Fin 8) r)
      else ∑ e : Fin 2048, (x1 (ix2 (⟨5120 + (16 + (d.val - 8 - 8)), by omega⟩ : Fin 7248) e) : EReal) * x0 (ix2 r e)) = key X W r d := by
  simp only [swap H, H.cosT, H.sinT]
  exact cat_eq (n := 64) 8 (by omega) (fun j => cosA 0x3E000000#32 (BitVec.ofNat 32 (8192 + r.val % 4)) (BitVec.ofNat 32 j))
    (fun j => sinA 0x3E000000#32 (BitVec.ofNat 32 (8192 + r.val % 4)) (BitVec.ofNat 32 j))
    (fun e => proj X W r ⟨5120 + e.val, by omega⟩) d

set_option maxHeartbeats 1600000 in
/-- Turned and scaled query heads. -/
theorem p5 (y : S128x1024.Idx) : out0_5 (F := Ideal) x0 x1 x2 x3 x4 y = head X W 0 (by omega) (y 0) (y 1) * Ideal.ofBits .f32 0x3DB504F3#32 := by
  canon_tiles x hx
  all_goals (open_payloads; pointwise)
  all_goals
    refine congrArg (· * Ideal.ofBits .f32 0x3DB504F3#32) (lane_head H 0 (by omega) _ _ (by omega) _ _ ?_ _ _ _ ?_ ?_ ?_)
    · omega
    · simp only; omega
    · intro h; simp only; omega
    · intro h h'; simp only; omega

set_option maxHeartbeats 1600000 in
/-- Turned key heads. -/
theorem p6 (y : S128x1024.Idx) : out0_6 (F := Ideal) x0 x1 x2 x3 x4 y = head X W 1024 (by omega) (y 0) (y 1) := by
  canon_tiles x hx
  all_goals (open_payloads; pointwise)
  all_goals
    refine (lane_head H 1024 (by omega) _ _ (by omega) _ _ ?_ _ _ _ ?_ ?_ ?_)
    · omega
    · simp only; omega
    · intro h; simp only; omega
    · intro h h'; simp only; omega

set_option maxHeartbeats 1600000 in
/-- Turned key heads. -/
theorem p7 (y : S128x1024.Idx) : out0_7 (F := Ideal) x0 x1 x2 x3 x4 y = head X W 1024 (by omega) (y 0) (y 1) := by
  canon_tiles x hx
  all_goals (open_payloads; pointwise)
  all_goals
    refine (lane_head H 1024 (by omega) _ _ (by omega) _ _ ?_ _ _ _ ?_ ?_ ?_)
    · omega
    · simp only; omega
    · intro h; simp only; omega
    · intro h h'; simp only; omega

set_option maxHeartbeats 1600000 in
/-- Plain columns. -/
theorem p8 (y : S128x1024.Idx) : out0_8 (F := Ideal) x0 x1 x2 x3 x4 y = plain X W 2048 (by omega) (y 0) (y 1) := by
  canon_tiles x hx
  all_goals (open_payloads; pointwise)
  exact lane_plain H 2048 (by omega) _ _ (by omega) _ _ (by simp only; omega)

set_option maxHeartbeats 1600000 in
/-- Plain columns. -/
theorem p10 (y : S128x1024.Idx) : out0_10 (F := Ideal) x0 x1 x2 x3 x4 y = plain X W 3072 (by omega) (y 0) (y 1) := by
  canon_tiles x hx
  all_goals (open_payloads; pointwise)
  exact lane_plain H 3072 (by omega) _ _ (by omega) _ _ (by simp only; omega)

set_option maxHeartbeats 1600000 in
/-- Plain columns. -/
theorem p16 (y : S128x1024.Idx) : out0_16 (F := Ideal) x0 x1 x2 x3 x4 y = plain X W 5200 (by omega) (y 0) (y 1) := by
  canon_tiles x hx
  all_goals (open_payloads; pointwise)
  exact lane_plain H 5200 (by omega) _ _ (by omega) _ _ (by simp only; omega)

set_option maxHeartbeats 1600000 in
/-- Plain columns. -/
theorem p17 (y : S128x1024.Idx) : out0_17 (F := Ideal) x0 x1 x2 x3 x4 y = plain X W 6224 (by omega) (y 0) (y 1) := by
  canon_tiles x hx
  all_goals (open_payloads; pointwise)
  exact lane_plain H 6224 (by omega) _ _ (by omega) _ _ (by simp only; omega)

set_option maxHeartbeats 1600000 in
/-- Plain columns. -/
theorem p9 (y : S128x1024.Idx) : out0_9 (F := Ideal) x0 x1 x2 x3 x4 y = plain X W 2048 (by omega) (y 0) (y 1) := by
  canon_tiles x hx
  all_goals (open_payloads; pointwise)
  exact lane_plain H 2048 (by omega) _ _ (by omega) _ _ (by simp only; omega)

set_option maxHeartbeats 1600000 in
/-- The weights of the indexer heads. -/
theorem p15 (y : S16x128.Idx) : out0_15 (F := Ideal) x0 x1 x2 x3 x4 y = proj X W (y 1) ⟨5184 + (y 0).val, by have : (y 0).val < 16 := (y 0).isLt; omega⟩ * Ideal.ofBits .f32 0x3D000000#32 := by
  canon_tiles x hx
  all_goals (open_payloads; pointwise)
  refine congrArg (· * Ideal.ofBits .f32 0x3D000000#32) ?_
  have e1 : x 1 = y 1 := Fin.ext hx1.symm
  exact (swap H _ (x 1)).trans (congrArg₂ (proj X W) (e1) (Fin.ext (by simp only; omega)))

set_option maxHeartbeats 1600000 in
/-- Turned indexer heads. -/
theorem p11 (y : S128x1024.Idx) : out0_11 (F := Ideal) x0 x1 x2 x3 x4 y
    = query X W (y 0) ⟨(y 1).val / 64, by have h1 : (y 1).val < 1024 := (y 1).isLt; omega⟩ ⟨(y 1).val % 64, by omega⟩ := by
  have hy : (y 1).val < 1024 := (y 1).isLt
  canon_tiles x hx
  all_goals (open_payloads; pointwise)
  all_goals
    refine lane_idx H (4096 + (y 1).val / 64 * 64) (by omega) _ (y 0) (by omega) ⟨(y 1).val % 64, by omega⟩ _ ?_ _ _ _ ?_ ?_ ?_ |>.trans ?_
    · simp only; omega
    · refine congrArg (dot x0 x1 _) (Fin.ext ?_)
      simp only; omega
    · intro h
      have h : (y 1).val % 64 < 8 := h
      refine congrArg (dot x0 x1 _) (Fin.ext ?_)
      simp only; omega
    · intro h h'
      have h : ¬ (y 1).val % 64 < 8 := h
      have h' : (y 1).val % 64 < 16 := h'
      refine congrArg (dot x0 x1 _) (Fin.ext ?_)
      simp only; omega
    · unfold query
      refine congrArg (fun z => turnIdx _ z _) (funext fun e => congrArg (proj X W _) (Fin.ext ?_))
      simp only; omega

set_option maxHeartbeats 1600000 in
/-- The turned indexer key. -/
theorem p12 (y : S128x64.Idx) : out0_12 (F := Ideal) x0 x1 x2 x3 x4 y = key X W (y 0) (y 1) := by
  canon_tiles x hx
  all_goals (open_payloads; pointwise)
  refine lane_idx H 5120 (by omega) _ (y 0) (by omega) (y 1) _ ?_ _ _ _ ?_ ?_ ?_
  · simp only; omega
  · refine congrArg (dot x0 x1 _) (Fin.ext ?_)
    simp only; omega
  · intro h
    rw [dif_pos (by omega)]
    refine congrArg (dot x0 x1 _) (Fin.ext ?_)
    simp only; omega
  · intro h h'
    rw [dif_pos (by omega)]
    refine congrArg (dot x0 x1 _) (Fin.ext ?_)
    simp only; omega

set_option maxHeartbeats 1600000 in
/-- The turned indexer key. -/
theorem p13 (y : S128x64.Idx) : out0_13 (F := Ideal) x0 x1 x2 x3 x4 y = key X W (y 0) (y 1) := by
  canon_tiles x hx
  all_goals (open_payloads; pointwise)
  refine lane_idx H 5120 (by omega) _ (y 0) (by omega) (y 1) _ ?_ _ _ _ ?_ ?_ ?_
  · simp only; omega
  · refine congrArg (dot x0 x1 _) (Fin.ext ?_)
    simp only; omega
  · intro h
    rw [dif_pos (by omega)]
    refine congrArg (dot x0 x1 _) (Fin.ext ?_)
    simp only; omega
  · intro h h'
    rw [dif_pos (by omega)]
    refine congrArg (dot x0 x1 _) (Fin.ext ?_)
    simp only; omega

set_option maxHeartbeats 1600000 in
/-- The turned indexer key, turned on its side. -/
theorem p14 (y : S1x64x128.Idx) : out0_14 (F := Ideal) x0 x1 x2 x3 x4 y = key X W (y 2) (y 1) := by
  canon_tiles x hx
  all_goals (open_payloads; pointwise)
  have e1 : x 1 = y 1 := Fin.ext hx1.symm
  have e2 : x 2 = y 2 := Fin.ext hx2.symm
  exact (lane_cat H (x 1) (x 2)).trans (congrArg₂ (fun r d => key X W r d) (e2) e1)

end Cert.KernelProjectSampleIdeal.Project
-- ==== Proof.ProjectSample.Tables.lean ====
/- The rotary tables the sample group's projection is given, entry by entry. -/
module

public import proofs.«01_k».proof.Proof.ProjectSample.Block

@[expose] public section

set_option maxRecDepth 100000
set_option maxHeartbeats 2000000

noncomputable section

namespace Cert.KernelProjectSampleIdeal.Project

open Cert.KernelProjectSampleIdeal Cert.KernelProjectSampleIdeal.Gen Idealize.ShloMosaic Idealize.ShloMosaic.TcCoe Idealize.SL.Sem
open Cert.Project Cert.Project.Sample
open scoped BigOperators

/-- Operations one after the other. -/
theorem after_app {τ : Topo} {sig : RefSig} {Val : EltTy → Type} (l₁ l₂ : List (HloOp τ sig Val)) (s : (b : DevRef τ sig) → b.ty.Contents Val) :
    StableHlo.after (l₁ ++ l₂) s = StableHlo.after l₂ (StableHlo.after l₁ s) := by
  induction l₁ generalizing s with
  | nil => rfl
  | cons op l ih => exact ih _

/-! ## The lanes' words -/

theorem h_low : ∀ d : Fin 128, IntOp.cmpi .slt (BitVec.ofNat 32 (d.val % 128)) 16#32 = if d.val % 128 < 16 then 1#1 else 0#1 := by decide
theorem h_high : ∀ d : Fin 128, IntOp.andi (IntOp.cmpi .sge (BitVec.ofNat 32 (d.val % 128)) 16#32) (IntOp.cmpi .slt (BitVec.ofNat 32 (d.val % 128)) 32#32)
    = if ¬ d.val % 128 < 16 ∧ d.val % 128 < 2 * 16 then 1#1 else 0#1 := by decide
theorem h_turned : ∀ d : Fin 128, IntOp.ori (IntOp.cmpi .slt (BitVec.ofNat 32 (d.val % 128)) 16#32)
    (IntOp.andi (IntOp.cmpi .sge (BitVec.ofNat 32 (d.val % 128)) 16#32) (IntOp.cmpi .slt (BitVec.ofNat 32 (d.val % 128)) 32#32))
    = if d.val % 128 < 2 * 16 then 1#1 else 0#1 := by decide

theorem i_low : ∀ d : Fin 128, IntOp.cmpi .slt (BitVec.ofNat 32 (d.val % 64)) 8#32 = if d.val % 64 < 8 then 1#1 else 0#1 := by decide
theorem i_high : ∀ d : Fin 128, IntOp.andi (IntOp.cmpi .sge (BitVec.ofNat 32 (d.val % 64)) 8#32) (IntOp.cmpi .slt (BitVec.ofNat 32 (d.val % 64)) 16#32)
    = if ¬ d.val % 64 < 8 ∧ d.val % 64 < 2 * 8 then 1#1 else 0#1 := by decide
theorem i_turned : ∀ d : Fin 128, IntOp.ori (IntOp.cmpi .slt (BitVec.ofNat 32 (d.val % 64)) 8#32)
    (IntOp.andi (IntOp.cmpi .sge (BitVec.ofNat 32 (d.val % 64)) 8#32) (IntOp.cmpi .slt (BitVec.ofNat 32 (d.val % 64)) 16#32))
    = if d.val % 64 < 2 * 8 then 1#1 else 0#1 := by decide

variable (s : (b : DevRef τ sig) → b.ty.Contents (Elt Ideal))

/-- A position's word. -/
theorem word : ∀ t : Fin 4, IntOp.addi 8192#32 (BitVec.ofNat 32 t.val) = BitVec.ofNat 32 (8192 + t.val) := by decide

/-- Positions. -/
theorem pos (p : Fin 128) : (StableHlo.after (hostOps0 ++ hostOps0_1) s (Proc.tc.devRef main_v9) (ix1 p)) = BitVec.ofNat 32 (8192 + p.val % 4) := by
  simp only [List.cons_append, List.nil_append, hostOps0, hostOps0_1]
  entry_read
  try simp -implicitDefEqProofs only [StableHlo.TRef.toBuf, StableHlo.TRef.ofBuf, cast_cast, cast_eq]
  pointwise
  exact word ⟨p.val % 4, by omega⟩

/-- Lanes of a head. -/
theorem lane6 (d : Fin 128) : (StableHlo.after (hostOps0 ++ hostOps0_1) s (Proc.tc.devRef main_v11) (ix1 d)) = BitVec.ofNat 32 (d.val % 128) := by
  simp only [List.cons_append, List.nil_append, hostOps0, hostOps0_1]
  entry_read
  try simp -implicitDefEqProofs only [StableHlo.TRef.toBuf, StableHlo.TRef.ofBuf, cast_cast, cast_eq]
  pointwise
  revert d
  decide

/-- Frequencies of a head. -/
theorem lane7 (h : ∀ d : Fin 128, s (Proc.tc.devRef main_v11) (ix1 d) = BitVec.ofNat 32 (d.val % 128)) (d : Fin 128) : (StableHlo.after (hostOps0_2 ++ hostOps0_3) s (Proc.tc.devRef main_v12) (ix1 d)) = BitVec.ofNat 32 (d.val % 128 % 16) := by
  simp only [List.cons_append, List.nil_append, hostOps0_2, hostOps0_3]
  entry_read
  try simp -implicitDefEqProofs only [StableHlo.TRef.toBuf, StableHlo.TRef.ofBuf, cast_cast, cast_eq]
  pointwise
  rw [h]
  revert d
  decide

/-- Lanes of an indexer head. -/
theorem lane41 (d : Fin 128) : (StableHlo.after ((hostOps0_10.drop 4) ++ hostOps0_11) s (Proc.tc.devRef main_v46) (ix1 d)) = BitVec.ofNat 32 (d.val % 64) := by
  simp only [List.cons_append, List.nil_append, hostOps0_10, List.drop_succ_cons, List.drop_zero, hostOps0_11]
  entry_read
  try simp -implicitDefEqProofs only [StableHlo.TRef.toBuf, StableHlo.TRef.ofBuf, cast_cast, cast_eq]
  pointwise
  revert d
  decide

/-- Frequencies of an indexer head. -/
theorem lane42 (h : ∀ d : Fin 128, s (Proc.tc.devRef main_v46) (ix1 d) = BitVec.ofNat 32 (d.val % 64)) (d : Fin 128) : (StableHlo.after (hostOps0_12 ++ hostOps0_13) s (Proc.tc.devRef main_v47) (ix1 d)) = BitVec.ofNat 32 (d.val % 64 % 8) := by
  simp only [List.cons_append, List.nil_append, hostOps0_12, hostOps0_13]
  entry_read
  try simp -implicitDefEqProofs only [StableHlo.TRef.toBuf, StableHlo.TRef.ofBuf, cast_cast, cast_eq]
  pointwise
  rw [h]
  revert d
  decide

theorem keep4a : StableHlo.after (hostOps0_2 ++ hostOps0_3 : List (HloOp τ sig (Elt Ideal))) s (Proc.tc.devRef main_v9) = s (Proc.tc.devRef main_v9) := by
  simp only [List.cons_append, List.nil_append, hostOps0_2, hostOps0_3]
  entry_read
  rfl
theorem keep6 : StableHlo.after (hostOps0_2 ++ hostOps0_3 : List (HloOp τ sig (Elt Ideal))) s (Proc.tc.devRef main_v11) = s (Proc.tc.devRef main_v11) := by
  simp only [List.cons_append, List.nil_append, hostOps0_2, hostOps0_3]
  entry_read
  rfl
theorem keep4b : StableHlo.after (hostOps0_4 ++ hostOps0_5 ++ hostOps0_6 ++ hostOps0_7 ++ hostOps0_8 ++ hostOps0_9 : List (HloOp τ sig (Elt Ideal))) s (Proc.tc.devRef main_v9) = s (Proc.tc.devRef main_v9) := by
  simp only [List.cons_append, List.nil_append, hostOps0_4, hostOps0_5, hostOps0_6, hostOps0_7, hostOps0_8, hostOps0_9]
  entry_read
  rfl
theorem keep4c : StableHlo.after ((hostOps0_10 : List (HloOp τ sig (Elt Ideal))).take 4) s (Proc.tc.devRef main_v9) = s (Proc.tc.devRef main_v9) := by
  refine StableHlo.after_of_forall_not_mem _ _ ?_
  decide
theorem keep4d : StableHlo.after ((hostOps0_10.drop 4) ++ hostOps0_11 : List (HloOp τ sig (Elt Ideal))) s (Proc.tc.devRef main_v9) = s (Proc.tc.devRef main_v9) := by
  simp only [List.cons_append, List.nil_append, hostOps0_10, List.drop_succ_cons, List.drop_zero, hostOps0_11]
  entry_read
  rfl
theorem keep4e : StableHlo.after (hostOps0_12 ++ hostOps0_13 : List (HloOp τ sig (Elt Ideal))) s (Proc.tc.devRef main_v9) = s (Proc.tc.devRef main_v9) := by
  simp only [List.cons_append, List.nil_append, hostOps0_12, hostOps0_13]
  entry_read
  rfl
theorem keep41 : StableHlo.after (hostOps0_12 ++ hostOps0_13 : List (HloOp τ sig (Elt Ideal))) s (Proc.tc.devRef main_v46) = s (Proc.tc.devRef main_v46) := by
  simp only [List.cons_append, List.nil_append, hostOps0_12, hostOps0_13]
  entry_read
  rfl
theorem keep39a : StableHlo.after ((hostOps0_10.drop 4) ++ hostOps0_11 ++ hostOps0_12 ++ hostOps0_13 ++ hostOps0_14 ++ hostOps0_15 ++ hostOps0_16 ++ hostOps0_17 ++ hostOps0_18 ++ hostOps0_19 : List (HloOp τ sig (Elt Ideal))) s (Proc.tc.devRef main_v44) = s (Proc.tc.devRef main_v44) := by
  simp only [List.cons_append, List.nil_append, hostOps0_10, List.drop_succ_cons, List.drop_zero, hostOps0_11, hostOps0_12, hostOps0_13, hostOps0_14, hostOps0_15, hostOps0_16, hostOps0_17, hostOps0_18, hostOps0_19]
  entry_read
  rfl
theorem keep74 : StableHlo.after ((hostOps0_20.drop 4) : List (HloOp τ sig (Elt Ideal))) s (Proc.tc.devRef main_v79) = s (Proc.tc.devRef main_v79) := by
  simp only [List.cons_append, List.nil_append, hostOps0_20, List.drop_succ_cons, List.drop_zero]
  entry_read
  rfl
theorem keep4f : StableHlo.after (hostOps0_14 ++ hostOps0_15 ++ hostOps0_16 ++ hostOps0_17 ++ hostOps0_18 ++ hostOps0_19 : List (HloOp τ sig (Elt Ideal))) s (Proc.tc.devRef main_v9) = s (Proc.tc.devRef main_v9) := by
  simp only [List.cons_append, List.nil_append, hostOps0_14, hostOps0_15, hostOps0_16, hostOps0_17, hostOps0_18, hostOps0_19]
  entry_read
  rfl
/-- The cosines. -/
theorem h_cos (h4 : ∀ p : Fin 128, s (Proc.tc.devRef main_v9) (ix1 p) = BitVec.ofNat 32 (8192 + p.val % 4))
    (hl : ∀ d : Fin 128, s (Proc.tc.devRef main_v11) (ix1 d) = BitVec.ofNat 32 (d.val % 128))
    (hf : ∀ d : Fin 128, s (Proc.tc.devRef main_v12) (ix1 d) = BitVec.ofNat 32 (d.val % 128 % 16))
    (p : Fin 128) (d : Fin 128) : (StableHlo.after (hostOps0_4 ++ hostOps0_5 ++ hostOps0_6 ++ hostOps0_7 ++ hostOps0_8 ++ hostOps0_9) s (Proc.tc.devRef main_v37) (ix2 p d) : EReal) = (if d.val % 128 < 16 then cosA 0x3D800000#32 (BitVec.ofNat 32 (8192 + p.val % 4)) (BitVec.ofNat 32 (d.val % 128)) else if d.val % 128 < 2 * 16 then cosA 0x3D800000#32 (BitVec.ofNat 32 (8192 + p.val % 4)) (BitVec.ofNat 32 (d.val % 128 - 16)) else 1 : EReal) := by
  simp only [List.cons_append, List.nil_append, hostOps0_4, hostOps0_5, hostOps0_6, hostOps0_7, hostOps0_8, hostOps0_9]
  entry_read
  try simp -implicitDefEqProofs only [StableHlo.TRef.toBuf, StableHlo.TRef.ofBuf, cast_cast, cast_eq]
  pointwise
  rw [h4, hl, hf, h_turned]
  by_cases q : d.val % 128 < 16
  · rw [if_pos (by omega), if_pos q, show d.val % 128 % 16 = d.val % 128 by omega]
    rfl
  · by_cases q' : d.val % 128 < 2 * 16
    · rw [if_pos q', if_neg q, if_pos q', show d.val % 128 % 16 = d.val % 128 - 16 by omega]
      rfl
    · rw [if_neg q', if_neg q, if_neg q']
      rfl

/-- Minus the sines. -/
theorem h_neg (h4 : ∀ p : Fin 128, s (Proc.tc.devRef main_v9) (ix1 p) = BitVec.ofNat 32 (8192 + p.val % 4))
    (hl : ∀ d : Fin 128, s (Proc.tc.devRef main_v11) (ix1 d) = BitVec.ofNat 32 (d.val % 128))
    (hf : ∀ d : Fin 128, s (Proc.tc.devRef main_v12) (ix1 d) = BitVec.ofNat 32 (d.val % 128 % 16))
    (p : Fin 128) (d : Fin 128) : (StableHlo.after (hostOps0_4 ++ hostOps0_5 ++ hostOps0_6 ++ hostOps0_7 ++ hostOps0_8 ++ hostOps0_9) s (Proc.tc.devRef main_v39) (ix2 p d) : EReal) = (if d.val % 128 < 16 then -sinA 0x3D800000#32 (BitVec.ofNat 32 (8192 + p.val % 4)) (BitVec.ofNat 32 (d.val % 128)) else 0 : EReal) := by
  simp only [List.cons_append, List.nil_append, hostOps0_4, hostOps0_5, hostOps0_6, hostOps0_7, hostOps0_8, hostOps0_9]
  entry_read
  try simp -implicitDefEqProofs only [StableHlo.TRef.toBuf, StableHlo.TRef.ofBuf, cast_cast, cast_eq]
  pointwise
  rw [h4, hl, hf, h_low]
  by_cases q : d.val % 128 < 16
  · rw [if_pos q, if_pos q, show d.val % 128 % 16 = d.val % 128 by omega]
    rfl
  · rw [if_neg q, if_neg q]
    rfl

/-- The sines. -/
theorem h_sin (h4 : ∀ p : Fin 128, s (Proc.tc.devRef main_v9) (ix1 p) = BitVec.ofNat 32 (8192 + p.val % 4))
    (hl : ∀ d : Fin 128, s (Proc.tc.devRef main_v11) (ix1 d) = BitVec.ofNat 32 (d.val % 128))
    (hf : ∀ d : Fin 128, s (Proc.tc.devRef main_v12) (ix1 d) = BitVec.ofNat 32 (d.val % 128 % 16))
    (p : Fin 128) (d : Fin 128) : (StableHlo.after (hostOps0_4 ++ hostOps0_5 ++ hostOps0_6 ++ hostOps0_7 ++ hostOps0_8 ++ hostOps0_9) s (Proc.tc.devRef main_v40) (ix2 p d) : EReal) = (if ¬ d.val % 128 < 16 ∧ d.val % 128 < 2 * 16 then sinA 0x3D800000#32 (BitVec.ofNat 32 (8192 + p.val % 4)) (BitVec.ofNat 32 (d.val % 128 - 16)) else 0 : EReal) := by
  simp only [List.cons_append, List.nil_append, hostOps0_4, hostOps0_5, hostOps0_6, hostOps0_7, hostOps0_8, hostOps0_9]
  entry_read
  try simp -implicitDefEqProofs only [StableHlo.TRef.toBuf, StableHlo.TRef.ofBuf, cast_cast, cast_eq]
  pointwise
  rw [h4, hl, hf, h_high]
  by_cases q : ¬ d.val % 128 < 16 ∧ d.val % 128 < 2 * 16
  · rw [if_pos q, if_pos q, show d.val % 128 % 16 = d.val % 128 - 16 by omega]
    rfl
  · rw [if_neg q, if_neg q]
    rfl

/-- The cosines. -/
theorem i_cos (h4 : ∀ p : Fin 128, s (Proc.tc.devRef main_v9) (ix1 p) = BitVec.ofNat 32 (8192 + p.val % 4))
    (hl : ∀ d : Fin 128, s (Proc.tc.devRef main_v46) (ix1 d) = BitVec.ofNat 32 (d.val % 64))
    (hf : ∀ d : Fin 128, s (Proc.tc.devRef main_v47) (ix1 d) = BitVec.ofNat 32 (d.val % 64 % 8))
    (p : Fin 128) (d : Fin 128) : (StableHlo.after (hostOps0_14 ++ hostOps0_15 ++ hostOps0_16 ++ hostOps0_17 ++ hostOps0_18 ++ hostOps0_19) s (Proc.tc.devRef main_v72) (ix2 p d) : EReal) = (if d.val % 64 < 8 then cosA 0x3E000000#32 (BitVec.ofNat 32 (8192 + p.val % 4)) (BitVec.ofNat 32 (d.val % 64)) else if d.val % 64 < 2 * 8 then cosA 0x3E000000#32 (BitVec.ofNat 32 (8192 + p.val % 4)) (BitVec.ofNat 32 (d.val % 64 - 8)) else 1 : EReal) := by
  simp only [List.cons_append, List.nil_append, hostOps0_14, hostOps0_15, hostOps0_16, hostOps0_17, hostOps0_18, hostOps0_19]
  entry_read
  try simp -implicitDefEqProofs only [StableHlo.TRef.toBuf, StableHlo.TRef.ofBuf, cast_cast, cast_eq]
  pointwise
  rw [h4, hl, hf, i_turned]
  by_cases q : d.val % 64 < 8
  · rw [if_pos (by omega), if_pos q, show d.val % 64 % 8 = d.val % 64 by omega]
    rfl
  · by_cases q' : d.val % 64 < 2 * 8
    · rw [if_pos q', if_neg q, if_pos q', show d.val % 64 % 8 = d.val % 64 - 8 by omega]
      rfl
    · rw [if_neg q', if_neg q, if_neg q']
      rfl

/-- Minus the sines. -/
theorem i_neg (h4 : ∀ p : Fin 128, s (Proc.tc.devRef main_v9) (ix1 p) = BitVec.ofNat 32 (8192 + p.val % 4))
    (hl : ∀ d : Fin 128, s (Proc.tc.devRef main_v46) (ix1 d) = BitVec.ofNat 32 (d.val % 64))
    (hf : ∀ d : Fin 128, s (Proc.tc.devRef main_v47) (ix1 d) = BitVec.ofNat 32 (d.val % 64 % 8))
    (p : Fin 128) (d : Fin 128) : (StableHlo.after (hostOps0_14 ++ hostOps0_15 ++ hostOps0_16 ++ hostOps0_17 ++ hostOps0_18 ++ hostOps0_19) s (Proc.tc.devRef main_v74) (ix2 p d) : EReal) = (if d.val % 64 < 8 then -sinA 0x3E000000#32 (BitVec.ofNat 32 (8192 + p.val % 4)) (BitVec.ofNat 32 (d.val % 64)) else 0 : EReal) := by
  simp only [List.cons_append, List.nil_append, hostOps0_14, hostOps0_15, hostOps0_16, hostOps0_17, hostOps0_18, hostOps0_19]
  entry_read
  try simp -implicitDefEqProofs only [StableHlo.TRef.toBuf, StableHlo.TRef.ofBuf, cast_cast, cast_eq]
  pointwise
  rw [h4, hl, hf, i_low]
  by_cases q : d.val % 64 < 8
  · rw [if_pos q, if_pos q, show d.val % 64 % 8 = d.val % 64 by omega]
    rfl
  · rw [if_neg q, if_neg q]
    rfl

/-- The sines. -/
theorem i_sin (h4 : ∀ p : Fin 128, s (Proc.tc.devRef main_v9) (ix1 p) = BitVec.ofNat 32 (8192 + p.val % 4))
    (hl : ∀ d : Fin 128, s (Proc.tc.devRef main_v46) (ix1 d) = BitVec.ofNat 32 (d.val % 64))
    (hf : ∀ d : Fin 128, s (Proc.tc.devRef main_v47) (ix1 d) = BitVec.ofNat 32 (d.val % 64 % 8))
    (p : Fin 128) (d : Fin 128) : (StableHlo.after (hostOps0_14 ++ hostOps0_15 ++ hostOps0_16 ++ hostOps0_17 ++ hostOps0_18 ++ hostOps0_19) s (Proc.tc.devRef main_v75) (ix2 p d) : EReal) = (if ¬ d.val % 64 < 8 ∧ d.val % 64 < 2 * 8 then sinA 0x3E000000#32 (BitVec.ofNat 32 (8192 + p.val % 4)) (BitVec.ofNat 32 (d.val % 64 - 8)) else 0 : EReal) := by
  simp only [List.cons_append, List.nil_append, hostOps0_14, hostOps0_15, hostOps0_16, hostOps0_17, hostOps0_18, hostOps0_19]
  entry_read
  try simp -implicitDefEqProofs only [StableHlo.TRef.toBuf, StableHlo.TRef.ofBuf, cast_cast, cast_eq]
  pointwise
  rw [h4, hl, hf, i_high]
  by_cases q : ¬ d.val % 64 < 8 ∧ d.val % 64 < 2 * 8
  · rw [if_pos q, if_pos q, show d.val % 64 % 8 = d.val % 64 - 8 by omega]
    rfl
  · rw [if_neg q, if_neg q]
    rfl

/-- The three tables side by side. -/
theorem h_join (k : Fin 3) (p : Fin 128) (d : Fin 128) : (StableHlo.after (hostOps0_10.take 4) s (Proc.tc.devRef main_v44)) (ix3 k p d)
   = (match k with | 0 => s (Proc.tc.devRef main_v37) (ix2 p d) | 1 => s (Proc.tc.devRef main_v39) (ix2 p d) | 2 => s (Proc.tc.devRef main_v40) (ix2 p d) : EReal) := by
  have e1 : StableHlo.after (hostOps0_10.take 3) s (Proc.tc.devRef main_v41) = broadcastInDim S1x128x128 ![1, 2] bcast_S128x128_S1x128x128_1_2 (s (Proc.tc.devRef main_v37)) := by
    simp only [hostOps0_10, List.take_succ_cons, List.take_zero]
    after_results
  have e2 : StableHlo.after (hostOps0_10.take 3) s (Proc.tc.devRef main_v42) = broadcastInDim S1x128x128 ![1, 2] bcast_S128x128_S1x128x128_1_2 (s (Proc.tc.devRef main_v39)) := by
    simp only [hostOps0_10, List.take_succ_cons, List.take_zero]
    after_results
  have e3 : StableHlo.after (hostOps0_10.take 3) s (Proc.tc.devRef main_v43) = broadcastInDim S1x128x128 ![1, 2] bcast_S128x128_S1x128x128_1_2 (s (Proc.tc.devRef main_v40)) := by
    simp only [hostOps0_10, List.take_succ_cons, List.take_zero]
    after_results
  have e : (hostOps0_10 : List (HloOp τ sig (Elt Ideal))).take 4 = hostOps0_10.take 3 ++ (hostOps0_10.drop 3).take 1 := rfl
  rw [e, after_app]
  generalize StableHlo.after (hostOps0_10.take 3) s = s' at e1 e2 e3 ⊢
  simp only [hostOps0_10, List.drop_succ_cons, List.drop_zero, List.take_succ_cons, List.take_zero, StableHlo.after_cons, StableHlo.after_nil]
  rw [StableHlo.nary_result]
  match k with
  | 0 =>
    pointwise
    refine (congrFun e1 _).trans ?_
    pointwise
  | 1 =>
    pointwise
    refine (congrFun e2 _).trans ?_
    pointwise
  | 2 =>
    pointwise
    refine (congrFun e3 _).trans ?_
    pointwise

/-- The three tables side by side. -/
theorem i_join (k : Fin 3) (p : Fin 128) (d : Fin 128) : (StableHlo.after (hostOps0_20.take 4) s (Proc.tc.devRef main_v79)) (ix3 k p d)
   = (match k with | 0 => s (Proc.tc.devRef main_v72) (ix2 p d) | 1 => s (Proc.tc.devRef main_v74) (ix2 p d) | 2 => s (Proc.tc.devRef main_v75) (ix2 p d) : EReal) := by
  have e1 : StableHlo.after (hostOps0_20.take 3) s (Proc.tc.devRef main_v76) = broadcastInDim S1x128x128 ![1, 2] bcast_S128x128_S1x128x128_1_2 (s (Proc.tc.devRef main_v72)) := by
    simp only [hostOps0_20, List.take_succ_cons, List.take_zero]
    after_results
  have e2 : StableHlo.after (hostOps0_20.take 3) s (Proc.tc.devRef main_v77) = broadcastInDim S1x128x128 ![1, 2] bcast_S128x128_S1x128x128_1_2 (s (Proc.tc.devRef main_v74)) := by
    simp only [hostOps0_20, List.take_succ_cons, List.take_zero]
    after_results
  have e3 : StableHlo.after (hostOps0_20.take 3) s (Proc.tc.devRef main_v78) = broadcastInDim S1x128x128 ![1, 2] bcast_S128x128_S1x128x128_1_2 (s (Proc.tc.devRef main_v75)) := by
    simp only [hostOps0_20, List.take_succ_cons, List.take_zero]
    after_results
  have e : (hostOps0_20 : List (HloOp τ sig (Elt Ideal))).take 4 = hostOps0_20.take 3 ++ (hostOps0_20.drop 3).take 1 := rfl
  rw [e, after_app]
  generalize StableHlo.after (hostOps0_20.take 3) s = s' at e1 e2 e3 ⊢
  simp only [hostOps0_20, List.drop_succ_cons, List.drop_zero, List.take_succ_cons, List.take_zero, StableHlo.after_cons, StableHlo.after_nil]
  rw [StableHlo.nary_result]
  match k with
  | 0 =>
    pointwise
    refine (congrFun e1 _).trans ?_
    pointwise
  | 1 =>
    pointwise
    refine (congrFun e2 _).trans ?_
    pointwise
  | 2 =>
    pointwise
    refine (congrFun e3 _).trans ?_
    pointwise

theorem keep39b : StableHlo.after (hostOps0_20 : List (HloOp τ sig (Elt Ideal))) s (Proc.tc.devRef main_v44) = s (Proc.tc.devRef main_v44) := by
  refine StableHlo.after_of_forall_not_mem _ _ ?_
  decide

theorem keep4g : StableHlo.after ((hostOps0_20 : List (HloOp τ sig (Elt Ideal))).take 4) s (Proc.tc.devRef main_v9) = s (Proc.tc.devRef main_v9) := by
  refine StableHlo.after_of_forall_not_mem _ _ ?_
  decide

variable (m : (ℓ : Loc nD τ sig) → Buf (Elt Ideal) ℓ) (c : Dev nD)

/-- The contents the region is entered with, stage by stage. -/
def st1 : (b : DevRef τ sig) → b.ty.Contents (Elt Ideal) := StableHlo.after (hostOps0_2 ++ hostOps0_3) (StableHlo.after (hostOps0 ++ hostOps0_1) fun b => m (c, b))
def st2 : (b : DevRef τ sig) → b.ty.Contents (Elt Ideal) :=
  StableHlo.after (hostOps0_4 ++ hostOps0_5 ++ hostOps0_6 ++ hostOps0_7 ++ hostOps0_8 ++ hostOps0_9) (st1 m c)
def st3 : (b : DevRef τ sig) → b.ty.Contents (Elt Ideal) := StableHlo.after (hostOps0_10.take 4) (st2 m c)
def st4 : (b : DevRef τ sig) → b.ty.Contents (Elt Ideal) := StableHlo.after (hostOps0_12 ++ hostOps0_13) (StableHlo.after ((hostOps0_10.drop 4) ++ hostOps0_11) (st3 m c))
def st5 : (b : DevRef τ sig) → b.ty.Contents (Elt Ideal) :=
  StableHlo.after (hostOps0_14 ++ hostOps0_15 ++ hostOps0_16 ++ hostOps0_17 ++ hostOps0_18 ++ hostOps0_19) (st4 m c)

theorem V_eq (b : Ref sig .tc) : V m c b = StableHlo.after hostOps0_20 (st5 m c) (Proc.tc.devRef b) := by
  unfold V st5 st4 st3 st2 st1
  simp only [List.flatten_cons, List.flatten_nil, List.append_nil, after_app]
  have e := List.take_append_drop 4 (hostOps0_10 : List (HloOp τ sig (Elt Ideal)))
  conv_lhs => rw [← e]
  simp only [after_app]

theorem st1_4 (p : Fin 128) : st1 m c (Proc.tc.devRef main_v9) (ix1 p) = BitVec.ofNat 32 (8192 + p.val % 4) := (congrFun (keep4a _) _).trans (pos _ p)
theorem st1_6 (d : Fin 128) : st1 m c (Proc.tc.devRef main_v11) (ix1 d) = BitVec.ofNat 32 (d.val % 128) := (congrFun (keep6 _) _).trans (lane6 _ d)
theorem st1_7 (d : Fin 128) : st1 m c (Proc.tc.devRef main_v12) (ix1 d) = BitVec.ofNat 32 (d.val % 128 % 16) := lane7 _ (fun d => lane6 _ d) d
theorem st3_4 (p : Fin 128) : st3 m c (Proc.tc.devRef main_v9) (ix1 p) = BitVec.ofNat 32 (8192 + p.val % 4) :=
  (congrFun (keep4c _) _).trans ((congrFun (keep4b _) _).trans (st1_4 m c p))
theorem st4_4 (p : Fin 128) : st4 m c (Proc.tc.devRef main_v9) (ix1 p) = BitVec.ofNat 32 (8192 + p.val % 4) :=
  (congrFun (keep4e _) _).trans ((congrFun (keep4d _) _).trans (st3_4 m c p))
theorem st4_41 (d : Fin 128) : st4 m c (Proc.tc.devRef main_v46) (ix1 d) = BitVec.ofNat 32 (d.val % 64) := (congrFun (keep41 _) _).trans (lane41 _ d)
theorem st4_42 (d : Fin 128) : st4 m c (Proc.tc.devRef main_v47) (ix1 d) = BitVec.ofNat 32 (d.val % 64 % 8) := lane42 _ (fun d => lane41 _ d) d

/-- The heads' tables, as the region is entered. -/
theorem V39 (k : Fin 3) (p : Fin 128) (d : Fin 128) : V m c main_v44 (ix3 k p d) = st3 m c (Proc.tc.devRef main_v44) (ix3 k p d) := by
  have h := keep39a (st3 m c)
  have e : StableHlo.after ((hostOps0_10.drop 4) ++ hostOps0_11 ++ hostOps0_12 ++ hostOps0_13 ++ hostOps0_14 ++ hostOps0_15 ++ hostOps0_16 ++ hostOps0_17 ++ hostOps0_18 ++ hostOps0_19) (st3 m c)
      = st5 m c := by
    unfold st5 st4
    simp only [after_app]
  rw [e] at h
  rw [V_eq, keep39b, h]

theorem head_tables (p : Fin 128) (d : Fin 128) :
    (V m c main_v44 (ix3 (0 : Fin 3) p d) : EReal) = (if d.val % 128 < 16 then cosA 0x3D800000#32 (BitVec.ofNat 32 (8192 + p.val % 4)) (BitVec.ofNat 32 (d.val % 128))
      else if d.val % 128 < 2 * 16 then cosA 0x3D800000#32 (BitVec.ofNat 32 (8192 + p.val % 4)) (BitVec.ofNat 32 (d.val % 128 - 16)) else 1)
    ∧ (V m c main_v44 (ix3 (1 : Fin 3) p d) : EReal) = (if d.val % 128 < 16 then -sinA 0x3D800000#32 (BitVec.ofNat 32 (8192 + p.val % 4)) (BitVec.ofNat 32 (d.val % 128)) else 0)
    ∧ (V m c main_v44 (ix3 (2 : Fin 3) p d) : EReal)
      = (if ¬ d.val % 128 < 16 ∧ d.val % 128 < 2 * 16 then sinA 0x3D800000#32 (BitVec.ofNat 32 (8192 + p.val % 4)) (BitVec.ofNat 32 (d.val % 128 - 16)) else 0) :=
  ⟨(V39 m c 0 p d).trans ((h_join _ 0 p d).trans (h_cos _ (st1_4 m c) (st1_6 m c) (st1_7 m c) p d)),
   (V39 m c 1 p d).trans ((h_join _ 1 p d).trans (h_neg _ (st1_4 m c) (st1_6 m c) (st1_7 m c) p d)),
   (V39 m c 2 p d).trans ((h_join _ 2 p d).trans (h_sin _ (st1_4 m c) (st1_6 m c) (st1_7 m c) p d))⟩

/-- The indexer's tables, as the region is entered. -/
theorem V74 (k : Fin 3) (p : Fin 128) (d : Fin 128) : V m c main_v79 (ix3 k p d) = StableHlo.after (hostOps0_20.take 4) (st5 m c) (Proc.tc.devRef main_v79) (ix3 k p d) := by
  rw [V_eq]
  have e := List.take_append_drop 4 (hostOps0_20 : List (HloOp τ sig (Elt Ideal)))
  conv_lhs => rw [← e]
  rw [after_app, keep74]

theorem idx_tables (p : Fin 128) (d : Fin 128) :
    (V m c main_v79 (ix3 (0 : Fin 3) p d) : EReal) = (if d.val % 64 < 8 then cosA 0x3E000000#32 (BitVec.ofNat 32 (8192 + p.val % 4)) (BitVec.ofNat 32 (d.val % 64))
      else if d.val % 64 < 2 * 8 then cosA 0x3E000000#32 (BitVec.ofNat 32 (8192 + p.val % 4)) (BitVec.ofNat 32 (d.val % 64 - 8)) else 1)
    ∧ (V m c main_v79 (ix3 (1 : Fin 3) p d) : EReal) = (if d.val % 64 < 8 then -sinA 0x3E000000#32 (BitVec.ofNat 32 (8192 + p.val % 4)) (BitVec.ofNat 32 (d.val % 64)) else 0)
    ∧ (V m c main_v79 (ix3 (2 : Fin 3) p d) : EReal)
      = (if ¬ d.val % 64 < 8 ∧ d.val % 64 < 2 * 8 then sinA 0x3E000000#32 (BitVec.ofNat 32 (8192 + p.val % 4)) (BitVec.ofNat 32 (d.val % 64 - 8)) else 0) :=
  ⟨(V74 m c 0 p d).trans ((i_join _ 0 p d).trans (i_cos _ (st4_4 m c) (st4_41 m c) (st4_42 m c) p d)),
   (V74 m c 1 p d).trans ((i_join _ 1 p d).trans (i_neg _ (st4_4 m c) (st4_41 m c) (st4_42 m c) p d)),
   (V74 m c 2 p d).trans ((i_join _ 2 p d).trans (i_sin _ (st4_4 m c) (st4_41 m c) (st4_42 m c) p d))⟩

/-- The cosines and the sines of the key turned on its side. -/
theorem side_cos (j : Fin 8) (p : Fin 128) : (V m c main_v99 (ix3 (0 : Fin 2) j p) : EReal) = cosA 0x3E000000#32 (BitVec.ofNat 32 (8192 + p.val % 4)) (BitVec.ofNat 32 j.val) := by
  rw [V_eq]
  have e := List.take_append_drop 4 (hostOps0_20 : List (HloOp τ sig (Elt Ideal)))
  rw [← e, after_app]
  have h4 : StableHlo.after (hostOps0_20.take 4) (st5 m c) (Proc.tc.devRef main_v9) (ix1 p) = BitVec.ofNat 32 (8192 + p.val % 4) :=
    (congrFun (keep4g _) _).trans ((congrFun (keep4f _) _).trans (st4_4 m c p))
  generalize StableHlo.after (hostOps0_20.take 4) (st5 m c) = s' at h4 ⊢
  simp only [hostOps0_20, List.drop_succ_cons, List.drop_zero]
  entry_read
  pointwise
  rw [h4]
  rfl
theorem side_sin (j : Fin 8) (p : Fin 128) : (V m c main_v99 (ix3 (1 : Fin 2) j p) : EReal) = sinA 0x3E000000#32 (BitVec.ofNat 32 (8192 + p.val % 4)) (BitVec.ofNat 32 j.val) := by
  rw [V_eq]
  have e := List.take_append_drop 4 (hostOps0_20 : List (HloOp τ sig (Elt Ideal)))
  rw [← e, after_app]
  have h4 : StableHlo.after (hostOps0_20.take 4) (st5 m c) (Proc.tc.devRef main_v9) (ix1 p) = BitVec.ofNat 32 (8192 + p.val % 4) :=
    (congrFun (keep4g _) _).trans ((congrFun (keep4f _) _).trans (st4_4 m c p))
  generalize StableHlo.after (hostOps0_20.take 4) (st5 m c) = s' at h4 ⊢
  simp only [hostOps0_20, List.drop_succ_cons, List.drop_zero]
  entry_read
  pointwise
  rw [h4]
  rfl

end Cert.KernelProjectSampleIdeal.Project
-- ==== Proof.ProjectSample.Kernel.lean ====
/- The sample group's projection: what every result array of the kernel ends with. -/
module

public import proofs.«01_k».proof.Proof.ProjectSample.Tables

@[expose] public section

set_option maxRecDepth 100000
set_option maxHeartbeats 1000000

noncomputable section

namespace Cert.KernelProjectSampleIdeal.Project

open Cert.KernelProjectSampleIdeal Cert.KernelProjectSampleIdeal.Gen Idealize.ShloMosaic Idealize.ShloMosaic.TcCoe Idealize.SL.Sem
open Cert.Project Cert.Project.Sample
open scoped BigOperators

variable (m : (ℓ : Loc nD τ sig) → Buf (Elt Ideal) ℓ) (c : Dev nD)

/-- The argument arrays, as functions to the extended reals. -/
abbrev arr0 : S32x4x2048.Idx → EReal := m ((c.tc : Thread nD τ).loc main_arg0)
abbrev arr1 : S1x2048x7248.Idx → EReal := m ((c.tc : Thread nD τ).loc main_arg1)

theorem V3 (r : Fin 128) (e : Fin 2048) : (V m c main_v3 (ix2 r e) : EReal)
    = arr0 m c (ix3 (⟨r.val / 4, by omega⟩ : Fin 32) (⟨r.val % 4, by omega⟩ : Fin 4) e) := by
  unfold V
  simp only [List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]
  entry_read
  pointwise
theorem V2 (q : Fin 7248) (e : Fin 2048) : (V m c main_v2 (ix2 q e) : EReal) = arr1 m c (ix3 (0 : Fin 1) e q) := by
  unfold V
  simp only [List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]
  entry_read
  pointwise

/-- The one grid point's blocks are the whole arrays. -/
theorem idx_in : ∀ t : Fin cfg0.N, win0_0.index t = ![0, 0] ∧ win0_1.index t = ![0, 0] ∧ win0_2.index t = ![0, 0, 0]
    ∧ win0_3.index t = ![0, 0, 0] ∧ win0_4.index t = ![0, 0, 0] :=
  (by decide +kernel : ∀ t : Fin grid0.N, _)
theorem idx_5 : ∀ t : Fin cfg0.N, win0_5.index t = ![0, 0] := (by decide +kernel : ∀ t : Fin grid0.N, _)
theorem idx_6 : ∀ t : Fin cfg0.N, win0_6.index t = ![0, 0] := (by decide +kernel : ∀ t : Fin grid0.N, _)
theorem idx_7 : ∀ t : Fin cfg0.N, win0_7.index t = ![0, 0] := (by decide +kernel : ∀ t : Fin grid0.N, _)
theorem idx_8 : ∀ t : Fin cfg0.N, win0_8.index t = ![0, 0] := (by decide +kernel : ∀ t : Fin grid0.N, _)
theorem idx_9 : ∀ t : Fin cfg0.N, win0_9.index t = ![0, 0] := (by decide +kernel : ∀ t : Fin grid0.N, _)
theorem idx_10 : ∀ t : Fin cfg0.N, win0_10.index t = ![0, 0] := (by decide +kernel : ∀ t : Fin grid0.N, _)
theorem idx_11 : ∀ t : Fin cfg0.N, win0_11.index t = ![0, 0] := (by decide +kernel : ∀ t : Fin grid0.N, _)
theorem idx_12 : ∀ t : Fin cfg0.N, win0_12.index t = ![0, 0] := (by decide +kernel : ∀ t : Fin grid0.N, _)
theorem idx_13 : ∀ t : Fin cfg0.N, win0_13.index t = ![0, 0] := (by decide +kernel : ∀ t : Fin grid0.N, _)
theorem idx_14 : ∀ t : Fin cfg0.N, win0_14.index t = ![0, 0, 0] := (by decide +kernel : ∀ t : Fin grid0.N, _)
theorem idx_15 : ∀ t : Fin cfg0.N, win0_15.index t = ![0, 0] := (by decide +kernel : ∀ t : Fin grid0.N, _)
theorem idx_16 : ∀ t : Fin cfg0.N, win0_16.index t = ![0, 0] := (by decide +kernel : ∀ t : Fin grid0.N, _)
theorem idx_17 : ∀ t : Fin cfg0.N, win0_17.index t = ![0, 0] := (by decide +kernel : ∀ t : Fin grid0.N, _)

variable (t : Fin cfg0.N)

theorem blk0 (r : Fin 128) (e : Fin 2048) : (iblk m c 0 t (ix2 r e) : EReal)
    = arr0 m c (ix3 (⟨r.val / 4, by omega⟩ : Fin 32) (⟨r.val % 4, by omega⟩ : Fin 4) e) := by
  obtain ⟨e0, e1, e2, e3, e4⟩ := idx_in t
  have he : ((cfg0.win 0).blk t).view.emb (ix2 r e) = ix2 r e := by blk_ext [e0]
  exact (congrArg (V m c main_v3) he).trans (V3 m c _ e)
theorem blk1 (q : Fin 7248) (e : Fin 2048) : (iblk m c 1 t (ix2 q e) : EReal) = arr1 m c (ix3 (0 : Fin 1) e q) := by
  obtain ⟨e0, e1, e2, e3, e4⟩ := idx_in t
  have he : ((cfg0.win 1).blk t).view.emb (ix2 q e) = ix2 q e := by blk_ext [e1]
  exact (congrArg (V m c main_v2) he).trans (V2 m c q e)
theorem blk2 (k : Fin 3) (r : Fin 128) (d : Fin 128) : iblk m c 2 t (ix3 k r d) = V m c main_v44 (ix3 k r d) := by
  obtain ⟨e0, e1, e2, e3, e4⟩ := idx_in t
  have he : ((cfg0.win 2).blk t).view.emb (ix3 k r d) = ix3 k r d := by blk_ext [e2]
  exact congrArg (V m c main_v44) he
theorem blk3 (k : Fin 3) (r : Fin 128) (d : Fin 128) : iblk m c 3 t (ix3 k r d) = V m c main_v79 (ix3 k r d) := by
  obtain ⟨e0, e1, e2, e3, e4⟩ := idx_in t
  have he : ((cfg0.win 3).blk t).view.emb (ix3 k r d) = ix3 k r d := by blk_ext [e3]
  exact congrArg (V m c main_v79) he
theorem blk4 (k : Fin 2) (j : Fin 8) (r : Fin 128) : iblk m c 4 t (ix3 k j r) = V m c main_v99 (ix3 k j r) := by
  obtain ⟨e0, e1, e2, e3, e4⟩ := idx_in t
  have he : ((cfg0.win 4).blk t).view.emb (ix3 k j r) = ix3 k j r := by blk_ext [e4]
  exact congrArg (V m c main_v99) he

/-- What the blocks hold. -/
theorem holds : Holds (iblk m c 0 t) (iblk m c 1 t) (iblk m c 2 t) (iblk m c 3 t) (iblk m c 4 t) (arr0 m c) (arr1 m c) where
  rows r q := Finset.sum_congr rfl fun e _ => congrArg₂ (fun a b : EReal => a * b) (blk0 m c t r e) (blk1 m c t q e)
  head r l := by
    have h := head_tables m c r l
    exact ⟨(blk2 m c t 0 r l).trans h.1, (blk2 m c t 1 r l).trans h.2.1, (blk2 m c t 2 r l).trans h.2.2⟩
  idx r l := by
    have h := idx_tables m c r l
    exact ⟨(blk3 m c t 0 r l).trans h.1, (blk3 m c t 1 r l).trans h.2.1, (blk3 m c t 2 r l).trans h.2.2⟩
  cosT j r := (blk4 m c t 0 j r).trans (side_cos m c j r)
  sinT j r := (blk4 m c t 1 j r).trans (side_sin m c j r)

/-- Output block 5 is the whole result. -/
theorem emb5 (y : S128x1024.Idx) : ((cfg0.win 5).blk t).view.emb y = ix2 (y 0) (y 1) := by
  have e := idx_5 t
  blk_ext [e]
theorem final5 : (dats m 0 c).arrAt 5 (cfgs 0).N = out0 (arr0 m c) (arr1 m c) := by
  refine (dats m 0 c).arrAt_eq_of_covers 5 _ (by decide +kernel) fun t hf y => ?_
  blk_simp; rw [after0_5]
  refine (p5 (holds m c t) y).trans ?_
  refine Eq.trans ?_ (congrArg (out0 (arr0 m c) (arr1 m c)) (emb5 t y)).symm
  exact rfl

/-- Output block 6 is the whole result. -/
theorem emb6 (y : S128x1024.Idx) : ((cfg0.win 6).blk t).view.emb y = ix2 (y 0) (y 1) := by
  have e := idx_6 t
  blk_ext [e]
theorem final6 : (dats m 0 c).arrAt 6 (cfgs 0).N = out1 (arr0 m c) (arr1 m c) := by
  refine (dats m 0 c).arrAt_eq_of_covers 6 _ (by decide +kernel) fun t hf y => ?_
  blk_simp; rw [after0_6]
  refine (p6 (holds m c t) y).trans ?_
  refine Eq.trans ?_ (congrArg (out1 (arr0 m c) (arr1 m c)) (emb6 t y)).symm
  exact rfl

/-- Output block 7 is the whole result. -/
theorem emb7 (y : S128x1024.Idx) : ((cfg0.win 7).blk t).view.emb y = ix2 (y 0) (y 1) := by
  have e := idx_7 t
  blk_ext [e]
theorem final7 : (dats m 0 c).arrAt 7 (cfgs 0).N = out1 (arr0 m c) (arr1 m c) := by
  refine (dats m 0 c).arrAt_eq_of_covers 7 _ (by decide +kernel) fun t hf y => ?_
  blk_simp; rw [after0_7]
  refine (p7 (holds m c t) y).trans ?_
  refine Eq.trans ?_ (congrArg (out1 (arr0 m c) (arr1 m c)) (emb7 t y)).symm
  exact rfl

/-- Output block 8 is the whole result. -/
theorem emb8 (y : S128x1024.Idx) : ((cfg0.win 8).blk t).view.emb y = ix2 (y 0) (y 1) := by
  have e := idx_8 t
  blk_ext [e]
theorem final8 : (dats m 0 c).arrAt 8 (cfgs 0).N = out3 (arr0 m c) (arr1 m c) := by
  refine (dats m 0 c).arrAt_eq_of_covers 8 _ (by decide +kernel) fun t hf y => ?_
  blk_simp; rw [after0_8]
  refine (p8 (holds m c t) y).trans ?_
  refine Eq.trans ?_ (congrArg (out3 (arr0 m c) (arr1 m c)) (emb8 t y)).symm
  exact rfl

/-- Output block 9 is the whole result. -/
theorem emb9 (y : S128x1024.Idx) : ((cfg0.win 9).blk t).view.emb y = ix2 (y 0) (y 1) := by
  have e := idx_9 t
  blk_ext [e]
theorem final9 : (dats m 0 c).arrAt 9 (cfgs 0).N = out3 (arr0 m c) (arr1 m c) := by
  refine (dats m 0 c).arrAt_eq_of_covers 9 _ (by decide +kernel) fun t hf y => ?_
  blk_simp; rw [after0_9]
  refine (p9 (holds m c t) y).trans ?_
  refine Eq.trans ?_ (congrArg (out3 (arr0 m c) (arr1 m c)) (emb9 t y)).symm
  exact rfl

/-- Output block 10 is the whole result. -/
theorem emb10 (y : S128x1024.Idx) : ((cfg0.win 10).blk t).view.emb y = ix2 (y 0) (y 1) := by
  have e := idx_10 t
  blk_ext [e]
theorem final10 : (dats m 0 c).arrAt 10 (cfgs 0).N = out5 (arr0 m c) (arr1 m c) := by
  refine (dats m 0 c).arrAt_eq_of_covers 10 _ (by decide +kernel) fun t hf y => ?_
  blk_simp; rw [after0_10]
  refine (p10 (holds m c t) y).trans ?_
  refine Eq.trans ?_ (congrArg (out5 (arr0 m c) (arr1 m c)) (emb10 t y)).symm
  exact rfl

/-- Output block 11 is the whole result. -/
theorem emb11 (y : S128x1024.Idx) : ((cfg0.win 11).blk t).view.emb y = ix2 (y 0) (y 1) := by
  have e := idx_11 t
  blk_ext [e]
theorem final11 : (dats m 0 c).arrAt 11 (cfgs 0).N = out6 (arr0 m c) (arr1 m c) := by
  refine (dats m 0 c).arrAt_eq_of_covers 11 _ (by decide +kernel) fun t hf y => ?_
  blk_simp; rw [after0_11]
  refine (p11 (holds m c t) y).trans ?_
  refine Eq.trans ?_ (congrArg (out6 (arr0 m c) (arr1 m c)) (emb11 t y)).symm
  exact rfl

/-- Output block 12 is the whole result. -/
theorem emb12 (y : S128x64.Idx) : ((cfg0.win 12).blk t).view.emb y = ix2 (y 0) (y 1) := by
  have e := idx_12 t
  blk_ext [e]
theorem final12 : (dats m 0 c).arrAt 12 (cfgs 0).N = out7 (arr0 m c) (arr1 m c) := by
  refine (dats m 0 c).arrAt_eq_of_covers 12 _ (by decide +kernel) fun t hf y => ?_
  blk_simp; rw [after0_12]
  refine (p12 (holds m c t) y).trans ?_
  refine Eq.trans ?_ (congrArg (out7 (arr0 m c) (arr1 m c)) (emb12 t y)).symm
  exact rfl

/-- Output block 13 is the whole result. -/
theorem emb13 (y : S128x64.Idx) : ((cfg0.win 13).blk t).view.emb y = ix2 (y 0) (y 1) := by
  have e := idx_13 t
  blk_ext [e]
theorem final13 : (dats m 0 c).arrAt 13 (cfgs 0).N = out7 (arr0 m c) (arr1 m c) := by
  refine (dats m 0 c).arrAt_eq_of_covers 13 _ (by decide +kernel) fun t hf y => ?_
  blk_simp; rw [after0_13]
  refine (p13 (holds m c t) y).trans ?_
  refine Eq.trans ?_ (congrArg (out7 (arr0 m c) (arr1 m c)) (emb13 t y)).symm
  exact rfl

/-- Output block 14 is the whole result. -/
theorem emb14 (y : S1x64x128.Idx) : ((cfg0.win 14).blk t).view.emb y = ix3 (0 : Fin 1) (y 1) (y 2) := by
  have e := idx_14 t
  blk_ext [e]
theorem final14 : (dats m 0 c).arrAt 14 (cfgs 0).N = out9 (arr0 m c) (arr1 m c) := by
  refine (dats m 0 c).arrAt_eq_of_covers 14 _ (by decide +kernel) fun t hf y => ?_
  blk_simp; rw [after0_14]
  refine (p14 (holds m c t) y).trans ?_
  refine Eq.trans ?_ (congrArg (out9 (arr0 m c) (arr1 m c)) (emb14 t y)).symm
  exact rfl

/-- Output block 15 is the whole result. -/
theorem emb15 (y : S16x128.Idx) : ((cfg0.win 15).blk t).view.emb y = ix2 (y 0) (y 1) := by
  have e := idx_15 t
  blk_ext [e]
theorem final15 : (dats m 0 c).arrAt 15 (cfgs 0).N = out10 (arr0 m c) (arr1 m c) := by
  refine (dats m 0 c).arrAt_eq_of_covers 15 _ (by decide +kernel) fun t hf y => ?_
  blk_simp; rw [after0_15]
  refine (p15 (holds m c t) y).trans ?_
  refine Eq.trans ?_ (congrArg (out10 (arr0 m c) (arr1 m c)) (emb15 t y)).symm
  exact rfl

/-- Output block 16 is the whole result. -/
theorem emb16 (y : S128x1024.Idx) : ((cfg0.win 16).blk t).view.emb y = ix2 (y 0) (y 1) := by
  have e := idx_16 t
  blk_ext [e]
theorem final16 : (dats m 0 c).arrAt 16 (cfgs 0).N = out11 (arr0 m c) (arr1 m c) := by
  refine (dats m 0 c).arrAt_eq_of_covers 16 _ (by decide +kernel) fun t hf y => ?_
  blk_simp; rw [after0_16]
  refine (p16 (holds m c t) y).trans ?_
  refine Eq.trans ?_ (congrArg (out11 (arr0 m c) (arr1 m c)) (emb16 t y)).symm
  exact rfl

/-- Output block 17 is the whole result. -/
theorem emb17 (y : S128x1024.Idx) : ((cfg0.win 17).blk t).view.emb y = ix2 (y 0) (y 1) := by
  have e := idx_17 t
  blk_ext [e]
theorem final17 : (dats m 0 c).arrAt 17 (cfgs 0).N = out12 (arr0 m c) (arr1 m c) := by
  refine (dats m 0 c).arrAt_eq_of_covers 17 _ (by decide +kernel) fun t hf y => ?_
  blk_simp; rw [after0_17]
  refine (p17 (holds m c t) y).trans ?_
  refine Eq.trans ?_ (congrArg (out12 (arr0 m c) (arr1 m c)) (emb17 t y)).symm
  exact rfl

end Cert.KernelProjectSampleIdeal.Project
-- ==== Proof.ProjectSample.Reference.lean ====
/- The reference's projections of the sample group, read at an index. -/
module

public import proofs.«01_k».proof.Proof.Gen.ReferenceProjectSampleIdeal.Run
public import proofs.«01_k».proof.Proof.ProjectSample.Sample

@[expose] public section

set_option maxRecDepth 16384

noncomputable section

namespace Cert.ReferenceProjectSampleIdeal.Project

open Cert.ReferenceProjectSampleIdeal Cert.ReferenceProjectSampleIdeal.Gen Idealize.ShloMosaic Idealize.ShloMosaic.TcCoe Idealize.SL.Sem
open Cert.Project Cert.Project.Sample
open scoped BigOperators

/-- The projections as one array. -/
def hidden (x : FVec Ideal S32x4x2048 .f32) (w : FVec Ideal S1x2048x7248 .f32) : FVec Ideal S32x4x7248 .f32 :=
  Host.dotGeneral dot_S32x4x2048_S2048x7248_S32x4x7248_2_0_01_1_n_n none x (shapeCast _ w shapeCasts_S1x2048x7248_S2048x7248)

theorem hidden_apply (x : FVec Ideal S32x4x2048 .f32) (w : FVec Ideal S1x2048x7248 .f32) (b : Fin 32) (t : Fin 4) (c : Fin 7248) :
    hidden x w (ix3 b t c) = proj x w ⟨b.val * 4 + t.val, by omega⟩ c := by
  unfold hidden proj
  pointwise
  refine Finset.sum_congr rfl fun e _ => ?_
  rw [show (⟨(b.val * 4 + t.val) / 4, by omega⟩ : Fin 32) = b from Fin.ext (by simp only; omega),
    show (⟨(b.val * 4 + t.val) % 4, by omega⟩ : Fin 4) = t from Fin.ext (by simp only; omega)]

/-- A position's word. -/
theorem word : ∀ t : Fin 4, IntOp.addi 8192#32 (BitVec.ofNat 32 t.val) = BitVec.ofNat 32 (8192 + t.val) := by decide

/-- The rotary angles of the heads. -/
def angles16 : FVec Ideal S4x16 .f32 :=
  mulf (broadcastInDim S4x16 ![0, 1] bcast_S4x1_S4x16_0_1 (broadcastInDim S4x1 ![0] bcast_S4_S4x1_0 (sitofp .f32 (addi (broadcastInDim S4 ![] bcast_S_S4 (constantI S_ 32 8192#32)) (iotaInDim S4 32 0))))) (broadcastInDim S4x16 ![0, 1] bcast_S1x16_S4x16_0_1 (broadcastInDim S1x16 ![1] bcast_S16_S1x16_1 (Host.powf (broadcastInDim S16 ![] bcast_S_S16 (constant S_ .f32 0x48F42400#32)) (mulf (Host.negf (sitofp .f32 (iotaInDim S16 32 0))) (broadcastInDim S16 ![] bcast_S_S16 (constant S_ .f32 0x3D800000#32))))))

theorem angles16_apply (t : Fin 4) (j : Fin 16) : angles16 (ix2 t j) = ang 0x3D800000#32 (BitVec.ofNat 32 (8192 + t.val)) (BitVec.ofNat 32 j.val) := by
  unfold angles16 ang
  pointwise
  rw [word]

/-- The rotary angles of the indexer. -/
def angles8 : FVec Ideal S4x8 .f32 :=
  mulf (broadcastInDim S4x8 ![0, 1] bcast_S4x1_S4x8_0_1 (broadcastInDim S4x1 ![0] bcast_S4_S4x1_0 (sitofp .f32 (addi (broadcastInDim S4 ![] bcast_S_S4 (constantI S_ 32 8192#32)) (iotaInDim S4 32 0))))) (broadcastInDim S4x8 ![0, 1] bcast_S1x8_S4x8_0_1 (broadcastInDim S1x8 ![1] bcast_S8_S1x8_1 (Host.powf (broadcastInDim S8 ![] bcast_S_S8 (constant S_ .f32 0x48F42400#32)) (mulf (Host.negf (sitofp .f32 (iotaInDim S8 32 0))) (broadcastInDim S8 ![] bcast_S_S8 (constant S_ .f32 0x3E000000#32))))))

theorem angles8_apply (t : Fin 4) (j : Fin 8) : angles8 (ix2 t j) = ang 0x3E000000#32 (BitVec.ofNat 32 (8192 + t.val)) (BitVec.ofNat 32 j.val) := by
  unfold angles8 ang
  pointwise
  rw [word]

/-- The rotary turn of eight heads' columns. -/
def turnedHeads (y : FVec Ideal S32x4x8x128 .f32) : FVec Ideal S32x4x8x128 .f32 :=
  concatenate S32x4x8x128 3 [⟨S32x4x8x16, (subf (mulf (extractStridedSlice S32x4x8x16 ![0, 0, 0, 0] y slices_S32x4x8x128_S32x4x8x16_0_0_0_0) (broadcastInDim S32x4x8x16 ![0, 1, 2, 3] bcast_S1x4x1x16_S32x4x8x16_0_1_2_3 (shapeCast _ (Host.cos angles16) shapeCasts_S4x16_S1x4x1x16))) (mulf (extractStridedSlice S32x4x8x16 ![0, 0, 0, 16] y slices_S32x4x8x128_S32x4x8x16_0_0_0_16) (broadcastInDim S32x4x8x16 ![0, 1, 2, 3] bcast_S1x4x1x16_S32x4x8x16_0_1_2_3 (shapeCast _ (Host.sin angles16) shapeCasts_S4x16_S1x4x1x16))) : FVec Ideal S32x4x8x16 .f32)⟩, ⟨S32x4x8x16, (addf (mulf (extractStridedSlice S32x4x8x16 ![0, 0, 0, 0] y slices_S32x4x8x128_S32x4x8x16_0_0_0_0) (broadcastInDim S32x4x8x16 ![0, 1, 2, 3] bcast_S1x4x1x16_S32x4x8x16_0_1_2_3 (shapeCast _ (Host.sin angles16) shapeCasts_S4x16_S1x4x1x16))) (mulf (extractStridedSlice S32x4x8x16 ![0, 0, 0, 16] y slices_S32x4x8x128_S32x4x8x16_0_0_0_16) (broadcastInDim S32x4x8x16 ![0, 1, 2, 3] bcast_S1x4x1x16_S32x4x8x16_0_1_2_3 (shapeCast _ (Host.cos angles16) shapeCasts_S4x16_S1x4x1x16))) : FVec Ideal S32x4x8x16 .f32)⟩, ⟨S32x4x8x96, (extractStridedSlice S32x4x8x96 ![0, 0, 0, 32] y slices_S32x4x8x128_S32x4x8x96_0_0_0_32 : FVec Ideal S32x4x8x96 .f32)⟩] concatenates_S32x4x8x16_S32x4x8x16_S32x4x8x96_S32x4x8x128_d3

theorem turnedHeads_apply (y : FVec Ideal S32x4x8x128 .f32) (b : Fin 32) (t : Fin 4) (h : Fin 8) (d : Fin 128) :
    turnedHeads y (ix4 b t h d) = turnHead (8192 + t.val) (fun e => y (ix4 b t h e)) d := by
  unfold turnHead
  refine Eq.trans ?_ (cat_eq 16 _ _ _ _ _)
  unfold turnedHeads
  pointwise
  simp only [angles16_apply]
  rfl

/-- The rotary turn of sixteen indexer heads' columns. -/
def turnedIdx (y : FVec Ideal S32x4x16x64 .f32) : FVec Ideal S32x4x16x64 .f32 :=
  concatenate S32x4x16x64 3 [⟨S32x4x16x8, (subf (mulf (extractStridedSlice S32x4x16x8 ![0, 0, 0, 0] y slices_S32x4x16x64_S32x4x16x8_0_0_0_0) (broadcastInDim S32x4x16x8 ![0, 1, 2, 3] bcast_S1x4x1x8_S32x4x16x8_0_1_2_3 (shapeCast _ (Host.cos angles8) shapeCasts_S4x8_S1x4x1x8))) (mulf (extractStridedSlice S32x4x16x8 ![0, 0, 0, 8] y slices_S32x4x16x64_S32x4x16x8_0_0_0_8) (broadcastInDim S32x4x16x8 ![0, 1, 2, 3] bcast_S1x4x1x8_S32x4x16x8_0_1_2_3 (shapeCast _ (Host.sin angles8) shapeCasts_S4x8_S1x4x1x8))) : FVec Ideal S32x4x16x8 .f32)⟩, ⟨S32x4x16x8, (addf (mulf (extractStridedSlice S32x4x16x8 ![0, 0, 0, 0] y slices_S32x4x16x64_S32x4x16x8_0_0_0_0) (broadcastInDim S32x4x16x8 ![0, 1, 2, 3] bcast_S1x4x1x8_S32x4x16x8_0_1_2_3 (shapeCast _ (Host.sin angles8) shapeCasts_S4x8_S1x4x1x8))) (mulf (extractStridedSlice S32x4x16x8 ![0, 0, 0, 8] y slices_S32x4x16x64_S32x4x16x8_0_0_0_8) (broadcastInDim S32x4x16x8 ![0, 1, 2, 3] bcast_S1x4x1x8_S32x4x16x8_0_1_2_3 (shapeCast _ (Host.cos angles8) shapeCasts_S4x8_S1x4x1x8))) : FVec Ideal S32x4x16x8 .f32)⟩, ⟨S32x4x16x48, (extractStridedSlice S32x4x16x48 ![0, 0, 0, 16] y slices_S32x4x16x64_S32x4x16x48_0_0_0_16 : FVec Ideal S32x4x16x48 .f32)⟩] concatenates_S32x4x16x8_S32x4x16x8_S32x4x16x48_S32x4x16x64_d3

theorem turnedIdx_apply (y : FVec Ideal S32x4x16x64 .f32) (b : Fin 32) (t : Fin 4) (h : Fin 16) (d : Fin 64) :
    turnedIdx y (ix4 b t h d) = turnIdx (8192 + t.val) (fun e => y (ix4 b t h e)) d := by
  unfold turnIdx
  refine Eq.trans ?_ (cat_eq 8 _ _ _ _ _)
  unfold turnedIdx
  pointwise
  simp only [angles8_apply]
  rfl

/-- The rotary turn of the indexer's key columns. -/
def turnedKey (y : FVec Ideal S32x4x64 .f32) : FVec Ideal S32x4x64 .f32 :=
  concatenate S32x4x64 2 [⟨S32x4x8, (subf (mulf (extractStridedSlice S32x4x8 ![0, 0, 0] y slices_S32x4x64_S32x4x8_0_0_0) (broadcastInDim S32x4x8 ![0, 1, 2] bcast_S1x4x8_S32x4x8_0_1_2 (shapeCast _ (Host.cos angles8) shapeCasts_S4x8_S1x4x8))) (mulf (extractStridedSlice S32x4x8 ![0, 0, 8] y slices_S32x4x64_S32x4x8_0_0_8) (broadcastInDim S32x4x8 ![0, 1, 2] bcast_S1x4x8_S32x4x8_0_1_2 (shapeCast _ (Host.sin angles8) shapeCasts_S4x8_S1x4x8))) : FVec Ideal S32x4x8 .f32)⟩, ⟨S32x4x8, (addf (mulf (extractStridedSlice S32x4x8 ![0, 0, 0] y slices_S32x4x64_S32x4x8_0_0_0) (broadcastInDim S32x4x8 ![0, 1, 2] bcast_S1x4x8_S32x4x8_0_1_2 (shapeCast _ (Host.sin angles8) shapeCasts_S4x8_S1x4x8))) (mulf (extractStridedSlice S32x4x8 ![0, 0, 8] y slices_S32x4x64_S32x4x8_0_0_8) (broadcastInDim S32x4x8 ![0, 1, 2] bcast_S1x4x8_S32x4x8_0_1_2 (shapeCast _ (Host.cos angles8) shapeCasts_S4x8_S1x4x8))) : FVec Ideal S32x4x8 .f32)⟩, ⟨S32x4x48, (extractStridedSlice S32x4x48 ![0, 0, 16] y slices_S32x4x64_S32x4x48_0_0_16 : FVec Ideal S32x4x48 .f32)⟩] concatenates_S32x4x8_S32x4x8_S32x4x48_S32x4x64_d2

theorem turnedKey_apply (y : FVec Ideal S32x4x64 .f32) (b : Fin 32) (t : Fin 4) (d : Fin 64) :
    turnedKey y (ix3 b t d) = turnIdx (8192 + t.val) (fun e => y (ix3 b t e)) d := by
  unfold turnIdx
  refine Eq.trans ?_ (cat_eq 8 _ _ _ _ _)
  unfold turnedKey
  pointwise
  simp only [angles8_apply]
  rfl

/-- A row number put together again from its sequence and token. -/
theorem row_back (r : Nat) (h : r / 4 * 4 + r % 4 < 128) : (⟨r / 4 * 4 + r % 4, h⟩ : Fin 128) = ⟨r, by omega⟩ :=
  Fin.ext (by simp only; omega)

variable (x : FVec Ideal S32x4x2048 .f32) (w : FVec Ideal S1x2048x7248 .f32)

theorem res0 (r : Fin 128) (c : Fin 1024) : (truncf .bf16 (shapeCast _ (mulf (turnedHeads (shapeCast _ (extractStridedSlice S32x4x1024 ![0, 0, 0] (hidden x w) slices_S32x4x7248_S32x4x1024_0_0_0) shapeCasts_S32x4x1024_S32x4x8x128)) (broadcastInDim S32x4x8x128 ![] bcast_S_S32x4x8x128 (constant S_ .f32 0x3DB504F3#32))) shapeCasts_S32x4x8x128_S128x1024) bitsLt_bf16_f32) (ix2 r c) = out0 x w (ix2 r c) := by
  unfold out0 head
  pointwise
  simp only [turnedHeads_apply, turnedIdx_apply, turnedKey_apply]
  pointwise
  simp only [hidden_apply, row_back]

theorem res1 (r : Fin 128) (c : Fin 1024) : (shapeCast S128x1024 (turnedHeads (shapeCast _ (extractStridedSlice S32x4x1024 ![0, 0, 1024] (hidden x w) slices_S32x4x7248_S32x4x1024_0_0_1024) shapeCasts_S32x4x1024_S32x4x8x128)) shapeCasts_S32x4x8x128_S128x1024) (ix2 r c) = out1 x w (ix2 r c) := by
  unfold out1 head
  pointwise
  simp only [turnedHeads_apply, turnedIdx_apply, turnedKey_apply]
  pointwise
  simp only [hidden_apply, row_back]

theorem res6 (r : Fin 128) (c : Fin 1024) : (truncf .bf16 (shapeCast _ (turnedIdx (shapeCast _ (extractStridedSlice S32x4x1024 ![0, 0, 4096] (hidden x w) slices_S32x4x7248_S32x4x1024_0_0_4096) shapeCasts_S32x4x1024_S32x4x16x64)) shapeCasts_S32x4x16x64_S128x1024) bitsLt_bf16_f32) (ix2 r c) = out6 x w (ix2 r c) := by
  unfold out6 query
  pointwise
  simp only [turnedHeads_apply, turnedIdx_apply, turnedKey_apply]
  pointwise
  simp only [hidden_apply, row_back]

theorem res7 (r : Fin 128) (d : Fin 64) : (shapeCast S128x64 (turnedKey (extractStridedSlice S32x4x64 ![0, 0, 5120] (hidden x w) slices_S32x4x7248_S32x4x64_0_0_5120)) shapeCasts_S32x4x64_S128x64) (ix2 r d) = out7 x w (ix2 r d) := by
  unfold out7 key
  pointwise
  simp only [turnedHeads_apply, turnedIdx_apply, turnedKey_apply]
  pointwise
  simp only [hidden_apply, row_back]

theorem res9 (b : Fin 1) (d : Fin 64) (r : Fin 128) : (broadcastInDim S1x64x128 ![1, 2] bcast_S64x128_S1x64x128_1_2 (transpose S64x128 [1, 0] (shapeCast _ (turnedKey (extractStridedSlice S32x4x64 ![0, 0, 5120] (hidden x w) slices_S32x4x7248_S32x4x64_0_0_5120)) shapeCasts_S32x4x64_S128x64) transposes_S128x64_S64x128_1_0)) (ix3 b d r) = out9 x w (ix3 b d r) := by
  unfold out9 key
  pointwise
  simp only [turnedHeads_apply, turnedIdx_apply, turnedKey_apply]
  pointwise
  simp only [hidden_apply, row_back]

theorem res3 (r : Fin 128) (c : Fin 1024) : (shapeCast S128x1024 (extractStridedSlice S32x4x1024 ![0, 0, 2048] (hidden x w) slices_S32x4x7248_S32x4x1024_0_0_2048) shapeCasts_S32x4x1024_S128x1024) (ix2 r c) = out3 x w (ix2 r c) := by
  unfold out3 plain
  pointwise
  simp only [hidden_apply, row_back]

theorem res5 (r : Fin 128) (c : Fin 1024) : (shapeCast S128x1024 (extractStridedSlice S32x4x1024 ![0, 0, 3072] (hidden x w) slices_S32x4x7248_S32x4x1024_0_0_3072) shapeCasts_S32x4x1024_S128x1024) (ix2 r c) = out5 x w (ix2 r c) := by
  unfold out5 plain
  pointwise
  simp only [hidden_apply, row_back]

theorem res10 (h : Fin 16) (r : Fin 128) : (mulf (transpose S16x128 [1, 0] (shapeCast _ (extractStridedSlice S32x4x16 ![0, 0, 5184] (hidden x w) slices_S32x4x7248_S32x4x16_0_0_5184) shapeCasts_S32x4x16_S128x16) transposes_S128x16_S16x128_1_0) (broadcastInDim S16x128 ![] bcast_S_S16x128 (constant S_ .f32 0x3D000000#32))) (ix2 h r) = out10 x w (ix2 h r) := by
  unfold out10
  pointwise
  simp only [hidden_apply, row_back]

theorem res11 (r : Fin 128) (c : Fin 1024) : (shapeCast S128x1024 (extractStridedSlice S32x4x1024 ![0, 0, 5200] (hidden x w) slices_S32x4x7248_S32x4x1024_0_0_5200) shapeCasts_S32x4x1024_S128x1024) (ix2 r c) = out11 x w (ix2 r c) := by
  unfold out11 plain
  pointwise
  simp only [hidden_apply, row_back]

theorem res12 (r : Fin 128) (c : Fin 1024) : (shapeCast S128x1024 (extractStridedSlice S32x4x1024 ![0, 0, 6224] (hidden x w) slices_S32x4x7248_S32x4x1024_0_0_6224) shapeCasts_S32x4x1024_S128x1024) (ix2 r c) = out12 x w (ix2 r c) := by
  unfold out12 plain
  pointwise
  simp only [hidden_apply, row_back]

variable (m : (ℓ : Loc nD τ sig) → Buf (Elt Ideal) ℓ) (ρ : Dev nD → PrngReg)

/-- The reference ends with the thirteen results. -/
theorem run : θ_run (defs (F := Ideal)) (onTc (τ := τ) (main (F := Ideal))) ⟨m, fun _ => 0, ρ⟩ fun r => ∀ c : Dev nD,
      r.2.mem ((c.tc : Thread nD τ).loc main_v140) = out0 (m ((c.tc : Thread nD τ).loc main_arg0)) (m ((c.tc : Thread nD τ).loc main_arg1))
      ∧ r.2.mem ((c.tc : Thread nD τ).loc main_v141) = out1 (m ((c.tc : Thread nD τ).loc main_arg0)) (m ((c.tc : Thread nD τ).loc main_arg1))
      ∧ r.2.mem ((c.tc : Thread nD τ).loc main_v143) = out1 (m ((c.tc : Thread nD τ).loc main_arg0)) (m ((c.tc : Thread nD τ).loc main_arg1))
      ∧ r.2.mem ((c.tc : Thread nD τ).loc main_v144) = out3 (m ((c.tc : Thread nD τ).loc main_arg0)) (m ((c.tc : Thread nD τ).loc main_arg1))
      ∧ r.2.mem ((c.tc : Thread nD τ).loc main_v146) = out3 (m ((c.tc : Thread nD τ).loc main_arg0)) (m ((c.tc : Thread nD τ).loc main_arg1))
      ∧ r.2.mem ((c.tc : Thread nD τ).loc main_v147) = out5 (m ((c.tc : Thread nD τ).loc main_arg0)) (m ((c.tc : Thread nD τ).loc main_arg1))
      ∧ r.2.mem ((c.tc : Thread nD τ).loc main_v149) = out6 (m ((c.tc : Thread nD τ).loc main_arg0)) (m ((c.tc : Thread nD τ).loc main_arg1))
      ∧ r.2.mem ((c.tc : Thread nD τ).loc main_v150) = out7 (m ((c.tc : Thread nD τ).loc main_arg0)) (m ((c.tc : Thread nD τ).loc main_arg1))
      ∧ r.2.mem ((c.tc : Thread nD τ).loc main_v152) = out7 (m ((c.tc : Thread nD τ).loc main_arg0)) (m ((c.tc : Thread nD τ).loc main_arg1))
      ∧ r.2.mem ((c.tc : Thread nD τ).loc main_v155) = out9 (m ((c.tc : Thread nD τ).loc main_arg0)) (m ((c.tc : Thread nD τ).loc main_arg1))
      ∧ r.2.mem ((c.tc : Thread nD τ).loc main_v159) = out10 (m ((c.tc : Thread nD τ).loc main_arg0)) (m ((c.tc : Thread nD τ).loc main_arg1))
      ∧ r.2.mem ((c.tc : Thread nD τ).loc main_v160) = out11 (m ((c.tc : Thread nD τ).loc main_arg0)) (m ((c.tc : Thread nD τ).loc main_arg1))
      ∧ r.2.mem ((c.tc : Thread nD τ).loc main_v161) = out12 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Value.run (F := Ideal) m ρ)
  obtain ⟨h140, h141, h143, h144, h146, h147, h149, h150, h152, h155, h159, h160, h161, ha, hb⟩ := h c
  clear h
  refine ⟨h140.trans ?_, h141.trans ?_, h143.trans ?_, h144.trans ?_, h146.trans ?_, h147.trans ?_, h149.trans ?_, h150.trans ?_, h152.trans ?_, h155.trans ?_, h159.trans ?_, h160.trans ?_, h161.trans ?_, ha, hb⟩
  · funext i; idx_vars i; exact res0 (m ((c.tc : Thread nD τ).loc main_arg0)) (m ((c.tc : Thread nD τ).loc main_arg1)) _ _
  · funext i; idx_vars i; exact res1 (m ((c.tc : Thread nD τ).loc main_arg0)) (m ((c.tc : Thread nD τ).loc main_arg1)) _ _
  · funext i; idx_vars i; exact res1 (m ((c.tc : Thread nD τ).loc main_arg0)) (m ((c.tc : Thread nD τ).loc main_arg1)) _ _
  · funext i; idx_vars i; exact res3 (m ((c.tc : Thread nD τ).loc main_arg0)) (m ((c.tc : Thread nD τ).loc main_arg1)) _ _
  · funext i; idx_vars i; exact res3 (m ((c.tc : Thread nD τ).loc main_arg0)) (m ((c.tc : Thread nD τ).loc main_arg1)) _ _
  · funext i; idx_vars i; exact res5 (m ((c.tc : Thread nD τ).loc main_arg0)) (m ((c.tc : Thread nD τ).loc main_arg1)) _ _
  · funext i; idx_vars i; exact res6 (m ((c.tc : Thread nD τ).loc main_arg0)) (m ((c.tc : Thread nD τ).loc main_arg1)) _ _
  · funext i; idx_vars i; exact res7 (m ((c.tc : Thread nD τ).loc main_arg0)) (m ((c.tc : Thread nD τ).loc main_arg1)) _ _
  · funext i; idx_vars i; exact res7 (m ((c.tc : Thread nD τ).loc main_arg0)) (m ((c.tc : Thread nD τ).loc main_arg1)) _ _
  · funext i; idx_vars i; exact res9 (m ((c.tc : Thread nD τ).loc main_arg0)) (m ((c.tc : Thread nD τ).loc main_arg1)) _ _ _
  · funext i; idx_vars i; exact res10 (m ((c.tc : Thread nD τ).loc main_arg0)) (m ((c.tc : Thread nD τ).loc main_arg1)) _ _
  · funext i; idx_vars i; exact res11 (m ((c.tc : Thread nD τ).loc main_arg0)) (m ((c.tc : Thread nD τ).loc main_arg1)) _ _
  · funext i; idx_vars i; exact res12 (m ((c.tc : Thread nD τ).loc main_arg0)) (m ((c.tc : Thread nD τ).loc main_arg1)) _ _

end Cert.ReferenceProjectSampleIdeal.Project
-- ==== Proof.ProjectSample.Claims.lean ====
/- The sample group's projection: the kernel and the reference end with equal results. -/
module

public import proofs.«01_k».proof.Proof.ProjectSample.Kernel
public import proofs.«01_k».proof.Proof.ProjectSample.Reference
public import proofs.«01_k».proof.Proof.Gen.KernelProjectSampleIdeal.Value
public import proofs.«01_k».proof.Defs
public import Idealize.ShloMosaic.Lib.Claim

@[expose] public section

noncomputable section

namespace Cert.ProjectSample

open Idealize.ShloMosaic Idealize.ShloMosaic.TcCoe Idealize.SL.Sem

/-- Both runs end with the thirteen projections of every row. -/
theorem claim : Cert.algebraic_KernelProjectSampleIdeal_ReferenceProjectSampleIdeal := by
  intro m g m' g' hp hm
  refine ⟨fun c => Cert.Project.Sample.out0 (Cert.KernelProjectSampleIdeal.Project.arr0 m c) (Cert.KernelProjectSampleIdeal.Project.arr1 m c),
    fun c => Cert.Project.Sample.out1 (Cert.KernelProjectSampleIdeal.Project.arr0 m c) (Cert.KernelProjectSampleIdeal.Project.arr1 m c),
    fun c => Cert.Project.Sample.out1 (Cert.KernelProjectSampleIdeal.Project.arr0 m c) (Cert.KernelProjectSampleIdeal.Project.arr1 m c),
    fun c => Cert.Project.Sample.out3 (Cert.KernelProjectSampleIdeal.Project.arr0 m c) (Cert.KernelProjectSampleIdeal.Project.arr1 m c),
    fun c => Cert.Project.Sample.out3 (Cert.KernelProjectSampleIdeal.Project.arr0 m c) (Cert.KernelProjectSampleIdeal.Project.arr1 m c),
    fun c => Cert.Project.Sample.out5 (Cert.KernelProjectSampleIdeal.Project.arr0 m c) (Cert.KernelProjectSampleIdeal.Project.arr1 m c),
    fun c => Cert.Project.Sample.out6 (Cert.KernelProjectSampleIdeal.Project.arr0 m c) (Cert.KernelProjectSampleIdeal.Project.arr1 m c),
    fun c => Cert.Project.Sample.out7 (Cert.KernelProjectSampleIdeal.Project.arr0 m c) (Cert.KernelProjectSampleIdeal.Project.arr1 m c),
    fun c => Cert.Project.Sample.out7 (Cert.KernelProjectSampleIdeal.Project.arr0 m c) (Cert.KernelProjectSampleIdeal.Project.arr1 m c),
    fun c => Cert.Project.Sample.out9 (Cert.KernelProjectSampleIdeal.Project.arr0 m c) (Cert.KernelProjectSampleIdeal.Project.arr1 m c),
    fun c => Cert.Project.Sample.out10 (Cert.KernelProjectSampleIdeal.Project.arr0 m c) (Cert.KernelProjectSampleIdeal.Project.arr1 m c),
    fun c => Cert.Project.Sample.out11 (Cert.KernelProjectSampleIdeal.Project.arr0 m c) (Cert.KernelProjectSampleIdeal.Project.arr1 m c),
    fun c => Cert.Project.Sample.out12 (Cert.KernelProjectSampleIdeal.Project.arr0 m c) (Cert.KernelProjectSampleIdeal.Project.arr1 m c), ?_, ?_⟩
  · refine (θ_run _ _ _).mono (fun r h c => ?_) (Cert.KernelProjectSampleIdeal.Value.run_blocks (F := Ideal) m g)
    obtain ⟨h0, h1, h2, h3, h4, h5, h6, h7, h8, h9, h10, h11, h12, k0, k1⟩ := h c
    exact ⟨h0.trans (Cert.KernelProjectSampleIdeal.Project.final5 m c),
      h1.trans (Cert.KernelProjectSampleIdeal.Project.final6 m c),
      h2.trans (Cert.KernelProjectSampleIdeal.Project.final7 m c),
      h3.trans (Cert.KernelProjectSampleIdeal.Project.final8 m c),
      h4.trans (Cert.KernelProjectSampleIdeal.Project.final9 m c),
      h5.trans (Cert.KernelProjectSampleIdeal.Project.final10 m c),
      h6.trans (Cert.KernelProjectSampleIdeal.Project.final11 m c),
      h7.trans (Cert.KernelProjectSampleIdeal.Project.final12 m c),
      h8.trans (Cert.KernelProjectSampleIdeal.Project.final13 m c),
      h9.trans (Cert.KernelProjectSampleIdeal.Project.final14 m c),
      h10.trans (Cert.KernelProjectSampleIdeal.Project.final15 m c),
      h11.trans (Cert.KernelProjectSampleIdeal.Project.final16 m c),
      h12.trans (Cert.KernelProjectSampleIdeal.Project.final17 m c), k0, k1⟩
  · refine (θ_run _ _ _).mono (fun r h c => ?_) (Cert.ReferenceProjectSampleIdeal.Project.run m' g')
    obtain ⟨h0, h1, h2, h3, h4, h5, h6, h7, h8, h9, h10, h11, h12, k0, k1⟩ := h c
    obtain ⟨a0, a1⟩ := hm c
    exact ⟨h0.trans (by rw [a0, a1]),
      h1.trans (by rw [a0, a1]),
      h2.trans (by rw [a0, a1]),
      h3.trans (by rw [a0, a1]),
      h4.trans (by rw [a0, a1]),
      h5.trans (by rw [a0, a1]),
      h6.trans (by rw [a0, a1]),
      h7.trans (by rw [a0, a1]),
      h8.trans (by rw [a0, a1]),
      h9.trans (by rw [a0, a1]),
      h10.trans (by rw [a0, a1]),
      h11.trans (by rw [a0, a1]),
      h12.trans (by rw [a0, a1]), k0, k1⟩

end Cert.ProjectSample
-- ==== Proof.CombineSample.Frames.lean ====
/- The sample group's last call: every run of the kernel and of the reference ends, leaves the arguments alone and no count standing. -/
module

public import proofs.«01_k».proof.Proof.Gen.KernelCombineSample.Frame
public import proofs.«01_k».proof.Proof.Gen.KernelCombineSampleIdeal.Frame
public import proofs.«01_k».proof.Proof.Gen.ReferenceCombineSampleIdeal.Run
public import proofs.«01_k».proof.Defs

@[expose] public section

noncomputable section

namespace Cert.CombineSample

open Idealize.ShloMosaic Idealize.SL.Sem

theorem frame_kernel : Cert.quiescent_KernelCombineSample := fun m ρ _ => Cert.KernelCombineSample.Gen.frame (F := Bits) m ρ
theorem frame_ideal : Cert.quiescent_KernelCombineSampleIdeal := fun m ρ _ => Cert.KernelCombineSampleIdeal.Gen.frame (F := Ideal) m ρ
theorem frame_reference : Cert.quiescent_ReferenceCombineSampleIdeal := fun m ρ _ =>
  (θ_run Cert.ReferenceCombineSampleIdeal.defs _ _).mono (fun r h => ⟨fun c => (h c).2, sem_eq_zero_of_no_sems (by decide) r.2⟩)
    (Cert.ReferenceCombineSampleIdeal.Value.run (F := Ideal) m ρ)

end Cert.CombineSample
-- ==== Proof.CombineSample.Spec.lean ====
/- The pooling, the gates, the output projection and the layer norm of the sample group, as plain functions of the arrays. -/
module

public import proofs.«01_k».proof.Proof.Combine.Spec

@[expose] public section

noncomputable section

namespace Cert.CombineSample

open Idealize.ShloMosaic Idealize.ShloMosaic.TcCoe
open Cert.Combine
open scoped BigOperators

/-- An array of 32 sequences of 4 rows of `n` columns. -/
abbrev Tokens (n : Nat) := (⟨3, ![32, 4, n]⟩ : Shape).Idx → EReal
/-- The 15 rows that precede each sequence. -/
abbrev State := (⟨4, ![1, 32, 15, 1024]⟩ : Shape).Idx → EReal

/-- Row `q` of a sequence with its state before it. -/
def history (s : State) (u : Tokens 1024) (n : Fin 32) (q : Nat) (d : Fin 1024) : EReal :=
  if h : q < 15 then s (ix4 (0 : Fin 1) n ⟨q, h⟩ d) else if h : q - 15 < 4 then u (ix3 n ⟨q - 15, h⟩ d) else 0

/-- The trailing mean of width `w`, less the row itself. -/
def pooled (s : State) (u : Tokens 1024) (w : Nat) (n : Fin 32) (t : Fin 4) (d : Fin 1024) : EReal :=
  Ideal.div (∑ j ∈ Finset.range w, history s u n (15 + t.val - j) d) (rowsIn w (15 + t.val)) - history s u n (15 + t.val) d

/-- One column of group `g`'s mixture. -/
def mix (s : State) (u : Tokens 1024) (wp : Mixing) (n : Fin 32) (t : Fin 4) (g : Fin 4) (e : Fin 256) : EReal :=
  ∑ x : Fin 256, pooled s u (width g) n t ⟨256 * g.val + x.val, by omega⟩ * wp (ix4 (0 : Fin 1) g x e)

/-- One column of the pooling mixer. -/
def poolMix (s : State) (u : Tokens 1024) (wp : Mixing) (ps : (⟨2, ![1, 1024]⟩ : Shape).Idx → EReal) (n : Fin 32) (t : Fin 4) (k : Fin 1024) : EReal :=
  mix s u wp n t ⟨k.val / 256, by omega⟩ ⟨k.val % 256, by omega⟩ * ps (ix2 (0 : Fin 1) k)

/-- One entry of the row before the layer norm. -/
def gatedRow (a ga gb : Tokens 1024) (p : Fin 32 → Fin 4 → Fin 1024 → EReal) (x : Tokens 2048) (wo : (⟨3, ![1, 2048, 2048]⟩ : Shape).Idx → EReal)
    (n : Fin 32) (t : Fin 4) (o : Fin 2048) : EReal :=
  Ideal.ofBits .f32 1066940400#32 * x (ix3 n t o)
    + (∑ k : Fin 1024, a (ix3 n t k) * gate (ga (ix3 n t k)) * wo (ix3 (0 : Fin 1) ⟨k.val, by omega⟩ o)
      + ∑ k : Fin 1024, p n t k * gate (gb (ix3 n t k)) * wo (ix3 (0 : Fin 1) ⟨1024 + k.val, by omega⟩ o))

/-- One entry of the result. -/
def entry (a ga gb u : Tokens 1024) (s : State) (x : Tokens 2048) (wp : Mixing) (ps : (⟨2, ![1, 1024]⟩ : Shape).Idx → EReal)
    (wo : (⟨3, ![1, 2048, 2048]⟩ : Shape).Idx → EReal) (g β : (⟨2, ![1, 2048]⟩ : Shape).Idx → EReal) (n : Fin 32) (t : Fin 4) (o : Fin 2048) : EReal :=
  norm (gatedRow a ga gb (poolMix s u wp ps) x wo n t) (fun o => g (ix2 (0 : Fin 1) o)) (fun o => β (ix2 (0 : Fin 1) o)) o

/-- The result, the sequences' rows position by position. -/
def result (a ga gb u : Tokens 1024) (s : State) (x : Tokens 2048) (wp : Mixing) (ps : (⟨2, ![1, 1024]⟩ : Shape).Idx → EReal)
    (wo : (⟨3, ![1, 2048, 2048]⟩ : Shape).Idx → EReal) (g β : (⟨2, ![1, 2048]⟩ : Shape).Idx → EReal) : (⟨2, ![128, 2048]⟩ : Shape).Idx → EReal := fun i =>
  entry a ga gb u s x wp ps wo g β ⟨(i 0).val % 32, by omega⟩ ⟨(i 0).val / 32, by have : (i 0).val < 128 := (i 0).isLt; omega⟩ (i 1)

/-- From its fifteenth row on a sequence's window is full: its count of rows is its width. -/
theorem rowsIn_two (t : Fin 4) : rowsIn 2 (15 + t.val) = Ideal.ofBits .f32 0x40000000#32 := by
  have e : ∀ t : Fin 4, IntOp.minsi (BitVec.ofNat 32 (15 + t.val + 1)) (BitVec.ofNat 32 2) = 2#32 := by decide
  unfold rowsIn
  rw [e]
  simp [FloatOps.sitofp, Ideal.ofBits, Ideal.ieee]
  rw [← EReal.coe_mul]
  norm_num
theorem rowsIn_four (t : Fin 4) : rowsIn 4 (15 + t.val) = Ideal.ofBits .f32 0x40800000#32 := by
  have e : ∀ t : Fin 4, IntOp.minsi (BitVec.ofNat 32 (15 + t.val + 1)) (BitVec.ofNat 32 4) = 4#32 := by decide
  unfold rowsIn
  rw [e]
  simp [FloatOps.sitofp, Ideal.ofBits, Ideal.ieee]
  rw [← EReal.coe_mul]
  norm_num
theorem rowsIn_eight (t : Fin 4) : rowsIn 8 (15 + t.val) = Ideal.ofBits .f32 0x41000000#32 := by
  have e : ∀ t : Fin 4, IntOp.minsi (BitVec.ofNat 32 (15 + t.val + 1)) (BitVec.ofNat 32 8) = 8#32 := by decide
  unfold rowsIn
  rw [e]
  simp [FloatOps.sitofp, Ideal.ofBits, Ideal.ieee]
  rw [← EReal.coe_mul]
  norm_num
theorem rowsIn_sixteen (t : Fin 4) : rowsIn 16 (15 + t.val) = Ideal.ofBits .f32 0x41800000#32 := by
  have e : ∀ t : Fin 4, IntOp.minsi (BitVec.ofNat 32 (15 + t.val + 1)) (BitVec.ofNat 32 16) = 16#32 := by decide
  unfold rowsIn
  rw [e]
  simp [FloatOps.sitofp, Ideal.ofBits, Ideal.ieee]
  rw [← EReal.coe_mul]
  norm_num

/-- The sum over the rows of a window is the sum over how far back they lie. -/
theorem window_sum (f : Nat → EReal) (w : Nat) (hw : w ≤ 16) (t : Fin 4) :
    (∑ q : Fin 19, if q.val ≤ 15 + t.val ∧ 15 + t.val < q.val + w then f q.val else 0) = ∑ j ∈ Finset.range w, f (15 + t.val - j) := by
  rw [← Finset.sum_filter]
  refine Finset.sum_bij' (fun q _ => 15 + t.val - q.val) (fun j hj => (⟨15 + t.val - j, by have := t.isLt; omega⟩ : Fin 19)) ?_ ?_ ?_ ?_ ?_
  · intro q hq
    have hq := (Finset.mem_filter.mp hq).2
    exact Finset.mem_range.mpr (by omega)
  · intro j hj
    have hj := Finset.mem_range.mp hj
    refine Finset.mem_filter.mpr ⟨Finset.mem_univ _, ?_⟩
    show 15 + t.val - j ≤ 15 + t.val ∧ 15 + t.val < 15 + t.val - j + w
    omega
  · intro q hq
    have hq := (Finset.mem_filter.mp hq).2
    refine Fin.ext ?_
    show 15 + t.val - (15 + t.val - q.val) = q.val
    omega
  · intro j hj
    have hj := Finset.mem_range.mp hj
    show 15 + t.val - (15 + t.val - j) = j
    omega
  · intro q hq
    have hq := (Finset.mem_filter.mp hq).2
    exact congrArg f (show q.val = 15 + t.val - (15 + t.val - q.val) by omega)

end Cert.CombineSample

end
-- ==== Proof.CombineSample.Block.lean ====
/- The sample group's last call, when its input blocks are the arrays. -/
module

public import proofs.«01_k».proof.Proof.Gen.KernelCombineSampleIdeal.Frame
public import proofs.«01_k».proof.Proof.CombineSample.Spec
public import Idealize.ShloMosaic.Lib.Pipeline.ValueKit

@[expose] public section

set_option maxRecDepth 100000
set_option maxHeartbeats 2000000

noncomputable section

namespace Cert.KernelCombineSampleIdeal.Combine

open Cert.KernelCombineSampleIdeal Cert.KernelCombineSampleIdeal.Gen Idealize.ShloMosaic Idealize.ShloMosaic.TcCoe Idealize.SL.Sem
open Cert.Combine (Mixing width gate mean norm rowsIn)
open Cert.CombineSample
open scoped BigOperators

variable {a ga gb u : Tokens 1024} {s : State} {x : Tokens 2048} {wp : Mixing} {ps : (⟨2, ![1, 1024]⟩ : Shape).Idx → EReal}
  {wo : (⟨3, ![1, 2048, 2048]⟩ : Shape).Idx → EReal} {g β : (⟨2, ![1, 2048]⟩ : Shape).Idx → EReal}

/-- The pooled entries, the windows' sums written out. -/
theorem pooled_two (s : State) (u : Tokens 1024) (n : Fin 32) (t : Fin 4) (d d' : Fin 1024) (h : d.val = d'.val) :
    Ideal.div (history s u n (15 + t.val - 0) d + history s u n (15 + t.val - 1) d)
        (Ideal.ofBits .f32 0x40000000#32) - history s u n (15 + t.val) d = pooled s u 2 n t d' := by
  obtain rfl : d = d' := Fin.ext h
  simp only [pooled, rowsIn_two, Finset.sum_range_succ, Finset.sum_range_zero, zero_add]
theorem pooled_four (s : State) (u : Tokens 1024) (n : Fin 32) (t : Fin 4) (d d' : Fin 1024) (h : d.val = d'.val) :
    Ideal.div (history s u n (15 + t.val - 0) d + history s u n (15 + t.val - 1) d + history s u n (15 + t.val - 2) d + history s u n (15 + t.val - 3) d)
        (Ideal.ofBits .f32 0x40800000#32) - history s u n (15 + t.val) d = pooled s u 4 n t d' := by
  obtain rfl : d = d' := Fin.ext h
  simp only [pooled, rowsIn_four, Finset.sum_range_succ, Finset.sum_range_zero, zero_add]
theorem pooled_eight (s : State) (u : Tokens 1024) (n : Fin 32) (t : Fin 4) (d d' : Fin 1024) (h : d.val = d'.val) :
    Ideal.div (history s u n (15 + t.val - 0) d + history s u n (15 + t.val - 1) d + history s u n (15 + t.val - 2) d + history s u n (15 + t.val - 3) d + history s u n (15 + t.val - 4) d + history s u n (15 + t.val - 5) d + history s u n (15 + t.val - 6) d + history s u n (15 + t.val - 7) d)
        (Ideal.ofBits .f32 0x41000000#32) - history s u n (15 + t.val) d = pooled s u 8 n t d' := by
  obtain rfl : d = d' := Fin.ext h
  simp only [pooled, rowsIn_eight, Finset.sum_range_succ, Finset.sum_range_zero, zero_add]
theorem pooled_sixteen (s : State) (u : Tokens 1024) (n : Fin 32) (t : Fin 4) (d d' : Fin 1024) (h : d.val = d'.val) :
    Ideal.div (history s u n (15 + t.val - 0) d + history s u n (15 + t.val - 1) d + history s u n (15 + t.val - 2) d + history s u n (15 + t.val - 3) d + history s u n (15 + t.val - 4) d + history s u n (15 + t.val - 5) d + history s u n (15 + t.val - 6) d + history s u n (15 + t.val - 7) d + history s u n (15 + t.val - 8) d + history s u n (15 + t.val - 9) d + history s u n (15 + t.val - 10) d + history s u n (15 + t.val - 11) d + history s u n (15 + t.val - 12) d + history s u n (15 + t.val - 13) d + history s u n (15 + t.val - 14) d + history s u n (15 + t.val - 15) d)
        (Ideal.ofBits .f32 0x41800000#32) - history s u n (15 + t.val) d = pooled s u 16 n t d' := by
  obtain rfl : d = d' := Fin.ext h
  simp only [pooled, rowsIn_sixteen, Finset.sum_range_succ, Finset.sum_range_zero, zero_add]

/-- The pooling mixer at position 0. -/
theorem at0 (E : Vec Ideal S19x32x1024 .f32) (x5 : Vec Ideal S4x256x256 .bf16) (x6 : Vec Ideal S1x1024 .f32)
    (hE : ∀ (q : Fin 19) (n : Fin 32) (d : Fin 1024), (E (ix3 q n d) : EReal) = history s u n q.val d)
    (h5 : ∀ g x e, (x5 (ix3 g x e) : EReal) = wp (ix4 (0 : Fin 1) g x e))
    (h6 : ∀ k, (x6 (ix2 (0 : Fin 1) k) : EReal) = ps (ix2 (0 : Fin 1) k)) (n : Fin 32) (k : Fin 1024) :
    k0_pay9 (k0_pay2 (View.ld E r0_0) (View.ld E r0_1) (View.ld E r0_0) (View.ld x5 r0_2)) (k0_pay4 (k0_pay3 (View.ld E r0_3) (View.ld E r0_4) (View.ld E r0_5) (View.ld E r0_6) (View.ld E r0_3)) (View.ld x5 r0_7)) (k0_pay6 (k0_pay5 (View.ld E r0_8) (View.ld E r0_9) (View.ld E r0_10) (View.ld E r0_11) (View.ld E r0_12) (View.ld E r0_13) (View.ld E r0_14) (View.ld E r0_15)) (View.ld E r0_8) (View.ld x5 r0_16)) (k0_pay8 (k0_pay7 (View.ld E r0_17) (View.ld E r0_18) (View.ld E r0_19) (View.ld E r0_20) (View.ld E r0_21) (View.ld E r0_22) (View.ld E r0_23) (View.ld E r0_24)) (View.ld E r0_25) (View.ld E r0_26) (View.ld E r0_27) (View.ld E r0_28) (View.ld E r0_29) (View.ld E r0_30) (View.ld E r0_31) (View.ld E r0_32) (View.ld E r0_17)) (View.ld x5 r0_33) (View.ld x6 r0_34) (ix2 n k)
      = poolMix s u wp ps n (0 : Fin 4) k := by
  unfold k0_pay9 k0_pay8 k0_pay7 k0_pay6 k0_pay5 k0_pay4 k0_pay3 k0_pay2
  pointwise
  simp only [hE, h5, h6]
  unfold poolMix
  refine congrArg (fun z : EReal => z * ps (ix2 (0 : Fin 1) k)) ?_
  by_cases h0c : k.val < 256
  · rw [dif_pos h0c]
    rw [show (⟨k.val / 256, by omega⟩ : Fin 4) = 0 from Fin.ext (by show k.val / 256 = 0; omega),
      show (⟨k.val % 256, by omega⟩ : Fin 256) = ⟨k.val, by omega⟩ from Fin.ext (by show k.val % 256 = k.val; omega)]
    exact Finset.sum_congr rfl fun x _ => congrArg (fun z : EReal => z * wp (ix4 (0 : Fin 1) (0 : Fin 4) x (⟨k.val, by omega⟩ : Fin 256))) (pooled_two s u n (0 : Fin 4) _ _ (by show _ = 256 * 0 + x.val; simp only; try omega))
  · rw [dif_neg h0c]
    by_cases h1c : k.val - 256 < 256
    · rw [dif_pos h1c]
      rw [show (⟨k.val / 256, by omega⟩ : Fin 4) = 1 from Fin.ext (by show k.val / 256 = 1; omega),
        show (⟨k.val % 256, by omega⟩ : Fin 256) = ⟨k.val - 256, by omega⟩ from Fin.ext (by show k.val % 256 = k.val - 256; omega)]
      exact Finset.sum_congr rfl fun x _ => congrArg (fun z : EReal => z * wp (ix4 (0 : Fin 1) (1 : Fin 4) x (⟨k.val - 256, by omega⟩ : Fin 256))) (pooled_four s u n (0 : Fin 4) _ _ (by show _ = 256 * 1 + x.val; simp only; try omega))
    · rw [dif_neg h1c]
      by_cases h2c : k.val - 256 - 256 < 256
      · rw [dif_pos h2c]
        rw [show (⟨k.val / 256, by omega⟩ : Fin 4) = 2 from Fin.ext (by show k.val / 256 = 2; omega),
          show (⟨k.val % 256, by omega⟩ : Fin 256) = ⟨k.val - 256 - 256, by omega⟩ from Fin.ext (by show k.val % 256 = k.val - 256 - 256; omega)]
        exact Finset.sum_congr rfl fun x _ => congrArg (fun z : EReal => z * wp (ix4 (0 : Fin 1) (2 : Fin 4) x (⟨k.val - 256 - 256, by omega⟩ : Fin 256))) (pooled_eight s u n (0 : Fin 4) _ _ (by show _ = 256 * 2 + x.val; simp only; try omega))
      · rw [dif_neg h2c]
        rw [show (⟨k.val / 256, by omega⟩ : Fin 4) = 3 from Fin.ext (by show k.val / 256 = 3; omega),
          show (⟨k.val % 256, by omega⟩ : Fin 256) = ⟨k.val - 256 - 256 - 256, by omega⟩ from Fin.ext (by show k.val % 256 = k.val - 256 - 256 - 256; omega)]
        exact Finset.sum_congr rfl fun x _ => congrArg (fun z : EReal => z * wp (ix4 (0 : Fin 1) (3 : Fin 4) x (⟨k.val - 256 - 256 - 256, by omega⟩ : Fin 256))) (pooled_sixteen s u n (0 : Fin 4) _ _ (by show _ = 256 * 3 + x.val; simp only; try omega))

/-- The pooling mixer at position 1. -/
theorem at1 (E : Vec Ideal S19x32x1024 .f32) (x5 : Vec Ideal S4x256x256 .bf16) (x6 : Vec Ideal S1x1024 .f32)
    (hE : ∀ (q : Fin 19) (n : Fin 32) (d : Fin 1024), (E (ix3 q n d) : EReal) = history s u n q.val d)
    (h5 : ∀ g x e, (x5 (ix3 g x e) : EReal) = wp (ix4 (0 : Fin 1) g x e))
    (h6 : ∀ k, (x6 (ix2 (0 : Fin 1) k) : EReal) = ps (ix2 (0 : Fin 1) k)) (n : Fin 32) (k : Fin 1024) :
    k0_pay18 (k0_pay10 (View.ld E r0_35) (View.ld E r0_0) (View.ld E r0_35) (View.ld x5 r0_2)) (k0_pay12 (k0_pay11 (View.ld E r0_36) (View.ld E r0_3) (View.ld E r0_4)) (View.ld E r0_5) (View.ld E r0_36) (View.ld x5 r0_7)) (k0_pay14 (k0_pay13 (View.ld E r0_37) (View.ld E r0_8) (View.ld E r0_9) (View.ld E r0_10) (View.ld E r0_11) (View.ld E r0_12) (View.ld E r0_13)) (View.ld E r0_14) (View.ld E r0_37) (View.ld x5 r0_16)) (k0_pay16 (k0_pay15 (View.ld E r0_38) (View.ld E r0_17) (View.ld E r0_18) (View.ld E r0_19) (View.ld E r0_20) (View.ld E r0_21)) (View.ld E r0_22) (View.ld E r0_23) (View.ld E r0_24) (View.ld E r0_25) (View.ld E r0_26) (View.ld E r0_27) (View.ld E r0_28) (View.ld E r0_29) (View.ld E r0_30) (View.ld E r0_31)) (k0_pay17 (F := Ideal)) (View.ld E r0_38) (View.ld x5 r0_33) (View.ld x6 r0_34) (ix2 n k)
      = poolMix s u wp ps n (1 : Fin 4) k := by
  unfold k0_pay18 k0_pay17 k0_pay16 k0_pay15 k0_pay14 k0_pay13 k0_pay12 k0_pay11 k0_pay10
  pointwise
  simp only [hE, h5, h6]
  unfold poolMix
  refine congrArg (fun z : EReal => z * ps (ix2 (0 : Fin 1) k)) ?_
  by_cases h0c : k.val < 256
  · rw [dif_pos h0c]
    rw [show (⟨k.val / 256, by omega⟩ : Fin 4) = 0 from Fin.ext (by show k.val / 256 = 0; omega),
      show (⟨k.val % 256, by omega⟩ : Fin 256) = ⟨k.val, by omega⟩ from Fin.ext (by show k.val % 256 = k.val; omega)]
    exact Finset.sum_congr rfl fun x _ => congrArg (fun z : EReal => z * wp (ix4 (0 : Fin 1) (0 : Fin 4) x (⟨k.val, by omega⟩ : Fin 256))) (pooled_two s u n (1 : Fin 4) _ _ (by show _ = 256 * 0 + x.val; simp only; try omega))
  · rw [dif_neg h0c]
    by_cases h1c : k.val - 256 < 256
    · rw [dif_pos h1c]
      rw [show (⟨k.val / 256, by omega⟩ : Fin 4) = 1 from Fin.ext (by show k.val / 256 = 1; omega),
        show (⟨k.val % 256, by omega⟩ : Fin 256) = ⟨k.val - 256, by omega⟩ from Fin.ext (by show k.val % 256 = k.val - 256; omega)]
      exact Finset.sum_congr rfl fun x _ => congrArg (fun z : EReal => z * wp (ix4 (0 : Fin 1) (1 : Fin 4) x (⟨k.val - 256, by omega⟩ : Fin 256))) (pooled_four s u n (1 : Fin 4) _ _ (by show _ = 256 * 1 + x.val; simp only; try omega))
    · rw [dif_neg h1c]
      by_cases h2c : k.val - 256 - 256 < 256
      · rw [dif_pos h2c]
        rw [show (⟨k.val / 256, by omega⟩ : Fin 4) = 2 from Fin.ext (by show k.val / 256 = 2; omega),
          show (⟨k.val % 256, by omega⟩ : Fin 256) = ⟨k.val - 256 - 256, by omega⟩ from Fin.ext (by show k.val % 256 = k.val - 256 - 256; omega)]
        exact Finset.sum_congr rfl fun x _ => congrArg (fun z : EReal => z * wp (ix4 (0 : Fin 1) (2 : Fin 4) x (⟨k.val - 256 - 256, by omega⟩ : Fin 256))) (pooled_eight s u n (1 : Fin 4) _ _ (by show _ = 256 * 2 + x.val; simp only; try omega))
      · rw [dif_neg h2c]
        rw [show (⟨k.val / 256, by omega⟩ : Fin 4) = 3 from Fin.ext (by show k.val / 256 = 3; omega),
          show (⟨k.val % 256, by omega⟩ : Fin 256) = ⟨k.val - 256 - 256 - 256, by omega⟩ from Fin.ext (by show k.val % 256 = k.val - 256 - 256 - 256; omega)]
        exact Finset.sum_congr rfl fun x _ => congrArg (fun z : EReal => z * wp (ix4 (0 : Fin 1) (3 : Fin 4) x (⟨k.val - 256 - 256 - 256, by omega⟩ : Fin 256))) (pooled_sixteen s u n (1 : Fin 4) _ _ (by show _ = 256 * 3 + x.val; simp only; try omega))

/-- The pooling mixer at position 2. -/
theorem at2 (E : Vec Ideal S19x32x1024 .f32) (x5 : Vec Ideal S4x256x256 .bf16) (x6 : Vec Ideal S1x1024 .f32)
    (hE : ∀ (q : Fin 19) (n : Fin 32) (d : Fin 1024), (E (ix3 q n d) : EReal) = history s u n q.val d)
    (h5 : ∀ g x e, (x5 (ix3 g x e) : EReal) = wp (ix4 (0 : Fin 1) g x e))
    (h6 : ∀ k, (x6 (ix2 (0 : Fin 1) k) : EReal) = ps (ix2 (0 : Fin 1) k)) (n : Fin 32) (k : Fin 1024) :
    k0_pay27 (k0_pay19 (View.ld E r0_39) (View.ld E r0_35) (View.ld E r0_39) (View.ld x5 r0_2)) (k0_pay22 (k0_pay20 (View.ld E r0_40)) (k0_pay21 (View.ld E r0_36)) (View.ld E r0_3) (View.ld E r0_4) (View.ld E r0_40) (View.ld x5 r0_7)) (k0_pay24 (k0_pay23 (View.ld E r0_41) (View.ld E r0_37) (View.ld E r0_8) (View.ld E r0_9) (View.ld E r0_10)) (View.ld E r0_11) (View.ld E r0_12) (View.ld E r0_13) (View.ld E r0_41) (View.ld x5 r0_16)) (k0_pay26 (k0_pay25 (View.ld E r0_42) (View.ld E r0_38) (View.ld E r0_17) (View.ld E r0_18)) (View.ld E r0_19) (View.ld E r0_20) (View.ld E r0_21) (View.ld E r0_22) (View.ld E r0_23) (View.ld E r0_24) (View.ld E r0_25) (View.ld E r0_26) (View.ld E r0_27) (View.ld E r0_28)) (View.ld E r0_29) (View.ld E r0_30) (View.ld E r0_42) (View.ld x5 r0_33) (View.ld x6 r0_34) (ix2 n k)
      = poolMix s u wp ps n (2 : Fin 4) k := by
  unfold k0_pay27 k0_pay26 k0_pay25 k0_pay24 k0_pay23 k0_pay22 k0_pay21 k0_pay20 k0_pay19
  pointwise
  simp only [hE, h5, h6]
  unfold poolMix
  refine congrArg (fun z : EReal => z * ps (ix2 (0 : Fin 1) k)) ?_
  by_cases h0c : k.val < 256
  · rw [dif_pos h0c]
    rw [show (⟨k.val / 256, by omega⟩ : Fin 4) = 0 from Fin.ext (by show k.val / 256 = 0; omega),
      show (⟨k.val % 256, by omega⟩ : Fin 256) = ⟨k.val, by omega⟩ from Fin.ext (by show k.val % 256 = k.val; omega)]
    exact Finset.sum_congr rfl fun x _ => congrArg (fun z : EReal => z * wp (ix4 (0 : Fin 1) (0 : Fin 4) x (⟨k.val, by omega⟩ : Fin 256))) (pooled_two s u n (2 : Fin 4) _ _ (by show _ = 256 * 0 + x.val; simp only; try omega))
  · rw [dif_neg h0c]
    by_cases h1c : k.val - 256 < 256
    · rw [dif_pos h1c]
      rw [show (⟨k.val / 256, by omega⟩ : Fin 4) = 1 from Fin.ext (by show k.val / 256 = 1; omega),
        show (⟨k.val % 256, by omega⟩ : Fin 256) = ⟨k.val - 256, by omega⟩ from Fin.ext (by show k.val % 256 = k.val - 256; omega)]
      exact Finset.sum_congr rfl fun x _ => congrArg (fun z : EReal => z * wp (ix4 (0 : Fin 1) (1 : Fin 4) x (⟨k.val - 256, by omega⟩ : Fin 256))) (pooled_four s u n (2 : Fin 4) _ _ (by show _ = 256 * 1 + x.val; simp only; try omega))
    · rw [dif_neg h1c]
      by_cases h2c : k.val - 256 - 256 < 256
      · rw [dif_pos h2c]
        rw [show (⟨k.val / 256, by omega⟩ : Fin 4) = 2 from Fin.ext (by show k.val / 256 = 2; omega),
          show (⟨k.val % 256, by omega⟩ : Fin 256) = ⟨k.val - 256 - 256, by omega⟩ from Fin.ext (by show k.val % 256 = k.val - 256 - 256; omega)]
        exact Finset.sum_congr rfl fun x _ => congrArg (fun z : EReal => z * wp (ix4 (0 : Fin 1) (2 : Fin 4) x (⟨k.val - 256 - 256, by omega⟩ : Fin 256))) (pooled_eight s u n (2 : Fin 4) _ _ (by show _ = 256 * 2 + x.val; simp only; try omega))
      · rw [dif_neg h2c]
        rw [show (⟨k.val / 256, by omega⟩ : Fin 4) = 3 from Fin.ext (by show k.val / 256 = 3; omega),
          show (⟨k.val % 256, by omega⟩ : Fin 256) = ⟨k.val - 256 - 256 - 256, by omega⟩ from Fin.ext (by show k.val % 256 = k.val - 256 - 256 - 256; omega)]
        exact Finset.sum_congr rfl fun x _ => congrArg (fun z : EReal => z * wp (ix4 (0 : Fin 1) (3 : Fin 4) x (⟨k.val - 256 - 256 - 256, by omega⟩ : Fin 256))) (pooled_sixteen s u n (2 : Fin 4) _ _ (by show _ = 256 * 3 + x.val; simp only; try omega))

/-- The pooling mixer at the last position, from its four groups. -/
def fourth (v394 v414 v446 v481 : FVec Ideal S32x256 .f32) (v482 v485 v488 v491 v496 : Vec Ideal S1x32x256 .f32) (v500 : Vec Ideal S1x256x256 .bf16) (v504 : Vec Ideal S1x1024 .f32) : FVec Ideal S32x1024 .f32 :=
  have v483 : FVec Ideal S32x256 .f32 := shapeCast S32x256 v482 shapeCasts_S1x32x256_S32x256
  have v484 : FVec Ideal S32x256 .f32 := addf v481 v483
  have v486 : FVec Ideal S32x256 .f32 := shapeCast S32x256 v485 shapeCasts_S1x32x256_S32x256
  have v487 : FVec Ideal S32x256 .f32 := addf v484 v486
  have v489 : FVec Ideal S32x256 .f32 := shapeCast S32x256 v488 shapeCasts_S1x32x256_S32x256
  have v490 : FVec Ideal S32x256 .f32 := addf v487 v489
  have v492 : FVec Ideal S32x256 .f32 := shapeCast S32x256 v491 shapeCasts_S1x32x256_S32x256
  have v493 : FVec Ideal S32x256 .f32 := addf v490 v492
  have cst_463 : Ideal .f32 := Scalar.ofBits .f32 0x41800000#32
  have v494 : FVec Ideal S32x256 .f32 := broadcast S32x256 cst_463
  have v495 : FVec Ideal S32x256 .f32 := divf v493 v494
  have v497 : FVec Ideal S32x256 .f32 := shapeCast S32x256 v496 shapeCasts_S1x32x256_S32x256
  have v498 : FVec Ideal S32x256 .f32 := subf v495 v497
  have v499 : FVec Ideal S32x256 .bf16 := truncf .bf16 v498 bitsLt_bf16_f32
  have v501 : FVec Ideal S256x256 .bf16 := shapeCast S256x256 v500 shapeCasts_S1x256x256_S256x256
  have cst_470 : FVec Ideal S32x256 .f32 := constant S32x256 .f32 0x00000000#32
  have v502 : FVec Ideal S32x256 .f32 := matmul dot_S32x256_S256x256_S32x256_1_0_0_1_n_n none v499 v501 cst_470
  have v503 : FVec Ideal S32x1024 .f32 := concatenate S32x1024 1 [⟨S32x256, v394⟩, ⟨S32x256, v414⟩, ⟨S32x256, v446⟩, ⟨S32x256, v502⟩] concatenates_S32x256_S32x256_S32x256_S32x256_S32x1024_d1
  have v505 : FVec Ideal S1x1024 .f32 := shapeCast S1x1024 v504 shapeCasts_S1x1024_S1x1024
  have v506 : FVec Ideal S32x1024 .f32 := broadcastTo S32x1024 v505 broadcasts_S1x1024_S32x1024
  have v507 : FVec Ideal S32x1024 .f32 := mulf v503 v506
  v507

theorem parts (A B C : FVec Ideal S32x1024 .f32) (v394 v414 v446 v481 : FVec Ideal S32x256 .f32) (v482 v485 v488 v491 v496 : Vec Ideal S1x32x256 .f32) (v500 : Vec Ideal S1x256x256 .bf16) (v504 : Vec Ideal S1x1024 .f32) :
    k0_pay38 A B C v394 v414 v446 v481 v482 v485 v488 v491 v496 v500 v504
      = concatenate S128x1024 0 [⟨S32x1024, A⟩, ⟨S32x1024, B⟩, ⟨S32x1024, C⟩, ⟨S32x1024, fourth v394 v414 v446 v481 v482 v485 v488 v491 v496 v500 v504⟩]
        concatenates_S32x1024_S32x1024_S32x1024_S32x1024_S128x1024_d0 := rfl

/-- The four positions' rows, one after the other. -/
theorem stacked (A B C D : FVec Ideal S32x1024 .f32) (P : Fin 32 → Fin 4 → Fin 1024 → EReal)
    (hA : ∀ n k, (A (ix2 n k) : EReal) = P n 0 k) (hB : ∀ n k, (B (ix2 n k) : EReal) = P n 1 k)
    (hC : ∀ n k, (C (ix2 n k) : EReal) = P n 2 k) (hD : ∀ n k, (D (ix2 n k) : EReal) = P n 3 k) (r : Fin 128) (k : Fin 1024) :
    (concatenate S128x1024 0 [⟨S32x1024, A⟩, ⟨S32x1024, B⟩, ⟨S32x1024, C⟩, ⟨S32x1024, D⟩]
        concatenates_S32x1024_S32x1024_S32x1024_S32x1024_S128x1024_d0 : FVec Ideal S128x1024 .f32) (ix2 r k)
      = P (⟨r.val % 32, by omega⟩ : Fin 32) (⟨r.val / 32, by omega⟩ : Fin 4) k := by
  pointwise
  by_cases r0c : r.val < 32
  · rw [dif_pos r0c]
    exact (hA _ k).trans (congrArg₂ (fun n t => P n t k) (Fin.ext (by show r.val = r.val % 32; omega)) (Fin.ext (by show 0 = r.val / 32; omega)))
  · rw [dif_neg r0c]
    by_cases r1c : r.val - 32 < 32
    · rw [dif_pos r1c]
      exact (hB _ k).trans (congrArg₂ (fun n t => P n t k) (Fin.ext (by show r.val - 32 = r.val % 32; omega)) (Fin.ext (by show 1 = r.val / 32; omega)))
    · rw [dif_neg r1c]
      by_cases r2c : r.val - 32 - 32 < 32
      · rw [dif_pos r2c]
        exact (hC _ k).trans (congrArg₂ (fun n t => P n t k) (Fin.ext (by show r.val - 32 - 32 = r.val % 32; omega)) (Fin.ext (by show 2 = r.val / 32; omega)))
      · rw [dif_neg r2c]
        exact (hD _ k).trans (congrArg₂ (fun n t => P n t k) (Fin.ext (by show r.val - 32 - 32 - 32 = r.val % 32; omega)) (Fin.ext (by show 3 = r.val / 32; omega)))

/-- The pooling mixer at position 3. -/
theorem at3 (E : Vec Ideal S19x32x1024 .f32) (x5 : Vec Ideal S4x256x256 .bf16) (x6 : Vec Ideal S1x1024 .f32)
    (hE : ∀ (q : Fin 19) (n : Fin 32) (d : Fin 1024), (E (ix3 q n d) : EReal) = history s u n q.val d)
    (h5 : ∀ g x e, (x5 (ix3 g x e) : EReal) = wp (ix4 (0 : Fin 1) g x e))
    (h6 : ∀ k, (x6 (ix2 (0 : Fin 1) k) : EReal) = ps (ix2 (0 : Fin 1) k)) (n : Fin 32) (k : Fin 1024) :
    fourth (k0_pay30 (k0_pay28 (View.ld E r0_43) (View.ld E r0_39) (View.ld E r0_43)) (k0_pay29 (View.ld x5 r0_2)) (constant S32x256 .f32 0x00000000#32)) (k0_pay31 (View.ld E r0_44) (View.ld E r0_40) (View.ld E r0_36) (View.ld E r0_3) (View.ld E r0_44) (View.ld x5 r0_7)) (k0_pay33 (k0_pay32 (View.ld E r0_45) (View.ld E r0_41) (View.ld E r0_37)) (View.ld E r0_8) (View.ld E r0_9) (View.ld E r0_10) (View.ld E r0_11) (View.ld E r0_12) (View.ld E r0_45) (View.ld x5 r0_16)) (k0_pay35 (k0_pay34 (View.ld E r0_46) (View.ld E r0_42)) (View.ld E r0_38) (View.ld E r0_17) (View.ld E r0_18) (View.ld E r0_19) (View.ld E r0_20) (View.ld E r0_21) (View.ld E r0_22) (View.ld E r0_23) (View.ld E r0_24) (View.ld E r0_25)) (View.ld E r0_26) (View.ld E r0_27) (View.ld E r0_28) (View.ld E r0_29) (View.ld E r0_46) (View.ld x5 r0_33) (View.ld x6 r0_34) (ix2 n k)
      = poolMix s u wp ps n (3 : Fin 4) k := by
  unfold fourth k0_pay35 k0_pay34 k0_pay33 k0_pay32 k0_pay31 k0_pay30 k0_pay29 k0_pay28
  pointwise
  simp only [hE, h5, h6]
  unfold poolMix
  refine congrArg (fun z : EReal => z * ps (ix2 (0 : Fin 1) k)) ?_
  by_cases h0c : k.val < 256
  · rw [dif_pos h0c]
    rw [show (⟨k.val / 256, by omega⟩ : Fin 4) = 0 from Fin.ext (by show k.val / 256 = 0; omega),
      show (⟨k.val % 256, by omega⟩ : Fin 256) = ⟨k.val, by omega⟩ from Fin.ext (by show k.val % 256 = k.val; omega)]
    exact Finset.sum_congr rfl fun x _ => congrArg (fun z : EReal => z * wp (ix4 (0 : Fin 1) (0 : Fin 4) x (⟨k.val, by omega⟩ : Fin 256))) (pooled_two s u n (3 : Fin 4) _ _ (by show _ = 256 * 0 + x.val; simp only; try omega))
  · rw [dif_neg h0c]
    by_cases h1c : k.val - 256 < 256
    · rw [dif_pos h1c]
      rw [show (⟨k.val / 256, by omega⟩ : Fin 4) = 1 from Fin.ext (by show k.val / 256 = 1; omega),
        show (⟨k.val % 256, by omega⟩ : Fin 256) = ⟨k.val - 256, by omega⟩ from Fin.ext (by show k.val % 256 = k.val - 256; omega)]
      exact Finset.sum_congr rfl fun x _ => congrArg (fun z : EReal => z * wp (ix4 (0 : Fin 1) (1 : Fin 4) x (⟨k.val - 256, by omega⟩ : Fin 256))) (pooled_four s u n (3 : Fin 4) _ _ (by show _ = 256 * 1 + x.val; simp only; try omega))
    · rw [dif_neg h1c]
      by_cases h2c : k.val - 256 - 256 < 256
      · rw [dif_pos h2c]
        rw [show (⟨k.val / 256, by omega⟩ : Fin 4) = 2 from Fin.ext (by show k.val / 256 = 2; omega),
          show (⟨k.val % 256, by omega⟩ : Fin 256) = ⟨k.val - 256 - 256, by omega⟩ from Fin.ext (by show k.val % 256 = k.val - 256 - 256; omega)]
        exact Finset.sum_congr rfl fun x _ => congrArg (fun z : EReal => z * wp (ix4 (0 : Fin 1) (2 : Fin 4) x (⟨k.val - 256 - 256, by omega⟩ : Fin 256))) (pooled_eight s u n (3 : Fin 4) _ _ (by show _ = 256 * 2 + x.val; simp only; try omega))
      · rw [dif_neg h2c]
        rw [show (⟨k.val / 256, by omega⟩ : Fin 4) = 3 from Fin.ext (by show k.val / 256 = 3; omega),
          show (⟨k.val % 256, by omega⟩ : Fin 256) = ⟨k.val - 256 - 256 - 256, by omega⟩ from Fin.ext (by show k.val % 256 = k.val - 256 - 256 - 256; omega)]
        exact Finset.sum_congr rfl fun x _ => congrArg (fun z : EReal => z * wp (ix4 (0 : Fin 1) (3 : Fin 4) x (⟨k.val - 256 - 256 - 256, by omega⟩ : Fin 256))) (pooled_sixteen s u n (3 : Fin 4) _ _ (by show _ = 256 * 3 + x.val; simp only; try omega))

/-- The pooling mixer at all four positions. -/
theorem mixer (E : Vec Ideal S19x32x1024 .f32) (x5 : Vec Ideal S4x256x256 .bf16) (x6 : Vec Ideal S1x1024 .f32)
    (hE : ∀ (q : Fin 19) (n : Fin 32) (d : Fin 1024), (E (ix3 q n d) : EReal) = history s u n q.val d)
    (h5 : ∀ g x e, (x5 (ix3 g x e) : EReal) = wp (ix4 (0 : Fin 1) g x e))
    (h6 : ∀ k, (x6 (ix2 (0 : Fin 1) k) : EReal) = ps (ix2 (0 : Fin 1) k))
    (A B C : FVec Ideal S32x1024 .f32) (hA : ∀ n k, (A (ix2 n k) : EReal) = poolMix s u wp ps n (0 : Fin 4) k)
    (hB : ∀ n k, (B (ix2 n k) : EReal) = poolMix s u wp ps n (1 : Fin 4) k) (hC : ∀ n k, (C (ix2 n k) : EReal) = poolMix s u wp ps n (2 : Fin 4) k)
    (r : Fin 128) (k : Fin 1024) :
    k0_pay38 A B C (k0_pay30 (k0_pay28 (View.ld E r0_43) (View.ld E r0_39) (View.ld E r0_43)) (k0_pay29 (View.ld x5 r0_2)) (constant S32x256 .f32 0x00000000#32)) (k0_pay31 (View.ld E r0_44) (View.ld E r0_40) (View.ld E r0_36) (View.ld E r0_3) (View.ld E r0_44) (View.ld x5 r0_7)) (k0_pay33 (k0_pay32 (View.ld E r0_45) (View.ld E r0_41) (View.ld E r0_37)) (View.ld E r0_8) (View.ld E r0_9) (View.ld E r0_10) (View.ld E r0_11) (View.ld E r0_12) (View.ld E r0_45) (View.ld x5 r0_16)) (k0_pay35 (k0_pay34 (View.ld E r0_46) (View.ld E r0_42)) (View.ld E r0_38) (View.ld E r0_17) (View.ld E r0_18) (View.ld E r0_19) (View.ld E r0_20) (View.ld E r0_21) (View.ld E r0_22) (View.ld E r0_23) (View.ld E r0_24) (View.ld E r0_25)) (View.ld E r0_26) (View.ld E r0_27) (View.ld E r0_28) (View.ld E r0_29) (View.ld E r0_46) (View.ld x5 r0_33) (View.ld x6 r0_34) (ix2 r k)
      = poolMix s u wp ps (⟨r.val % 32, by omega⟩ : Fin 32) (⟨r.val / 32, by omega⟩ : Fin 4) k := by
  rw [parts]
  exact stacked A B C _ (poolMix s u wp ps) hA hB hC (at3 E x5 x6 hE h5 h6) r k

/-- The layer norm of the gated row's projection. -/
theorem last (v509 v511 v512 v514 : FVec Ideal S128x1024 .f32) (v515 : Vec Ideal S128x2048 .f32) (v539 : Vec Ideal S2048x2048 .bf16)
    (v559 v563 : Vec Ideal S1x2048 .f32) (r : Fin 128) (o : Fin 2048) :
    k0_pay1 (k0_pay40 (k0_pay36 v509) (k0_pay37 v511) v512 (k0_pay39 v514) v515 v539) v559 v563 (ix2 r o)
      = norm (fun o => Ideal.ofBits .f32 1066940400#32 * v515 (ix2 r o)
          + (∑ k : Fin 1024, v509 (ix2 r k) * gate (v511 (ix2 r k)) * v539 (ix2 (⟨k.val, by omega⟩ : Fin 2048) o)
            + ∑ k : Fin 1024, v512 (ix2 r k) * gate (v514 (ix2 r k)) * v539 (ix2 (⟨1024 + k.val, by omega⟩ : Fin 2048) o)))
        (fun o => v559 (ix2 (0 : Fin 1) o)) (fun o => v563 (ix2 (0 : Fin 1) o)) o := by
  unfold k0_pay1 k0_pay40 k0_pay39 k0_pay37 k0_pay36
  pointwise
  rfl

/-- What the call leaves in its block of the result. -/
theorem block (x0 x1 x2 : Vec Ideal S128x1024 .f32) (x3 : Vec Ideal S19x32x1024 .f32) (x4 : Vec Ideal S128x2048 .f32) (x5 : Vec Ideal S4x256x256 .bf16)
    (x6 : Vec Ideal S1x1024 .f32) (x7 : Vec Ideal S2048x2048 .bf16) (x8 x9 : Vec Ideal S1x2048 .f32)
    (h0 : ∀ (r : Fin 128) k, (x0 (ix2 r k) : EReal) = a (ix3 (⟨r.val % 32, by omega⟩ : Fin 32) (⟨r.val / 32, by omega⟩ : Fin 4) k))
    (h1 : ∀ (r : Fin 128) k, (x1 (ix2 r k) : EReal) = ga (ix3 (⟨r.val % 32, by omega⟩ : Fin 32) (⟨r.val / 32, by omega⟩ : Fin 4) k))
    (h2 : ∀ (r : Fin 128) k, (x2 (ix2 r k) : EReal) = gb (ix3 (⟨r.val % 32, by omega⟩ : Fin 32) (⟨r.val / 32, by omega⟩ : Fin 4) k))
    (h3 : ∀ (q : Fin 19) (n : Fin 32) (d : Fin 1024), (x3 (ix3 q n d) : EReal) = history s u n q.val d)
    (h4 : ∀ (r : Fin 128) o, (x4 (ix2 r o) : EReal) = x (ix3 (⟨r.val % 32, by omega⟩ : Fin 32) (⟨r.val / 32, by omega⟩ : Fin 4) o))
    (h5 : ∀ g x e, (x5 (ix3 g x e) : EReal) = wp (ix4 (0 : Fin 1) g x e)) (h6 : ∀ k, (x6 (ix2 (0 : Fin 1) k) : EReal) = ps (ix2 (0 : Fin 1) k))
    (h7 : ∀ k o, (x7 (ix2 k o) : EReal) = wo (ix3 (0 : Fin 1) k o)) (h8 : ∀ o, (x8 (ix2 (0 : Fin 1) o) : EReal) = g (ix2 (0 : Fin 1) o))
    (h9 : ∀ o, (x9 (ix2 (0 : Fin 1) o) : EReal) = β (ix2 (0 : Fin 1) o)) (r : Fin 128) (o : Fin 2048) :
    out0_10 x0 x1 x2 x3 x4 x5 x6 x7 x8 x9 (ix2 r o) = result a ga gb u s x wp ps wo g β (ix2 r o) := by
  unfold out0_10
  frame_out
  rw [last]
  show _ = entry a ga gb u s x wp ps wo g β (⟨r.val % 32, by omega⟩ : Fin 32) (⟨r.val / 32, by omega⟩ : Fin 4) o
  unfold entry
  rw [show (fun o => (x8 (ix2 (0 : Fin 1) o) : EReal)) = (fun o => g (ix2 (0 : Fin 1) o)) from funext h8,
    show (fun o => (x9 (ix2 (0 : Fin 1) o) : EReal)) = (fun o => β (ix2 (0 : Fin 1) o)) from funext h9]
  refine congrArg (fun h => norm h (fun o => g (ix2 (0 : Fin 1) o)) (fun o => β (ix2 (0 : Fin 1) o)) o) (funext fun o => ?_)
  unfold gatedRow
  refine congrArg₂ (fun p q : EReal => p + q) ?_ (congrArg₂ (fun p q : EReal => p + q) (Finset.sum_congr rfl fun k _ => ?_) (Finset.sum_congr rfl fun k _ => ?_))
  · rw [h4]
  · rw [h0, h1, h7]
  · rw [h2, h7]
    refine congrArg (fun z : EReal => z * gate (gb (ix3 (⟨r.val % 32, by omega⟩ : Fin 32) (⟨r.val / 32, by omega⟩ : Fin 4) k)) * wo (ix3 (0 : Fin 1) _ o)) ?_
    have e : View.ld x6 r0_34 = x6 := Idealize.ShloMosaic.View.ld_unit_lit _ x6 (by decide)
    have z0 := at0 x3 x5 x6 h3 h5 h6
    have z1 := at1 x3 x5 x6 h3 h5 h6
    have z2 := at2 x3 x5 x6 h3 h5 h6
    have z := mixer x3 x5 x6 h3 h5 h6 _ _ _ z0 z1 z2 r k
    rw [e] at z
    exact z

end Cert.KernelCombineSampleIdeal.Combine

end
-- ==== Proof.CombineSample.Kernel.lean ====
/- The sample group's last call: what its result array ends with. -/
module

public import proofs.«01_k».proof.Proof.CombineSample.Block

@[expose] public section

set_option maxRecDepth 100000
set_option maxHeartbeats 1000000

noncomputable section

namespace Cert.KernelCombineSampleIdeal.Combine

open Cert.KernelCombineSampleIdeal Cert.KernelCombineSampleIdeal.Gen Idealize.ShloMosaic Idealize.ShloMosaic.TcCoe Idealize.SL.Sem
open Cert.Combine (Mixing width gate mean norm rowsIn)
open Cert.CombineSample
open scoped BigOperators

variable (m : (ℓ : Loc nD τ sig) → Buf (Elt Ideal) ℓ) (c : Dev nD)

/-- The argument arrays, as functions to the extended reals. -/
abbrev arr0 : Tokens 1024 := m ((c.tc : Thread nD τ).loc main_arg0)
abbrev arr1 : Tokens 1024 := m ((c.tc : Thread nD τ).loc main_arg1)
abbrev arr2 : Tokens 1024 := m ((c.tc : Thread nD τ).loc main_arg2)
abbrev arr3 : Tokens 1024 := m ((c.tc : Thread nD τ).loc main_arg3)
abbrev arr4 : State := m ((c.tc : Thread nD τ).loc main_arg4)
abbrev arr5 : Tokens 2048 := m ((c.tc : Thread nD τ).loc main_arg5)
abbrev arr6 : Mixing := m ((c.tc : Thread nD τ).loc main_arg6)
abbrev arr7 : (⟨2, ![1, 1024]⟩ : Shape).Idx → EReal := m ((c.tc : Thread nD τ).loc main_arg7)
abbrev arr8 : (⟨3, ![1, 2048, 2048]⟩ : Shape).Idx → EReal := m ((c.tc : Thread nD τ).loc main_arg8)
abbrev arr9 : (⟨2, ![1, 2048]⟩ : Shape).Idx → EReal := m ((c.tc : Thread nD τ).loc main_arg9)
abbrev arr10 : (⟨2, ![1, 2048]⟩ : Shape).Idx → EReal := m ((c.tc : Thread nD τ).loc main_arg10)

/-- The arrays that the call is handed. -/
theorem V13 (r : Fin 128) (e : Fin 1024) : (V m c main_v13 (ix2 r e) : EReal) = arr0 m c (ix3 (⟨r.val % 32, by omega⟩ : Fin 32) (⟨r.val / 32, by omega⟩ : Fin 4) e) := by
  unfold V
  simp only [List.flatten_cons, List.flatten_nil, List.append_nil, List.cons_append, List.nil_append, hostOps0]
  entry_read
  pointwise
theorem V15 (r : Fin 128) (e : Fin 1024) : (V m c main_v15 (ix2 r e) : EReal) = arr1 m c (ix3 (⟨r.val % 32, by omega⟩ : Fin 32) (⟨r.val / 32, by omega⟩ : Fin 4) e) := by
  unfold V
  simp only [List.flatten_cons, List.flatten_nil, List.append_nil, List.cons_append, List.nil_append, hostOps0]
  entry_read
  pointwise
theorem V17 (r : Fin 128) (e : Fin 1024) : (V m c main_v17 (ix2 r e) : EReal) = arr2 m c (ix3 (⟨r.val % 32, by omega⟩ : Fin 32) (⟨r.val / 32, by omega⟩ : Fin 4) e) := by
  unfold V
  simp only [List.flatten_cons, List.flatten_nil, List.append_nil, List.cons_append, List.nil_append, hostOps0]
  entry_read
  pointwise
theorem V20 (r : Fin 128) (e : Fin 2048) : (V m c main_v20 (ix2 r e) : EReal) = arr5 m c (ix3 (⟨r.val % 32, by omega⟩ : Fin 32) (⟨r.val / 32, by omega⟩ : Fin 4) e) := by
  unfold V
  simp only [List.flatten_cons, List.flatten_nil, List.append_nil, List.cons_append, List.nil_append, hostOps0]
  entry_read
  pointwise
theorem V18 (q : Fin 19) (n : Fin 32) (d : Fin 1024) : (V m c main_v18 (ix3 q n d) : EReal) = history (arr4 m c) (arr3 m c) n q.val d := by
  unfold V
  simp only [List.flatten_cons, List.flatten_nil, List.append_nil, List.cons_append, List.nil_append, hostOps0]
  entry_read
  pointwise
  unfold history
  by_cases h : q.val < 15
  · rw [dif_pos h, dif_pos h]
  · rw [dif_neg h, dif_neg h, dif_pos (show q.val - 15 < 4 by omega)]
theorem V1 (g : Fin 4) (x e : Fin 256) : (V m c main_v1 (ix3 g x e) : EReal) = arr6 m c (ix4 (0 : Fin 1) g x e) := by
  unfold V
  simp only [List.flatten_cons, List.flatten_nil, List.append_nil, List.cons_append, List.nil_append, hostOps0]
  entry_read
  pointwise
theorem V5 (k : Fin 1024) : (V m c main_v5 (ix2 (0 : Fin 1) k) : EReal) = arr7 m c (ix2 (0 : Fin 1) k) := by
  unfold V
  simp only [List.flatten_cons, List.flatten_nil, List.append_nil, List.cons_append, List.nil_append, hostOps0]
  entry_read
  pointwise
theorem V3 (k o : Fin 2048) : (V m c main_v3 (ix2 k o) : EReal) = arr8 m c (ix3 (0 : Fin 1) k o) := by
  unfold V
  simp only [List.flatten_cons, List.flatten_nil, List.append_nil, List.cons_append, List.nil_append, hostOps0]
  entry_read
  pointwise
theorem V7 (o : Fin 2048) : (V m c main_v7 (ix2 (0 : Fin 1) o) : EReal) = arr9 m c (ix2 (0 : Fin 1) o) := by
  unfold V
  simp only [List.flatten_cons, List.flatten_nil, List.append_nil, List.cons_append, List.nil_append, hostOps0]
  entry_read
  pointwise
theorem V9 (o : Fin 2048) : (V m c main_v9 (ix2 (0 : Fin 1) o) : EReal) = arr10 m c (ix2 (0 : Fin 1) o) := by
  unfold V
  simp only [List.flatten_cons, List.flatten_nil, List.append_nil, List.cons_append, List.nil_append, hostOps0]
  entry_read
  pointwise

/-- The one grid point's blocks are the whole arrays. -/
theorem idx : ∀ t : Fin cfg0.N, win0_0.index t = ![0, 0] ∧ win0_1.index t = ![0, 0] ∧ win0_2.index t = ![0, 0] ∧ win0_3.index t = ![0, 0, 0] ∧ win0_4.index t = ![0, 0] ∧ win0_5.index t = ![0, 0, 0] ∧ win0_6.index t = ![0, 0] ∧ win0_7.index t = ![0, 0] ∧ win0_8.index t = ![0, 0] ∧ win0_9.index t = ![0, 0] ∧ win0_10.index t = ![0, 0] :=
  (by decide +kernel : ∀ t : Fin grid0.N, _)

variable (t : Fin cfg0.N)

theorem blk0 (r : Fin 128) (e : Fin 1024) : (iblk m c 0 t (ix2 r e) : EReal) = arr0 m c (ix3 (⟨r.val % 32, by omega⟩ : Fin 32) (⟨r.val / 32, by omega⟩ : Fin 4) e) := by
  obtain ⟨e0, e1, e2, e3, e4, e5, e6, e7, e8, e9, e10⟩ := idx t
  have he : ((cfg0.win 0).blk t).view.emb (ix2 r e) = ix2 r e := by blk_ext [e0]
  exact (congrArg (V m c main_v13) he).trans (V13 m c r e)
theorem blk1 (r : Fin 128) (e : Fin 1024) : (iblk m c 1 t (ix2 r e) : EReal) = arr1 m c (ix3 (⟨r.val % 32, by omega⟩ : Fin 32) (⟨r.val / 32, by omega⟩ : Fin 4) e) := by
  obtain ⟨e0, e1, e2, e3, e4, e5, e6, e7, e8, e9, e10⟩ := idx t
  have he : ((cfg0.win 1).blk t).view.emb (ix2 r e) = ix2 r e := by blk_ext [e1]
  exact (congrArg (V m c main_v15) he).trans (V15 m c r e)
theorem blk2 (r : Fin 128) (e : Fin 1024) : (iblk m c 2 t (ix2 r e) : EReal) = arr2 m c (ix3 (⟨r.val % 32, by omega⟩ : Fin 32) (⟨r.val / 32, by omega⟩ : Fin 4) e) := by
  obtain ⟨e0, e1, e2, e3, e4, e5, e6, e7, e8, e9, e10⟩ := idx t
  have he : ((cfg0.win 2).blk t).view.emb (ix2 r e) = ix2 r e := by blk_ext [e2]
  exact (congrArg (V m c main_v17) he).trans (V17 m c r e)
theorem blk4 (r : Fin 128) (e : Fin 2048) : (iblk m c 4 t (ix2 r e) : EReal) = arr5 m c (ix3 (⟨r.val % 32, by omega⟩ : Fin 32) (⟨r.val / 32, by omega⟩ : Fin 4) e) := by
  obtain ⟨e0, e1, e2, e3, e4, e5, e6, e7, e8, e9, e10⟩ := idx t
  have he : ((cfg0.win 4).blk t).view.emb (ix2 r e) = ix2 r e := by blk_ext [e4]
  exact (congrArg (V m c main_v20) he).trans (V20 m c r e)
theorem blk3 (q : Fin 19) (n : Fin 32) (d : Fin 1024) : (iblk m c 3 t (ix3 q n d) : EReal) = history (arr4 m c) (arr3 m c) n q.val d := by
  obtain ⟨e0, e1, e2, e3, e4, e5, e6, e7, e8, e9, e10⟩ := idx t
  have he : ((cfg0.win 3).blk t).view.emb (ix3 q n d) = ix3 q n d := by blk_ext [e3]
  exact (congrArg (V m c main_v18) he).trans (V18 m c q n d)
theorem blk5 (g : Fin 4) (x e : Fin 256) : (iblk m c 5 t (ix3 g x e) : EReal) = arr6 m c (ix4 (0 : Fin 1) g x e) := by
  obtain ⟨e0, e1, e2, e3, e4, e5, e6, e7, e8, e9, e10⟩ := idx t
  have he : ((cfg0.win 5).blk t).view.emb (ix3 g x e) = ix3 g x e := by blk_ext [e5]
  exact (congrArg (V m c main_v1) he).trans (V1 m c g x e)
theorem blk6 (k : Fin 1024) : (iblk m c 6 t (ix2 (0 : Fin 1) k) : EReal) = arr7 m c (ix2 (0 : Fin 1) k) := by
  obtain ⟨e0, e1, e2, e3, e4, e5, e6, e7, e8, e9, e10⟩ := idx t
  have he : ((cfg0.win 6).blk t).view.emb (ix2 (0 : Fin 1) k) = ix2 (0 : Fin 1) k := by blk_ext [e6]
  exact (congrArg (V m c main_v5) he).trans (V5 m c k)
theorem blk7 (k o : Fin 2048) : (iblk m c 7 t (ix2 k o) : EReal) = arr8 m c (ix3 (0 : Fin 1) k o) := by
  obtain ⟨e0, e1, e2, e3, e4, e5, e6, e7, e8, e9, e10⟩ := idx t
  have he : ((cfg0.win 7).blk t).view.emb (ix2 k o) = ix2 k o := by blk_ext [e7]
  exact (congrArg (V m c main_v3) he).trans (V3 m c k o)
theorem blk8 (o : Fin 2048) : (iblk m c 8 t (ix2 (0 : Fin 1) o) : EReal) = arr9 m c (ix2 (0 : Fin 1) o) := by
  obtain ⟨e0, e1, e2, e3, e4, e5, e6, e7, e8, e9, e10⟩ := idx t
  have he : ((cfg0.win 8).blk t).view.emb (ix2 (0 : Fin 1) o) = ix2 (0 : Fin 1) o := by blk_ext [e8]
  exact (congrArg (V m c main_v7) he).trans (V7 m c o)
theorem blk9 (o : Fin 2048) : (iblk m c 9 t (ix2 (0 : Fin 1) o) : EReal) = arr10 m c (ix2 (0 : Fin 1) o) := by
  obtain ⟨e0, e1, e2, e3, e4, e5, e6, e7, e8, e9, e10⟩ := idx t
  have he : ((cfg0.win 9).blk t).view.emb (ix2 (0 : Fin 1) o) = ix2 (0 : Fin 1) o := by blk_ext [e9]
  exact (congrArg (V m c main_v9) he).trans (V9 m c o)

theorem emb10 (y : S128x2048.Idx) : ((cfg0.win 10).blk t).view.emb y = ix2 (y 0) (y 1) := by
  obtain ⟨e0, e1, e2, e3, e4, e5, e6, e7, e8, e9, e10⟩ := idx t
  blk_ext [e10]

/-- The result array of the kernel. -/
abbrev out : (⟨2, ![128, 2048]⟩ : Shape).Idx → EReal :=
  result (arr0 m c) (arr1 m c) (arr2 m c) (arr3 m c) (arr4 m c) (arr5 m c) (arr6 m c) (arr7 m c) (arr8 m c) (arr9 m c) (arr10 m c)

theorem final : (dats m 0 c).arrAt 10 (cfgs 0).N = out m c := by
  refine (dats m 0 c).arrAt_eq_of_covers 10 _ (by decide +kernel) fun t hf y => ?_
  blk_simp; rw [after0_10]
  have hy : y = ix2 (y 0) (y 1) := by
    funext i
    fin_cases i <;> rfl
  refine (congrArg (out0_10 (iblk m c 0 t) (iblk m c 1 t) (iblk m c 2 t) (iblk m c 3 t) (iblk m c 4 t) (iblk m c 5 t) (iblk m c 6 t) (iblk m c 7 t) (iblk m c 8 t) (iblk m c 9 t)) hy).trans ?_
  refine (block _ _ _ _ _ _ _ _ _ _ (blk0 m c t) (blk1 m c t) (blk2 m c t) (blk3 m c t) (blk4 m c t) (blk5 m c t) (blk6 m c t) (blk7 m c t) (blk8 m c t) (blk9 m c t) (y 0) (y 1)).trans ?_
  exact (congrArg (out m c) (emb10 t y)).symm

end Cert.KernelCombineSampleIdeal.Combine

end
-- ==== Proof.CombineSample.Reference.lean ====
/- The reference's pooling, gates, output projection and layer norm, read at an index, for the sample group. -/
module

public import proofs.«01_k».proof.Proof.Gen.ReferenceCombineSampleIdeal.Run
public import proofs.«01_k».proof.Proof.CombineSample.Spec
public import Idealize.ShloMosaic.Lib.WordCmp

@[expose] public section

set_option maxRecDepth 100000
set_option maxHeartbeats 1000000

noncomputable section

namespace Cert.ReferenceCombineSampleIdeal.Combine

open Cert.ReferenceCombineSampleIdeal Cert.ReferenceCombineSampleIdeal.Gen Idealize.ShloMosaic Idealize.ShloMosaic.TcCoe Idealize.SL.Sem
open Cert.Combine (Mixing width gate mean norm rowsIn)
open Cert.CombineSample Cert.ReferenceCombineSampleIdeal.Value
open scoped BigOperators

/-- A position's word. -/
theorem position (t : Nat) : IntOp.addi 15#32 (BitVec.ofNat 32 t) = BitVec.ofNat 32 (15 + t) := (BitVec.ofNat_add 15 t).symm

/-- The weight of row `q` in position `t`'s window of width `w`, as the reference states it. -/
theorem inside (w q t : Nat) (hw : w ≤ 16) (hq : q < 19) (ht : t < 4) (f : EReal) :
    Scalar.select (IntOp.andi (IntOp.cmpi .sle (BitVec.ofNat 32 q) (IntOp.addi 15#32 (BitVec.ofNat 32 t)))
      (IntOp.cmpi .sgt (IntOp.addi (BitVec.ofNat 32 q) (BitVec.ofNat 32 w)) (IntOp.addi 15#32 (BitVec.ofNat 32 t)))) f 0
      = if q ≤ 15 + t ∧ 15 + t < q + w then f else 0 := by
  have e : IntOp.addi (BitVec.ofNat 32 q) (BitVec.ofNat 32 w) = BitVec.ofNat 32 (q + w) := (BitVec.ofNat_add q w).symm
  rw [position, e, WordCmp.cmpi_sle_ofNat (by omega) (by omega), WordCmp.cmpi_sgt_ofNat (by omega) (by omega)]
  by_cases h1 : q ≤ 15 + t <;> by_cases h2 : 15 + t < q + w <;> simp [h1, h2, Scalar.select, IntOp.andi]

theorem history_state (s : State) (u : Tokens 1024) (n : Fin 32) (q : Fin 15) (d : Fin 1024) : s (ix4 (0 : Fin 1) n q d) = history s u n q.val d := by
  unfold history
  rw [dif_pos q.isLt]
theorem history_new (s : State) (u : Tokens 1024) (n : Fin 32) (t : Fin 4) (d : Fin 1024) : u (ix3 n t d) = history s u n (15 + t.val) d := by
  have ht := t.isLt
  unfold history
  rw [dif_neg (by omega), dif_pos (by omega)]
  exact congrArg (fun t => u (ix3 n t d)) (Fin.ext (by show t.val = 15 + t.val - 15; omega))

/-- The trailing mean, as the reference states it. -/
theorem stated (s : State) (u : Tokens 1024) (w : Nat) (hw : w ≤ 16) (n : Fin 32) (t : Fin 4) (d : Fin 1024) :
    Ideal.div (∑ q : Fin 15, Scalar.select (IntOp.andi (IntOp.cmpi .sle (BitVec.ofNat 32 q.val) (IntOp.addi 15#32 (BitVec.ofNat 32 t.val)))
        (IntOp.cmpi .sgt (IntOp.addi (BitVec.ofNat 32 q.val) (BitVec.ofNat 32 w)) (IntOp.addi 15#32 (BitVec.ofNat 32 t.val)))) (s (ix4 (0 : Fin 1) n q d)) 0
      + ∑ q : Fin 4, Scalar.select (IntOp.andi (IntOp.cmpi .sle (BitVec.ofNat 32 (15 + q.val)) (IntOp.addi 15#32 (BitVec.ofNat 32 t.val)))
        (IntOp.cmpi .sgt (IntOp.addi (BitVec.ofNat 32 (15 + q.val)) (BitVec.ofNat 32 w)) (IntOp.addi 15#32 (BitVec.ofNat 32 t.val)))) (u (ix3 n q d)) 0)
      (FloatOps.sitofp (F := Ideal) .f32 (IntOp.minsi (IntOp.addi (IntOp.addi 15#32 (BitVec.ofNat 32 t.val)) 1#32) (BitVec.ofNat 32 w))) - u (ix3 n t d)
      = pooled s u w n t d := by
  have e : IntOp.addi (BitVec.ofNat 32 (15 + t.val)) 1#32 = BitVec.ofNat 32 (15 + t.val + 1) := (BitVec.ofNat_add (15 + t.val) 1).symm
  unfold pooled rowsIn
  rw [← window_sum (fun q => history s u n q d) w hw t, history_new s u n t d,
    Finset.sum_congr rfl fun (q : Fin 15) _ => inside w q.val t.val hw (by omega) t.isLt (s (ix4 (0 : Fin 1) n q d)),
    Finset.sum_congr rfl fun (q : Fin 4) _ => inside w (15 + q.val) t.val hw (by omega) t.isLt (u (ix3 n q d)), position, e]
  refine congrArg (fun z : EReal => Ideal.div z _ - _) (Eq.symm ?_)
  refine (Fin.sum_univ_add (a := 15) (b := 4) _).trans (congrArg₂ (· + ·) (Finset.sum_congr rfl fun q _ => ?_) (Finset.sum_congr rfl fun q _ => ?_))
  · rw [history_state s u n q d]
    rfl
  · rw [history_new s u n q d]
    rfl

variable (V : Valuation τ sig (Elt Ideal))

theorem pooled_apply (b : Fin 32) (t : Fin 4) (g : Fin 4) (x : Fin 256) :
    (res_main_v115 (F := Ideal) V (ix4 b t g x) : EReal) = pooled (V (Proc.devRef .tc main_arg4)) (V (Proc.devRef .tc main_arg3)) (width g) b t ⟨256 * g.val + x.val, by omega⟩ := by
  unfold res_main_v115 res_main_v4 res_main_v8 res_main_v10
  pointwise
  have col : ∀ n (h : n < 1024) (h' : 256 * g.val + x.val < 1024), n = 256 * g.val + x.val → (⟨n, h⟩ : Fin 1024) = ⟨256 * g.val + x.val, h'⟩ :=
    fun n h h' e => Fin.ext e
  have hg : g.val < 4 := g.isLt
  have hw : width g ≤ 16 := (by decide : ∀ g : Fin 4, width g ≤ 16) g
  refine Eq.trans ?_ (stated _ _ (width g) hw b t _)
  by_cases h0 : g.val < 1
  · rw [dif_pos h0]
    obtain rfl : g = 0 := Fin.ext (by show g.val = 0; omega)
    simp only [col x.val (by omega) (by omega) (by show _ = 256 * 0 + x.val; omega)]
    rfl
  by_cases h1 : g.val - 1 < 1
  · rw [dif_neg h0, dif_pos h1]
    obtain rfl : g = 1 := Fin.ext (by show g.val = 1; omega)
    simp only [col (256 + x.val) (by omega) (by omega) (by show _ = 256 * 1 + x.val; omega)]
    rfl
  by_cases h2 : g.val - 1 - 1 < 1
  · rw [dif_neg h0, dif_neg h1, dif_pos h2]
    obtain rfl : g = 2 := Fin.ext (by show g.val = 2; omega)
    simp only [col (512 + x.val) (by omega) (by omega) (by show _ = 256 * 2 + x.val; omega)]
    rfl
  · rw [dif_neg h0, dif_neg h1, dif_neg h2]
    obtain rfl : g = 3 := Fin.ext (by show g.val = 3; omega)
    simp only [col (768 + x.val) (by omega) (by omega) (by show _ = 256 * 3 + x.val; omega)]
    rfl

theorem gated_apply (b : Fin 32) (t : Fin 4) (o : Fin 2048) :
    (res_main_v133 (F := Ideal) V (ix3 b t o) : EReal) = gatedRow (V (Proc.devRef .tc main_arg0)) (V (Proc.devRef .tc main_arg1)) (V (Proc.devRef .tc main_arg2))
      (poolMix (V (Proc.devRef .tc main_arg4)) (V (Proc.devRef .tc main_arg3)) (V (Proc.devRef .tc main_arg6)) (V (Proc.devRef .tc main_arg7))) (V (Proc.devRef .tc main_arg5)) (V (Proc.devRef .tc main_arg8)) b t o := by
  unfold res_main_v133 gatedRow poolMix mix gate
  pointwise
  simp only [pooled_apply, zero_sub]
  refine congrArg₂ (· + ·) rfl (congrArg₂ (· + ·) rfl (Finset.sum_congr rfl fun k _ => ?_))
  exact congrArg (fun z : EReal => z * _ * _ * _) (Finset.sum_congr rfl fun x _ => mul_comm (_ : EReal) _)

/-- The rows before the layer norm. -/
abbrev rows (b : Fin 32) (t : Fin 4) : Fin 2048 → EReal := gatedRow (V (Proc.devRef .tc main_arg0)) (V (Proc.devRef .tc main_arg1)) (V (Proc.devRef .tc main_arg2))
      (poolMix (V (Proc.devRef .tc main_arg4)) (V (Proc.devRef .tc main_arg3)) (V (Proc.devRef .tc main_arg6)) (V (Proc.devRef .tc main_arg7))) (V (Proc.devRef .tc main_arg5)) (V (Proc.devRef .tc main_arg8)) b t

theorem mean_apply (b : Fin 32) (t : Fin 4) : (res_main_v137 (F := Ideal) V (ix3 b t (0 : Fin 1)) : EReal) = mean (rows V b t) := by
  unfold res_main_v137 mean
  pointwise
  simp only [gated_apply]

theorem less_mean (b : Fin 32) (t : Fin 4) (o : Fin 2048) : (res_main_v139 (F := Ideal) V (ix3 b t o) : EReal) = rows V b t o - mean (rows V b t) := by
  unfold res_main_v139
  pointwise
  simp only [gated_apply, mean_apply]

variable (m : (ℓ : Loc nD τ sig) → Buf (Elt Ideal) ℓ) (ρ : Dev nD → PrngReg)

/-- The reference ends with the normed rows. -/
theorem run : θ_run (defs (F := Ideal)) (onTc (τ := τ) (main (F := Ideal))) ⟨m, fun _ => 0, ρ⟩ fun r => ∀ c : Dev nD,
      r.2.mem ((c.tc : Thread nD τ).loc main_v159) = result (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run defs _ _).mono (fun r h c => ⟨?_, (h c).2⟩) (Value.run (F := Ideal) m ρ)
  refine (h c).1.trans ?_
  clear h
  funext i; idx_vars i
  pointwise
  simp only [gated_apply, mean_apply, less_mean]
  rfl

end Cert.ReferenceCombineSampleIdeal.Combine
-- ==== Proof.CombineSample.Claims.lean ====
/- The sample group's last call: the kernel and the reference end with equal results. -/
module

public import proofs.«01_k».proof.Proof.CombineSample.Kernel
public import proofs.«01_k».proof.Proof.CombineSample.Reference
public import proofs.«01_k».proof.Proof.Gen.KernelCombineSampleIdeal.Value
public import proofs.«01_k».proof.Defs
public import Idealize.ShloMosaic.Lib.Claim

@[expose] public section

noncomputable section

namespace Cert.CombineSample

open Idealize.ShloMosaic Idealize.ShloMosaic.TcCoe Idealize.SL.Sem

/-- Both runs end with the normed rows. -/
theorem claim : Cert.algebraic_KernelCombineSampleIdeal_ReferenceCombineSampleIdeal := by
  intro m g m' g' hp hm
  refine ⟨fun c => Cert.KernelCombineSampleIdeal.Combine.out m c, ?_, ?_⟩
  · refine (θ_run _ _ _).mono (fun r h c => ?_) (Cert.KernelCombineSampleIdeal.Value.run_blocks (F := Ideal) m g)
    exact ⟨(h c).1.trans (Cert.KernelCombineSampleIdeal.Combine.final m c), (h c).2⟩
  · refine (θ_run _ _ _).mono (fun r h c => ?_) (Cert.ReferenceCombineSampleIdeal.Combine.run m' g')
    obtain ⟨a0, a1, a2, a3, a4, a5, a6, a7, a8, a9, a10⟩ := hm c
    exact ⟨(h c).1.trans (by rw [a0, a1, a2, a3, a4, a5, a6, a7, a8, a9, a10]), (h c).2⟩

end Cert.CombineSample
-- ==== Proof.lean ====
/- The claims about the layer's calls, put together from each call's own modules. -/
module

public import proofs.«01_k».proof.Defs
public import proofs.«01_k».proof.Proof.Attend.Frames
public import proofs.«01_k».proof.Proof.Attend.Claims
public import proofs.«01_k».proof.Proof.Project.Frames
public import proofs.«01_k».proof.Proof.Project.Claims
public import proofs.«01_k».proof.Proof.Combine.Frames
public import proofs.«01_k».proof.Proof.Combine.Claims
public import proofs.«01_k».proof.Proof.ProjectSample.Frames
public import proofs.«01_k».proof.Proof.ProjectSample.Claims
public import proofs.«01_k».proof.Proof.CombineSample.Frames
public import proofs.«01_k».proof.Proof.CombineSample.Claims

@[expose] public section

noncomputable section

namespace Cert.Proof

theorem claim : Cert.Claim :=
  ⟨Cert.KernelAttend.Gen.facts, Cert.KernelAttendIdeal.Gen.facts, Cert.ReferenceAttendIdeal.Gen.facts,
    Cert.KernelProject.Gen.facts, Cert.KernelProjectIdeal.Gen.facts, Cert.ReferenceProjectIdeal.Gen.facts,
    Cert.KernelCombine.Gen.facts, Cert.KernelCombineIdeal.Gen.facts, Cert.ReferenceCombineIdeal.Gen.facts,
    Cert.KernelProjectSample.Gen.facts, Cert.KernelProjectSampleIdeal.Gen.facts, Cert.ReferenceProjectSampleIdeal.Gen.facts,
    Cert.KernelCombineSample.Gen.facts, Cert.KernelCombineSampleIdeal.Gen.facts, Cert.ReferenceCombineSampleIdeal.Gen.facts,
    Cert.Pre_past_key_selected.Own.facts,
    Attend.frame_kernel, Attend.frame_ideal, Attend.frame_ideal_pre, Attend.frame_reference, Attend.frame_reference_pre,
    Project.frame_kernel, Project.frame_ideal, Project.frame_reference,
    Combine.frame_kernel, Combine.frame_ideal, Combine.frame_reference,
    ProjectSample.frame_kernel, ProjectSample.frame_ideal, ProjectSample.frame_reference,
    CombineSample.frame_kernel, CombineSample.frame_ideal, CombineSample.frame_reference,
    trivial, Attend.claim, trivial, Project.claim, trivial, Combine.claim, trivial, ProjectSample.claim,
    trivial, CombineSample.claim⟩

end Cert.Proof

end
